-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v39) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v76) = v1 c
          ∧ r.2.mem ((c.tc : Thread Cert.Reference14Ideal.nD Cert.Reference14Ideal.τ).loc Cert.Reference14Ideal.main_v77) = v2 c
          ∧ r.2.mem ((c.tc : Thread Cert.Reference14Ideal.nD Cert.Reference14Ideal.τ).loc Cert.Reference14Ideal.main_v78) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v32) = v0 c
          ∧ r.2.mem ((c.tc : Thread Cert.Reference15Ideal.nD Cert.Reference15Ideal.τ).loc Cert.Reference15Ideal.main_v53) = v1 c
          ∧ r.2.mem ((c.tc : Thread Cert.Reference15Ideal.nD Cert.Reference15Ideal.τ).loc Cert.Reference15Ideal.main_v54) = v2 c
          ∧ r.2.mem ((c.tc : Thread Cert.Reference15Ideal.nD Cert.Reference15Ideal.τ).loc Cert.Reference15Ideal.main_v55) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v53) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v29) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)) (v6 : (c : Dev Cert.Kernel19Ideal.nD) → Buf (Elt Ideal) ((c.tc : Thread Cert.Kernel19Ideal.nD Cert.Kernel19Ideal.τ).loc Cert.Kernel19Ideal.main_v0_6)) (v7 : (c : Dev Cert.Kernel19Ideal.nD) → Buf (Elt Ideal) ((c.tc : Thread Cert.Kernel19Ideal.nD Cert.Kernel19Ideal.τ).loc Cert.Kernel19Ideal.main_v0_7)) (v8 : (c : Dev Cert.Kernel19Ideal.nD) → Buf (Elt Ideal) ((c.tc : Thread Cert.Kernel19Ideal.nD Cert.Kernel19Ideal.τ).loc Cert.Kernel19Ideal.main_v0_8)) (v9 : (c : Dev Cert.Kernel19Ideal.nD) → Buf (Elt Ideal) ((c.tc : Thread Cert.Kernel19Ideal.nD Cert.Kernel19Ideal.τ).loc Cert.Kernel19Ideal.main_v0_9)) (v10 : (c : Dev Cert.Kernel19Ideal.nD) → Buf (Elt Ideal) ((c.tc : Thread Cert.Kernel19Ideal.nD Cert.Kernel19Ideal.τ).loc Cert.Kernel19Ideal.main_v0_10)) (v11 : (c : Dev Cert.Kernel19Ideal.nD) → Buf (Elt Ideal) ((c.tc : Thread Cert.Kernel19Ideal.nD Cert.Kernel19Ideal.τ).loc Cert.Kernel19Ideal.main_v0_11)) (v12 : (c : Dev Cert.Kernel19Ideal.nD) → Buf (Elt Ideal) ((c.tc : Thread Cert.Kernel19Ideal.nD Cert.Kernel19Ideal.τ).loc Cert.Kernel19Ideal.main_v0_12)) (v13 : (c : Dev Cert.Kernel19Ideal.nD) → Buf (Elt Ideal) ((c.tc : Thread Cert.Kernel19Ideal.nD Cert.Kernel19Ideal.τ).loc Cert.Kernel19Ideal.main_v0_13)) (v14 : (c : Dev Cert.Kernel19Ideal.nD) → Buf (Elt Ideal) ((c.tc : Thread Cert.Kernel19Ideal.nD Cert.Kernel19Ideal.τ).loc Cert.Kernel19Ideal.main_v0_14)) (v15 : (c : Dev Cert.Kernel19Ideal.nD) → Buf (Elt Ideal) ((c.tc : Thread Cert.Kernel19Ideal.nD Cert.Kernel19Ideal.τ).loc Cert.Kernel19Ideal.main_v0_15)) (v16 : (c : Dev Cert.Kernel19Ideal.nD) → Buf (Elt Ideal) ((c.tc : Thread Cert.Kernel19Ideal.nD Cert.Kernel19Ideal.τ).loc Cert.Kernel19Ideal.main_v0_16)) (v17 : (c : Dev Cert.Kernel19Ideal.nD) → Buf (Elt Ideal) ((c.tc : Thread Cert.Kernel19Ideal.nD Cert.Kernel19Ideal.τ).loc Cert.Kernel19Ideal.main_v0_17)) (v18 : (c : Dev Cert.Kernel19Ideal.nD) → Buf (Elt Ideal) ((c.tc : Thread Cert.Kernel19Ideal.nD Cert.Kernel19Ideal.τ).loc Cert.Kernel19Ideal.main_v0_18)) (v19 : (c : Dev Cert.Kernel19Ideal.nD) → Buf (Elt Ideal) ((c.tc : Thread Cert.Kernel19Ideal.nD Cert.Kernel19Ideal.τ).loc Cert.Kernel19Ideal.main_v0_19)) (v20 : (c : Dev Cert.Kernel19Ideal.nD) → Buf (Elt Ideal) ((c.tc : Thread Cert.Kernel19Ideal.nD Cert.Kernel19Ideal.τ).loc Cert.Kernel19Ideal.main_v0_20)) (v21 : (c : Dev Cert.Kernel19Ideal.nD) → Buf (Elt Ideal) ((c.tc : Thread Cert.Kernel19Ideal.nD Cert.Kernel19Ideal.τ).loc Cert.Kernel19Ideal.main_v0_21)) (v22 : (c : Dev Cert.Kernel19Ideal.nD) → Buf (Elt Ideal) ((c.tc : Thread Cert.Kernel19Ideal.nD Cert.Kernel19Ideal.τ).loc Cert.Kernel19Ideal.main_v0_22)) (v23 : (c : Dev Cert.Kernel19Ideal.nD) → Buf (Elt Ideal) ((c.tc : Thread Cert.Kernel19Ideal.nD Cert.Kernel19Ideal.τ).loc Cert.Kernel19Ideal.main_v0_23)) (v24 : (c : Dev Cert.Kernel19Ideal.nD) → Buf (Elt Ideal) ((c.tc : Thread Cert.Kernel19Ideal.nD Cert.Kernel19Ideal.τ).loc Cert.Kernel19Ideal.main_v0_24)) (v25 : (c : Dev Cert.Kernel19Ideal.nD) → Buf (Elt Ideal) ((c.tc : Thread Cert.Kernel19Ideal.nD Cert.Kernel19Ideal.τ).loc Cert.Kernel19Ideal.main_v0_25)) (v26 : (c : Dev Cert.Kernel19Ideal.nD) → Buf (Elt Ideal) ((c.tc : Thread Cert.Kernel19Ideal.nD Cert.Kernel19Ideal.τ).loc Cert.Kernel19Ideal.main_v0_26)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_v0_6) = v6 c
          ∧ r.2.mem ((c.tc : Thread Cert.Kernel19Ideal.nD Cert.Kernel19Ideal.τ).loc Cert.Kernel19Ideal.main_v0_7) = v7 c
          ∧ r.2.mem ((c.tc : Thread Cert.Kernel19Ideal.nD Cert.Kernel19Ideal.τ).loc Cert.Kernel19Ideal.main_v0_8) = v8 c
          ∧ r.2.mem ((c.tc : Thread Cert.Kernel19Ideal.nD Cert.Kernel19Ideal.τ).loc Cert.Kernel19Ideal.main_v0_9) = v9 c
          ∧ r.2.mem ((c.tc : Thread Cert.Kernel19Ideal.nD Cert.Kernel19Ideal.τ).loc Cert.Kernel19Ideal.main_v0_10) = v10 c
          ∧ r.2.mem ((c.tc : Thread Cert.Kernel19Ideal.nD Cert.Kernel19Ideal.τ).loc Cert.Kernel19Ideal.main_v0_11) = v11 c
          ∧ r.2.mem ((c.tc : Thread Cert.Kernel19Ideal.nD Cert.Kernel19Ideal.τ).loc Cert.Kernel19Ideal.main_v0_12) = v12 c
          ∧ r.2.mem ((c.tc : Thread Cert.Kernel19Ideal.nD Cert.Kernel19Ideal.τ).loc Cert.Kernel19Ideal.main_v0_13) = v13 c
          ∧ r.2.mem ((c.tc : Thread Cert.Kernel19Ideal.nD Cert.Kernel19Ideal.τ).loc Cert.Kernel19Ideal.main_v0_14) = v14 c
          ∧ r.2.mem ((c.tc : Thread Cert.Kernel19Ideal.nD Cert.Kernel19Ideal.τ).loc Cert.Kernel19Ideal.main_v0_15) = v15 c
          ∧ r.2.mem ((c.tc : Thread Cert.Kernel19Ideal.nD Cert.Kernel19Ideal.τ).loc Cert.Kernel19Ideal.main_v0_16) = v16 c
          ∧ r.2.mem ((c.tc : Thread Cert.Kernel19Ideal.nD Cert.Kernel19Ideal.τ).loc Cert.Kernel19Ideal.main_v0_17) = v17 c
          ∧ r.2.mem ((c.tc : Thread Cert.Kernel19Ideal.nD Cert.Kernel19Ideal.τ).loc Cert.Kernel19Ideal.main_v0_18) = v18 c
          ∧ r.2.mem ((c.tc : Thread Cert.Kernel19Ideal.nD Cert.Kernel19Ideal.τ).loc Cert.Kernel19Ideal.main_v0_19) = v19 c
          ∧ r.2.mem ((c.tc : Thread Cert.Kernel19Ideal.nD Cert.Kernel19Ideal.τ).loc Cert.Kernel19Ideal.main_v0_20) = v20 c
          ∧ r.2.mem ((c.tc : Thread Cert.Kernel19Ideal.nD Cert.Kernel19Ideal.τ).loc Cert.Kernel19Ideal.main_v0_21) = v21 c
          ∧ r.2.mem ((c.tc : Thread Cert.Kernel19Ideal.nD Cert.Kernel19Ideal.τ).loc Cert.Kernel19Ideal.main_v0_22) = v22 c
          ∧ r.2.mem ((c.tc : Thread Cert.Kernel19Ideal.nD Cert.Kernel19Ideal.τ).loc Cert.Kernel19Ideal.main_v0_23) = v23 c
          ∧ r.2.mem ((c.tc : Thread Cert.Kernel19Ideal.nD Cert.Kernel19Ideal.τ).loc Cert.Kernel19Ideal.main_v0_24) = v24 c
          ∧ r.2.mem ((c.tc : Thread Cert.Kernel19Ideal.nD Cert.Kernel19Ideal.τ).loc Cert.Kernel19Ideal.main_v0_25) = v25 c
          ∧ r.2.mem ((c.tc : Thread Cert.Kernel19Ideal.nD Cert.Kernel19Ideal.τ).loc Cert.Kernel19Ideal.main_v0_26) = v26 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v1) = v1 c
          ∧ r.2.mem ((c.tc : Thread Cert.Reference19Ideal.nD Cert.Reference19Ideal.τ).loc Cert.Reference19Ideal.main_v2) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_v40) = v4 c
          ∧ r.2.mem ((c.tc : Thread Cert.Reference19Ideal.nD Cert.Reference19Ideal.τ).loc Cert.Reference19Ideal.main_v21) = v5 c
          ∧ r.2.mem ((c.tc : Thread Cert.Reference19Ideal.nD Cert.Reference19Ideal.τ).loc Cert.Reference19Ideal.main_v27) = v6 c
          ∧ r.2.mem ((c.tc : Thread Cert.Reference19Ideal.nD Cert.Reference19Ideal.τ).loc Cert.Reference19Ideal.main_v41) = v7 c
          ∧ r.2.mem ((c.tc : Thread Cert.Reference19Ideal.nD Cert.Reference19Ideal.τ).loc Cert.Reference19Ideal.main_v66) = v8 c
          ∧ r.2.mem ((c.tc : Thread Cert.Reference19Ideal.nD Cert.Reference19Ideal.τ).loc Cert.Reference19Ideal.main_v47) = v9 c
          ∧ r.2.mem ((c.tc : Thread Cert.Reference19Ideal.nD Cert.Reference19Ideal.τ).loc Cert.Reference19Ideal.main_v53) = v10 c
          ∧ r.2.mem ((c.tc : Thread Cert.Reference19Ideal.nD Cert.Reference19Ideal.τ).loc Cert.Reference19Ideal.main_v67) = v11 c
          ∧ r.2.mem ((c.tc : Thread Cert.Reference19Ideal.nD Cert.Reference19Ideal.τ).loc Cert.Reference19Ideal.main_v92) = v12 c
          ∧ r.2.mem ((c.tc : Thread Cert.Reference19Ideal.nD Cert.Reference19Ideal.τ).loc Cert.Reference19Ideal.main_v73) = v13 c
          ∧ r.2.mem ((c.tc : Thread Cert.Reference19Ideal.nD Cert.Reference19Ideal.τ).loc Cert.Reference19Ideal.main_v79) = v14 c
          ∧ r.2.mem ((c.tc : Thread Cert.Reference19Ideal.nD Cert.Reference19Ideal.τ).loc Cert.Reference19Ideal.main_v93) = v15 c
          ∧ r.2.mem ((c.tc : Thread Cert.Reference19Ideal.nD Cert.Reference19Ideal.τ).loc Cert.Reference19Ideal.main_v118) = v16 c
          ∧ r.2.mem ((c.tc : Thread Cert.Reference19Ideal.nD Cert.Reference19Ideal.τ).loc Cert.Reference19Ideal.main_v99) = v17 c
          ∧ r.2.mem ((c.tc : Thread Cert.Reference19Ideal.nD Cert.Reference19Ideal.τ).loc Cert.Reference19Ideal.main_v105) = v18 c
          ∧ r.2.mem ((c.tc : Thread Cert.Reference19Ideal.nD Cert.Reference19Ideal.τ).loc Cert.Reference19Ideal.main_v119) = v19 c
          ∧ r.2.mem ((c.tc : Thread Cert.Reference19Ideal.nD Cert.Reference19Ideal.τ).loc Cert.Reference19Ideal.main_v144) = v20 c
          ∧ r.2.mem ((c.tc : Thread Cert.Reference19Ideal.nD Cert.Reference19Ideal.τ).loc Cert.Reference19Ideal.main_v125) = v21 c
          ∧ r.2.mem ((c.tc : Thread Cert.Reference19Ideal.nD Cert.Reference19Ideal.τ).loc Cert.Reference19Ideal.main_v131) = v22 c
          ∧ r.2.mem ((c.tc : Thread Cert.Reference19Ideal.nD Cert.Reference19Ideal.τ).loc Cert.Reference19Ideal.main_v145) = v23 c
          ∧ r.2.mem ((c.tc : Thread Cert.Reference19Ideal.nD Cert.Reference19Ideal.τ).loc Cert.Reference19Ideal.main_v170) = v24 c
          ∧ r.2.mem ((c.tc : Thread Cert.Reference19Ideal.nD Cert.Reference19Ideal.τ).loc Cert.Reference19Ideal.main_v151) = v25 c
          ∧ r.2.mem ((c.tc : Thread Cert.Reference19Ideal.nD Cert.Reference19Ideal.τ).loc Cert.Reference19Ideal.main_v157) = v26 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_on_columns_there [hKernel22Ideal : Cert.Kernel22Ideal.Facts] [hReference22Ideal : Cert.Reference22Ideal.Facts] [hOn_columns_there : Cert.On_columns_there.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          (∀ i : (⟨2, ![2048, 6144]⟩ : Shape).Idx, (Cert.On_columns_there.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))) i = 1#1 → r.2.mem ((c.tc : Thread Cert.Kernel22Ideal.nD Cert.Kernel22Ideal.τ).loc Cert.Kernel22Ideal.main_v0) i = v0 c i)
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          (∀ i : (⟨2, ![2048, 6144]⟩ : Shape).Idx, (Cert.On_columns_there.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))) i = 1#1 → r.2.mem ((c.tc : Thread Cert.Reference22Ideal.nD Cert.Reference22Ideal.τ).loc Cert.Reference22Ideal.main_v20) i = v0 c i)
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v30) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_v38) = v1 c
          ∧ r.2.mem ((c.tc : Thread Cert.Reference24Ideal.nD Cert.Reference24Ideal.τ).loc Cert.Reference24Ideal.main_v19) = v2 c
          ∧ r.2.mem ((c.tc : Thread Cert.Reference24Ideal.nD Cert.Reference24Ideal.τ).loc Cert.Reference24Ideal.main_v25) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v38) = v1 c
          ∧ r.2.mem ((c.tc : Thread Cert.Reference25Ideal.nD Cert.Reference25Ideal.τ).loc Cert.Reference25Ideal.main_v19) = v2 c
          ∧ r.2.mem ((c.tc : Thread Cert.Reference25Ideal.nD Cert.Reference25Ideal.τ).loc Cert.Reference25Ideal.main_v25) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_v38) = v1 c
          ∧ r.2.mem ((c.tc : Thread Cert.Reference26Ideal.nD Cert.Reference26Ideal.τ).loc Cert.Reference26Ideal.main_v19) = v2 c
          ∧ r.2.mem ((c.tc : Thread Cert.Reference26Ideal.nD Cert.Reference26Ideal.τ).loc Cert.Reference26Ideal.main_v25) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v38) = v1 c
          ∧ r.2.mem ((c.tc : Thread Cert.Reference27Ideal.nD Cert.Reference27Ideal.τ).loc Cert.Reference27Ideal.main_v19) = v2 c
          ∧ r.2.mem ((c.tc : Thread Cert.Reference27Ideal.nD Cert.Reference27Ideal.τ).loc Cert.Reference27Ideal.main_v25) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hOn_columns_there : Cert.On_columns_there.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_on_columns_there (hKernel22Ideal := hKernel22Ideal) (hReference22Ideal := hReference22Ideal) (hOn_columns_there := hOn_columns_there)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== On_columns_there.lean ====
abbrev S2048x2048 : Shape := ⟨2, ![2048, 2048]⟩
abbrev S8x2048x768 : Shape := ⟨3, ![8, 2048, 768]⟩
abbrev S2048x6144 : Shape := ⟨2, ![2048, 6144]⟩
abbrev S_ : Shape := ⟨0, ![]⟩

class Facts : Prop where
  bcast_S_S2048x6144 : S_.BroadcastsInDim S2048x6144 (![] : Fin 0 → Fin S2048x6144.rank)

variable [Facts]

def fn {F : FTy → Type} [FloatOps F] (main_arg0 : FVec F S2048x2048 .bf16) (main_arg1 : FVec F S8x2048x768 .bf16) : IVec S2048x6144 1 :=
  let main_v0 : IVec S2048x6144 32 := iotaInDim S2048x6144 32 1
  let main_c : IVec S_ 32 := constantI S_ 32 2304#32
  let main_v1 : IVec S2048x6144 32 := broadcastInDim S2048x6144 ![] bcast_S_S2048x6144 main_c
  let main_v2 : IVec S2048x6144 1 := cmpi .slt main_v0 main_v1
  let main_c_0 : IVec S_ 32 := constantI S_ 32 3072#32
  let main_v3 : IVec S2048x6144 32 := broadcastInDim S2048x6144 ![] bcast_S_S2048x6144 main_c_0
  let main_v4 : IVec S2048x6144 1 := cmpi .sge main_v0 main_v3
  let main_c_1 : IVec S_ 32 := constantI S_ 32 3840#32
  let main_v5 : IVec S2048x6144 32 := broadcastInDim S2048x6144 ![] bcast_S_S2048x6144 main_c_1
  let main_v6 : IVec S2048x6144 1 := cmpi .slt main_v0 main_v5
  let main_v7 : IVec S2048x6144 1 := andi main_v4 main_v6
  let main_v8 : IVec S2048x6144 1 := ori main_v2 main_v7
  main_v8
-- ==== Kernel.lean ====
abbrev S2048x6144 : Shape := ⟨2, ![2048, 6144]⟩
abbrev S1x1024 : Shape := ⟨2, ![1, 1024]⟩
abbrev S2048x1024 : Shape := ⟨2, ![2048, 1024]⟩
abbrev S2048x2048 : Shape := ⟨2, ![2048, 2048]⟩
abbrev S8x1024 : Shape := ⟨2, ![8, 1024]⟩
abbrev S1024x128 : Shape := ⟨2, ![1024, 128]⟩
abbrev S2048x128 : Shape := ⟨2, ![2048, 128]⟩
abbrev S1x128 : Shape := ⟨2, ![1, 128]⟩
abbrev S8x128 : Shape := ⟨2, ![8, 128]⟩
abbrev S3 : Shape := ⟨1, ![3]⟩
abbrev S1024 : Shape := ⟨1, ![1024]⟩
abbrev S1024x1 : Shape := ⟨2, ![1024, 1]⟩
abbrev S128 : Shape := ⟨1, ![128]⟩
abbrev S256x256 : Shape := ⟨2, ![256, 256]⟩
abbrev S256x128 : Shape := ⟨2, ![256, 128]⟩
abbrev S1024x256 : Shape := ⟨2, ![1024, 256]⟩
abbrev S768x128 : Shape := ⟨2, ![768, 128]⟩
abbrev S768x256 : Shape := ⟨2, ![768, 256]⟩
abbrev S768x1 : Shape := ⟨2, ![768, 1]⟩
abbrev S512x128 : Shape := ⟨2, ![512, 128]⟩
abbrev S512x256 : Shape := ⟨2, ![512, 256]⟩
abbrev S512x1 : Shape := ⟨2, ![512, 1]⟩
abbrev S256x1 : Shape := ⟨2, ![256, 1]⟩
abbrev S1 : Shape := ⟨1, ![1]⟩
abbrev S_ : Shape := ⟨0, ![]⟩

abbrev nBuf : Space → Nat
  | .hbm => 7
  | .vmem => 25
  | .smem => 0
  | _ => 0

abbrev bufTy : (tb : Table) → Fin (tcTables nBuf tb) → BufTy
  | .hbm, ⟨0, _⟩ => ⟨S2048x6144, .bf16⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x2048, .bf16⟩
  | .hbm, ⟨5, _⟩ => ⟨S2048x6144, .bf16⟩
  | .hbm, ⟨6, _⟩ => ⟨S8x1024, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .bf16⟩
  | .local _ .vmem, ⟨13, _⟩ => ⟨S1024x128, .bf16⟩
  | .local _ .vmem, ⟨14, _⟩ => ⟨S8x128, .f32⟩
  | .local _ .vmem, ⟨15, _⟩ => ⟨S8x128, .f32⟩
  | .local _ .vmem, ⟨16, _⟩ => ⟨S2048x128, .f32⟩
  | .local _ .vmem, ⟨17, _⟩ => ⟨S2048x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .bf16⟩
  | .local _ .vmem, ⟨22, _⟩ => ⟨S1024x128, .bf16⟩
  | .local _ .vmem, ⟨23, _⟩ => ⟨S2048x128, .bf16⟩
  | .local _ .vmem, ⟨24, _⟩ => ⟨S2048x128, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

@[reducible] def k0_t1_loop (i : grid0.Coords) : Scf.Loop 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_mult1 (i : grid0.Coords) (k0_t1 : Fin (k0_t1_loop i).trips) : BitVec 32 :=
  let c0_i32_27 : BitVec 32 := 0#32
  let c1_i32_28 : BitVec 32 := 1#32
  let arg21 : BitVec 32 := Scf.iv c0_i32_27 c1_i32_28 k0_t1
  let c1024_i32_235 : BitVec 32 := 1024#32
  let v533 : BitVec 32 := Scalar.muli arg21 c1024_i32_235
  v533
def k0_mult2 (i : grid0.Coords) (k0_t1 : Fin (k0_t1_loop i).trips) : BitVec 32 :=
  let c0_i32_27 : BitVec 32 := 0#32
  let c1_i32_28 : BitVec 32 := 1#32
  let arg21 : BitVec 32 := Scf.iv c0_i32_27 c1_i32_28 k0_t1
  let c1024_i32_235 : BitVec 32 := 1024#32
  let v533 : BitVec 32 := Scalar.muli arg21 c1024_i32_235
  let v534 : BitVec 32 := v533
  let c0_i32_236 : BitVec 32 := 0#32
  let v535 : BitVec 32 := Scalar.addi v534 c0_i32_236
  v535
def k0_mult3 (i : grid0.Coords) (k0_t1 : Fin (k0_t1_loop i).trips) : BitVec 32 :=
  let c0_i32_27 : BitVec 32 := 0#32
  let c1_i32_28 : BitVec 32 := 1#32
  let arg21 : BitVec 32 := Scf.iv c0_i32_27 c1_i32_28 k0_t1
  let c1024_i32_235 : BitVec 32 := 1024#32
  let v533 : BitVec 32 := Scalar.muli arg21 c1024_i32_235
  let v534 : BitVec 32 := v533
  let c256_i32_237 : BitVec 32 := 256#32
  let v537 : BitVec 32 := Scalar.addi v534 c256_i32_237
  v537
def k0_mult4 (i : grid0.Coords) (k0_t1 : Fin (k0_t1_loop i).trips) : BitVec 32 :=
  let c0_i32_27 : BitVec 32 := 0#32
  let c1_i32_28 : BitVec 32 := 1#32
  let arg21 : BitVec 32 := Scf.iv c0_i32_27 c1_i32_28 k0_t1
  let c1024_i32_235 : BitVec 32 := 1024#32
  let v533 : BitVec 32 := Scalar.muli arg21 c1024_i32_235
  let v534 : BitVec 32 := v533
  let c512_i32_238 : BitVec 32 := 512#32
  let v539 : BitVec 32 := Scalar.addi v534 c512_i32_238
  v539
def k0_mult5 (i : grid0.Coords) (k0_t1 : Fin (k0_t1_loop i).trips) : BitVec 32 :=
  let c0_i32_27 : BitVec 32 := 0#32
  let c1_i32_28 : BitVec 32 := 1#32
  let arg21 : BitVec 32 := Scf.iv c0_i32_27 c1_i32_28 k0_t1
  let c1024_i32_235 : BitVec 32 := 1024#32
  let v533 : BitVec 32 := Scalar.muli arg21 c1024_i32_235
  let v534 : BitVec 32 := v533
  let c768_i32_239 : BitVec 32 := 768#32
  let v541 : BitVec 32 := Scalar.addi v534 c768_i32_239
  v541
def k0_off1 (i : grid0.Coords) (k0_t1 : Fin (k0_t1_loop i).trips) (c0_i32_236 : BitVec 32) : Fin 2 → Nat :=
  let c0_i32_27 : BitVec 32 := 0#32
  let c1_i32_28 : BitVec 32 := 1#32
  let arg21 : BitVec 32 := Scf.iv c0_i32_27 c1_i32_28 k0_t1
  let c1024_i32_235 : BitVec 32 := 1024#32
  let v533 : BitVec 32 := Scalar.muli arg21 c1024_i32_235
  let v534 : BitVec 32 := v533
  let v535 : BitVec 32 := Scalar.addi v534 c0_i32_236
  let v536 : BitVec 32 := v535
  let v544 : Index := Scalar.indexCast v536
  let c0_242 : Index := 0#32
  ![v544.toNat, 0]
@[reducible] def k0_t2_loop (i : grid0.Coords) : Scf.Loop 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_mult6 (i : grid0.Coords) (k0_t2 : Fin (k0_t2_loop i).trips) : BitVec 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg21 : BitVec 32 := Scf.iv v73 c1_i32_29 k0_t2
  let c1024_i32_235 : BitVec 32 := 1024#32
  let v533 : BitVec 32 := Scalar.muli arg21 c1024_i32_235
  v533
def k0_mult7 (i : grid0.Coords) (k0_t2 : Fin (k0_t2_loop i).trips) : BitVec 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg21 : BitVec 32 := Scf.iv v73 c1_i32_29 k0_t2
  let c1024_i32_235 : BitVec 32 := 1024#32
  let v533 : BitVec 32 := Scalar.muli arg21 c1024_i32_235
  let v534 : BitVec 32 := v533
  let c0_i32_236 : BitVec 32 := 0#32
  let v535 : BitVec 32 := Scalar.addi v534 c0_i32_236
  v535
def k0_mult8 (i : grid0.Coords) (k0_t2 : Fin (k0_t2_loop i).trips) : BitVec 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg21 : BitVec 32 := Scf.iv v73 c1_i32_29 k0_t2
  let c1024_i32_235 : BitVec 32 := 1024#32
  let v533 : BitVec 32 := Scalar.muli arg21 c1024_i32_235
  let v534 : BitVec 32 := v533
  let c256_i32_237 : BitVec 32 := 256#32
  let v537 : BitVec 32 := Scalar.addi v534 c256_i32_237
  v537
def k0_mult9 (i : grid0.Coords) (k0_t2 : Fin (k0_t2_loop i).trips) : BitVec 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg21 : BitVec 32 := Scf.iv v73 c1_i32_29 k0_t2
  let c1024_i32_235 : BitVec 32 := 1024#32
  let v533 : BitVec 32 := Scalar.muli arg21 c1024_i32_235
  let v534 : BitVec 32 := v533
  let c512_i32_238 : BitVec 32 := 512#32
  let v539 : BitVec 32 := Scalar.addi v534 c512_i32_238
  v539
def k0_mult10 (i : grid0.Coords) (k0_t2 : Fin (k0_t2_loop i).trips) : BitVec 32 :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg21 : BitVec 32 := Scf.iv v73 c1_i32_29 k0_t2
  let c1024_i32_235 : BitVec 32 := 1024#32
  let v533 : BitVec 32 := Scalar.muli arg21 c1024_i32_235
  let v534 : BitVec 32 := v533
  let c768_i32_239 : BitVec 32 := 768#32
  let v541 : BitVec 32 := Scalar.addi v534 c768_i32_239
  v541
def k0_off2 (i : grid0.Coords) (k0_t2 : Fin (k0_t2_loop i).trips) (c0_i32_236 : BitVec 32) : Fin 2 → Nat :=
  let c0_i32_27 : BitVec 32 := 0#32
  let arg1 : BitVec 32 := BitVec.ofNat 32 (i 1).val
  let v69 : BitVec 32 := Scalar.subi arg1 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg21 : BitVec 32 := Scf.iv v73 c1_i32_29 k0_t2
  let c1024_i32_235 : BitVec 32 := 1024#32
  let v533 : BitVec 32 := Scalar.muli arg21 c1024_i32_235
  let v534 : BitVec 32 := v533
  let v535 : BitVec 32 := Scalar.addi v534 c0_i32_236
  let v536 : BitVec 32 := v535
  let v544 : Index := Scalar.indexCast v536
  let c0_242 : Index := 0#32
  ![v544.toNat, 0]
def k0_mult11 (i : grid0.Coords) : BitVec 32 :=
  let arg1 : BitVec 32 := BitVec.ofNat 32 (i 1).val
  let c1024_i32 : BitVec 32 := 1024#32
  let v74 : BitVec 32 := Scalar.muli arg1 c1024_i32
  let c0_i32_30 : BitVec 32 := 0#32
  let v75 : BitVec 32 := Scalar.addi v74 c0_i32_30
  v75
def k0_mult12 (i : grid0.Coords) : BitVec 32 :=
  let arg1 : BitVec 32 := BitVec.ofNat 32 (i 1).val
  let c1024_i32_31 : BitVec 32 := 1024#32
  let v77 : BitVec 32 := Scalar.muli arg1 c1024_i32_31
  let c256_i32 : BitVec 32 := 256#32
  let v78 : BitVec 32 := Scalar.addi v77 c256_i32
  v78
def k0_off3 (i : grid0.Coords) (c0_i32_30 : BitVec 32) : Fin 2 → Nat :=
  let arg1 : BitVec 32 := BitVec.ofNat 32 (i 1).val
  let c1024_i32 : BitVec 32 := 1024#32
  let v74 : BitVec 32 := Scalar.muli arg1 c1024_i32
  let v75 : BitVec 32 := Scalar.addi v74 c0_i32_30
  let v76 : BitVec 32 := v75
  let v81 : Index := Scalar.indexCast v76
  let c0_34 : Index := 0#32
  ![v81.toNat, 0]
def k0_mult13 (i : grid0.Coords) : BitVec 32 :=
  let arg1 : BitVec 32 := BitVec.ofNat 32 (i 1).val
  let c1024_i32_123 : BitVec 32 := 1024#32
  let v288 : BitVec 32 := Scalar.muli arg1 c1024_i32_123
  let c512_i32 : BitVec 32 := 512#32
  let v289 : BitVec 32 := Scalar.addi v288 c512_i32
  v289
def k0_mult14 (i : grid0.Coords) : BitVec 32 :=
  let arg1 : BitVec 32 := BitVec.ofNat 32 (i 1).val
  let c1024_i32_124 : BitVec 32 := 1024#32
  let v291 : BitVec 32 := Scalar.muli arg1 c1024_i32_124
  let c768_i32 : BitVec 32 := 768#32
  let v292 : BitVec 32 := Scalar.addi v291 c768_i32
  v292
def k0_mult15 (i : grid0.Coords) : BitVec 32 :=
  let arg1 : BitVec 32 := BitVec.ofNat 32 (i 1).val
  let c1024_i32_215 : BitVec 32 := 1024#32
  let v502 : BitVec 32 := Scalar.muli arg1 c1024_i32_215
  v502
def k0_mult16 (i : grid0.Coords) : BitVec 32 :=
  let arg0 : BitVec 32 := BitVec.ofNat 32 (i 0).val
  let c128_i32 : BitVec 32 := 128#32
  let v504 : BitVec 32 := Scalar.muli arg0 c128_i32
  v504
def k0_mult17 (i : grid0.Coords) : BitVec 32 :=
  let c8_i32 : BitVec 32 := 8#32
  let arg0 : BitVec 32 := BitVec.ofNat 32 (i 0).val
  let v506 : BitVec 32 := Scalar.addi c8_i32 arg0
  let c128_i32_216 : BitVec 32 := 128#32
  let v507 : BitVec 32 := Scalar.muli v506 c128_i32_216
  v507
def k0_mult18 (i : grid0.Coords) : BitVec 32 :=
  let c16_i32 : BitVec 32 := 16#32
  let arg0 : BitVec 32 := BitVec.ofNat 32 (i 0).val
  let v509 : BitVec 32 := Scalar.addi c16_i32 arg0
  let c128_i32_217 : BitVec 32 := 128#32
  let v510 : BitVec 32 := Scalar.muli v509 c128_i32_217
  v510
def k0_cond2 (i : grid0.Coords) : BitVec 1 :=
  let arg0 : BitVec 32 := BitVec.ofNat 32 (i 0).val
  let c0_i32_218 : BitVec 32 := 0#32
  let v512 : BitVec 1 := Scalar.cmpi .sgt arg0 c0_i32_218
  let arg1 : BitVec 32 := BitVec.ofNat 32 (i 1).val
  let c0_i32_219 : BitVec 32 := 0#32
  let v513 : BitVec 1 := Scalar.cmpi .sgt arg1 c0_i32_219
  let v514 : BitVec 1 := Scalar.ori v512 v513
  let v515 : BitVec 32 := Scalar.extui v514
  let c0_i32_221 : BitVec 32 := 0#32
  let v516 : BitVec 1 := Scalar.cmpi .ne v515 c0_i32_221
  v516

def k0_off4 (i : grid0.Coords) : Fin 2 → Nat :=
  let arg1 : BitVec 32 := BitVec.ofNat 32 (i 1).val
  let c1024_i32_215 : BitVec 32 := 1024#32
  let v502 : BitVec 32 := Scalar.muli arg1 c1024_i32_215
  let v503 : BitVec 32 := v502
  let arg0 : BitVec 32 := BitVec.ofNat 32 (i 0).val
  let c128_i32 : BitVec 32 := 128#32
  let v504 : BitVec 32 := Scalar.muli arg0 c128_i32
  let v505 : BitVec 32 := v504
  ![v503.toNat, v505.toNat]
def k0_off5 (i : grid0.Coords) : Fin 2 → Nat :=
  let arg1 : BitVec 32 := BitVec.ofNat 32 (i 1).val
  let c1024_i32_215 : BitVec 32 := 1024#32
  let v502 : BitVec 32 := Scalar.muli arg1 c1024_i32_215
  let v503 : BitVec 32 := v502
  let arg0 : BitVec 32 := BitVec.ofNat 32 (i 0).val
  let c128_i32 : BitVec 32 := 128#32
  let v504 : BitVec 32 := Scalar.muli arg0 c128_i32
  let v505 : BitVec 32 := v504
  ![v503.toNat, v505.toNat]
def k0_cond3 (i : grid0.Coords) : BitVec 1 :=
  let arg1 : BitVec 32 := BitVec.ofNat 32 (i 1).val
  let c1_i32_227 : BitVec 32 := 1#32
  let v525 : BitVec 1 := Scalar.cmpi .eq arg1 c1_i32_227
  let v526 : BitVec 32 := Scalar.extui v525
  let c0_i32_229 : BitVec 32 := 0#32
  let v527 : BitVec 1 := Scalar.cmpi .ne v526 c0_i32_229
  v527

def k0_cond4 (i : grid0.Coords) : BitVec 1 :=
  let arg0 : BitVec 32 := BitVec.ofNat 32 (i 0).val
  let c0_i32_235 : BitVec 32 := 0#32
  let v533 : BitVec 1 := Scalar.cmpi .sgt arg0 c0_i32_235
  let v534 : BitVec 32 := Scalar.extui v533
  let c0_i32_236 : BitVec 32 := 0#32
  let v535 : BitVec 1 := Scalar.cmpi .ne v534 c0_i32_236
  v535

def k0_off6 (i : grid0.Coords) (c8_i32 : BitVec 32) : Fin 2 → Nat :=
  let c0_i32_247 : BitVec 32 := 0#32
  let arg0 : BitVec 32 := BitVec.ofNat 32 (i 0).val
  let v506 : BitVec 32 := Scalar.addi c8_i32 arg0
  let c128_i32_216 : BitVec 32 := 128#32
  let v507 : BitVec 32 := Scalar.muli v506 c128_i32_216
  let v508 : BitVec 32 := v507
  ![0, v508.toNat]
def k0_off7 (i : grid0.Coords) (c8_i32 : BitVec 32) : Fin 2 → Nat :=
  let c0_i32_245 : BitVec 32 := 0#32
  let arg0 : BitVec 32 := BitVec.ofNat 32 (i 0).val
  let v506 : BitVec 32 := Scalar.addi c8_i32 arg0
  let c128_i32_216 : BitVec 32 := 128#32
  let v507 : BitVec 32 := Scalar.muli v506 c128_i32_216
  let v508 : BitVec 32 := v507
  ![0, v508.toNat]
def k0_cond5 (i : grid0.Coords) : BitVec 1 :=
  let arg0 : BitVec 32 := BitVec.ofNat 32 (i 0).val
  let c7_i32 : BitVec 32 := 7#32
  let v528 : BitVec 1 := Scalar.cmpi .eq arg0 c7_i32
  let arg1 : BitVec 32 := BitVec.ofNat 32 (i 1).val
  let c1_i32_230 : BitVec 32 := 1#32
  let v529 : BitVec 1 := Scalar.cmpi .eq arg1 c1_i32_230
  let v530 : BitVec 1 := Scalar.andi v528 v529
  let v531 : BitVec 32 := Scalar.extui v530
  let c0_i32_234 : BitVec 32 := 0#32
  let v532 : BitVec 1 := Scalar.cmpi .ne v531 c0_i32_234
  v532

def k0_off8 (i : grid0.Coords) : Fin 2 → Nat :=
  let arg1 : BitVec 32 := BitVec.ofNat 32 (i 1).val
  let c1024_i32_215 : BitVec 32 := 1024#32
  let v502 : BitVec 32 := Scalar.muli arg1 c1024_i32_215
  let v503 : BitVec 32 := v502
  let arg0 : BitVec 32 := BitVec.ofNat 32 (i 0).val
  let c128_i32 : BitVec 32 := 128#32
  let v504 : BitVec 32 := Scalar.muli arg0 c128_i32
  let v505 : BitVec 32 := v504
  ![v503.toNat, v505.toNat]
def k0_off9 (i : grid0.Coords) (c8_i32 : BitVec 32) : Fin 2 → Nat :=
  let c0_i32_235 : BitVec 32 := 0#32
  let arg0 : BitVec 32 := BitVec.ofNat 32 (i 0).val
  let v506 : BitVec 32 := Scalar.addi c8_i32 arg0
  let c128_i32_216 : BitVec 32 := 128#32
  let v507 : BitVec 32 := Scalar.muli v506 c128_i32_216
  let v508 : BitVec 32 := v507
  ![0, v508.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S1x1024 : Shape := ⟨2, ![1, 1024]⟩
abbrev S2048x1024 : Shape := ⟨2, ![2048, 1024]⟩
abbrev S2048x2048 : Shape := ⟨2, ![2048, 2048]⟩
abbrev S1024 : Shape := ⟨1, ![1024]⟩
abbrev S1x2048x8x128 : Shape := ⟨4, ![1, 2048, 8, 128]⟩
abbrev S1x8x2048x128 : Shape := ⟨4, ![1, 8, 2048, 128]⟩
abbrev S_ : Shape := ⟨0, ![]⟩
abbrev S1x8x2048 : Shape := ⟨3, ![1, 8, 2048]⟩
abbrev S1x8x2048x1 : Shape := ⟨4, ![1, 8, 2048, 1]⟩
abbrev S1x8x1x128 : Shape := ⟨4, ![1, 8, 1, 128]⟩
abbrev S1x8x128 : Shape := ⟨3, ![1, 8, 128]⟩
abbrev S8x1024 : Shape := ⟨2, ![8, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x2048, .bf16⟩
  | .hbm, ⟨5, _⟩ => ⟨S1024, .f32⟩
  | .hbm, ⟨6, _⟩ => ⟨S1x2048x8x128, .f32⟩
  | .hbm, ⟨7, _⟩ => ⟨S1x8x2048x128, .f32⟩
  | .hbm, ⟨8, _⟩ => ⟨S1x8x2048x128, .f32⟩
  | .hbm, ⟨9, _⟩ => ⟨S_, .f32⟩
  | .hbm, ⟨10, _⟩ => ⟨S1x8x2048, .f32⟩
  | .hbm, ⟨11, _⟩ => ⟨S1x8x2048x1, .f32⟩
  | .hbm, ⟨12, _⟩ => ⟨S_, .f32⟩
  | .hbm, ⟨13, _⟩ => ⟨S1x8x2048x1, .f32⟩
  | .hbm, ⟨14, _⟩ => ⟨S1x8x2048x1, .f32⟩
  | .hbm, ⟨15, _⟩ => ⟨S_, .f32⟩
  | .hbm, ⟨16, _⟩ => ⟨S1x8x2048x1, .f32⟩
  | .hbm, ⟨17, _⟩ => ⟨S1x8x2048x1, .f32⟩
  | .hbm, ⟨18, _⟩ => ⟨S1x8x2048x1, .f32⟩
  | .hbm, ⟨19, _⟩ => ⟨S1x8x2048x128, .f32⟩
  | .hbm, ⟨20, _⟩ => ⟨S1x8x2048x128, .f32⟩
  | .hbm, ⟨21, _⟩ => ⟨S1x8x1x128, .f32⟩
  | .hbm, ⟨22, _⟩ => ⟨S1x8x2048x128, .f32⟩
  | .hbm, ⟨23, _⟩ => ⟨S1x8x2048x128, .f32⟩
  | .hbm, ⟨24, _⟩ => ⟨S2048x1024, .bf16⟩
  | .hbm, ⟨25, _⟩ => ⟨S2048x1024, .f32⟩
  | .hbm, ⟨26, _⟩ => ⟨S1x2048x8x128, .f32⟩
  | .hbm, ⟨27, _⟩ => ⟨S1x8x2048x128, .f32⟩
  | .hbm, ⟨28, _⟩ => ⟨S1x8x2048x128, .f32⟩
  | .hbm, ⟨29, _⟩ => ⟨S_, .f32⟩
  | .hbm, ⟨30, _⟩ => ⟨S1x8x128, .f32⟩
  | .hbm, ⟨31, _⟩ => ⟨S1x8x1x128, .f32⟩
  | .hbm, ⟨32, _⟩ => ⟨S1024, .f32⟩
  | .hbm, ⟨33, _⟩ => ⟨S1x1024, .f32⟩
  | .hbm, ⟨34, _⟩ => ⟨S8x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel2.lean ====
abbrev S2048x5632 : Shape := ⟨2, ![2048, 5632]⟩
abbrev S2048x2048 : Shape := ⟨2, ![2048, 2048]⟩
abbrev S1x5632x2048 : Shape := ⟨3, ![1, 5632, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x5632 : Shape := ⟨2, ![2048, 5632]⟩
abbrev S2048x2048 : Shape := ⟨2, ![2048, 2048]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S1x5632x2048, .f32⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S1x5632x2048, .f32⟩
  | .hbm, ⟨11, _⟩ => ⟨S1x5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x2048 : Shape := ⟨2, ![2048, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S1x5632x2048 : Shape := ⟨3, ![1, 5632, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S_, .f32⟩
  | .hbm, ⟨3, _⟩ => ⟨S2048x5632, .f32⟩
  | .hbm, ⟨4, _⟩ => ⟨S1x5632x2048, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x2048 : Shape := ⟨2, ![2048, 2048]⟩
abbrev S2048x11264 : Shape := ⟨2, ![2048, 11264]⟩
abbrev S1x11264x2048 : Shape := ⟨3, ![1, 11264, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S1x11264x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S2048x11264 : Shape := ⟨2, ![2048, 11264]⟩
abbrev S_ : Shape := ⟨0, ![]⟩
abbrev S1x11264x2048 : Shape := ⟨3, ![1, 11264, 2048]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S1x11264x2048, .f32⟩
  | .hbm, ⟨4, _⟩ => ⟨S2048x2048, .f32⟩
  | .hbm, ⟨5, _⟩ => ⟨S11264x2048, .f32⟩
  | .hbm, ⟨6, _⟩ => ⟨S2048x11264, .f32⟩
  | .hbm, ⟨7, _⟩ => ⟨S2048x11264, .f32⟩
  | .hbm, ⟨8, _⟩ => ⟨S11264x2048, .f32⟩
  | .hbm, ⟨9, _⟩ => ⟨S1x11264x2048, .f32⟩
  | .hbm, ⟨10, _⟩ => ⟨S1x11264x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x11264 : Shape := ⟨2, ![2048, 11264]⟩
abbrev S8x1408x2048 : Shape := ⟨3, ![8, 1408, 2048]⟩
abbrev S4x2x1408x2048 : Shape := ⟨4, ![4, 2, 1408, 2048]⟩
abbrev S2048x2048 : Shape := ⟨2, ![2048, 2048]⟩
abbrev S1024x2816 : Shape := ⟨2, ![1024, 2816]⟩
abbrev S1x2x1408x1024 : Shape := ⟨4, ![1, 2, 1408, 1024]⟩
abbrev S1024x1024 : Shape := ⟨2, ![1024, 1024]⟩
abbrev S2x1408x1024 : Shape := ⟨3, ![2, 1408, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8x1408x2048, .bf16⟩
  | .hbm, ⟨2, _⟩ => ⟨S4x2x1408x2048, .bf16⟩
  | .hbm, ⟨3, _⟩ => ⟨S2048x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1x2x1408x1024, .bf16⟩
  | .local _ .vmem, ⟨3, _⟩ => ⟨S1x2x1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x11264 : Shape := ⟨2, ![2048, 11264]⟩
abbrev S8x1408x2048 : Shape := ⟨3, ![8, 1408, 2048]⟩
abbrev S_ : Shape := ⟨0, ![]⟩
abbrev S2048x2048 : Shape := ⟨2, ![2048, 2048]⟩
abbrev S2048x8x1408 : Shape := ⟨3, ![2048, 8, 1408]⟩

abbrev nBuf : Space → Nat
  | .hbm => 11
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8x1408x2048, .bf16⟩
  | .hbm, ⟨2, _⟩ => ⟨S_, .f32⟩
  | .hbm, ⟨3, _⟩ => ⟨S2048x2048, .f32⟩
  | .hbm, ⟨4, _⟩ => ⟨S8x1408x2048, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x8x1408, .f32⟩
  | .hbm, ⟨9, _⟩ => ⟨S2048x2048, .f32⟩
  | .hbm, ⟨10, _⟩ => ⟨S2048x2048, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S_, .f32⟩
  | .hbm, ⟨3, _⟩ => ⟨S2048x2048, .f32⟩
  | .hbm, ⟨4, _⟩ => ⟨S1x2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x6144 : Shape := ⟨2, ![2048, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x6144 : Shape := ⟨2, ![2048, 6144]⟩
abbrev S_ : Shape := ⟨0, ![]⟩
abbrev S8x2048x768 : Shape := ⟨3, ![8, 2048, 768]⟩
abbrev S2048x8x768 : Shape := ⟨3, ![2048, 8, 768]⟩
abbrev S8x768x2048 : Shape := ⟨3, ![8, 768, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .f32⟩
  | .hbm, ⟨3, _⟩ => ⟨S8x2048x768, .f32⟩
  | .hbm, ⟨4, _⟩ => ⟨S2048x2048, .f32⟩
  | .hbm, ⟨5, _⟩ => ⟨S2048x8x768, .f32⟩
  | .hbm, ⟨6, _⟩ => ⟨S2048x6144, .f32⟩
  | .hbm, ⟨7, _⟩ => ⟨S2048x6144, .f32⟩
  | .hbm, ⟨8, _⟩ => ⟨S2048x8x768, .f32⟩
  | .hbm, ⟨9, _⟩ => ⟨S8x768x2048, .f32⟩
  | .hbm, ⟨10, _⟩ => ⟨S8x2048x768, .f32⟩
  | .hbm, ⟨11, _⟩ => ⟨S8x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S2048x6144 : Shape := ⟨2, ![2048, 6144]⟩
abbrev S8x2048x768 : Shape := ⟨3, ![8, 2048, 768]⟩
abbrev S2x4x2048x768 : Shape := ⟨4, ![2, 4, 2048, 768]⟩
abbrev S2048x2048 : Shape := ⟨2, ![2048, 2048]⟩
abbrev S1024x3072 : Shape := ⟨2, ![1024, 3072]⟩
abbrev S1x4x1024x768 : Shape := ⟨4, ![1, 4, 1024, 768]⟩
abbrev S1024x1024 : Shape := ⟨2, ![1024, 1024]⟩
abbrev S4x1024x768 : Shape := ⟨3, ![4, 1024, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2x4x2048x768, .bf16⟩
  | .hbm, ⟨3, _⟩ => ⟨S2048x2048, .bf16⟩
  | .local _ .vmem, ⟨0, _⟩ => ⟨S1024x3072, .bf16⟩
  | .local _ .vmem, ⟨1, _⟩ => ⟨S1024x3072, .bf16⟩
  | .local _ .vmem, ⟨2, _⟩ => ⟨S1x4x1024x768, .bf16⟩
  | .local _ .vmem, ⟨3, _⟩ => ⟨S1x4x1024x768, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x6144 : Shape := ⟨2, ![2048, 6144]⟩
abbrev S8x2048x768 : Shape := ⟨3, ![8, 2048, 768]⟩
abbrev S_ : Shape := ⟨0, ![]⟩
abbrev S2048x2048 : Shape := ⟨2, ![2048, 2048]⟩
abbrev S2048x8x768 : Shape := ⟨3, ![2048, 8, 768]⟩

abbrev nBuf : Space → Nat
  | .hbm => 11
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S_, .f32⟩
  | .hbm, ⟨3, _⟩ => ⟨S2048x2048, .f32⟩
  | .hbm, ⟨4, _⟩ => ⟨S8x2048x768, .f32⟩
  | .hbm, ⟨5, _⟩ => ⟨S2048x8x768, .f32⟩
  | .hbm, ⟨6, _⟩ => ⟨S2048x6144, .f32⟩
  | .hbm, ⟨7, _⟩ => ⟨S2048x6144, .f32⟩
  | .hbm, ⟨8, _⟩ => ⟨S2048x8x768, .f32⟩
  | .hbm, ⟨9, _⟩ => ⟨S2048x2048, .f32⟩
  | .hbm, ⟨10, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x5632 : Shape := ⟨2, ![2048, 5632]⟩
abbrev S1x5632x2048 : Shape := ⟨3, ![1, 5632, 2048]⟩
abbrev S2048x2048 : Shape := ⟨2, ![2048, 2048]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x5632 : Shape := ⟨2, ![2048, 5632]⟩
abbrev S1x5632x2048 : Shape := ⟨3, ![1, 5632, 2048]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x5632, .f32⟩
  | .hbm, ⟨3, _⟩ => ⟨S1x5632x2048, .f32⟩
  | .hbm, ⟨4, _⟩ => ⟨S5632x2048, .f32⟩
  | .hbm, ⟨5, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2048x2048 : Shape := ⟨2, ![2048, 2048]⟩
abbrev S8x1408x2048 : Shape := ⟨3, ![8, 1408, 2048]⟩
abbrev S2048x11264 : Shape := ⟨2, ![2048, 11264]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x1408x2048, .bf16⟩
  | .hbm, ⟨2, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S8x1408x2048 : Shape := ⟨3, ![8, 1408, 2048]⟩
abbrev S2048x8x1408 : Shape := ⟨3, ![2048, 8, 1408]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1408x2048, .bf16⟩
  | .hbm, ⟨2, _⟩ => ⟨S2048x2048, .f32⟩
  | .hbm, ⟨3, _⟩ => ⟨S8x1408x2048, .f32⟩
  | .hbm, ⟨4, _⟩ => ⟨S2048x8x1408, .f32⟩
  | .hbm, ⟨5, _⟩ => ⟨S2048x11264, .f32⟩
  | .hbm, ⟨6, _⟩ => ⟨S2048x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel14.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x2048, .f32⟩
  | .hbm, ⟨71, _⟩ => ⟨S2048x2048, .f32⟩
  | .hbm, ⟨72, _⟩ => ⟨S1x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S2048x2048, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x2048, .f32⟩
  | .hbm, ⟨88, _⟩ => ⟨S2048x2048, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S2048x2048, .f32⟩
  | .hbm, ⟨100, _⟩ => ⟨S2048x2048, .bf16⟩
  | .hbm, ⟨101, _⟩ => ⟨S1x2048, .f32⟩
  | .hbm, ⟨102, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel15.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .bf16⟩
  | .hbm, ⟨75, _⟩ => ⟨S1x2048, .f32⟩
  | .hbm, ⟨76, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel16.lean ====
abbrev S2x2048x5632 : Shape := ⟨3, ![2, 2048, 5632]⟩
abbrev S8x11264 : Shape := ⟨2, ![8, 11264]⟩
abbrev S2048x11264 : Shape := ⟨2, ![2048, 11264]⟩
abbrev S1x512x1408 : Shape := ⟨3, ![1, 512, 1408]⟩
abbrev S1x16x1408 : Shape := ⟨3, ![1, 16, 1408]⟩
abbrev S8x1408 : Shape := ⟨2, ![8, 1408]⟩
abbrev S512x1408 : Shape := ⟨2, ![512, 1408]⟩
abbrev S16x1408 : Shape := ⟨2, ![16, 1408]⟩
abbrev S1x1408 : Shape := ⟨2, ![1, 1408]⟩

abbrev nBuf : Space → Nat
  | .hbm => 3
  | .vmem => 8
  | .smem => 0
  | _ => 0

abbrev bufTy : (tb : Table) → Fin (tcTables nBuf tb) → BufTy
  | .hbm, ⟨0, _⟩ => ⟨S2x2048x5632, .bf16⟩
  | .hbm, ⟨1, _⟩ => ⟨S8x11264, .f32⟩
  | .hbm, ⟨2, _⟩ => ⟨S2048x11264, .bf16⟩
  | .local _ .vmem, ⟨0, _⟩ => ⟨S1x512x1408, .bf16⟩
  | .local _ .vmem, ⟨1, _⟩ => ⟨S1x512x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S8x1408, .f32⟩
  | .local _ .vmem, ⟨5, _⟩ => ⟨S8x1408, .f32⟩
  | .local _ .vmem, ⟨6, _⟩ => ⟨S512x1408, .bf16⟩
  | .local _ .vmem, ⟨7, _⟩ => ⟨S512x1408, .bf16⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference16Ideal.lean ====
abbrev S2x2048x5632 : Shape := ⟨3, ![2, 2048, 5632]⟩
abbrev S8x11264 : Shape := ⟨2, ![8, 11264]⟩
abbrev S1x2048x5632 : Shape := ⟨3, ![1, 2048, 5632]⟩
abbrev S2048x5632 : Shape := ⟨2, ![2048, 5632]⟩
abbrev S2048x11264 : Shape := ⟨2, ![2048, 11264]⟩
abbrev S1x2048x11264 : Shape := ⟨3, ![1, 2048, 11264]⟩
abbrev S_ : Shape := ⟨0, ![]⟩
abbrev S3x11264 : Shape := ⟨2, ![3, 11264]⟩
abbrev S1x11264 : Shape := ⟨2, ![1, 11264]⟩
abbrev S11264 : Shape := ⟨1, ![11264]⟩
abbrev S1x2x11264 : Shape := ⟨3, ![1, 2, 11264]⟩
abbrev S1x2050x11264 : Shape := ⟨3, ![1, 2050, 11264]⟩
abbrev S1x1x11264 : Shape := ⟨3, ![1, 1, 11264]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S8x11264, .f32⟩
  | .hbm, ⟨2, _⟩ => ⟨S1x2048x5632, .bf16⟩
  | .hbm, ⟨3, _⟩ => ⟨S2048x5632, .bf16⟩
  | .hbm, ⟨4, _⟩ => ⟨S1x2048x5632, .bf16⟩
  | .hbm, ⟨5, _⟩ => ⟨S2048x5632, .bf16⟩
  | .hbm, ⟨6, _⟩ => ⟨S2048x11264, .bf16⟩
  | .hbm, ⟨7, _⟩ => ⟨S2048x11264, .f32⟩
  | .hbm, ⟨8, _⟩ => ⟨S1x2048x11264, .f32⟩
  | .hbm, ⟨9, _⟩ => ⟨S_, .f32⟩
  | .hbm, ⟨10, _⟩ => ⟨S1x2048x11264, .f32⟩
  | .hbm, ⟨11, _⟩ => ⟨S3x11264, .f32⟩
  | .hbm, ⟨12, _⟩ => ⟨S1x11264, .f32⟩
  | .hbm, ⟨13, _⟩ => ⟨S11264, .f32⟩
  | .hbm, ⟨14, _⟩ => ⟨S_, .f32⟩
  | .hbm, ⟨15, _⟩ => ⟨S1x2x11264, .f32⟩
  | .hbm, ⟨16, _⟩ => ⟨S1x2050x11264, .f32⟩
  | .hbm, ⟨17, _⟩ => ⟨S_, .f32⟩
  | .hbm, ⟨18, _⟩ => ⟨S1x2x11264, .f32⟩
  | .hbm, ⟨19, _⟩ => ⟨S1x2048x11264, .f32⟩
  | .hbm, ⟨20, _⟩ => ⟨S1x11264, .f32⟩
  | .hbm, ⟨21, _⟩ => ⟨S11264, .f32⟩
  | .hbm, ⟨22, _⟩ => ⟨S1x1x11264, .f32⟩
  | .hbm, ⟨23, _⟩ => ⟨S1x2048x11264, .f32⟩
  | .hbm, ⟨24, _⟩ => ⟨S1x2048x11264, .f32⟩
  | .hbm, ⟨25, _⟩ => ⟨S_, .f32⟩
  | .hbm, ⟨26, _⟩ => ⟨S1x2048x11264, .f32⟩
  | .hbm, ⟨27, _⟩ => ⟨S1x2048x11264, .f32⟩
  | .hbm, ⟨28, _⟩ => ⟨S1x2048x11264, .f32⟩
  | .hbm, ⟨29, _⟩ => ⟨S1x11264, .f32⟩
  | .hbm, ⟨30, _⟩ => ⟨S11264, .f32⟩
  | .hbm, ⟨31, _⟩ => ⟨S1x1x11264, .f32⟩
  | .hbm, ⟨32, _⟩ => ⟨S1x2048x11264, .f32⟩
  | .hbm, ⟨33, _⟩ => ⟨S1x2048x11264, .f32⟩
  | .hbm, ⟨34, _⟩ => ⟨S1x2048x11264, .f32⟩
  | .hbm, ⟨35, _⟩ => ⟨S1x2048x11264, .f32⟩
  | .hbm, ⟨36, _⟩ => ⟨S1x11264, .f32⟩
  | .hbm, ⟨37, _⟩ => ⟨S11264, .f32⟩
  | .hbm, ⟨38, _⟩ => ⟨S1x1x11264, .f32⟩
  | .hbm, ⟨39, _⟩ => ⟨S1x2048x11264, .f32⟩
  | .hbm, ⟨40, _⟩ => ⟨S1x2048x11264, .f32⟩
  | .hbm, ⟨41, _⟩ => ⟨S1x2048x11264, .f32⟩
  | .hbm, ⟨42, _⟩ => ⟨S1x1x11264, .f32⟩
  | .hbm, ⟨43, _⟩ => ⟨S1x2048x11264, .f32⟩
  | .hbm, ⟨44, _⟩ => ⟨S1x2048x11264, .f32⟩
  | .hbm, ⟨45, _⟩ => ⟨S1x2048x11264, .f32⟩
  | .hbm, ⟨46, _⟩ => ⟨S1x2048x11264, .f32⟩
  | .hbm, ⟨47, _⟩ => ⟨S_, .f32⟩
  | .hbm, ⟨48, _⟩ => ⟨S1x2050x11264, .f32⟩
  | .hbm, ⟨49, _⟩ => ⟨S1x2048x11264, .f32⟩
  | .hbm, ⟨50, _⟩ => ⟨S1x2048x11264, .f32⟩
  | .hbm, ⟨51, _⟩ => ⟨S_, .f32⟩
  | .hbm, ⟨52, _⟩ => ⟨S1x2050x11264, .f32⟩
  | .hbm, ⟨53, _⟩ => ⟨S1x2050x11264, .f32⟩
  | .hbm, ⟨54, _⟩ => ⟨S1x2048x11264, .f32⟩
  | .hbm, ⟨55, _⟩ => ⟨S1x2048x11264, .f32⟩
  | .hbm, ⟨56, _⟩ => ⟨S_, .f32⟩
  | .hbm, ⟨57, _⟩ => ⟨S1x2050x11264, .f32⟩
  | .hbm, ⟨58, _⟩ => ⟨S1x2050x11264, .f32⟩
  | .hbm, ⟨59, _⟩ => ⟨S1x2x11264, .f32⟩
  | .hbm, ⟨60, _⟩ => ⟨S1x2048x11264, .f32⟩
  | .hbm, ⟨61, _⟩ => ⟨S2048x11264, .f32⟩
  | .hbm, ⟨62, _⟩ => ⟨S2048x11264, .bf16⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel19.lean ====
abbrev S8x8x2048 : Shape := ⟨3, ![8, 8, 2048]⟩
abbrev S8x8x1024 : Shape := ⟨3, ![8, 8, 1024]⟩
abbrev S8x8x11264 : Shape := ⟨3, ![8, 8, 11264]⟩
abbrev S1x2048 : Shape := ⟨2, ![1, 2048]⟩
abbrev S1x1024 : Shape := ⟨2, ![1, 1024]⟩
abbrev S8x2048 : Shape := ⟨2, ![8, 2048]⟩
abbrev S8x1024 : Shape := ⟨2, ![8, 1024]⟩
abbrev S8x11264 : Shape := ⟨2, ![8, 11264]⟩
abbrev S1x8x2048 : Shape := ⟨3, ![1, 8, 2048]⟩
abbrev S1x8x1024 : Shape := ⟨3, ![1, 8, 1024]⟩
abbrev S1x8x11264 : Shape := ⟨3, ![1, 8, 11264]⟩

abbrev nBuf : Space → Nat
  | .hbm => 48
  | .vmem => 48
  | .smem => 0
  | _ => 0

abbrev bufTy : (tb : Table) → Fin (tcTables nBuf tb) → BufTy
  | .hbm, ⟨0, _⟩ => ⟨S8x8x2048, .f32⟩
  | .hbm, ⟨1, _⟩ => ⟨S8x8x1024, .f32⟩
  | .hbm, ⟨2, _⟩ => ⟨S8x8x11264, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x2048, .f32⟩
  | .hbm, ⟨22, _⟩ => ⟨S8x1024, .f32⟩
  | .hbm, ⟨23, _⟩ => ⟨S8x11264, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .local _ .vmem, ⟨0, _⟩ => ⟨S8x8x2048, .f32⟩
  | .local _ .vmem, ⟨1, _⟩ => ⟨S8x8x1024, .f32⟩
  | .local _ .vmem, ⟨2, _⟩ => ⟨S8x8x11264, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S8x2048, .f32⟩
  | .local _ .vmem, ⟨22, _⟩ => ⟨S8x1024, .f32⟩
  | .local _ .vmem, ⟨23, _⟩ => ⟨S8x11264, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | .local _ .vmem, ⟨36, _⟩ => ⟨S1x2048, .f32⟩
  | .local _ .vmem, ⟨37, _⟩ => ⟨S1x2048, .f32⟩
  | .local _ .vmem, ⟨38, _⟩ => ⟨S1x2048, .f32⟩
  | .local _ .vmem, ⟨39, _⟩ => ⟨S1x2048, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0_0 : Ref sig .tc := ⟨.hbm, 21, rfl⟩
abbrev main_v0_1 : Ref sig .tc := ⟨.hbm, 22, rfl⟩
abbrev main_v0_2 : Ref sig .tc := ⟨.hbm, 23, rfl⟩
abbrev main_v0_3 : Ref sig .tc := ⟨.hbm, 24, rfl⟩
abbrev main_v0_4 : Ref sig .tc := ⟨.hbm, 25, rfl⟩
abbrev main_v0_5 : Ref sig .tc := ⟨.hbm, 26, rfl⟩
abbrev main_v0_6 : Ref sig .tc := ⟨.hbm, 27, rfl⟩
abbrev main_v0_7 : Ref sig .tc := ⟨.hbm, 28, rfl⟩
abbrev main_v0_8 : Ref sig .tc := ⟨.hbm, 29, rfl⟩
abbrev main_v0_9 : Ref sig .tc := ⟨.hbm, 30, rfl⟩
abbrev main_v0_10 : Ref sig .tc := ⟨.hbm, 31, rfl⟩
abbrev main_v0_11 : Ref sig .tc := ⟨.hbm, 32, rfl⟩
abbrev main_v0_12 : Ref sig .tc := ⟨.hbm, 33, rfl⟩
abbrev main_v0_13 : Ref sig .tc := ⟨.hbm, 34, rfl⟩
abbrev main_v0_14 : Ref sig .tc := ⟨.hbm, 35, rfl⟩
abbrev main_v0_15 : Ref sig .tc := ⟨.hbm, 36, rfl⟩
abbrev main_v0_16 : Ref sig .tc := ⟨.hbm, 37, rfl⟩
abbrev main_v0_17 : Ref sig .tc := ⟨.hbm, 38, rfl⟩
abbrev main_v0_18 : Ref sig .tc := ⟨.hbm, 39, rfl⟩
abbrev main_v0_19 : Ref sig .tc := ⟨.hbm, 40, rfl⟩
abbrev main_v0_20 : Ref sig .tc := ⟨.hbm, 41, rfl⟩
abbrev main_v0_21 : Ref sig .tc := ⟨.hbm, 42, rfl⟩
abbrev main_v0_22 : Ref sig .tc := ⟨.hbm, 43, rfl⟩
abbrev main_v0_23 : Ref sig .tc := ⟨.hbm, 44, rfl⟩
abbrev main_v0_24 : Ref sig .tc := ⟨.hbm, 45, rfl⟩
abbrev main_v0_25 : Ref sig .tc := ⟨.hbm, 46, rfl⟩
abbrev main_v0_26 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47

abbrev nD : Nat := 1
abbrev τ : Topo := Topo.v7x

variable {F : FTy → Type} [FloatOps F]

abbrev grid0 : Pipeline.Grid := .none

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S8x11264 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x2048 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x2048 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x2048 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x2048 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x2048 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x2048 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x2048 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x2048 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
-- ==== Reference19Ideal.lean ====
abbrev S8x8x2048 : Shape := ⟨3, ![8, 8, 2048]⟩
abbrev S8x8x1024 : Shape := ⟨3, ![8, 8, 1024]⟩
abbrev S8x8x11264 : Shape := ⟨3, ![8, 8, 11264]⟩
abbrev S1x2048 : Shape := ⟨2, ![1, 2048]⟩
abbrev S1x1024 : Shape := ⟨2, ![1, 1024]⟩
abbrev S_ : Shape := ⟨0, ![]⟩
abbrev S8x2048 : Shape := ⟨2, ![8, 2048]⟩
abbrev S8x1024 : Shape := ⟨2, ![8, 1024]⟩
abbrev S8x11264 : Shape := ⟨2, ![8, 11264]⟩
abbrev S2048 : Shape := ⟨1, ![2048]⟩
abbrev S1024 : Shape := ⟨1, ![1024]⟩

abbrev nBuf : Space → Nat
  | .hbm => 249
  | .vmem => 0
  | .smem => 0
  | _ => 0

abbrev hbmTy0_0 (i : Nat) : BufTy := match i % 128 with
  | 0 => ⟨S8x8x2048, .f32⟩
  | 1 => ⟨S8x8x1024, .f32⟩
  | 2 => ⟨S8x8x11264, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x2048, .f32⟩
  | 9 => ⟨S1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S_, .f32⟩
  | 22 => ⟨S8x2048, .f32⟩
  | 23 => ⟨S_, .f32⟩
  | 24 => ⟨S8x1024, .f32⟩
  | 25 => ⟨S_, .f32⟩
  | 26 => ⟨S8x11264, .f32⟩
  | 27 => ⟨S1x2048, .f32⟩
  | 28 => ⟨S2048, .f32⟩
  | 29 => ⟨S1x2048, .f32⟩
  | 30 => ⟨S2048, .f32⟩
  | 31 => ⟨S1x2048, .f32⟩
  | 32 => ⟨S2048, .f32⟩
  | 33 => ⟨S1x2048, .f32⟩
  | 34 => ⟨S2048, .f32⟩
  | 35 => ⟨S1x1024, .f32⟩
  | 36 => ⟨S1024, .f32⟩
  | 37 => ⟨S1x1024, .f32⟩
  | 38 => ⟨S1024, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S1x2048, .f32⟩
  | 52 => ⟨S_, .f32⟩
  | 53 => ⟨S1x2048, .f32⟩
  | 54 => ⟨S1x2048, .f32⟩
  | 55 => ⟨S1x2048, .f32⟩
  | 56 => ⟨S_, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S1x2048, .f32⟩
  | 63 => ⟨S_, .f32⟩
  | 64 => ⟨S1x2048, .f32⟩
  | 65 => ⟨S1x2048, .f32⟩
  | 66 => ⟨S1x2048, .f32⟩
  | 67 => ⟨S_, .f32⟩
  | 68 => ⟨S1x2048, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S_, .f32⟩
  | 80 => ⟨S1x2048, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S_, .f32⟩
  | 95 => ⟨S1x2048, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S1x2048, .f32⟩
  | 106 => ⟨S_, .f32⟩
  | 107 => ⟨S1x2048, .f32⟩
  | 108 => ⟨S1x2048, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S_, .f32⟩
  | 115 => ⟨S1x2048, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S1x2048, .f32⟩
  | 122 => ⟨S_, .f32⟩
  | 123 => ⟨S1x2048, .f32⟩
  | 124 => ⟨S1x2048, .f32⟩
  | 125 => ⟨S1x2048, .f32⟩
  | 126 => ⟨S_, .f32⟩
  | 127 => ⟨S1x2048, .f32⟩
  | _ => ⟨S8x8x2048, .f32⟩

abbrev hbmTy0_1 (i : Nat) : BufTy := match i % 128 with
  | 0 => ⟨S1x2048, .f32⟩
  | 1 => ⟨S_, .f32⟩
  | 2 => ⟨S1x2048, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S1x2048, .f32⟩
  | 9 => ⟨S_, .f32⟩
  | 10 => ⟨S1x2048, .f32⟩
  | 11 => ⟨S1x2048, .f32⟩
  | 12 => ⟨S1x2048, .f32⟩
  | 13 => ⟨S_, .f32⟩
  | 14 => ⟨S1x2048, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S1x2048, .f32⟩
  | 25 => ⟨S_, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S_, .f32⟩
  | 37 => ⟨S1x2048, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S1x2048, .f32⟩
  | 44 => ⟨S_, .f32⟩
  | 45 => ⟨S1x2048, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | _ => ⟨S8x8x2048, .f32⟩

abbrev hbmTy (i : Nat) : BufTy := match i / 128 with
  | 0 => hbmTy0_0 i
  | 1 => hbmTy0_1 i
  | _ => ⟨S8x8x2048, .f32⟩

abbrev bufTy : (tb : Table) → Fin (tcTables nBuf tb) → BufTy
  | .hbm, ⟨i, _⟩ => hbmTy i
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_cst_1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_11 : Ref sig .tc := ⟨.hbm, 76, rfl⟩
abbrev main_v43 : Ref sig .tc := ⟨.hbm, 77, rfl⟩
abbrev main_v44 : Ref sig .tc := ⟨.hbm, 78, rfl⟩
abbrev main_cst_12 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_13 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_14 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_v55 : Ref sig .tc := ⟨.hbm, 93, rfl⟩
abbrev main_cst_16 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_17 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_18 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_19 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_20 : Ref sig .tc := ⟨.hbm, 111, rfl⟩
abbrev main_v69 : Ref sig .tc := ⟨.hbm, 112, rfl⟩
abbrev main_v70 : Ref sig .tc := ⟨.hbm, 113, rfl⟩
abbrev main_cst_21 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_22 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_23 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_24 : Ref sig .tc := ⟨.hbm, 126, rfl⟩
abbrev main_v80 : Ref sig .tc := ⟨.hbm, 127, rfl⟩
abbrev main_v81 : Ref sig .tc := ⟨.hbm, 128, rfl⟩
abbrev main_cst_25 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_26 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_27 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_28 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_29 : Ref sig .tc := ⟨.hbm, 146, rfl⟩
abbrev main_v95 : Ref sig .tc := ⟨.hbm, 147, rfl⟩
abbrev main_v96 : Ref sig .tc := ⟨.hbm, 148, rfl⟩
abbrev main_cst_30 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_31 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_32 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_33 : Ref sig .tc := ⟨.hbm, 161, rfl⟩
abbrev main_v106 : Ref sig .tc := ⟨.hbm, 162, rfl⟩
abbrev main_v107 : Ref sig .tc := ⟨.hbm, 163, rfl⟩
abbrev main_cst_34 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_35 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_36 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_37 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_38 : Ref sig .tc := ⟨.hbm, 181, rfl⟩
abbrev main_v121 : Ref sig .tc := ⟨.hbm, 182, rfl⟩
abbrev main_v122 : Ref sig .tc := ⟨.hbm, 183, rfl⟩
abbrev main_cst_39 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_40 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_41 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_42 : Ref sig .tc := ⟨.hbm, 196, rfl⟩
abbrev main_v132 : Ref sig .tc := ⟨.hbm, 197, rfl⟩
abbrev main_v133 : Ref sig .tc := ⟨.hbm, 198, rfl⟩
abbrev main_cst_43 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_cst_44 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_cst_45 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_46 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_47 : Ref sig .tc := ⟨.hbm, 216, rfl⟩
abbrev main_v147 : Ref sig .tc := ⟨.hbm, 217, rfl⟩
abbrev main_v148 : Ref sig .tc := ⟨.hbm, 218, rfl⟩
abbrev main_cst_48 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_49 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_50 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_51 : Ref sig .tc := ⟨.hbm, 231, rfl⟩
abbrev main_v158 : Ref sig .tc := ⟨.hbm, 232, rfl⟩
abbrev main_v159 : Ref sig .tc := ⟨.hbm, 233, rfl⟩
abbrev main_cst_52 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_53 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_54 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_55 : Ref sig .tc := ⟨.hbm, 246, rfl⟩
abbrev main_v169 : Ref sig .tc := ⟨.hbm, 247, rfl⟩
abbrev main_v170 : Ref sig .tc := ⟨.hbm, 248, rfl⟩

abbrev nD : Nat := 1
abbrev τ : Topo := Topo.v7x

variable {F : FTy → Type} [FloatOps F]
-- ==== Kernel20.lean ====
abbrev S1x11008 : Shape := ⟨2, ![1, 11008]⟩
abbrev S1x1x11008 : Shape := ⟨3, ![1, 1, 11008]⟩

abbrev nBuf : Space → Nat
  | .hbm => 9
  | .vmem => 8
  | .smem => 0
  | _ => 0

abbrev bufTy : (tb : Table) → Fin (tcTables nBuf tb) → BufTy
  | .hbm, ⟨0, _⟩ => ⟨S1x11008, .f32⟩
  | .hbm, ⟨1, _⟩ => ⟨S1x11008, .f32⟩
  | .hbm, ⟨2, _⟩ => ⟨S1x11008, .f32⟩
  | .hbm, ⟨3, _⟩ => ⟨S1x11008, .f32⟩
  | .hbm, ⟨4, _⟩ => ⟨S1x1x11008, .f32⟩
  | .hbm, ⟨5, _⟩ => ⟨S1x11008, .f32⟩
  | .hbm, ⟨6, _⟩ => ⟨S1x11008, .f32⟩
  | .hbm, ⟨7, _⟩ => ⟨S1x11008, .f32⟩
  | .hbm, ⟨8, _⟩ => ⟨S1x11008, .f32⟩
  | .local _ .vmem, ⟨0, _⟩ => ⟨S1x11008, .f32⟩
  | .local _ .vmem, ⟨1, _⟩ => ⟨S1x1x11008, .f32⟩
  | .local _ .vmem, ⟨2, _⟩ => ⟨S1x11008, .f32⟩
  | .local _ .vmem, ⟨3, _⟩ => ⟨S1x11008, .f32⟩
  | .local _ .vmem, ⟨4, _⟩ => ⟨S1x11008, .f32⟩
  | .local _ .vmem, ⟨5, _⟩ => ⟨S1x11008, .f32⟩
  | .local _ .vmem, ⟨6, _⟩ => ⟨S1x11008, .f32⟩
  | .local _ .vmem, ⟨7, _⟩ => ⟨S1x11008, .f32⟩
  | _, _ => ⟨S1x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x11008 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x11008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x11008 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S1x11008 : Shape := ⟨2, ![1, 11008]⟩
abbrev S1x1x11008 : Shape := ⟨3, ![1, 1, 11008]⟩

abbrev nBuf : Space → Nat
  | .hbm => 9
  | .vmem => 8
  | .smem => 0
  | _ => 0

abbrev bufTy : (tb : Table) → Fin (tcTables nBuf tb) → BufTy
  | .hbm, ⟨0, _⟩ => ⟨S1x11008, .f32⟩
  | .hbm, ⟨1, _⟩ => ⟨S1x11008, .f32⟩
  | .hbm, ⟨2, _⟩ => ⟨S1x11008, .f32⟩
  | .hbm, ⟨3, _⟩ => ⟨S1x11008, .f32⟩
  | .hbm, ⟨4, _⟩ => ⟨S1x1x11008, .f32⟩
  | .hbm, ⟨5, _⟩ => ⟨S1x11008, .f32⟩
  | .hbm, ⟨6, _⟩ => ⟨S1x11008, .f32⟩
  | .hbm, ⟨7, _⟩ => ⟨S1x11008, .f32⟩
  | .hbm, ⟨8, _⟩ => ⟨S1x11008, .f32⟩
  | .local _ .vmem, ⟨0, _⟩ => ⟨S1x11008, .f32⟩
  | .local _ .vmem, ⟨1, _⟩ => ⟨S1x1x11008, .f32⟩
  | .local _ .vmem, ⟨2, _⟩ => ⟨S1x11008, .f32⟩
  | .local _ .vmem, ⟨3, _⟩ => ⟨S1x11008, .f32⟩
  | .local _ .vmem, ⟨4, _⟩ => ⟨S1x11008, .f32⟩
  | .local _ .vmem, ⟨5, _⟩ => ⟨S1x11008, .f32⟩
  | .local _ .vmem, ⟨6, _⟩ => ⟨S1x11008, .f32⟩
  | .local _ .vmem, ⟨7, _⟩ => ⟨S1x11008, .f32⟩
  | _, _ => ⟨S1x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x11008 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x11008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x11008 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x11008 : Shape := ⟨2, ![1, 11008]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x11008, .f32⟩
  | .hbm, ⟨1, _⟩ => ⟨S1x11008, .f32⟩
  | .hbm, ⟨2, _⟩ => ⟨S1x11008, .f32⟩
  | .hbm, ⟨3, _⟩ => ⟨S1x11008, .f32⟩
  | .hbm, ⟨4, _⟩ => ⟨S_, .f32⟩
  | .hbm, ⟨5, _⟩ => ⟨S1x11008, .f32⟩
  | .hbm, ⟨6, _⟩ => ⟨S1x11008, .f32⟩
  | .hbm, ⟨7, _⟩ => ⟨S_, .f32⟩
  | .hbm, ⟨8, _⟩ => ⟨S1x11008, .f32⟩
  | .hbm, ⟨9, _⟩ => ⟨S1x11008, .f32⟩
  | .hbm, ⟨10, _⟩ => ⟨S1x11008, .f32⟩
  | .hbm, ⟨11, _⟩ => ⟨S_, .f32⟩
  | .hbm, ⟨12, _⟩ => ⟨S1x11008, .f32⟩
  | .hbm, ⟨13, _⟩ => ⟨S1x11008, .f32⟩
  | .hbm, ⟨14, _⟩ => ⟨S1x11008, .f32⟩
  | .hbm, ⟨15, _⟩ => ⟨S_, .f32⟩
  | .hbm, ⟨16, _⟩ => ⟨S1x11008, .f32⟩
  | .hbm, ⟨17, _⟩ => ⟨S1x11008, .f32⟩
  | .hbm, ⟨18, _⟩ => ⟨S1x11008, .f32⟩
  | .hbm, ⟨19, _⟩ => ⟨S_, .f32⟩
  | .hbm, ⟨20, _⟩ => ⟨S1x11008, .f32⟩
  | .hbm, ⟨21, _⟩ => ⟨S1x11008, .f32⟩
  | .hbm, ⟨22, _⟩ => ⟨S_, .f32⟩
  | .hbm, ⟨23, _⟩ => ⟨S1x11008, .f32⟩
  | .hbm, ⟨24, _⟩ => ⟨S1x11008, .f32⟩
  | .hbm, ⟨25, _⟩ => ⟨S1x11008, .f32⟩
  | .hbm, ⟨26, _⟩ => ⟨S_, .f32⟩
  | .hbm, ⟨27, _⟩ => ⟨S1x11008, .f32⟩
  | .hbm, ⟨28, _⟩ => ⟨S1x11008, .f32⟩
  | .hbm, ⟨29, _⟩ => ⟨S1x11008, .f32⟩
  | .hbm, ⟨30, _⟩ => ⟨S_, .f32⟩
  | .hbm, ⟨31, _⟩ => ⟨S1x11008, .f32⟩
  | .hbm, ⟨32, _⟩ => ⟨S1x11008, .f32⟩
  | .hbm, ⟨33, _⟩ => ⟨S1x11008, .f32⟩
  | .hbm, ⟨34, _⟩ => ⟨S_, .f32⟩
  | .hbm, ⟨35, _⟩ => ⟨S1x11008, .f32⟩
  | .hbm, ⟨36, _⟩ => ⟨S1x11008, .f32⟩
  | _, _ => ⟨S1x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S3x1376 : Shape := ⟨2, ![3, 1376]⟩
abbrev S1x3x1376 : Shape := ⟨3, ![1, 3, 1376]⟩

abbrev nBuf : Space → Nat
  | .hbm => 9
  | .vmem => 8
  | .smem => 0
  | _ => 0

abbrev bufTy : (tb : Table) → Fin (tcTables nBuf tb) → BufTy
  | .hbm, ⟨0, _⟩ => ⟨S3x1376, .f32⟩
  | .hbm, ⟨1, _⟩ => ⟨S3x1376, .f32⟩
  | .hbm, ⟨2, _⟩ => ⟨S3x1376, .f32⟩
  | .hbm, ⟨3, _⟩ => ⟨S3x1376, .f32⟩
  | .hbm, ⟨4, _⟩ => ⟨S1x3x1376, .f32⟩
  | .hbm, ⟨5, _⟩ => ⟨S3x1376, .f32⟩
  | .hbm, ⟨6, _⟩ => ⟨S3x1376, .f32⟩
  | .hbm, ⟨7, _⟩ => ⟨S3x1376, .f32⟩
  | .hbm, ⟨8, _⟩ => ⟨S3x1376, .f32⟩
  | .local _ .vmem, ⟨0, _⟩ => ⟨S3x1376, .f32⟩
  | .local _ .vmem, ⟨1, _⟩ => ⟨S1x3x1376, .f32⟩
  | .local _ .vmem, ⟨2, _⟩ => ⟨S3x1376, .f32⟩
  | .local _ .vmem, ⟨3, _⟩ => ⟨S3x1376, .f32⟩
  | .local _ .vmem, ⟨4, _⟩ => ⟨S3x1376, .f32⟩
  | .local _ .vmem, ⟨5, _⟩ => ⟨S3x1376, .f32⟩
  | .local _ .vmem, ⟨6, _⟩ => ⟨S3x1376, .f32⟩
  | .local _ .vmem, ⟨7, _⟩ => ⟨S3x1376, .f32⟩
  | _, _ => ⟨S3x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x1376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1376 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S3x1376 : Shape := ⟨2, ![3, 1376]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1376, .f32⟩
  | .hbm, ⟨1, _⟩ => ⟨S3x1376, .f32⟩
  | .hbm, ⟨2, _⟩ => ⟨S3x1376, .f32⟩
  | .hbm, ⟨3, _⟩ => ⟨S3x1376, .f32⟩
  | .hbm, ⟨4, _⟩ => ⟨S_, .f32⟩
  | .hbm, ⟨5, _⟩ => ⟨S3x1376, .f32⟩
  | .hbm, ⟨6, _⟩ => ⟨S3x1376, .f32⟩
  | .hbm, ⟨7, _⟩ => ⟨S_, .f32⟩
  | .hbm, ⟨8, _⟩ => ⟨S3x1376, .f32⟩
  | .hbm, ⟨9, _⟩ => ⟨S3x1376, .f32⟩
  | .hbm, ⟨10, _⟩ => ⟨S3x1376, .f32⟩
  | .hbm, ⟨11, _⟩ => ⟨S_, .f32⟩
  | .hbm, ⟨12, _⟩ => ⟨S3x1376, .f32⟩
  | .hbm, ⟨13, _⟩ => ⟨S3x1376, .f32⟩
  | .hbm, ⟨14, _⟩ => ⟨S3x1376, .f32⟩
  | .hbm, ⟨15, _⟩ => ⟨S_, .f32⟩
  | .hbm, ⟨16, _⟩ => ⟨S3x1376, .f32⟩
  | .hbm, ⟨17, _⟩ => ⟨S3x1376, .f32⟩
  | .hbm, ⟨18, _⟩ => ⟨S3x1376, .f32⟩
  | .hbm, ⟨19, _⟩ => ⟨S_, .f32⟩
  | .hbm, ⟨20, _⟩ => ⟨S3x1376, .f32⟩
  | .hbm, ⟨21, _⟩ => ⟨S3x1376, .f32⟩
  | .hbm, ⟨22, _⟩ => ⟨S_, .f32⟩
  | .hbm, ⟨23, _⟩ => ⟨S3x1376, .f32⟩
  | .hbm, ⟨24, _⟩ => ⟨S3x1376, .f32⟩
  | .hbm, ⟨25, _⟩ => ⟨S3x1376, .f32⟩
  | .hbm, ⟨26, _⟩ => ⟨S_, .f32⟩
  | .hbm, ⟨27, _⟩ => ⟨S3x1376, .f32⟩
  | .hbm, ⟨28, _⟩ => ⟨S3x1376, .f32⟩
  | .hbm, ⟨29, _⟩ => ⟨S3x1376, .f32⟩
  | .hbm, ⟨30, _⟩ => ⟨S_, .f32⟩
  | .hbm, ⟨31, _⟩ => ⟨S3x1376, .f32⟩
  | .hbm, ⟨32, _⟩ => ⟨S3x1376, .f32⟩
  | .hbm, ⟨33, _⟩ => ⟨S3x1376, .f32⟩
  | .hbm, ⟨34, _⟩ => ⟨S_, .f32⟩
  | .hbm, ⟨35, _⟩ => ⟨S3x1376, .f32⟩
  | .hbm, ⟨36, _⟩ => ⟨S3x1376, .f32⟩
  | _, _ => ⟨S3x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x2048 : Shape := ⟨2, ![2048, 2048]⟩
abbrev S8x2048x768 : Shape := ⟨3, ![8, 2048, 768]⟩
abbrev S4 : Shape := ⟨1, ![4]⟩
abbrev S2048x6144 : Shape := ⟨2, ![2048, 6144]⟩
abbrev S1x2048x768 : Shape := ⟨3, ![1, 2048, 768]⟩
abbrev S1 : Shape := ⟨1, ![1]⟩
abbrev S2048x768 : Shape := ⟨2, ![2048, 768]⟩

abbrev nBuf : Space → Nat
  | .hbm => 3
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .bf16⟩
  | .local _ .vmem, ⟨4, _⟩ => ⟨S2048x768, .bf16⟩
  | .local _ .smem, ⟨0, _⟩ => ⟨S4, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  ![arg0.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S2048x2048 : Shape := ⟨2, ![2048, 2048]⟩
abbrev S8x2048x768 : Shape := ⟨3, ![8, 2048, 768]⟩
abbrev S1x2048x768 : Shape := ⟨3, ![1, 2048, 768]⟩
abbrev S2048x768 : Shape := ⟨2, ![2048, 768]⟩
abbrev S2048x6144 : Shape := ⟨2, ![2048, 6144]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S1x2048x768, .bf16⟩
  | .hbm, ⟨3, _⟩ => ⟨S2048x768, .bf16⟩
  | .hbm, ⟨4, _⟩ => ⟨S1x2048x768, .bf16⟩
  | .hbm, ⟨5, _⟩ => ⟨S2048x768, .bf16⟩
  | .hbm, ⟨6, _⟩ => ⟨S1x2048x768, .bf16⟩
  | .hbm, ⟨7, _⟩ => ⟨S2048x768, .bf16⟩
  | .hbm, ⟨8, _⟩ => ⟨S1x2048x768, .bf16⟩
  | .hbm, ⟨9, _⟩ => ⟨S2048x768, .bf16⟩
  | .hbm, ⟨10, _⟩ => ⟨S1x2048x768, .bf16⟩
  | .hbm, ⟨11, _⟩ => ⟨S2048x768, .bf16⟩
  | .hbm, ⟨12, _⟩ => ⟨S1x2048x768, .bf16⟩
  | .hbm, ⟨13, _⟩ => ⟨S2048x768, .bf16⟩
  | .hbm, ⟨14, _⟩ => ⟨S1x2048x768, .bf16⟩
  | .hbm, ⟨15, _⟩ => ⟨S2048x768, .bf16⟩
  | .hbm, ⟨16, _⟩ => ⟨S1x2048x768, .bf16⟩
  | .hbm, ⟨17, _⟩ => ⟨S2048x768, .bf16⟩
  | .hbm, ⟨18, _⟩ => ⟨S2048x6144, .bf16⟩
  | .hbm, ⟨19, _⟩ => ⟨S2048x2048, .f32⟩
  | .hbm, ⟨20, _⟩ => ⟨S2048x6144, .f32⟩
  | .hbm, ⟨21, _⟩ => ⟨S2048x6144, .f32⟩
  | .hbm, ⟨22, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Kernel23.lean ====
abbrev S2048x2048 : Shape := ⟨2, ![2048, 2048]⟩
abbrev S8x2048x768 : Shape := ⟨3, ![8, 2048, 768]⟩
abbrev S2048x6144 : Shape := ⟨2, ![2048, 6144]⟩
abbrev S4 : Shape := ⟨1, ![4]⟩
abbrev S1x2048x768 : Shape := ⟨3, ![1, 2048, 768]⟩
abbrev S1 : Shape := ⟨1, ![1]⟩
abbrev S2048x768 : Shape := ⟨2, ![2048, 768]⟩

abbrev nBuf : Space → Nat
  | .hbm => 4
  | .vmem => 5
  | .smem => 1
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .bf16⟩
  | .hbm, ⟨3, _⟩ => ⟨S2048x6144, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .bf16⟩
  | .local _ .vmem, ⟨4, _⟩ => ⟨S2048x768, .bf16⟩
  | .local _ .smem, ⟨0, _⟩ => ⟨S4, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c0_i32 : BitVec 32 := 0#32
  ![arg0.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S2048x2048 : Shape := ⟨2, ![2048, 2048]⟩
abbrev S8x2048x768 : Shape := ⟨3, ![8, 2048, 768]⟩
abbrev S2048x6144 : Shape := ⟨2, ![2048, 6144]⟩
abbrev S_ : Shape := ⟨0, ![]⟩
abbrev S1x2048x768 : Shape := ⟨3, ![1, 2048, 768]⟩
abbrev S2048x768 : Shape := ⟨2, ![2048, 768]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S2048x6144, .bf16⟩
  | .hbm, ⟨3, _⟩ => ⟨S2048x6144, .i32⟩
  | .hbm, ⟨4, _⟩ => ⟨S_, .i32⟩
  | .hbm, ⟨5, _⟩ => ⟨S2048x6144, .i32⟩
  | .hbm, ⟨6, _⟩ => ⟨S2048x6144, .i1⟩
  | .hbm, ⟨7, _⟩ => ⟨S_, .i32⟩
  | .hbm, ⟨8, _⟩ => ⟨S2048x6144, .i32⟩
  | .hbm, ⟨9, _⟩ => ⟨S2048x6144, .i1⟩
  | .hbm, ⟨10, _⟩ => ⟨S_, .i32⟩
  | .hbm, ⟨11, _⟩ => ⟨S2048x6144, .i32⟩
  | .hbm, ⟨12, _⟩ => ⟨S2048x6144, .i1⟩
  | .hbm, ⟨13, _⟩ => ⟨S2048x6144, .i1⟩
  | .hbm, ⟨14, _⟩ => ⟨S2048x6144, .i1⟩
  | .hbm, ⟨15, _⟩ => ⟨S1x2048x768, .bf16⟩
  | .hbm, ⟨16, _⟩ => ⟨S2048x768, .bf16⟩
  | .hbm, ⟨17, _⟩ => ⟨S1x2048x768, .bf16⟩
  | .hbm, ⟨18, _⟩ => ⟨S2048x768, .bf16⟩
  | .hbm, ⟨19, _⟩ => ⟨S1x2048x768, .bf16⟩
  | .hbm, ⟨20, _⟩ => ⟨S2048x768, .bf16⟩
  | .hbm, ⟨21, _⟩ => ⟨S1x2048x768, .bf16⟩
  | .hbm, ⟨22, _⟩ => ⟨S2048x768, .bf16⟩
  | .hbm, ⟨23, _⟩ => ⟨S1x2048x768, .bf16⟩
  | .hbm, ⟨24, _⟩ => ⟨S2048x768, .bf16⟩
  | .hbm, ⟨25, _⟩ => ⟨S1x2048x768, .bf16⟩
  | .hbm, ⟨26, _⟩ => ⟨S2048x768, .bf16⟩
  | .hbm, ⟨27, _⟩ => ⟨S1x2048x768, .bf16⟩
  | .hbm, ⟨28, _⟩ => ⟨S2048x768, .bf16⟩
  | .hbm, ⟨29, _⟩ => ⟨S1x2048x768, .bf16⟩
  | .hbm, ⟨30, _⟩ => ⟨S2048x768, .bf16⟩
  | .hbm, ⟨31, _⟩ => ⟨S2048x6144, .bf16⟩
  | .hbm, ⟨32, _⟩ => ⟨S2048x2048, .f32⟩
  | .hbm, ⟨33, _⟩ => ⟨S2048x6144, .f32⟩
  | .hbm, ⟨34, _⟩ => ⟨S2048x6144, .f32⟩
  | .hbm, ⟨35, _⟩ => ⟨S2048x6144, .bf16⟩
  | .hbm, ⟨36, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel24.lean ====
abbrev S2048x768 : Shape := ⟨2, ![2048, 768]⟩
abbrev S4x2048x768 : Shape := ⟨3, ![4, 2048, 768]⟩
abbrev S4 : Shape := ⟨1, ![4]⟩
abbrev S256x768 : Shape := ⟨2, ![256, 768]⟩
abbrev S1x256x768 : Shape := ⟨3, ![1, 256, 768]⟩
abbrev S1 : Shape := ⟨1, ![1]⟩

abbrev nBuf : Space → Nat
  | .hbm => 9
  | .vmem => 22
  | .smem => 1
  | _ => 0

abbrev bufTy : (tb : Table) → Fin (tcTables nBuf tb) → BufTy
  | .hbm, ⟨0, _⟩ => ⟨S2048x768, .f32⟩
  | .hbm, ⟨1, _⟩ => ⟨S4x2048x768, .bf16⟩
  | .hbm, ⟨2, _⟩ => ⟨S4x2048x768, .bf16⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x768, .bf16⟩
  | .local _ .vmem, ⟨9, _⟩ => ⟨S1x256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .smem, ⟨0, _⟩ => ⟨S4, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_2 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_3 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_4 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference24Ideal.lean ====
abbrev S2048x768 : Shape := ⟨2, ![2048, 768]⟩
abbrev S4x2048x768 : Shape := ⟨3, ![4, 2048, 768]⟩
abbrev S1x2048x768 : Shape := ⟨3, ![1, 2048, 768]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S4x2048x768, .bf16⟩
  | .hbm, ⟨2, _⟩ => ⟨S4x2048x768, .bf16⟩
  | .hbm, ⟨3, _⟩ => ⟨S2048x768, .f32⟩
  | .hbm, ⟨4, _⟩ => ⟨S2048x768, .f32⟩
  | .hbm, ⟨5, _⟩ => ⟨S1x2048x768, .bf16⟩
  | .hbm, ⟨6, _⟩ => ⟨S2048x768, .bf16⟩
  | .hbm, ⟨7, _⟩ => ⟨S2048x768, .f32⟩
  | .hbm, ⟨8, _⟩ => ⟨S1x2048x768, .bf16⟩
  | .hbm, ⟨9, _⟩ => ⟨S2048x768, .bf16⟩
  | .hbm, ⟨10, _⟩ => ⟨S2048x768, .f32⟩
  | .hbm, ⟨11, _⟩ => ⟨S2048x768, .f32⟩
  | .hbm, ⟨12, _⟩ => ⟨S1x2048x768, .bf16⟩
  | .hbm, ⟨13, _⟩ => ⟨S2048x768, .bf16⟩
  | .hbm, ⟨14, _⟩ => ⟨S2048x768, .f32⟩
  | .hbm, ⟨15, _⟩ => ⟨S2048x768, .f32⟩
  | .hbm, ⟨16, _⟩ => ⟨S1x2048x768, .bf16⟩
  | .hbm, ⟨17, _⟩ => ⟨S2048x768, .bf16⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | .hbm, ⟨41, _⟩ => ⟨S2048x768, .f32⟩
  | .hbm, ⟨42, _⟩ => ⟨S_, .f32⟩
  | .hbm, ⟨43, _⟩ => ⟨S2048x768, .f32⟩
  | .hbm, ⟨44, _⟩ => ⟨S2048x768, .f32⟩
  | .hbm, ⟨45, _⟩ => ⟨S2048x768, .f32⟩
  | .hbm, ⟨46, _⟩ => ⟨S_, .f32⟩
  | .hbm, ⟨47, _⟩ => ⟨S2048x768, .f32⟩
  | .hbm, ⟨48, _⟩ => ⟨S2048x768, .f32⟩
  | .hbm, ⟨49, _⟩ => ⟨S2048x768, .f32⟩
  | .hbm, ⟨50, _⟩ => ⟨S_, .f32⟩
  | .hbm, ⟨51, _⟩ => ⟨S2048x768, .f32⟩
  | .hbm, ⟨52, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel25.lean ====
abbrev S256x2048 : Shape := ⟨2, ![256, 2048]⟩
abbrev S4x256x2048 : Shape := ⟨3, ![4, 256, 2048]⟩
abbrev S4 : Shape := ⟨1, ![4]⟩
abbrev S1x256x2048 : Shape := ⟨3, ![1, 256, 2048]⟩
abbrev S1 : Shape := ⟨1, ![1]⟩

abbrev nBuf : Space → Nat
  | .hbm => 9
  | .vmem => 11
  | .smem => 1
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S4x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .smem, ⟨0, _⟩ => ⟨S4, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, arg0.toNat, c0_i32.toNat]

def cc0_transform_2 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, arg0.toNat, c0_i32.toNat]

def cc0_transform_3 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, arg0.toNat, c0_i32.toNat]

def cc0_transform_4 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference25Ideal.lean ====
abbrev S256x2048 : Shape := ⟨2, ![256, 2048]⟩
abbrev S4x256x2048 : Shape := ⟨3, ![4, 256, 2048]⟩
abbrev S1x256x2048 : Shape := ⟨3, ![1, 256, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S4x256x2048, .bf16⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S1x256x2048, .bf16⟩
  | .hbm, ⟨9, _⟩ => ⟨S256x2048, .bf16⟩
  | .hbm, ⟨10, _⟩ => ⟨S256x2048, .f32⟩
  | .hbm, ⟨11, _⟩ => ⟨S256x2048, .f32⟩
  | .hbm, ⟨12, _⟩ => ⟨S1x256x2048, .bf16⟩
  | .hbm, ⟨13, _⟩ => ⟨S256x2048, .bf16⟩
  | .hbm, ⟨14, _⟩ => ⟨S256x2048, .f32⟩
  | .hbm, ⟨15, _⟩ => ⟨S256x2048, .f32⟩
  | .hbm, ⟨16, _⟩ => ⟨S1x256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel26.lean ====
abbrev S1376x2048 : Shape := ⟨2, ![1376, 2048]⟩
abbrev S4x1408x2048 : Shape := ⟨3, ![4, 1408, 2048]⟩
abbrev S4 : Shape := ⟨1, ![4]⟩
abbrev S1376x256 : Shape := ⟨2, ![1376, 256]⟩
abbrev S1x1408x256 : Shape := ⟨3, ![1, 1408, 256]⟩
abbrev S1 : Shape := ⟨1, ![1]⟩
abbrev S1x1376x256 : Shape := ⟨3, ![1, 1376, 256]⟩

abbrev nBuf : Space → Nat
  | .hbm => 9
  | .vmem => 22
  | .smem => 1
  | _ => 0

abbrev bufTy : (tb : Table) → Fin (tcTables nBuf tb) → BufTy
  | .hbm, ⟨0, _⟩ => ⟨S1376x2048, .f32⟩
  | .hbm, ⟨1, _⟩ => ⟨S4x1408x2048, .bf16⟩
  | .hbm, ⟨2, _⟩ => ⟨S4x1408x2048, .bf16⟩
  | .hbm, ⟨3, _⟩ => ⟨S1376x2048, .f32⟩
  | .hbm, ⟨4, _⟩ => ⟨S1376x2048, .f32⟩
  | .hbm, ⟨5, _⟩ => ⟨S1376x2048, .f32⟩
  | .hbm, ⟨6, _⟩ => ⟨S1376x2048, .f32⟩
  | .hbm, ⟨7, _⟩ => ⟨S1376x2048, .f32⟩
  | .hbm, ⟨8, _⟩ => ⟨S1376x2048, .f32⟩
  | .local _ .vmem, ⟨0, _⟩ => ⟨S1376x256, .f32⟩
  | .local _ .vmem, ⟨1, _⟩ => ⟨S1376x256, .f32⟩
  | .local _ .vmem, ⟨2, _⟩ => ⟨S1x1408x256, .bf16⟩
  | .local _ .vmem, ⟨3, _⟩ => ⟨S1x1408x256, .bf16⟩
  | .local _ .vmem, ⟨4, _⟩ => ⟨S1x1408x256, .bf16⟩
  | .local _ .vmem, ⟨5, _⟩ => ⟨S1x1408x256, .bf16⟩
  | .local _ .vmem, ⟨6, _⟩ => ⟨S1x1408x256, .bf16⟩
  | .local _ .vmem, ⟨7, _⟩ => ⟨S1x1408x256, .bf16⟩
  | .local _ .vmem, ⟨8, _⟩ => ⟨S1x1408x256, .bf16⟩
  | .local _ .vmem, ⟨9, _⟩ => ⟨S1x1408x256, .bf16⟩
  | .local _ .vmem, ⟨10, _⟩ => ⟨S1376x256, .f32⟩
  | .local _ .vmem, ⟨11, _⟩ => ⟨S1376x256, .f32⟩
  | .local _ .vmem, ⟨12, _⟩ => ⟨S1376x256, .f32⟩
  | .local _ .vmem, ⟨13, _⟩ => ⟨S1376x256, .f32⟩
  | .local _ .vmem, ⟨14, _⟩ => ⟨S1376x256, .f32⟩
  | .local _ .vmem, ⟨15, _⟩ => ⟨S1376x256, .f32⟩
  | .local _ .vmem, ⟨16, _⟩ => ⟨S1376x256, .f32⟩
  | .local _ .vmem, ⟨17, _⟩ => ⟨S1376x256, .f32⟩
  | .local _ .vmem, ⟨18, _⟩ => ⟨S1376x256, .f32⟩
  | .local _ .vmem, ⟨19, _⟩ => ⟨S1376x256, .f32⟩
  | .local _ .vmem, ⟨20, _⟩ => ⟨S1376x256, .f32⟩
  | .local _ .vmem, ⟨21, _⟩ => ⟨S1376x256, .f32⟩
  | .local _ .smem, ⟨0, _⟩ => ⟨S4, .i32⟩
  | _, _ => ⟨S1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, c0_i32.toNat, arg0.toNat]

def cc0_transform_2 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, c0_i32.toNat, arg0.toNat]

def cc0_transform_3 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, c0_i32.toNat, arg0.toNat]

def cc0_transform_4 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1376x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1376x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1376x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1376x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1376x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1376x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1376x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference26Ideal.lean ====
abbrev S1376x2048 : Shape := ⟨2, ![1376, 2048]⟩
abbrev S4x1408x2048 : Shape := ⟨3, ![4, 1408, 2048]⟩
abbrev S1x1376x2048 : Shape := ⟨3, ![1, 1376, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S1376x2048, .f32⟩
  | .hbm, ⟨1, _⟩ => ⟨S4x1408x2048, .bf16⟩
  | .hbm, ⟨2, _⟩ => ⟨S4x1408x2048, .bf16⟩
  | .hbm, ⟨3, _⟩ => ⟨S1376x2048, .f32⟩
  | .hbm, ⟨4, _⟩ => ⟨S1376x2048, .f32⟩
  | .hbm, ⟨5, _⟩ => ⟨S1x1376x2048, .bf16⟩
  | .hbm, ⟨6, _⟩ => ⟨S1376x2048, .bf16⟩
  | .hbm, ⟨7, _⟩ => ⟨S1376x2048, .f32⟩
  | .hbm, ⟨8, _⟩ => ⟨S1x1376x2048, .bf16⟩
  | .hbm, ⟨9, _⟩ => ⟨S1376x2048, .bf16⟩
  | .hbm, ⟨10, _⟩ => ⟨S1376x2048, .f32⟩
  | .hbm, ⟨11, _⟩ => ⟨S1376x2048, .f32⟩
  | .hbm, ⟨12, _⟩ => ⟨S1x1376x2048, .bf16⟩
  | .hbm, ⟨13, _⟩ => ⟨S1376x2048, .bf16⟩
  | .hbm, ⟨14, _⟩ => ⟨S1376x2048, .f32⟩
  | .hbm, ⟨15, _⟩ => ⟨S1376x2048, .f32⟩
  | .hbm, ⟨16, _⟩ => ⟨S1x1376x2048, .bf16⟩
  | .hbm, ⟨17, _⟩ => ⟨S1376x2048, .bf16⟩
  | .hbm, ⟨18, _⟩ => ⟨S1376x2048, .f32⟩
  | .hbm, ⟨19, _⟩ => ⟨S1376x2048, .f32⟩
  | .hbm, ⟨20, _⟩ => ⟨S_, .f32⟩
  | .hbm, ⟨21, _⟩ => ⟨S1376x2048, .f32⟩
  | .hbm, ⟨22, _⟩ => ⟨S1376x2048, .f32⟩
  | .hbm, ⟨23, _⟩ => ⟨S_, .f32⟩
  | .hbm, ⟨24, _⟩ => ⟨S1376x2048, .f32⟩
  | .hbm, ⟨25, _⟩ => ⟨S1376x2048, .f32⟩
  | .hbm, ⟨26, _⟩ => ⟨S1376x2048, .f32⟩
  | .hbm, ⟨27, _⟩ => ⟨S_, .f32⟩
  | .hbm, ⟨28, _⟩ => ⟨S1376x2048, .f32⟩
  | .hbm, ⟨29, _⟩ => ⟨S1376x2048, .f32⟩
  | .hbm, ⟨30, _⟩ => ⟨S1376x2048, .f32⟩
  | .hbm, ⟨31, _⟩ => ⟨S_, .f32⟩
  | .hbm, ⟨32, _⟩ => ⟨S1376x2048, .f32⟩
  | .hbm, ⟨33, _⟩ => ⟨S1376x2048, .f32⟩
  | .hbm, ⟨34, _⟩ => ⟨S1376x2048, .f32⟩
  | .hbm, ⟨35, _⟩ => ⟨S_, .f32⟩
  | .hbm, ⟨36, _⟩ => ⟨S1376x2048, .f32⟩
  | .hbm, ⟨37, _⟩ => ⟨S1376x2048, .f32⟩
  | .hbm, ⟨38, _⟩ => ⟨S_, .f32⟩
  | .hbm, ⟨39, _⟩ => ⟨S1376x2048, .f32⟩
  | .hbm, ⟨40, _⟩ => ⟨S1376x2048, .f32⟩
  | .hbm, ⟨41, _⟩ => ⟨S1376x2048, .f32⟩
  | .hbm, ⟨42, _⟩ => ⟨S_, .f32⟩
  | .hbm, ⟨43, _⟩ => ⟨S1376x2048, .f32⟩
  | .hbm, ⟨44, _⟩ => ⟨S1376x2048, .f32⟩
  | .hbm, ⟨45, _⟩ => ⟨S1376x2048, .f32⟩
  | .hbm, ⟨46, _⟩ => ⟨S_, .f32⟩
  | .hbm, ⟨47, _⟩ => ⟨S1376x2048, .f32⟩
  | .hbm, ⟨48, _⟩ => ⟨S1376x2048, .f32⟩
  | .hbm, ⟨49, _⟩ => ⟨S1376x2048, .f32⟩
  | .hbm, ⟨50, _⟩ => ⟨S_, .f32⟩
  | .hbm, ⟨51, _⟩ => ⟨S1376x2048, .f32⟩
  | .hbm, ⟨52, _⟩ => ⟨S1376x2048, .f32⟩
  | _, _ => ⟨S1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel27.lean ====
abbrev S688x2048 : Shape := ⟨2, ![688, 2048]⟩
abbrev S4x704x2048 : Shape := ⟨3, ![4, 704, 2048]⟩
abbrev S4 : Shape := ⟨1, ![4]⟩
abbrev S688x256 : Shape := ⟨2, ![688, 256]⟩
abbrev S1x704x256 : Shape := ⟨3, ![1, 704, 256]⟩
abbrev S1 : Shape := ⟨1, ![1]⟩
abbrev S1x688x256 : Shape := ⟨3, ![1, 688, 256]⟩

abbrev nBuf : Space → Nat
  | .hbm => 9
  | .vmem => 22
  | .smem => 1
  | _ => 0

abbrev bufTy : (tb : Table) → Fin (tcTables nBuf tb) → BufTy
  | .hbm, ⟨0, _⟩ => ⟨S688x2048, .f32⟩
  | .hbm, ⟨1, _⟩ => ⟨S4x704x2048, .bf16⟩
  | .hbm, ⟨2, _⟩ => ⟨S4x704x2048, .bf16⟩
  | .hbm, ⟨3, _⟩ => ⟨S688x2048, .f32⟩
  | .hbm, ⟨4, _⟩ => ⟨S688x2048, .f32⟩
  | .hbm, ⟨5, _⟩ => ⟨S688x2048, .f32⟩
  | .hbm, ⟨6, _⟩ => ⟨S688x2048, .f32⟩
  | .hbm, ⟨7, _⟩ => ⟨S688x2048, .f32⟩
  | .hbm, ⟨8, _⟩ => ⟨S688x2048, .f32⟩
  | .local _ .vmem, ⟨0, _⟩ => ⟨S688x256, .f32⟩
  | .local _ .vmem, ⟨1, _⟩ => ⟨S688x256, .f32⟩
  | .local _ .vmem, ⟨2, _⟩ => ⟨S1x704x256, .bf16⟩
  | .local _ .vmem, ⟨3, _⟩ => ⟨S1x704x256, .bf16⟩
  | .local _ .vmem, ⟨4, _⟩ => ⟨S1x704x256, .bf16⟩
  | .local _ .vmem, ⟨5, _⟩ => ⟨S1x704x256, .bf16⟩
  | .local _ .vmem, ⟨6, _⟩ => ⟨S1x704x256, .bf16⟩
  | .local _ .vmem, ⟨7, _⟩ => ⟨S1x704x256, .bf16⟩
  | .local _ .vmem, ⟨8, _⟩ => ⟨S1x704x256, .bf16⟩
  | .local _ .vmem, ⟨9, _⟩ => ⟨S1x704x256, .bf16⟩
  | .local _ .vmem, ⟨10, _⟩ => ⟨S688x256, .f32⟩
  | .local _ .vmem, ⟨11, _⟩ => ⟨S688x256, .f32⟩
  | .local _ .vmem, ⟨12, _⟩ => ⟨S688x256, .f32⟩
  | .local _ .vmem, ⟨13, _⟩ => ⟨S688x256, .f32⟩
  | .local _ .vmem, ⟨14, _⟩ => ⟨S688x256, .f32⟩
  | .local _ .vmem, ⟨15, _⟩ => ⟨S688x256, .f32⟩
  | .local _ .vmem, ⟨16, _⟩ => ⟨S688x256, .f32⟩
  | .local _ .vmem, ⟨17, _⟩ => ⟨S688x256, .f32⟩
  | .local _ .vmem, ⟨18, _⟩ => ⟨S688x256, .f32⟩
  | .local _ .vmem, ⟨19, _⟩ => ⟨S688x256, .f32⟩
  | .local _ .vmem, ⟨20, _⟩ => ⟨S688x256, .f32⟩
  | .local _ .vmem, ⟨21, _⟩ => ⟨S688x256, .f32⟩
  | .local _ .smem, ⟨0, _⟩ => ⟨S4, .i32⟩
  | _, _ => ⟨S688x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, c0_i32.toNat, arg0.toNat]

def cc0_transform_2 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S4) ![1] S1.size inb_S4_S1_1) numel1_S1
  let c0_i32 : BitVec 32 := 0#32
  let c0_i32_0 : BitVec 32 := 0#32
  ![v0.toNat, c0_i32.toNat, arg0.toNat]

def cc0_transform_3 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c2 : Index := 2#32
  let v0 : BitVec 32 := pf.at 0 (Rect.unit (s := S4) ![2] S1.size inb_S4_S1_2) numel1_S1
  let c0_i32 : BitVec 32 := 0#32
  let c0_i32_0 : BitVec 32 := 0#32
  ![v0.toNat, c0_i32.toNat, arg0.toNat]

def cc0_transform_4 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let c3 : Index := 3#32
  let v0 : BitVec 32 := pf.at 0 (Rect.unit (s := S4) ![3] S1.size inb_S4_S1_3) numel1_S1
  let c0_i32 : BitVec 32 := 0#32
  let c0_i32_0 : BitVec 32 := 0#32
  ![v0.toNat, c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S688x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x704x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x704x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x704x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x704x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference27Ideal.lean ====
abbrev S688x2048 : Shape := ⟨2, ![688, 2048]⟩
abbrev S4x704x2048 : Shape := ⟨3, ![4, 704, 2048]⟩
abbrev S1x688x2048 : Shape := ⟨3, ![1, 688, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S688x2048, .f32⟩
  | .hbm, ⟨1, _⟩ => ⟨S4x704x2048, .bf16⟩
  | .hbm, ⟨2, _⟩ => ⟨S4x704x2048, .bf16⟩
  | .hbm, ⟨3, _⟩ => ⟨S688x2048, .f32⟩
  | .hbm, ⟨4, _⟩ => ⟨S688x2048, .f32⟩
  | .hbm, ⟨5, _⟩ => ⟨S1x688x2048, .bf16⟩
  | .hbm, ⟨6, _⟩ => ⟨S688x2048, .bf16⟩
  | .hbm, ⟨7, _⟩ => ⟨S688x2048, .f32⟩
  | .hbm, ⟨8, _⟩ => ⟨S1x688x2048, .bf16⟩
  | .hbm, ⟨9, _⟩ => ⟨S688x2048, .bf16⟩
  | .hbm, ⟨10, _⟩ => ⟨S688x2048, .f32⟩
  | .hbm, ⟨11, _⟩ => ⟨S688x2048, .f32⟩
  | .hbm, ⟨12, _⟩ => ⟨S1x688x2048, .bf16⟩
  | .hbm, ⟨13, _⟩ => ⟨S688x2048, .bf16⟩
  | .hbm, ⟨14, _⟩ => ⟨S688x2048, .f32⟩
  | .hbm, ⟨15, _⟩ => ⟨S688x2048, .f32⟩
  | .hbm, ⟨16, _⟩ => ⟨S1x688x2048, .bf16⟩
  | .hbm, ⟨17, _⟩ => ⟨S688x2048, .bf16⟩
  | .hbm, ⟨18, _⟩ => ⟨S688x2048, .f32⟩
  | .hbm, ⟨19, _⟩ => ⟨S688x2048, .f32⟩
  | .hbm, ⟨20, _⟩ => ⟨S_, .f32⟩
  | .hbm, ⟨21, _⟩ => ⟨S688x2048, .f32⟩
  | .hbm, ⟨22, _⟩ => ⟨S688x2048, .f32⟩
  | .hbm, ⟨23, _⟩ => ⟨S_, .f32⟩
  | .hbm, ⟨24, _⟩ => ⟨S688x2048, .f32⟩
  | .hbm, ⟨25, _⟩ => ⟨S688x2048, .f32⟩
  | .hbm, ⟨26, _⟩ => ⟨S688x2048, .f32⟩
  | .hbm, ⟨27, _⟩ => ⟨S_, .f32⟩
  | .hbm, ⟨28, _⟩ => ⟨S688x2048, .f32⟩
  | .hbm, ⟨29, _⟩ => ⟨S688x2048, .f32⟩
  | .hbm, ⟨30, _⟩ => ⟨S688x2048, .f32⟩
  | .hbm, ⟨31, _⟩ => ⟨S_, .f32⟩
  | .hbm, ⟨32, _⟩ => ⟨S688x2048, .f32⟩
  | .hbm, ⟨33, _⟩ => ⟨S688x2048, .f32⟩
  | .hbm, ⟨34, _⟩ => ⟨S688x2048, .f32⟩
  | .hbm, ⟨35, _⟩ => ⟨S_, .f32⟩
  | .hbm, ⟨36, _⟩ => ⟨S688x2048, .f32⟩
  | .hbm, ⟨37, _⟩ => ⟨S688x2048, .f32⟩
  | .hbm, ⟨38, _⟩ => ⟨S_, .f32⟩
  | .hbm, ⟨39, _⟩ => ⟨S688x2048, .f32⟩
  | .hbm, ⟨40, _⟩ => ⟨S688x2048, .f32⟩
  | .hbm, ⟨41, _⟩ => ⟨S688x2048, .f32⟩
  | .hbm, ⟨42, _⟩ => ⟨S_, .f32⟩
  | .hbm, ⟨43, _⟩ => ⟨S688x2048, .f32⟩
  | .hbm, ⟨44, _⟩ => ⟨S688x2048, .f32⟩
  | .hbm, ⟨45, _⟩ => ⟨S688x2048, .f32⟩
  | .hbm, ⟨46, _⟩ => ⟨S_, .f32⟩
  | .hbm, ⟨47, _⟩ => ⟨S688x2048, .f32⟩
  | .hbm, ⟨48, _⟩ => ⟨S688x2048, .f32⟩
  | .hbm, ⟨49, _⟩ => ⟨S688x2048, .f32⟩
  | .hbm, ⟨50, _⟩ => ⟨S_, .f32⟩
  | .hbm, ⟨51, _⟩ => ⟨S688x2048, .f32⟩
  | .hbm, ⟨52, _⟩ => ⟨S688x2048, .f32⟩
  | _, _ => ⟨S688x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.SbLoops.lean ====
/-
  The two counted loops of the stick-breaking attention's backward kernel, at the algebra that carries the kernel's own
  copies: one trip of either reads the four input blocks and the rescaled cotangent, and leaves the five accumulators at
  some contents.
-/
module

public import proofs.«01_k».proof.Proof.Gen.KernelIdeal.Loops
public import Idealize.ShloMosaic.Lib.Exec
public import Idealize.ShloMosaic.Lib.Tactic
public import Idealize.ShloMosaic.Lib.Pipeline.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option warn.classDefReducibility false in
/-- Loop 1: before and after each trip the read blocks are as found and each accumulator holds something. -/
@[sl_loop] def loopInv1 (𝒱 : Variants) (c : Dev nD) (bd : Option 𝒱.V) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (arg1 : BitVec 32) (v35 : FVec F S8x128 .f32) (v38 : FVec F S1024x128 .f32) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg16 : BufTy.Contents (Elt F) arg16.view.ty) :
    LoopInvTy_k0_t1 (F := F) Unit ℕ (Pipeline.UD sig nD τ) ℕ 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg1 v35 v38 where
  inv _ _ := (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} X_arg7) ∗ (arg16.view.loc (c : Thread nD τ) ↦[arg16.view.set]{fullShare} X_arg16) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) : sProp 𝕄)
  step k acc := by
    iintro ⟨R0, R1, R2, R3, R4, ⟨%f0, W0⟩, ⟨%f1, W1⟩, ⟨%f2, W2⟩, ⟨%f3, W3⟩, ⟨%f4, W4⟩⟩
    unfold k0_t1_body
    sl_exec_parts
    sl_step
    isplitl [R0]; · iexact R0
    isplitl [R1]; · iexact R1
    isplitl [R2]; · iexact R2
    isplitl [R3]; · iexact R3
    isplitl [R4]; · iexact R4
    isplitl [W0]; · iexists _; iexact W0
    isplitl [W1]; · iexists _; iexact W1
    isplitl [W2]; · iexists _; iexact W2
    isplitl [W3]; · iexists _; iexact W3
    iexists _; iexact W4

set_option warn.classDefReducibility false in
/-- Loop 2: before and after each trip the read blocks are as found and each accumulator holds something. -/
@[sl_loop] def loopInv2 (𝒱 : Variants) (c : Dev nD) (bd : Option 𝒱.V) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (arg1 : BitVec 32) (v35 : FVec F S8x128 .f32) (v38 : FVec F S1024x128 .f32) (v73 : BitVec 32) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg16 : BufTy.Contents (Elt F) arg16.view.ty) :
    LoopInvTy_k0_t2 (F := F) Unit ℕ (Pipeline.UD sig nD τ) ℕ 𝒱 c bd Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg1 v35 v38 v73 where
  inv _ _ := (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} X_arg7) ∗ (arg16.view.loc (c : Thread nD τ) ↦[arg16.view.set]{fullShare} X_arg16) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) : sProp 𝕄)
  step k acc := by
    iintro ⟨R0, R1, R2, R3, R4, ⟨%f0, W0⟩, ⟨%f1, W1⟩, ⟨%f2, W2⟩, ⟨%f3, W3⟩, ⟨%f4, W4⟩⟩
    unfold k0_t2_body
    sl_exec_parts
    sl_step
    isplitl [R0]; · iexact R0
    isplitl [R1]; · iexact R1
    isplitl [R2]; · iexact R2
    isplitl [R3]; · iexact R3
    isplitl [R4]; · iexact R4
    isplitl [W0]; · iexists _; iexact W0
    isplitl [W1]; · iexists _; iexact W1
    isplitl [W2]; · iexists _; iexact W2
    isplitl [W3]; · iexists _; iexact W3
    iexists _; iexact W4

end Cert.KernelIdeal.Hand

end
-- ==== Proof.SbBody.lean ====
/-
  One grid point of the stick-breaking attention's backward kernel, cut in two: the computation (which leaves the results
  in vector memory) and the copies out (`tail`).
-/
module

public import proofs.«01_k».proof.Proof.SbLoops

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's copies out of vector memory, after the computation. -/
def tail (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) :
    Prog (TpuEff nD τ sig (Elt F) Λ₀ .tc) PUnit := do
  if k0_h2 : k0_cond2 i = 1#1 then do
    let v533 : DmaSems sig S1 := arg20.slice (Rect.unit (s := S3) ![0] S1.size inb_S3_S1_0)
    let v534 : DmaSems sig S_ := v533.squeeze S_ squeezes_S1_S_
    let v535 : Memref sig .tc .hbm S1024x128 .bf16 := arg9.slice (Rect.unit (s := S2048x6144) (k0_off4 i) S1024x128.size (k0_off4_inb i k0_h2)) (fun _ => rfl)
    Prog.lift (.waitDma2 v534.sem arg17 v535 harg17.wordExact (harg9.wordExact_slice rfl _ (k0_off4_wordsbf16 i k0_h2)))
    pure ⟨⟩
  else do
    pure ⟨⟩
  let v517 : Vec F S1024x128 .f32 ← Prog.lift (.load arg13 (Rect.unit (s := S1024x128) ![0, 0] S1024x128.size inb_S1024x128_S1024x128_0_0).toLoadRect (View.loadsAt_vmem h_S1024x128))
  let v519 : Vec F S1024x128 .bf16 ← Prog.lift (.load arg17 (Rect.unit (s := S1024x128) ![0, 0] S1024x128.size inb_S1024x128_S1024x128_0_0).toLoadRect (View.loadsAt_vmem h_S1024x128))
  Prog.lift (.store arg17 (Rect.unit (s := S1024x128) ![0, 0] S1024x128.size inb_S1024x128_S1024x128_0_0) (k0_pay1 v517) Finset.univ (View.stores_vmem h_S1024x128 (harg17.storeExact_slice rfl _ packedbf16_S1024x128_S1024x128_0_0) (fun _ => rfl)) (.inl rfl))
  let v522 : DmaSems sig S1 := arg20.slice (Rect.unit (s := S3) ![0] S1.size inb_S3_S1_0)
  let v523 : DmaSems sig S_ := v522.squeeze S_ squeezes_S1_S_
  let v524 : Memref sig .tc .hbm S1024x128 .bf16 := arg9.slice (Rect.unit (s := S2048x6144) (k0_off5 i) S1024x128.size (k0_off5_inb i)) (fun _ => rfl)
  Prog.lift (.enqueueDma arg17 (.here v524) (.dma v523.sem) harg17.wordExact (harg9.wordExact_slice rfl _ (k0_off5_wordsbf16 i)) ⟨Or.inl rfl, trivial⟩)
  if k0_h3 : k0_cond3 i = 1#1 then do
    if k0_h4 : k0_cond4 i = 1#1 then do
      let v552 : DmaSems sig S1 := arg20.slice (Rect.unit (s := S3) ![1] S1.size inb_S3_S1_1)
      let v553 : DmaSems sig S_ := v552.squeeze S_ squeezes_S1_S_
      let v554 : Memref sig .tc .hbm S2048x128 .bf16 := arg9.slice (Rect.unit (s := S2048x6144) (k0_off6 i 8#32) S2048x128.size (k0_off6_inb i k0_h3 k0_h4 0)) (fun _ => rfl)
      Prog.lift (.waitDma2 v553.sem arg18 v554 harg18.wordExact (harg9.wordExact_slice rfl _ (k0_off6_wordsbf16 i k0_h3 k0_h4 0)))
      let v555 : DmaSems sig S1 := arg20.slice (Rect.unit (s := S3) ![2] S1.size inb_S3_S1_2)
      let v556 : DmaSems sig S_ := v555.squeeze S_ squeezes_S1_S_
      let v557 : Memref sig .tc .hbm S2048x128 .bf16 := arg9.slice (Rect.unit (s := S2048x6144) (k0_off6 i 16#32) S2048x128.size (k0_off6_inb i k0_h3 k0_h4 1)) (fun _ => rfl)
      Prog.lift (.waitDma2 v556.sem arg19 v557 harg19.wordExact (harg9.wordExact_slice rfl _ (k0_off6_wordsbf16 i k0_h3 k0_h4 1)))
      pure ⟨⟩
    else do
      pure ⟨⟩
    let v536 : Vec F S2048x128 .f32 ← Prog.lift (.load arg11 (Rect.unit (s := S2048x128) ![0, 0] S2048x128.size inb_S2048x128_S2048x128_0_0).toLoadRect (View.loadsAt_vmem h_S2048x128))
    let v538 : Vec F S2048x128 .bf16 ← Prog.lift (.load arg18 (Rect.unit (s := S2048x128) ![0, 0] S2048x128.size inb_S2048x128_S2048x128_0_0).toLoadRect (View.loadsAt_vmem h_S2048x128))
    Prog.lift (.store arg18 (Rect.unit (s := S2048x128) ![0, 0] S2048x128.size inb_S2048x128_S2048x128_0_0) (k0_pay2 v536) Finset.univ (View.stores_vmem h_S2048x128 (harg18.storeExact_slice rfl _ packedbf16_S2048x128_S2048x128_0_0) (fun _ => rfl)) (.inl rfl))
    let v541 : Vec F S2048x128 .f32 ← Prog.lift (.load arg12 (Rect.unit (s := S2048x128) ![0, 0] S2048x128.size inb_S2048x128_S2048x128_0_0).toLoadRect (View.loadsAt_vmem h_S2048x128))
    let v543 : Vec F S2048x128 .bf16 ← Prog.lift (.load arg19 (Rect.unit (s := S2048x128) ![0, 0] S2048x128.size inb_S2048x128_S2048x128_0_0).toLoadRect (View.loadsAt_vmem h_S2048x128))
    Prog.lift (.store arg19 (Rect.unit (s := S2048x128) ![0, 0] S2048x128.size inb_S2048x128_S2048x128_0_0) (k0_pay3 v541) Finset.univ (View.stores_vmem h_S2048x128 (harg19.storeExact_slice rfl _ packedbf16_S2048x128_S2048x128_0_0) (fun _ => rfl)) (.inl rfl))
    let v546 : DmaSems sig S1 := arg20.slice (Rect.unit (s := S3) ![1] S1.size inb_S3_S1_1)
    let v547 : DmaSems sig S_ := v546.squeeze S_ squeezes_S1_S_
    let v548 : Memref sig .tc .hbm S2048x128 .bf16 := arg9.slice (Rect.unit (s := S2048x6144) (k0_off7 i 8#32) S2048x128.size (k0_off7_inb i k0_h3 0)) (fun _ => rfl)
    Prog.lift (.enqueueDma arg18 (.here v548) (.dma v547.sem) harg18.wordExact (harg9.wordExact_slice rfl _ (k0_off7_wordsbf16 i k0_h3 0)) ⟨Or.inl rfl, trivial⟩)
    let v549 : DmaSems sig S1 := arg20.slice (Rect.unit (s := S3) ![2] S1.size inb_S3_S1_2)
    let v550 : DmaSems sig S_ := v549.squeeze S_ squeezes_S1_S_
    let v551 : Memref sig .tc .hbm S2048x128 .bf16 := arg9.slice (Rect.unit (s := S2048x6144) (k0_off7 i 16#32) S2048x128.size (k0_off7_inb i k0_h3 1)) (fun _ => rfl)
    Prog.lift (.enqueueDma arg19 (.here v551) (.dma v550.sem) harg19.wordExact (harg9.wordExact_slice rfl _ (k0_off7_wordsbf16 i k0_h3 1)) ⟨Or.inl rfl, trivial⟩)
    pure ⟨⟩
  else do
    pure ⟨⟩
  if k0_h5 : k0_cond5 i = 1#1 then do
    let v533 : DmaSems sig S1 := arg20.slice (Rect.unit (s := S3) ![0] S1.size inb_S3_S1_0)
    let v534 : DmaSems sig S_ := v533.squeeze S_ squeezes_S1_S_
    let v535 : Memref sig .tc .hbm S1024x128 .bf16 := arg9.slice (Rect.unit (s := S2048x6144) (k0_off8 i) S1024x128.size (k0_off8_inb i k0_h5)) (fun _ => rfl)
    Prog.lift (.waitDma2 v534.sem arg17 v535 harg17.wordExact (harg9.wordExact_slice rfl _ (k0_off8_wordsbf16 i k0_h5)))
    let v536 : DmaSems sig S1 := arg20.slice (Rect.unit (s := S3) ![1] S1.size inb_S3_S1_1)
    let v537 : DmaSems sig S_ := v536.squeeze S_ squeezes_S1_S_
    let v538 : Memref sig .tc .hbm S2048x128 .bf16 := arg9.slice (Rect.unit (s := S2048x6144) (k0_off9 i 8#32) S2048x128.size (k0_off9_inb i k0_h5 0)) (fun _ => rfl)
    Prog.lift (.waitDma2 v537.sem arg18 v538 harg18.wordExact (harg9.wordExact_slice rfl _ (k0_off9_wordsbf16 i k0_h5 0)))
    let v539 : DmaSems sig S1 := arg20.slice (Rect.unit (s := S3) ![2] S1.size inb_S3_S1_2)
    let v540 : DmaSems sig S_ := v539.squeeze S_ squeezes_S1_S_
    let v541 : Memref sig .tc .hbm S2048x128 .bf16 := arg9.slice (Rect.unit (s := S2048x6144) (k0_off9 i 16#32) S2048x128.size (k0_off9_inb i k0_h5 1)) (fun _ => rfl)
    Prog.lift (.waitDma2 v540.sem arg19 v541 harg19.wordExact (harg9.wordExact_slice rfl _ (k0_off9_wordsbf16 i k0_h5 1)))
    pure ⟨⟩
  else do
    pure ⟨⟩
  pure ⟨⟩

/-- The kernel's computation, before any program `T`. -/
def body (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (T : Prog (TpuEff nD τ sig (Elt F) Λ₀ .tc) PUnit) :
    Prog (TpuEff nD τ sig (Elt F) Λ₀ .tc) PUnit := do
  let ⟨arg0, arg1, v35, v38⟩ : Σ' (arg0 : BitVec 32) (arg1 : BitVec 32) (v35 : FVec F S8x128 .f32), FVec F S1024x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20
  let ⟨v62, v68, v74⟩ : Σ' (v62 : FVec F S256x256 .bf16) (v68 : FVec F S256x256 .bf16), BitVec 32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg1 v35 v38
  let ⟨v76, v79, v95, v100, v103, v105, v111, v112⟩ : Σ' (v76 : BitVec 32) (v79 : BitVec 32) (v95 : FVec F S1024x256 .f32) (v100 : FVec F S1024x256 .f32) (v103 : IVec S1024x256 1) (v105 : FVec F S1024x256 .f32) (v111 : FVec F S768x256 .f32), FVec F S768x256 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg1 v74
  let ⟨v121, v126, v129, v131, v145, v152, v156⟩ : Σ' (v121 : FVec F S768x256 .f32) (v126 : FVec F S768x256 .f32) (v129 : IVec S768x256 1) (v131 : FVec F S768x256 .f32) (v145 : FVec F S768x256 .f32) (v152 : FVec F S1024x128 .f32), FVec F S1024x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v62 v79 v95 v105 v111 v112
  let ⟨v164, v165, v167, v186, v187, v189, v190, v199⟩ : Σ' (v164 : FVec F S1024x256 .f32) (v165 : FVec F S1024x256 .bf16) (v167 : FVec F S1024x256 .f32) (v186 : FVec F S768x256 .f32) (v187 : FVec F S768x256 .bf16) (v189 : FVec F S768x256 .f32) (v190 : Vec F S1024x128 .f32), FVec F S1024x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v68 v100 v103 v121 v126 v129 v131 v145 v152 v156
  let ⟨v212, v235, v236, v241⟩ : Σ' (v212 : FVec F S1024x256 .bf16) (v235 : FVec F S768x256 .bf16) (v236 : Vec F S1024x128 .bf16), FVec F S256x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v76 v95 v103 v121 v129 v164 v165 v167 v186 v189 v190 v199
  let ⟨v262, v276⟩ : Σ' (v262 : Vec F S768x128 .bf16), FVec F S768x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v76 v79 v187 v212 v235 v236 v241
  let ⟨v290, v293, v309, v310, v311, v313, cst_135⟩ : Σ' (v290 : BitVec 32) (v293 : BitVec 32) (v309 : FVec F S512x256 .f32) (v310 : FVec F S512x256 .f32) (v311 : Vec F S512x128 .bf16) (v313 : Vec F S256x128 .bf16), FVec F S512x256 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg1 v79 v235 v262 v276
  let ⟨v314, v317, v319, v335, v340, v343, v345, v352, v353, v356, cst_151⟩ : Σ' (v314 : FVec F S512x256 .f32) (v317 : IVec S512x256 1) (v319 : FVec F S512x256 .f32) (v335 : FVec F S256x256 .f32) (v340 : FVec F S256x256 .f32) (v343 : IVec S256x256 1) (v345 : FVec F S256x256 .f32) (v352 : FVec F S512x256 .f32) (v353 : FVec F S256x256 .bf16) (v356 : FVec F S256x256 .bf16), FVec F S256x256 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v62 v293 v310 v311 v313 cst_135
  let ⟨v378, v379, v381, v397, v398⟩ : Σ' (v378 : FVec F S512x256 .f32) (v379 : FVec F S512x256 .bf16) (v381 : FVec F S512x256 .f32) (v397 : FVec F S256x256 .f32), FVec F S256x256 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v62 v68 v309 v314 v317 v319 v335 v345 v352 v353 v356 cst_151
  let ⟨v400, v401, v426, v437, v442, cst_181⟩ : Σ' (v400 : FVec F S256x256 .f32) (v401 : FVec F S256x256 .bf16) (v426 : FVec F S512x256 .bf16) (v437 : FVec F S256x256 .f32) (v442 : FVec F S256x256 .f32), F .f32 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v68 v309 v317 v335 v340 v343 v378 v381 v397 v398
  let ⟨v449, v476, v477⟩ : Σ' (v449 : FVec F S256x256 .bf16) (v476 : Vec F S256x128 .bf16), Vec F S256x128 .bf16 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v290 v293 v379 v400 v426 v437 v442 cst_181
  let v515 : BitVec 32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg0 arg1 v293 v401 v449 v476 v477
  T

theorem body_eq (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) : cc0_sb_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 = body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 (tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20) := by
  rw [cc0_sb_bwd_eq_skeleton]; unfold body tail; rfl

abbrev cond1 (i : grid0.Coords) : BitVec 1 := Scalar.cmpi .ne (Scalar.extui (Scalar.cmpi .eq (BitVec.ofNat 32 (i 1).val) 0#32) : BitVec 32) 0#32

/-- The computation at the first row tile of a head, which clears the accumulators. -/
def runFirst (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (hc : cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) :
    { L : List (View.Piece (Elt F) S8x128 .f32) //
      ∀ (T : Prog (TpuEff nD τ sig (Elt F) Λ₀ .tc) PUnit) (K : PUnit → sProp 𝕄),
        iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))
            ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg10.view.loc (c : Thread nD τ) ↦[arg10.view.set]{fullShare} (arg10.view.writes (Elt F) f L))) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) -∗ wp frame (wpE (defs₀ (F := F)) Variants.none c none) Set.univ T K))
          ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 T) K } := by
  refine ⟨?_, fun T K => ?run⟩
  case run =>
    unfold body
    iintro ⟨R0, R1, R2, R3, R4, R5, R6, HO, ⟨%g0, W0⟩, ⟨%g1, W1⟩, ⟨%g2, W2⟩, ⟨%g3, W3⟩, ⟨%g4, W4⟩, ⟨%g5, W5⟩, Hk⟩
    sl_exec_parts
    iapply Hk
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HO]; · iexists _; iexact HO
    isplitl [W0]; · iexists _; iexact W0
    isplitl [W1]; · iexists _; iexact W1
    isplitl [W2]; · iexists _; iexact W2
    isplitl [W3]; · iexists _; iexact W3
    isplitl [W4]; · iexists _; iexact W4
    iexists _; iexact W5

/-- The computation at the later row tile of a head. -/
def runNext (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (hc : ¬ cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) :
    { L : List (View.Piece (Elt F) S8x128 .f32) //
      ∀ (T : Prog (TpuEff nD τ sig (Elt F) Λ₀ .tc) PUnit) (K : PUnit → sProp 𝕄),
        iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))
            ∗ (iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg10.view.loc (c : Thread nD τ) ↦[arg10.view.set]{fullShare} (arg10.view.writes (Elt F) f L))) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f))) -∗ wp frame (wpE (defs₀ (F := F)) Variants.none c none) Set.univ T K))
          ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 T) K } := by
  refine ⟨?_, fun T K => ?run⟩
  case run =>
    unfold body
    iintro ⟨R0, R1, R2, R3, R4, R5, R6, HO, ⟨%g0, W0⟩, ⟨%g1, W1⟩, ⟨%g2, W2⟩, ⟨%g3, W3⟩, ⟨%g4, W4⟩, ⟨%g5, W5⟩, Hk⟩
    sl_exec_parts
    iapply Hk
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HO]; · iexists _; iexact HO
    isplitl [W0]; · iexists _; iexact W0
    isplitl [W1]; · iexists _; iexact W1
    isplitl [W2]; · iexists _; iexact W2
    isplitl [W3]; · iexists _; iexact W3
    isplitl [W4]; · iexists _; iexact W4
    iexists _; iexact W5

end Cert.KernelIdeal.Hand

end
-- ==== Proof.SbTail.lean ====
/-
  The copies out of one grid point, in three stages, on the launch's own buffers.
-/
module

public import proofs.«01_k».proof.Proof.SbBody
public import Idealize.ShloMosaic.Lib.VecWindow

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The copy of the queries' gradient: the last copy of its buffer collected, the buffer filled, the new copy begun. -/
def tailQ (i : grid0.Coords) (T : Prog (TpuEff nD τ sig (Elt F) Λ₀ .tc) PUnit) :
    Prog (TpuEff nD τ sig (Elt F) Λ₀ .tc) PUnit := do
  if k0_h2 : k0_cond2 i = 1#1 then do
    let v533 : DmaSems sig S1 := cc0_scratch9.slice (Rect.unit (s := S3) ![0] S1.size inb_S3_S1_0)
    let v534 : DmaSems sig S_ := v533.squeeze S_ squeezes_S1_S_
    let v535 : Memref sig .tc .hbm S1024x128 .bf16 := (Memref.whole main_v0_0).slice (Rect.unit (s := S2048x6144) (k0_off4 i) S1024x128.size (k0_off4_inb i k0_h2)) (fun _ => rfl)
    Prog.lift (.waitDma2 v534.sem (Memref.whole cc0_scratch6) v535 (Memref.isWhole_whole _).wordExact ((Memref.isWhole_whole _).wordExact_slice rfl _ (k0_off4_wordsbf16 i k0_h2)))
    pure ⟨⟩
  else do
    pure ⟨⟩
  let v517 : Vec F S1024x128 .f32 ← Prog.lift (.load (Memref.whole cc0_scratch2) (Rect.unit (s := S1024x128) ![0, 0] S1024x128.size inb_S1024x128_S1024x128_0_0).toLoadRect (View.loadsAt_vmem h_S1024x128))
  let v519 : Vec F S1024x128 .bf16 ← Prog.lift (.load (Memref.whole cc0_scratch6) (Rect.unit (s := S1024x128) ![0, 0] S1024x128.size inb_S1024x128_S1024x128_0_0).toLoadRect (View.loadsAt_vmem h_S1024x128))
  Prog.lift (.store (Memref.whole cc0_scratch6) (Rect.unit (s := S1024x128) ![0, 0] S1024x128.size inb_S1024x128_S1024x128_0_0) (k0_pay1 v517) Finset.univ (View.stores_vmem h_S1024x128 ((Memref.isWhole_whole _).storeExact_slice rfl _ packedbf16_S1024x128_S1024x128_0_0) (fun _ => rfl)) (.inl rfl))
  let v522 : DmaSems sig S1 := cc0_scratch9.slice (Rect.unit (s := S3) ![0] S1.size inb_S3_S1_0)
  let v523 : DmaSems sig S_ := v522.squeeze S_ squeezes_S1_S_
  let v524 : Memref sig .tc .hbm S1024x128 .bf16 := (Memref.whole main_v0_0).slice (Rect.unit (s := S2048x6144) (k0_off5 i) S1024x128.size (k0_off5_inb i)) (fun _ => rfl)
  Prog.lift (.enqueueDma (Memref.whole cc0_scratch6) (.here v524) (.dma v523.sem) (Memref.isWhole_whole _).wordExact ((Memref.isWhole_whole _).wordExact_slice rfl _ (k0_off5_wordsbf16 i)) ⟨Or.inl rfl, trivial⟩)
  T

/-- The copies of the keys' and the values' gradients, at the last point of a head. -/
def tailKV (i : grid0.Coords) (T : Prog (TpuEff nD τ sig (Elt F) Λ₀ .tc) PUnit) :
    Prog (TpuEff nD τ sig (Elt F) Λ₀ .tc) PUnit := do
  if k0_h3 : k0_cond3 i = 1#1 then do
    if k0_h4 : k0_cond4 i = 1#1 then do
      let v552 : DmaSems sig S1 := cc0_scratch9.slice (Rect.unit (s := S3) ![1] S1.size inb_S3_S1_1)
      let v553 : DmaSems sig S_ := v552.squeeze S_ squeezes_S1_S_
      let v554 : Memref sig .tc .hbm S2048x128 .bf16 := (Memref.whole main_v0_0).slice (Rect.unit (s := S2048x6144) (k0_off6 i 8#32) S2048x128.size (k0_off6_inb i k0_h3 k0_h4 0)) (fun _ => rfl)
      Prog.lift (.waitDma2 v553.sem (Memref.whole cc0_scratch7) v554 (Memref.isWhole_whole _).wordExact ((Memref.isWhole_whole _).wordExact_slice rfl _ (k0_off6_wordsbf16 i k0_h3 k0_h4 0)))
      let v555 : DmaSems sig S1 := cc0_scratch9.slice (Rect.unit (s := S3) ![2] S1.size inb_S3_S1_2)
      let v556 : DmaSems sig S_ := v555.squeeze S_ squeezes_S1_S_
      let v557 : Memref sig .tc .hbm S2048x128 .bf16 := (Memref.whole main_v0_0).slice (Rect.unit (s := S2048x6144) (k0_off6 i 16#32) S2048x128.size (k0_off6_inb i k0_h3 k0_h4 1)) (fun _ => rfl)
      Prog.lift (.waitDma2 v556.sem (Memref.whole cc0_scratch8) v557 (Memref.isWhole_whole _).wordExact ((Memref.isWhole_whole _).wordExact_slice rfl _ (k0_off6_wordsbf16 i k0_h3 k0_h4 1)))
      pure ⟨⟩
    else do
      pure ⟨⟩
    let v536 : Vec F S2048x128 .f32 ← Prog.lift (.load (Memref.whole cc0_scratch0) (Rect.unit (s := S2048x128) ![0, 0] S2048x128.size inb_S2048x128_S2048x128_0_0).toLoadRect (View.loadsAt_vmem h_S2048x128))
    let v538 : Vec F S2048x128 .bf16 ← Prog.lift (.load (Memref.whole cc0_scratch7) (Rect.unit (s := S2048x128) ![0, 0] S2048x128.size inb_S2048x128_S2048x128_0_0).toLoadRect (View.loadsAt_vmem h_S2048x128))
    Prog.lift (.store (Memref.whole cc0_scratch7) (Rect.unit (s := S2048x128) ![0, 0] S2048x128.size inb_S2048x128_S2048x128_0_0) (k0_pay2 v536) Finset.univ (View.stores_vmem h_S2048x128 ((Memref.isWhole_whole _).storeExact_slice rfl _ packedbf16_S2048x128_S2048x128_0_0) (fun _ => rfl)) (.inl rfl))
    let v541 : Vec F S2048x128 .f32 ← Prog.lift (.load (Memref.whole cc0_scratch1) (Rect.unit (s := S2048x128) ![0, 0] S2048x128.size inb_S2048x128_S2048x128_0_0).toLoadRect (View.loadsAt_vmem h_S2048x128))
    let v543 : Vec F S2048x128 .bf16 ← Prog.lift (.load (Memref.whole cc0_scratch8) (Rect.unit (s := S2048x128) ![0, 0] S2048x128.size inb_S2048x128_S2048x128_0_0).toLoadRect (View.loadsAt_vmem h_S2048x128))
    Prog.lift (.store (Memref.whole cc0_scratch8) (Rect.unit (s := S2048x128) ![0, 0] S2048x128.size inb_S2048x128_S2048x128_0_0) (k0_pay3 v541) Finset.univ (View.stores_vmem h_S2048x128 ((Memref.isWhole_whole _).storeExact_slice rfl _ packedbf16_S2048x128_S2048x128_0_0) (fun _ => rfl)) (.inl rfl))
    let v546 : DmaSems sig S1 := cc0_scratch9.slice (Rect.unit (s := S3) ![1] S1.size inb_S3_S1_1)
    let v547 : DmaSems sig S_ := v546.squeeze S_ squeezes_S1_S_
    let v548 : Memref sig .tc .hbm S2048x128 .bf16 := (Memref.whole main_v0_0).slice (Rect.unit (s := S2048x6144) (k0_off7 i 8#32) S2048x128.size (k0_off7_inb i k0_h3 0)) (fun _ => rfl)
    Prog.lift (.enqueueDma (Memref.whole cc0_scratch7) (.here v548) (.dma v547.sem) (Memref.isWhole_whole _).wordExact ((Memref.isWhole_whole _).wordExact_slice rfl _ (k0_off7_wordsbf16 i k0_h3 0)) ⟨Or.inl rfl, trivial⟩)
    let v549 : DmaSems sig S1 := cc0_scratch9.slice (Rect.unit (s := S3) ![2] S1.size inb_S3_S1_2)
    let v550 : DmaSems sig S_ := v549.squeeze S_ squeezes_S1_S_
    let v551 : Memref sig .tc .hbm S2048x128 .bf16 := (Memref.whole main_v0_0).slice (Rect.unit (s := S2048x6144) (k0_off7 i 16#32) S2048x128.size (k0_off7_inb i k0_h3 1)) (fun _ => rfl)
    Prog.lift (.enqueueDma (Memref.whole cc0_scratch8) (.here v551) (.dma v550.sem) (Memref.isWhole_whole _).wordExact ((Memref.isWhole_whole _).wordExact_slice rfl _ (k0_off7_wordsbf16 i k0_h3 1)) ⟨Or.inl rfl, trivial⟩)
    pure ⟨⟩
  else do
    pure ⟨⟩
  T

/-- The three last copies collected, at the last point of the grid. -/
def tailE (i : grid0.Coords) :
    Prog (TpuEff nD τ sig (Elt F) Λ₀ .tc) PUnit := do
  if k0_h5 : k0_cond5 i = 1#1 then do
    let v533 : DmaSems sig S1 := cc0_scratch9.slice (Rect.unit (s := S3) ![0] S1.size inb_S3_S1_0)
    let v534 : DmaSems sig S_ := v533.squeeze S_ squeezes_S1_S_
    let v535 : Memref sig .tc .hbm S1024x128 .bf16 := (Memref.whole main_v0_0).slice (Rect.unit (s := S2048x6144) (k0_off8 i) S1024x128.size (k0_off8_inb i k0_h5)) (fun _ => rfl)
    Prog.lift (.waitDma2 v534.sem (Memref.whole cc0_scratch6) v535 (Memref.isWhole_whole _).wordExact ((Memref.isWhole_whole _).wordExact_slice rfl _ (k0_off8_wordsbf16 i k0_h5)))
    let v536 : DmaSems sig S1 := cc0_scratch9.slice (Rect.unit (s := S3) ![1] S1.size inb_S3_S1_1)
    let v537 : DmaSems sig S_ := v536.squeeze S_ squeezes_S1_S_
    let v538 : Memref sig .tc .hbm S2048x128 .bf16 := (Memref.whole main_v0_0).slice (Rect.unit (s := S2048x6144) (k0_off9 i 8#32) S2048x128.size (k0_off9_inb i k0_h5 0)) (fun _ => rfl)
    Prog.lift (.waitDma2 v537.sem (Memref.whole cc0_scratch7) v538 (Memref.isWhole_whole _).wordExact ((Memref.isWhole_whole _).wordExact_slice rfl _ (k0_off9_wordsbf16 i k0_h5 0)))
    let v539 : DmaSems sig S1 := cc0_scratch9.slice (Rect.unit (s := S3) ![2] S1.size inb_S3_S1_2)
    let v540 : DmaSems sig S_ := v539.squeeze S_ squeezes_S1_S_
    let v541 : Memref sig .tc .hbm S2048x128 .bf16 := (Memref.whole main_v0_0).slice (Rect.unit (s := S2048x6144) (k0_off9 i 16#32) S2048x128.size (k0_off9_inb i k0_h5 1)) (fun _ => rfl)
    Prog.lift (.waitDma2 v540.sem (Memref.whole cc0_scratch8) v541 (Memref.isWhole_whole _).wordExact ((Memref.isWhole_whole _).wordExact_slice rfl _ (k0_off9_wordsbf16 i k0_h5 1)))
    pure ⟨⟩
  else do
    pure ⟨⟩
  pure ⟨⟩

theorem tail_eq (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg10 : Memref sig .tc .vmem S8x128 .f32) (harg10 : arg10.IsWhole) h9 h11 h12 h13 h14 h15 h16 h17 h18 h19 :
    tail (F := F) i arg2 harg2 arg3 harg3 arg4 harg4 arg5 harg5 arg6 harg6 arg7 harg7 arg8 harg8 (Memref.whole main_v0_0) h9 arg10 harg10
      (Memref.whole cc0_scratch0) h11 (Memref.whole cc0_scratch1) h12 (Memref.whole cc0_scratch2) h13 (Memref.whole cc0_scratch3) h14
      (Memref.whole cc0_scratch4) h15 (Memref.whole cc0_scratch5) h16 (Memref.whole cc0_scratch6) h17 (Memref.whole cc0_scratch7) h18
      (Memref.whole cc0_scratch8) h19 cc0_scratch9 = tailQ i (tailKV i (tailE i)) := rfl

/-! ## The windows -/

/-- The window of the result a point's queries' gradient is copied into. -/
abbrev qM (i : grid0.Coords) : Memref sig .tc .hbm S1024x128 .bf16 :=
  (Memref.whole main_v0_0).slice (Rect.unit (s := S2048x6144) (k0_off5 i) S1024x128.size (k0_off5_inb i)) (fun _ => rfl)
/-- The window a head's keys' gradient is copied into. -/
abbrev kM (i : grid0.Coords) (h : k0_cond3 i = 1#1) : Memref sig .tc .hbm S2048x128 .bf16 :=
  (Memref.whole main_v0_0).slice (Rect.unit (s := S2048x6144) (k0_off7 i 8#32) S2048x128.size (k0_off7_inb i h 0)) (fun _ => rfl)
/-- The window a head's values' gradient is copied into. -/
abbrev vM (i : grid0.Coords) (h : k0_cond3 i = 1#1) : Memref sig .tc .hbm S2048x128 .bf16 :=
  (Memref.whole main_v0_0).slice (Rect.unit (s := S2048x6144) (k0_off7 i 16#32) S2048x128.size (k0_off7_inb i h 1)) (fun _ => rfl)

theorem mem_slice_iff (b : Ref sig .tc) (r : Rect b.ty.shape) (j : b.ty.shape.Idx) {p : Prop} (h : j ∈ r.set ↔ p) :
    j ∈ ((View.whole b).slice r).set ↔ p := by
  rw [View.set_slice_whole]; exact h

theorem mem_qM (i : grid0.Coords) (j : S2048x6144.Idx) :
    j ∈ (qM i).view.set ↔ (1024 * (i 1).val ≤ (j 0).val ∧ (j 0).val < 1024 * (i 1).val + 1024)
      ∧ (128 * (i 0).val ≤ (j 1).val ∧ (j 1).val < 128 * (i 0).val + 128) := by
  refine mem_slice_iff _ _ _ (Rect.mem_set_unit.trans ?_)
  rw [k0_off5_eq]; exact Fin.forall_fin_two

theorem mem_kM (i : grid0.Coords) (h) (j : S2048x6144.Idx) :
    j ∈ (kM i h).view.set ↔ 128 * (i 0).val + 1024 ≤ (j 1).val ∧ (j 1).val < 128 * (i 0).val + 1152 := by
  refine mem_slice_iff _ _ _ (Rect.mem_set_unit.trans ?_)
  rw [show k0_off7 i 8#32 = _ from k0_off7_eq i 0]
  refine Fin.forall_fin_two.trans ⟨fun h => ⟨?_, ?_⟩, fun h => ⟨⟨?_, ?_⟩, ?_, ?_⟩⟩
  · have := h.2.1; simp at this; omega
  · have := h.2.2; simp [S2048x128] at this; omega
  · simp
  · have := (j 0).isLt; simp [S2048x6144] at this; simpa [S2048x128] using this
  · simp; omega
  · simp [S2048x128]; omega

theorem mem_vM (i : grid0.Coords) (h) (j : S2048x6144.Idx) :
    j ∈ (vM i h).view.set ↔ 128 * (i 0).val + 2048 ≤ (j 1).val ∧ (j 1).val < 128 * (i 0).val + 2176 := by
  refine mem_slice_iff _ _ _ (Rect.mem_set_unit.trans ?_)
  rw [show k0_off7 i 16#32 = _ from k0_off7_eq i 1]
  refine Fin.forall_fin_two.trans ⟨fun h => ⟨?_, ?_⟩, fun h => ⟨⟨?_, ?_⟩, ?_, ?_⟩⟩
  · have := h.2.1; simp at this; omega
  · have := h.2.2; simp [S2048x128] at this; omega
  · simp
  · have := (j 0).isLt; simp [S2048x6144] at this; simpa [S2048x128] using this
  · simp; omega
  · simp [S2048x128]; omega

/-- The columns of the queries', the keys' and the values' gradients. -/
def colsQ : Finset S2048x6144.Idx := Finset.univ.filter fun j => (j 1).val < 1024
def colsK : Finset S2048x6144.Idx := Finset.univ.filter fun j => 1024 ≤ (j 1).val ∧ (j 1).val < 2048
def colsV : Finset S2048x6144.Idx := Finset.univ.filter fun j => 2048 ≤ (j 1).val ∧ (j 1).val < 3072

/-- The point (of the queries), the head (of the keys, of the values) an element of the result is written at. -/
def ptQ (j : S2048x6144.Idx) : ℕ := 2 * ((j 1).val / 128) + (j 0).val / 1024
def ptK (j : S2048x6144.Idx) : ℕ := ((j 1).val - 1024) / 128
def ptV (j : S2048x6144.Idx) : ℕ := ((j 1).val - 2048) / 128

theorem mem_qM_iff (i : grid0.Coords) (j : S2048x6144.Idx) :
    j ∈ (qM i).view.set ↔ j ∈ colsQ ∧ ptQ j = 2 * (i 0).val + (i 1).val := by
  rw [mem_qM]; unfold colsQ ptQ
  have h0 := (j 0).isLt; have h1 : (i 1).val < 2 := (i 1).isLt; have h2 : (i 0).val < 8 := (i 0).isLt
  simp [S2048x6144] at h0
  simp only [Finset.mem_filter, Finset.mem_univ, true_and]
  omega

theorem mem_kM_iff (i : grid0.Coords) (h) (j : S2048x6144.Idx) :
    j ∈ (kM i h).view.set ↔ j ∈ colsK ∧ ptK j = (i 0).val := by
  rw [mem_kM]; unfold colsK ptK
  have h2 : (i 0).val < 8 := (i 0).isLt
  simp only [Finset.mem_filter, Finset.mem_univ, true_and]
  omega

theorem mem_vM_iff (i : grid0.Coords) (h) (j : S2048x6144.Idx) :
    j ∈ (vM i h).view.set ↔ j ∈ colsV ∧ ptV j = (i 0).val := by
  rw [mem_vM]; unfold colsV ptV
  have h2 : (i 0).val < 8 := (i 0).isLt
  simp only [Finset.mem_filter, Finset.mem_univ, true_and]
  omega

/-! ## A channel: a buffer in vector memory, its counter and the columns it is copied into -/

/-- The channel at rest: what was copied into its columns before the time `n` satisfies `C`. -/
def Free (c : Dev nD) (m : Fin 19) (b : Ref sig .tc) (S : Finset S2048x6144.Idx) (pt : S2048x6144.Idx → ℕ)
    (C : S2048x6144.Idx → F .bf16 → Prop) (n : ℕ) : sProp 𝕄 :=
  iprop(∃ (s : BufTy.Contents (Elt F) (Memref.whole b).view.ty) (f : BufTy.Contents (Elt F) (Memref.whole main_v0_0).view.ty),
    ⌜∀ j : S2048x6144.Idx, j ∈ S → pt j < n → C j (f j)⌝
    ∗ semVal ((c : Thread nD τ), SemLoc.dma m) 0
    ∗ ((Memref.whole b).view.loc c ↦[(Memref.whole b).view.set]{fullShare} s)
    ∗ ((Memref.whole main_v0_0).view.loc c ↦[S]{fullShare} f))

/-- The channel with the copy of time `n` under way into the window `w`. -/
def Fly (c : Dev nD) (m : Fin 19) (b : Ref sig .tc) (S : Finset S2048x6144.Idx) (pt : S2048x6144.Idx → ℕ)
    (C : S2048x6144.Idx → F .bf16 → Prop) (n : ℕ) (w : Finset S2048x6144.Idx) (N : ℕ) : sProp 𝕄 :=
  iprop(∃ (s : BufTy.Contents (Elt F) (Memref.whole b).view.ty) (g r : BufTy.Contents (Elt F) (Memref.whole main_v0_0).view.ty),
    ⌜(∀ j : S2048x6144.Idx, j ∈ w → C j (g j)) ∧ ∀ j : S2048x6144.Idx, j ∈ S \ w → pt j < n → C j (r j)⌝
    ∗ Transfers.Flight countersEmb (c : Thread nD τ) (SemLoc.dma m) () N
        iprop(((Memref.whole main_v0_0).view.loc c ↦[w]{fullShare} g) ∗ ((Memref.whole b).view.loc c ↦[(Memref.whole b).view.set]{fullShare} s))
    ∗ ((Memref.whole main_v0_0).view.loc c ↦[S \ w]{fullShare} r))

variable {S w w' : Finset S2048x6144.Idx} {pt : S2048x6144.Idx → ℕ} {C : S2048x6144.Idx → F .bf16 → Prop}

/-- A copy collected, its window joined to the rest of its columns. -/
theorem join_window (c : Dev nD) {n n' : ℕ} (hw : ∀ j, j ∈ w ↔ j ∈ S ∧ pt j = n) (hn : n' ≤ n + 1)
    (g r : BufTy.Contents (Elt F) (Memref.whole main_v0_0).view.ty)
    (h1 : ∀ j : S2048x6144.Idx, j ∈ w → C j (g j)) (h2 : ∀ j : S2048x6144.Idx, j ∈ S \ w → pt j < n → C j (r j)) :
    iprop(((Memref.whole main_v0_0).view.loc c ↦[w]{fullShare} g) ∗ ((Memref.whole main_v0_0).view.loc c ↦[S \ w]{fullShare} r))
    ⊢ (iprop(∃ f : BufTy.Contents (Elt F) (Memref.whole main_v0_0).view.ty, ⌜∀ j : S2048x6144.Idx, j ∈ S → pt j < n' → C j (f j)⌝
        ∗ ((Memref.whole main_v0_0).view.loc c ↦[S]{fullShare} f)) : sProp 𝕄) := by
  have hs : w ⊆ S := fun j h => ((hw j).1 h).1
  refine (pointsTo_join_subset hs).trans ?_
  iintro H
  iexists _
  isplitr
  swap; · iexact H
  ipureintro
  intro j hj hp
  by_cases h : j ∈ w
  · rw [Finset.piecewise_eq_of_mem _ _ _ h]; exact h1 j h
  · rw [Finset.piecewise_eq_of_notMem _ _ _ h]
    refine h2 j (Finset.mem_sdiff.2 ⟨hj, h⟩) ?_
    have : pt j ≠ n := fun e => h ((hw j).2 ⟨hj, e⟩)
    omega

/-! ## The queries' copy -/

/-- What the queries' buffer is filled with, from the accumulator's contents. -/
abbrev rowsQ (X : BufTy.Contents (Elt F) (Memref.whole cc0_scratch2).view.ty) : Vec F S1024x128 .bf16 :=
  k0_pay1 ((Memref.whole cc0_scratch2).view.readAt (Elt F) (Rect.unit (s := S1024x128) ![0, 0] S1024x128.size inb_S1024x128_S1024x128_0_0).toLoadRect X)
abbrev rowsK (X : BufTy.Contents (Elt F) (Memref.whole cc0_scratch0).view.ty) : Vec F S2048x128 .bf16 :=
  k0_pay2 ((Memref.whole cc0_scratch0).view.readAt (Elt F) (Rect.unit (s := S2048x128) ![0, 0] S2048x128.size inb_S2048x128_S2048x128_0_0).toLoadRect X)
abbrev rowsV (X : BufTy.Contents (Elt F) (Memref.whole cc0_scratch1).view.ty) : Vec F S2048x128 .bf16 :=
  k0_pay3 ((Memref.whole cc0_scratch1).view.readAt (Elt F) (Rect.unit (s := S2048x128) ![0, 0] S2048x128.size inb_S2048x128_S2048x128_0_0).toLoadRect X)

/-- What reads back of a whole window written with `p`. -/
theorem read_landed {κ : Kind} {sp : Space} {s : Shape} {e : EltTy} (v : View sig κ sp s e) (f : v.ty.Contents (Elt F))
    (p : s.Idx → Elt F e) (x : s.Idx) (G : v.ty.Contents (Elt F)) (h : v.writes (Elt F) f [⟨Rect.whole s, p⟩] = G) :
    v.read (Elt F) G x = p x := by
  subst h; exact congrFun (View.read_writes_whole v f p) x

theorem landedQ (i : grid0.Coords) (f : BufTy.Contents (Elt F) (Memref.whole main_v0_0).view.ty) (p : Vec F S1024x128 .bf16)
    (hC : ∀ x : S1024x128.Idx, C ((qM i).view.emb x) (p x)) (j : S2048x6144.Idx) (hj : j ∈ (qM i).view.set) :
    C j ((qM i).view.writes (Elt F) f [⟨Rect.whole S1024x128, p⟩] j) := by
  obtain ⟨x, -, rfl⟩ := Finset.mem_map.1 hj
  generalize hG : (qM i).view.writes (Elt F) f [⟨Rect.whole S1024x128, p⟩] = G
  have h1 := read_landed (qM i).view f p x G hG
  have h2 : (qM i).view.read (Elt F) G x = G ((qM i).view.emb x) := rfl
  rw [← h2, h1]
  exact hC x

theorem landedK (i : grid0.Coords) (h) (f : BufTy.Contents (Elt F) (Memref.whole main_v0_0).view.ty) (p : Vec F S2048x128 .bf16)
    (hC : ∀ x : S2048x128.Idx, C ((kM i h).view.emb x) (p x)) (j : S2048x6144.Idx) (hj : j ∈ (kM i h).view.set) :
    C j ((kM i h).view.writes (Elt F) f [⟨Rect.whole S2048x128, p⟩] j) := by
  obtain ⟨x, -, rfl⟩ := Finset.mem_map.1 hj
  generalize hG : (kM i h).view.writes (Elt F) f [⟨Rect.whole S2048x128, p⟩] = G
  have h1 := read_landed (kM i h).view f p x G hG
  have h2 : (kM i h).view.read (Elt F) G x = G ((kM i h).view.emb x) := rfl
  rw [← h2, h1]
  exact hC x

theorem landedV (i : grid0.Coords) (h) (f : BufTy.Contents (Elt F) (Memref.whole main_v0_0).view.ty) (p : Vec F S2048x128 .bf16)
    (hC : ∀ x : S2048x128.Idx, C ((vM i h).view.emb x) (p x)) (j : S2048x6144.Idx) (hj : j ∈ (vM i h).view.set) :
    C j ((vM i h).view.writes (Elt F) f [⟨Rect.whole S2048x128, p⟩] j) := by
  obtain ⟨x, -, rfl⟩ := Finset.mem_map.1 hj
  generalize hG : (vM i h).view.writes (Elt F) f [⟨Rect.whole S2048x128, p⟩] = G
  have h1 := read_landed (vM i h).view f p x G hG
  have h2 : (vM i h).view.read (Elt F) G x = G ((vM i h).view.emb x) := rfl
  rw [← h2, h1]
  exact hC x

theorem at_qM (c : Dev nD) (i : grid0.Coords) (f : BufTy.Contents (Elt F) (Memref.whole main_v0_0).view.ty) :
    ((Memref.whole main_v0_0).view.loc c ↦[(qM i).view.set]{fullShare} f : sProp 𝕄) ⊢ ((qM i).view.loc c ↦[(qM i).view.set]{fullShare} f) := .rfl

theorem at_kM (c : Dev nD) (i : grid0.Coords) (h) (f : BufTy.Contents (Elt F) (Memref.whole main_v0_0).view.ty) :
    ((Memref.whole main_v0_0).view.loc c ↦[(kM i h).view.set]{fullShare} f : sProp 𝕄) ⊢ ((kM i h).view.loc c ↦[(kM i h).view.set]{fullShare} f) := .rfl
theorem at_vM (c : Dev nD) (i : grid0.Coords) (h) (f : BufTy.Contents (Elt F) (Memref.whole main_v0_0).view.ty) :
    ((Memref.whole main_v0_0).view.loc c ↦[(vM i h).view.set]{fullShare} f : sProp 𝕄) ⊢ ((vM i h).view.loc c ↦[(vM i h).view.set]{fullShare} f) := .rfl

/-- The first copy: nothing is under way. -/
theorem qstep0 (c : Dev nD) (i : grid0.Coords) (h2 : ¬ k0_cond2 i = 1#1) (T : Prog (TpuEff nD τ sig (Elt F) Λ₀ .tc) PUnit) (K : PUnit → sProp 𝕄)
    (X : BufTy.Contents (Elt F) (Memref.whole cc0_scratch2).view.ty) (W : Waits sig Unit)
    (hC : ∀ x : S1024x128.Idx, C ((qM i).view.emb x) (rowsQ X x)) :
    iprop(((Memref.whole cc0_scratch2).view.loc c ↦[(Memref.whole cc0_scratch2).view.set]{fullShare} X)
      ∗ Free c 16 cc0_scratch6 colsQ ptQ C (2 * (i 0).val + (i 1).val) ∗ owes (c : Thread nD τ) 0 W
      ∗ (iprop(((Memref.whole cc0_scratch2).view.loc c ↦[(Memref.whole cc0_scratch2).view.set]{fullShare} X)
          ∗ Fly c 16 cc0_scratch6 colsQ ptQ C (2 * (i 0).val + (i 1).val) (qM i).view.set 8192 ∗ (∃ W, owes (c : Thread nD τ) 0 W))
        -∗ wp frame (wpE defs₀ Variants.none c none) Set.univ T K))
    ⊢ wp frame (wpE defs₀ Variants.none c none) Set.univ (tailQ i T) K := by
  unfold Free
  iintro ⟨H13, ⟨%s, %f, %hf, Hs, H17, HA⟩, HO, HK⟩
  ihave ⟨H9, HR⟩ := (pointsTo_split_subset (fun j h => ((mem_qM_iff i j).1 h).1)).1 $$ HA
  ihave H9 := (at_qM c i f) $$ H9
  unfold tailQ
  sl_exec
  iapply HK
  isplitl [H13]; · iexact H13
  isplitr [HO]
  swap; · iexists _; iexact HO
  unfold Fly
  iexists _, _, _
  isplitr
  swap
  · isplitl [Hs]; · iexact Hs
    iexact HR
  ipureintro
  refine ⟨landedQ i f _ fun x => ?_, fun j hj => hf j (Finset.mem_sdiff.1 hj).1⟩
  exact Eq.mp (congrArg (C _) (congrFun (View.read_writes_full (Memref.whole cc0_scratch6).view s inb_S1024x128_S1024x128_0_0 (rowsQ X) []) x).symm) (hC x)

/-- A later copy: the one under way is collected first. -/
theorem qstep1 (c : Dev nD) (i i' : grid0.Coords) (h2 : k0_cond2 i = 1#1) (hi : 2 * (i 0).val + (i 1).val = 2 * (i' 0).val + (i' 1).val + 1)
    (T : Prog (TpuEff nD τ sig (Elt F) Λ₀ .tc) PUnit) (K : PUnit → sProp 𝕄)
    (X : BufTy.Contents (Elt F) (Memref.whole cc0_scratch2).view.ty) (W : Waits sig Unit)
    (hC : ∀ x : S1024x128.Idx, C ((qM i).view.emb x) (rowsQ X x)) :
    iprop(((Memref.whole cc0_scratch2).view.loc c ↦[(Memref.whole cc0_scratch2).view.set]{fullShare} X)
      ∗ Fly c 16 cc0_scratch6 colsQ ptQ C (2 * (i' 0).val + (i' 1).val) (qM i').view.set 8192 ∗ owes (c : Thread nD τ) 0 W
      ∗ (iprop(((Memref.whole cc0_scratch2).view.loc c ↦[(Memref.whole cc0_scratch2).view.set]{fullShare} X)
          ∗ Fly c 16 cc0_scratch6 colsQ ptQ C (2 * (i 0).val + (i 1).val) (qM i).view.set 8192 ∗ (∃ W, owes (c : Thread nD τ) 0 W))
        -∗ wp frame (wpE defs₀ Variants.none c none) Set.univ T K))
    ⊢ wp frame (wpE defs₀ Variants.none c none) Set.univ (tailQ i T) K := by
  have hsub : (qM i).view.set ⊆ colsQ \ (qM i').view.set := fun j h => by
    have h1 := (mem_qM_iff i j).1 h
    refine Finset.mem_sdiff.2 ⟨h1.1, fun h' => ?_⟩
    have h3 := (mem_qM_iff i' j).1 h'
    omega
  have hsub' : (qM i').view.set ⊆ colsQ \ (qM i).view.set := fun j h => by
    have h1 := (mem_qM_iff i' j).1 h
    refine Finset.mem_sdiff.2 ⟨h1.1, fun h' => ?_⟩
    have h3 := (mem_qM_iff i j).1 h'
    omega
  unfold Fly
  iintro ⟨H13, ⟨%s, %g, %r, %hf, Hs, HA⟩, HO, HK⟩
  ihave ⟨H9, HR⟩ := (pointsTo_split_subset hsub).1 $$ HA
  ihave H9 := (at_qM c i r) $$ H9
  unfold tailQ
  sl_exec
  rw [show (colsQ \ (qM i').view.set) \ (qM i).view.set = (colsQ \ (qM i).view.set) \ (qM i').view.set from sdiff_right_comm _ _ _]
  ihave ⟨%f, %hf', HJ⟩ := (join_window (S := colsQ \ (qM i).view.set) (w := (qM i').view.set) (pt := ptQ) (C := C) (n := 2 * (i' 0).val + (i' 1).val)
    (n' := 2 * (i 0).val + (i 1).val) c (fun j => by
      rw [Finset.mem_sdiff, mem_qM_iff, mem_qM_iff]
      exact ⟨fun h => ⟨⟨h.1, fun h' => by omega⟩, h.2⟩, fun h => ⟨h.1.1, h.2⟩⟩) (by omega) g r hf.1
      (fun j hj hp => hf.2 j (by simp only [Finset.mem_sdiff] at hj ⊢; tauto) hp)) $$ [HR Hs_dst]
  · isplitl [Hs_dst]; · iexact Hs_dst
    iexact HR
  iapply HK
  isplitl [H13]; · iexact H13
  isplitr [HO]
  swap; · iexists _; iexact HO
  iexists _, _, _
  isplitr
  swap
  · isplitl [Hs]; · iexact Hs
    iexact HJ
  ipureintro
  refine ⟨landedQ i r _ fun x => ?_, fun j hj => hf' j hj⟩
  exact Eq.mp (congrArg (C _) (congrFun (View.read_writes_full (Memref.whole cc0_scratch6).view s inb_S1024x128_S1024x128_0_0 (rowsQ X) []) x).symm) (hC x)

/-! ## The keys' and the values' copies -/

/-- The first head's copies: nothing is under way. -/
theorem kvstep0 (c : Dev nD) (i : grid0.Coords) (h3 : k0_cond3 i = 1#1) (h4 : ¬ k0_cond4 i = 1#1)
    (T : Prog (TpuEff nD τ sig (Elt F) Λ₀ .tc) PUnit) (K : PUnit → sProp 𝕄)
    (X : BufTy.Contents (Elt F) (Memref.whole cc0_scratch0).view.ty) (Y : BufTy.Contents (Elt F) (Memref.whole cc0_scratch1).view.ty) (W : Waits sig Unit)
    (hX : ∀ x : S2048x128.Idx, C ((kM i h3).view.emb x) (rowsK X x)) (hY : ∀ x : S2048x128.Idx, C ((vM i h3).view.emb x) (rowsV Y x)) :
    iprop(((Memref.whole cc0_scratch0).view.loc c ↦[(Memref.whole cc0_scratch0).view.set]{fullShare} X) ∗ ((Memref.whole cc0_scratch1).view.loc c ↦[(Memref.whole cc0_scratch1).view.set]{fullShare} Y)
      ∗ Free c 17 cc0_scratch7 colsK ptK C (i 0).val ∗ Free c 18 cc0_scratch8 colsV ptV C (i 0).val ∗ owes (c : Thread nD τ) 0 W
      ∗ (iprop(((Memref.whole cc0_scratch0).view.loc c ↦[(Memref.whole cc0_scratch0).view.set]{fullShare} X) ∗ ((Memref.whole cc0_scratch1).view.loc c ↦[(Memref.whole cc0_scratch1).view.set]{fullShare} Y)
          ∗ Fly c 17 cc0_scratch7 colsK ptK C (i 0).val (kM i h3).view.set 16384 ∗ Fly c 18 cc0_scratch8 colsV ptV C (i 0).val (vM i h3).view.set 16384 ∗ (∃ W, owes (c : Thread nD τ) 0 W))
        -∗ wp frame (wpE defs₀ Variants.none c none) Set.univ T K))
    ⊢ wp frame (wpE defs₀ Variants.none c none) Set.univ (tailKV i T) K := by
  unfold Free Fly
  iintro ⟨HX, HY, ⟨%s1, %f1, %hf1, Hs1, Hb1, HA1⟩, ⟨%s2, %f2, %hf2, Hs2, Hb2, HA2⟩, HO, HK⟩
  ihave ⟨H91, HR1⟩ := (pointsTo_split_subset (fun j h => ((mem_kM_iff i h3 j).1 h).1)).1 $$ HA1
  ihave ⟨H92, HR2⟩ := (pointsTo_split_subset (fun j h => ((mem_vM_iff i h3 j).1 h).1)).1 $$ HA2
  ihave H91 := (at_kM c i h3 f1) $$ H91
  ihave H92 := (at_vM c i h3 f2) $$ H92
  unfold tailKV
  sl_exec
  iapply HK
  isplitl [HX]; · iexact HX
  isplitl [HY]; · iexact HY
  isplitl [Hs1 HR1]
  · iexists _, _, _
    isplitr
    swap
    · isplitl [Hs1]; · iexact Hs1
      iexact HR1
    ipureintro
    refine ⟨landedK i h3 _ _ fun x => ?_, fun j hj => hf1 j (Finset.mem_sdiff.1 hj).1⟩
    exact Eq.mp (congrArg (C _) (congrFun (View.read_writes_full (Memref.whole cc0_scratch7).view s1 inb_S2048x128_S2048x128_0_0 (rowsK X) []) x).symm) (hX x)
  isplitr [HO]
  swap; · iexists _; iexact HO
  iexists _, _, _
  isplitr
  swap
  · isplitl [Hs2]; · iexact Hs2
    iexact HR2
  ipureintro
  refine ⟨landedV i h3 _ _ fun x => ?_, fun j hj => hf2 j (Finset.mem_sdiff.1 hj).1⟩
  exact Eq.mp (congrArg (C _) (congrFun (View.read_writes_full (Memref.whole cc0_scratch8).view s2 inb_S2048x128_S2048x128_0_0 (rowsV Y) []) x).symm) (hY x)

/-- A later head's copies: the ones under way are collected first. -/
theorem kvstep1 (c : Dev nD) (i i' : grid0.Coords) (h3 : k0_cond3 i = 1#1) (h3' : k0_cond3 i' = 1#1) (h4 : k0_cond4 i = 1#1)
    (hi : (i 0).val = (i' 0).val + 1)
    (T : Prog (TpuEff nD τ sig (Elt F) Λ₀ .tc) PUnit) (K : PUnit → sProp 𝕄)
    (X : BufTy.Contents (Elt F) (Memref.whole cc0_scratch0).view.ty) (Y : BufTy.Contents (Elt F) (Memref.whole cc0_scratch1).view.ty) (W : Waits sig Unit)
    (hX : ∀ x : S2048x128.Idx, C ((kM i h3).view.emb x) (rowsK X x)) (hY : ∀ x : S2048x128.Idx, C ((vM i h3).view.emb x) (rowsV Y x)) :
    iprop(((Memref.whole cc0_scratch0).view.loc c ↦[(Memref.whole cc0_scratch0).view.set]{fullShare} X) ∗ ((Memref.whole cc0_scratch1).view.loc c ↦[(Memref.whole cc0_scratch1).view.set]{fullShare} Y)
      ∗ Fly c 17 cc0_scratch7 colsK ptK C (i' 0).val (kM i' h3').view.set 16384 ∗ Fly c 18 cc0_scratch8 colsV ptV C (i' 0).val (vM i' h3').view.set 16384 ∗ owes (c : Thread nD τ) 0 W
      ∗ (iprop(((Memref.whole cc0_scratch0).view.loc c ↦[(Memref.whole cc0_scratch0).view.set]{fullShare} X) ∗ ((Memref.whole cc0_scratch1).view.loc c ↦[(Memref.whole cc0_scratch1).view.set]{fullShare} Y)
          ∗ Fly c 17 cc0_scratch7 colsK ptK C (i 0).val (kM i h3).view.set 16384 ∗ Fly c 18 cc0_scratch8 colsV ptV C (i 0).val (vM i h3).view.set 16384 ∗ (∃ W, owes (c : Thread nD τ) 0 W))
        -∗ wp frame (wpE defs₀ Variants.none c none) Set.univ T K))
    ⊢ wp frame (wpE defs₀ Variants.none c none) Set.univ (tailKV i T) K := by
  have hsub1 : (kM i h3).view.set ⊆ colsK \ (kM i' h3').view.set := fun j h => by
    have h1 := (mem_kM_iff i h3 j).1 h
    refine Finset.mem_sdiff.2 ⟨h1.1, fun h' => ?_⟩
    have h5 := (mem_kM_iff i' h3' j).1 h'
    omega
  have hsub2 : (vM i h3).view.set ⊆ colsV \ (vM i' h3').view.set := fun j h => by
    have h1 := (mem_vM_iff i h3 j).1 h
    refine Finset.mem_sdiff.2 ⟨h1.1, fun h' => ?_⟩
    have h5 := (mem_vM_iff i' h3' j).1 h'
    omega
  unfold Fly
  iintro ⟨HX, HY, ⟨%s1, %g1, %r1, %hf1, Hs1, HA1⟩, ⟨%s2, %g2, %r2, %hf2, Hs2, HA2⟩, HO, HK⟩
  ihave ⟨H91, HR1⟩ := (pointsTo_split_subset hsub1).1 $$ HA1
  ihave ⟨H92, HR2⟩ := (pointsTo_split_subset hsub2).1 $$ HA2
  ihave H91 := (at_kM c i h3 r1) $$ H91
  ihave H92 := (at_vM c i h3 r2) $$ H92
  unfold tailKV
  sl_exec
  rw [show (colsK \ (kM i' h3').view.set) \ (kM i h3).view.set = (colsK \ (kM i h3).view.set) \ (kM i' h3').view.set from sdiff_right_comm _ _ _]
  ihave ⟨%f1, %hf1', HJ1⟩ := (join_window (S := colsK \ (kM i h3).view.set) (w := (kM i' h3').view.set) (pt := ptK) (C := C) (n := (i' 0).val)
    (n' := (i 0).val) c (fun j => by
      rw [Finset.mem_sdiff, mem_kM_iff, mem_kM_iff]
      exact ⟨fun h => ⟨⟨h.1, fun h' => by omega⟩, h.2⟩, fun h => ⟨h.1.1, h.2⟩⟩) (by omega) g1 r1 hf1.1
      (fun j hj hp => hf1.2 j (by simp only [Finset.mem_sdiff] at hj ⊢; tauto) hp)) $$ [HR1 Hs1_dst]
  · isplitl [Hs1_dst]; · iexact Hs1_dst
    iexact HR1
  rw [show (colsV \ (vM i' h3').view.set) \ (vM i h3).view.set = (colsV \ (vM i h3).view.set) \ (vM i' h3').view.set from sdiff_right_comm _ _ _]
  ihave ⟨%f2, %hf2', HJ2⟩ := (join_window (S := colsV \ (vM i h3).view.set) (w := (vM i' h3').view.set) (pt := ptV) (C := C) (n := (i' 0).val)
    (n' := (i 0).val) c (fun j => by
      rw [Finset.mem_sdiff, mem_vM_iff, mem_vM_iff]
      exact ⟨fun h => ⟨⟨h.1, fun h' => by omega⟩, h.2⟩, fun h => ⟨h.1.1, h.2⟩⟩) (by omega) g2 r2 hf2.1
      (fun j hj hp => hf2.2 j (by simp only [Finset.mem_sdiff] at hj ⊢; tauto) hp)) $$ [HR2 Hs2_dst]
  · isplitl [Hs2_dst]; · iexact Hs2_dst
    iexact HR2
  iapply HK
  isplitl [HX]; · iexact HX
  isplitl [HY]; · iexact HY
  isplitl [Hs1 HJ1]
  · iexists _, _, _
    isplitr
    swap
    · isplitl [Hs1]; · iexact Hs1
      iexact HJ1
    ipureintro
    refine ⟨landedK i h3 _ _ fun x => ?_, fun j hj => hf1' j hj⟩
    exact Eq.mp (congrArg (C _) (congrFun (View.read_writes_full (Memref.whole cc0_scratch7).view s1 inb_S2048x128_S2048x128_0_0 (rowsK X) []) x).symm) (hX x)
  isplitr [HO]
  swap; · iexists _; iexact HO
  iexists _, _, _
  isplitr
  swap
  · isplitl [Hs2]; · iexact Hs2
    iexact HJ2
  ipureintro
  refine ⟨landedV i h3 _ _ fun x => ?_, fun j hj => hf2' j hj⟩
  exact Eq.mp (congrArg (C _) (congrFun (View.read_writes_full (Memref.whole cc0_scratch8).view s2 inb_S2048x128_S2048x128_0_0 (rowsV Y) []) x).symm) (hY x)

/-- At the other points there is nothing to copy. -/
theorem kvskip (i : grid0.Coords) (h3 : ¬ k0_cond3 i = 1#1) (T : Prog (TpuEff nD τ sig (Elt F) Λ₀ .tc) PUnit) : tailKV i T = T := by
  unfold tailKV; rw [dif_neg h3]; first | done | rfl

/-- Before the last point there is nothing to collect. -/
theorem eskip (i : grid0.Coords) (h5 : ¬ k0_cond5 i = 1#1) : tailE (F := F) i = .ret ⟨⟩ := by
  unfold tailE; rw [dif_neg h5]; first | done | rfl

/-- At the last point the three copies under way are collected. -/
theorem ecollect (c : Dev nD) (i : grid0.Coords) (h3 : k0_cond3 i = 1#1) (h5 : k0_cond5 i = 1#1) (K : PUnit → sProp 𝕄) (W : Waits sig Unit) :
    iprop(Fly c 16 cc0_scratch6 colsQ ptQ C (2 * (i 0).val + (i 1).val) (qM i).view.set 8192
      ∗ Fly c 17 cc0_scratch7 colsK ptK C (i 0).val (kM i h3).view.set 16384 ∗ Fly c 18 cc0_scratch8 colsV ptV C (i 0).val (vM i h3).view.set 16384 ∗ owes (c : Thread nD τ) 0 W
      ∗ (iprop(Free c 16 cc0_scratch6 colsQ ptQ C (2 * (i 0).val + (i 1).val + 1) ∗ Free c 17 cc0_scratch7 colsK ptK C ((i 0).val + 1)
          ∗ Free c 18 cc0_scratch8 colsV ptV C ((i 0).val + 1) ∗ (∃ W, owes (c : Thread nD τ) 0 W))
        -∗ K ⟨⟩))
    ⊢ wp frame (wpE defs₀ Variants.none c none) Set.univ (tailE i) K := by
  unfold Free Fly
  iintro ⟨⟨%s, %g, %r, %hf, Hs, HR⟩, ⟨%s1, %g1, %r1, %hf1, Hs1, HR1⟩, ⟨%s2, %g2, %r2, %hf2, Hs2, HR2⟩, HO, HK⟩
  unfold tailE
  sl_exec
  sl_step
  ihave ⟨%f, %hf', HJ⟩ := (join_window (n' := 2 * (i 0).val + (i 1).val + 1) c (mem_qM_iff i) le_rfl g r hf.1 hf.2) $$ [HR Hs_dst]
  · isplitl [Hs_dst]; · iexact Hs_dst
    iexact HR
  ihave ⟨%f1, %hf1', HJ1⟩ := (join_window (n' := (i 0).val + 1) c (mem_kM_iff i h3) le_rfl g1 r1 hf1.1 hf1.2) $$ [HR1 Hs1_dst]
  · isplitl [Hs1_dst]; · iexact Hs1_dst
    iexact HR1
  ihave ⟨%f2, %hf2', HJ2⟩ := (join_window (n' := (i 0).val + 1) c (mem_vM_iff i h3) le_rfl g2 r2 hf2.1 hf2.2) $$ [HR2 Hs2_dst]
  · isplitl [Hs2_dst]; · iexact Hs2_dst
    iexact HR2
  iapply HK
  isplitl [Hs Hs_src HJ]
  · iexists _, _
    isplitr
    swap
    · isplitl [Hs]; · iexact Hs
      isplitl [Hs_src]; · iexact Hs_src
      iexact HJ
    ipureintro; exact hf'
  isplitl [Hs1 Hs1_src HJ1]
  · iexists _, _
    isplitr
    swap
    · isplitl [Hs1]; · iexact Hs1
      isplitl [Hs1_src]; · iexact Hs1_src
      iexact HJ1
    ipureintro; exact hf1'
  isplitl [Hs2 Hs2_src HJ2]
  · iexists _, _
    isplitr
    swap
    · isplitl [Hs2]; · iexact Hs2
      isplitl [Hs2_src]; · iexact Hs2_src
      iexact HJ2
    ipureintro; exact hf2'
  iexists _; iexact HO

end Cert.KernelIdeal.Hand
-- ==== Proof.SbInv.lean ====
/-
  The copies under way between two grid points, and the copies out of one point as a step between them.
-/
module

public import proofs.«01_k».proof.Proof.SbTail
public import proofs.«01_k».proof.Proof.Gen.KernelIdeal.Points

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (C : S2048x6144.Idx → F .bf16 → Prop)

/-- Before point `n`: the copy of the queries' gradient of the point before is under way, if there is one. -/
def QP (c : Dev nD) (n : ℕ) : sProp 𝕄 :=
  if n = 0 then Free c 16 cc0_scratch6 colsQ ptQ C 0
  else if n = 16 then Free c 16 cc0_scratch6 colsQ ptQ C 16
  else iprop(∃ i' : grid0.Coords, ⌜2 * (i' 0).val + (i' 1).val + 1 = n⌝ ∗ Fly c 16 cc0_scratch6 colsQ ptQ C (2 * (i' 0).val + (i' 1).val) (qM i').view.set 8192)

/-- Before point `n`: the copies of the gradients of the last whole head's keys and values are under way, if there is one. -/
def KVP (c : Dev nD) (n : ℕ) : sProp 𝕄 :=
  if n < 2 then iprop(Free c 17 cc0_scratch7 colsK ptK C 0 ∗ Free c 18 cc0_scratch8 colsV ptV C 0)
  else if n = 16 then iprop(Free c 17 cc0_scratch7 colsK ptK C 8 ∗ Free c 18 cc0_scratch8 colsV ptV C 8)
  else iprop(∃ (i' : grid0.Coords) (h3 : k0_cond3 i' = 1#1), ⌜(i' 0).val + 1 = n / 2⌝ ∗ Fly c 17 cc0_scratch7 colsK ptK C (i' 0).val (kM i' h3).view.set 16384 ∗ Fly c 18 cc0_scratch8 colsV ptV C (i' 0).val (vM i' h3).view.set 16384)

theorem coords_val : ∀ t : Fin cfg0.N, (grid0.coords t 0).val = t.val / 2 ∧ (grid0.coords t 1).val = t.val % 2 := by decide +kernel
theorem cond2_iff : ∀ t : Fin cfg0.N, k0_cond2 (grid0.coords t) = 1#1 ↔ t.val ≠ 0 := by decide +kernel
theorem cond3_iff : ∀ t : Fin cfg0.N, k0_cond3 (grid0.coords t) = 1#1 ↔ t.val % 2 = 1 := by decide +kernel
theorem cond4_iff : ∀ t : Fin cfg0.N, k0_cond4 (grid0.coords t) = 1#1 ↔ 2 ≤ t.val := by decide +kernel
theorem cond5_iff : ∀ t : Fin cfg0.N, k0_cond5 (grid0.coords t) = 1#1 ↔ t.val = 15 := by decide +kernel
theorem lt_16 (t : Fin cfg0.N) : t.val < 16 := lt_of_lt_of_eq t.isLt (by decide)

variable {C}

theorem qrun (c : Dev nD) (t : Fin cfg0.N) (T : Prog (TpuEff nD τ sig (Elt F) Λ₀ .tc) PUnit) (K : PUnit → sProp 𝕄)
    (X : BufTy.Contents (Elt F) (Memref.whole cc0_scratch2).view.ty) (W : Waits sig Unit)
    (hC : ∀ x : S1024x128.Idx, C ((qM (grid0.coords t)).view.emb x) (rowsQ X x)) :
    iprop(((Memref.whole cc0_scratch2).view.loc c ↦[(Memref.whole cc0_scratch2).view.set]{fullShare} X) ∗ QP C c t.val ∗ owes (c : Thread nD τ) 0 W
      ∗ (iprop(((Memref.whole cc0_scratch2).view.loc c ↦[(Memref.whole cc0_scratch2).view.set]{fullShare} X)
          ∗ Fly c 16 cc0_scratch6 colsQ ptQ C (2 * ((grid0.coords t) 0).val + ((grid0.coords t) 1).val) (qM (grid0.coords t)).view.set 8192 ∗ (∃ W, owes (c : Thread nD τ) 0 W))
        -∗ wp frame (wpE defs₀ Variants.none c none) Set.univ T K))
    ⊢ wp frame (wpE defs₀ Variants.none c none) Set.univ (tailQ (grid0.coords t) T) K := by
  have hv := coords_val t
  have h16 := lt_16 t
  by_cases h : t.val = 0
  · have e : 2 * (grid0.coords t 0).val + (grid0.coords t 1).val = 0 := by omega
    refine BIBase.Entails.trans ?_ (qstep0 c (grid0.coords t) (fun h' => (cond2_iff t).1 h' h) T K X W hC)
    unfold QP; rw [if_pos h, e]
  · unfold QP; rw [if_neg h, if_neg (by omega)]
    iintro ⟨HX, ⟨%i', %hi, HF⟩, HO, HK⟩
    iapply (qstep1 c (grid0.coords t) i' ((cond2_iff t).2 h) (by omega) T K X W hC)
    isplitl [HX]; · iexact HX
    isplitl [HF]; · iexact HF
    isplitl [HO]; · iexact HO
    iexact HK

/-- Between the second and the third stage of a point. -/
def KVM (C : S2048x6144.Idx → F .bf16 → Prop) (c : Dev nD) (t : Fin cfg0.N) : sProp 𝕄 :=
  if h3 : k0_cond3 (grid0.coords t) = 1#1 then iprop(Fly c 17 cc0_scratch7 colsK ptK C ((grid0.coords t) 0).val (kM (grid0.coords t) h3).view.set 16384 ∗ Fly c 18 cc0_scratch8 colsV ptV C ((grid0.coords t) 0).val (vM (grid0.coords t) h3).view.set 16384)
  else KVP C c t.val

theorem kvrun (c : Dev nD) (t : Fin cfg0.N) (T : Prog (TpuEff nD τ sig (Elt F) Λ₀ .tc) PUnit) (K : PUnit → sProp 𝕄)
    (X : BufTy.Contents (Elt F) (Memref.whole cc0_scratch0).view.ty) (Y : BufTy.Contents (Elt F) (Memref.whole cc0_scratch1).view.ty) (W : Waits sig Unit)
    (hX : ∀ (h3 : k0_cond3 (grid0.coords t) = 1#1) (x : S2048x128.Idx), C ((kM (grid0.coords t) h3).view.emb x) (rowsK X x))
    (hY : ∀ (h3 : k0_cond3 (grid0.coords t) = 1#1) (x : S2048x128.Idx), C ((vM (grid0.coords t) h3).view.emb x) (rowsV Y x)) :
    iprop(((Memref.whole cc0_scratch0).view.loc c ↦[(Memref.whole cc0_scratch0).view.set]{fullShare} X) ∗ ((Memref.whole cc0_scratch1).view.loc c ↦[(Memref.whole cc0_scratch1).view.set]{fullShare} Y) ∗ KVP C c t.val ∗ owes (c : Thread nD τ) 0 W
      ∗ (iprop(((Memref.whole cc0_scratch0).view.loc c ↦[(Memref.whole cc0_scratch0).view.set]{fullShare} X) ∗ ((Memref.whole cc0_scratch1).view.loc c ↦[(Memref.whole cc0_scratch1).view.set]{fullShare} Y) ∗ KVM C c t ∗ (∃ W, owes (c : Thread nD τ) 0 W))
        -∗ wp frame (wpE defs₀ Variants.none c none) Set.univ T K))
    ⊢ wp frame (wpE defs₀ Variants.none c none) Set.univ (tailKV (grid0.coords t) T) K := by
  have hv := coords_val t
  have h16 := lt_16 t
  unfold KVM
  by_cases h3 : k0_cond3 (grid0.coords t) = 1#1
  · have h1 := (cond3_iff t).1 h3
    rw [dif_pos h3]
    by_cases h : t.val < 2
    · have e : (grid0.coords t 0).val = 0 := by omega
      unfold KVP; rw [if_pos h]
      iintro ⟨HX, HY, ⟨H1, H2⟩, HO, HK⟩
      iapply (kvstep0 c (grid0.coords t) h3 (fun h' => by have := (cond4_iff t).1 h'; omega) T K X Y W (hX h3) (hY h3))
      rw [e]
      isplitl [HX]; · iexact HX
      isplitl [HY]; · iexact HY
      isplitl [H1]; · iexact H1
      isplitl [H2]; · iexact H2
      isplitl [HO]; · iexact HO
      iintro ⟨HX, HY, H1, H2, HO⟩
      iapply HK
      isplitl [HX]; · iexact HX
      isplitl [HY]; · iexact HY
      isplitr [HO]; · isplitl [H1]; · iexact H1
                      iexact H2
      iexact HO
    · unfold KVP; rw [if_neg h, if_neg (by omega)]
      iintro ⟨HX, HY, ⟨%i', %h3', %hi, H1, H2⟩, HO, HK⟩
      iapply (kvstep1 c (grid0.coords t) i' h3 h3' ((cond4_iff t).2 (by omega)) (by omega) T K X Y W (hX h3) (hY h3))
      isplitl [HX]; · iexact HX
      isplitl [HY]; · iexact HY
      isplitl [H1]; · iexact H1
      isplitl [H2]; · iexact H2
      isplitl [HO]; · iexact HO
      iintro ⟨HX, HY, H1, H2, HO⟩
      iapply HK
      isplitl [HX]; · iexact HX
      isplitl [HY]; · iexact HY
      isplitr [HO]; · isplitl [H1]; · iexact H1
                      iexact H2
      iexact HO
  · rw [dif_neg h3, kvskip _ h3]
    iintro ⟨HX, HY, HP, HO, HK⟩
    iapply HK
    isplitl [HX]; · iexact HX
    isplitl [HY]; · iexact HY
    isplitl [HP]; · iexact HP
    iexists _; iexact HO

theorem erun (c : Dev nD) (t : Fin cfg0.N) (K : PUnit → sProp 𝕄) (W : Waits sig Unit) :
    iprop(Fly c 16 cc0_scratch6 colsQ ptQ C (2 * ((grid0.coords t) 0).val + ((grid0.coords t) 1).val) (qM (grid0.coords t)).view.set 8192 ∗ KVM C c t ∗ owes (c : Thread nD τ) 0 W
      ∗ (iprop(QP C c (t.val + 1) ∗ KVP C c (t.val + 1) ∗ (∃ W, owes (c : Thread nD τ) 0 W)) -∗ K ⟨⟩))
    ⊢ wp frame (wpE defs₀ Variants.none c none) Set.univ (tailE (grid0.coords t)) K := by
  have hv := coords_val t
  have h16 := lt_16 t
  unfold KVM QP
  rw [if_neg (by omega : ¬ t.val + 1 = 0)]
  by_cases h : t.val = 15
  · have h3 : k0_cond3 (grid0.coords t) = 1#1 := (cond3_iff t).2 (by omega)
    have e1 : 2 * (grid0.coords t 0).val + (grid0.coords t 1).val + 1 = 16 := by omega
    have e2 : (grid0.coords t 0).val + 1 = 8 := by omega
    rw [dif_pos h3, if_pos (by omega : t.val + 1 = 16)]
    unfold KVP; rw [if_neg (by omega), if_pos (by omega : t.val + 1 = 16)]
    iintro ⟨HQ, ⟨H1, H2⟩, HO, HK⟩
    iapply (ecollect c (grid0.coords t) h3 ((cond5_iff t).2 h) K W)
    rw [e1, e2]
    isplitl [HQ]; · iexact HQ
    isplitl [H1]; · iexact H1
    isplitl [H2]; · iexact H2
    isplitl [HO]; · iexact HO
    iintro ⟨HQ, H1, H2, HO⟩
    iapply HK
    isplitl [HQ]; · iexact HQ
    isplitr [HO]; · isplitl [H1]; · iexact H1
                    iexact H2
    iexact HO
  · rw [if_neg (by omega : ¬ t.val + 1 = 16), eskip _ (fun h' => h ((cond5_iff t).1 h'))]
    have hkv : (if h3 : k0_cond3 (grid0.coords t) = 1#1 then iprop(Fly c 17 cc0_scratch7 colsK ptK C ((grid0.coords t) 0).val (kM (grid0.coords t) h3).view.set 16384 ∗ Fly c 18 cc0_scratch8 colsV ptV C ((grid0.coords t) 0).val (vM (grid0.coords t) h3).view.set 16384)
        else KVP C c t.val) ⊢ KVP C c (t.val + 1) := by
      by_cases h3 : k0_cond3 (grid0.coords t) = 1#1
      · have h1 := (cond3_iff t).1 h3
        rw [dif_pos h3]
        unfold KVP; rw [if_neg (by omega), if_neg (by omega)]
        iintro HP
        iexists (grid0.coords t), h3
        isplitr
        · ipureintro; omega
        iexact HP
      · have h1 : ¬ t.val % 2 = 1 := fun h' => h3 ((cond3_iff t).2 h')
        rw [dif_neg h3]
        unfold KVP
        by_cases h2 : t.val < 2
        · rw [if_pos h2, if_pos (by omega)]
        · rw [if_neg h2, if_neg (by omega), if_neg (by omega), if_neg (by omega), show (t.val + 1) / 2 = t.val / 2 by omega]
    iintro ⟨HQ, HP, HO, HK⟩
    sl_step
    iapply HK
    isplitl [HQ]
    · iexists (grid0.coords t)
      isplitr
      · ipureintro; omega
      iexact HQ
    isplitr [HO]
    swap; · iexists _; iexact HO
    iapply hkv; iexact HP

/-- The copies out of one point. -/
theorem tail_run (c : Dev nD) (t : Fin cfg0.N) (K : PUnit → sProp 𝕄)
    (X : BufTy.Contents (Elt F) (Memref.whole cc0_scratch0).view.ty) (Y : BufTy.Contents (Elt F) (Memref.whole cc0_scratch1).view.ty)
    (Z : BufTy.Contents (Elt F) (Memref.whole cc0_scratch2).view.ty) (W : Waits sig Unit)
    (hX : ∀ (h3 : k0_cond3 (grid0.coords t) = 1#1) (x : S2048x128.Idx), C ((kM (grid0.coords t) h3).view.emb x) (rowsK X x))
    (hY : ∀ (h3 : k0_cond3 (grid0.coords t) = 1#1) (x : S2048x128.Idx), C ((vM (grid0.coords t) h3).view.emb x) (rowsV Y x))
    (hZ : ∀ x : S1024x128.Idx, C ((qM (grid0.coords t)).view.emb x) (rowsQ Z x)) :
    iprop(((Memref.whole cc0_scratch0).view.loc c ↦[(Memref.whole cc0_scratch0).view.set]{fullShare} X) ∗ ((Memref.whole cc0_scratch1).view.loc c ↦[(Memref.whole cc0_scratch1).view.set]{fullShare} Y) ∗ ((Memref.whole cc0_scratch2).view.loc c ↦[(Memref.whole cc0_scratch2).view.set]{fullShare} Z)
      ∗ QP C c t.val ∗ KVP C c t.val ∗ owes (c : Thread nD τ) 0 W
      ∗ (iprop(((Memref.whole cc0_scratch0).view.loc c ↦[(Memref.whole cc0_scratch0).view.set]{fullShare} X) ∗ ((Memref.whole cc0_scratch1).view.loc c ↦[(Memref.whole cc0_scratch1).view.set]{fullShare} Y) ∗ ((Memref.whole cc0_scratch2).view.loc c ↦[(Memref.whole cc0_scratch2).view.set]{fullShare} Z)
          ∗ QP C c (t.val + 1) ∗ KVP C c (t.val + 1) ∗ (∃ W, owes (c : Thread nD τ) 0 W)) -∗ K ⟨⟩))
    ⊢ wp frame (wpE defs₀ Variants.none c none) Set.univ (tailQ (grid0.coords t) (tailKV (grid0.coords t) (tailE (grid0.coords t)))) K := by
  iintro ⟨HX, HY, HZ, HQ, HP, HO, HK⟩
  iapply (qrun c t _ K Z W hZ)
  isplitl [HZ]; · iexact HZ
  isplitl [HQ]; · iexact HQ
  isplitl [HO]; · iexact HO
  iintro ⟨HZ, HQ, ⟨%W1, HO⟩⟩
  iapply (kvrun c t _ K X Y W1 hX hY)
  isplitl [HX]; · iexact HX
  isplitl [HY]; · iexact HY
  isplitl [HP]; · iexact HP
  isplitl [HO]; · iexact HO
  iintro ⟨HX, HY, HP, ⟨%W2, HO⟩⟩
  iapply (erun c t K W2)
  isplitl [HQ]; · iexact HQ
  isplitl [HP]; · iexact HP
  isplitl [HO]; · iexact HO
  iintro ⟨HQ, HP, HO⟩
  iapply HK
  isplitl [HX]; · iexact HX
  isplitl [HY]; · iexact HY
  isplitl [HZ]; · iexact HZ
  isplitl [HQ]; · iexact HQ
  isplitl [HP]; · iexact HP
  iexact HO

end Cert.KernelIdeal.Hand
-- ==== Proof.SbDg.lean ====
/-
  The kernel's frame, with what the gain's gradient holds at the end.
-/
module

public import proofs.«01_k».proof.Proof.SbInv
public import proofs.«01_k».proof.Proof.Gen.KernelIdeal.Frame
public import Idealize.ShloMosaic.Lib.Pipeline.FrameBody

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One tile's addition to the gain's gradient -/

/-- The gain's gradient after one more row tile: `prev` plus the tile's own sum, in each of its eight rows. -/
def dgv (prev : S8x128.Idx → F .f32) (o : S1024x128.Idx → F .f32) (dm : S1024x128.Idx → F .bf16) : S8x128.Idx → F .f32 :=
  k0_pay146 (k0_pay144 prev) (k0_pay145 o dm)

theorem runFirst_val (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (hc : cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (f : BufTy.Contents (Elt F) arg10.view.ty) :
    arg10.view.read (Elt F) (arg10.view.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 hc X_arg2 X_arg3 X_arg4 X_arg5 X_arg6 X_arg7 X_arg8 X_arg10).1)
      = dgv (k0_pay140 (F := F)) (arg6.view.read (Elt F) X_arg6) (arg8.view.read (Elt F) X_arg8) := by
  unfold runFirst
  refine (View.read_writes_full arg10.view f inb_S8x128_S8x128_0_0 _ _).trans ?_
  have e : runFirst.sl.v34 (F := F) arg10 = k0_pay140 (F := F) :=
    View.readCov_full (Val := Elt F) arg10.view inb_S8x128_S8x128_0_0 inb_S8x128_S8x128_0_0 (k0_pay140 (F := F)) []
  have e6 := View.readAt_full (Val := Elt F) arg6.view X_arg6 inb_S1024x128_S1024x128_0_0
  have e8 := View.readAt_full (Val := Elt F) arg8.view X_arg8 inb_S1024x128_S1024x128_0_0
  exact congrArg₂ k0_pay146 (congrArg k0_pay144 e) (congrArg₂ k0_pay145 e6 e8)

theorem runNext_val (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .hbm S2048x6144 .bf16) (harg9 : arg9.IsWhole) (arg10 : Memref sig .tc .vmem S8x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S2048x128 .bf16) (harg18 : arg18.IsWhole) (arg19 : Memref sig .tc .vmem S2048x128 .bf16) (harg19 : arg19.IsWhole) (arg20 : DmaSems sig S3) (hc : ¬ cond1 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (f : BufTy.Contents (Elt F) arg10.view.ty) :
    arg10.view.read (Elt F) (arg10.view.writes (Elt F) f (runNext c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 hc X_arg2 X_arg3 X_arg4 X_arg5 X_arg6 X_arg7 X_arg8 X_arg10).1)
      = dgv (arg10.view.read (Elt F) X_arg10) (arg6.view.read (Elt F) X_arg6) (arg8.view.read (Elt F) X_arg8) := by
  unfold runNext
  refine (View.read_writes_full arg10.view f inb_S8x128_S8x128_0_0 _ _).trans ?_
  have e := View.readAt_full (Val := Elt F) arg10.view X_arg10 inb_S8x128_S8x128_0_0
  have e6 := View.readAt_full (Val := Elt F) arg6.view X_arg6 inb_S1024x128_S1024x128_0_0
  have e8 := View.readAt_full (Val := Elt F) arg8.view X_arg8 inb_S1024x128_S1024x128_0_0
  exact congrArg₂ k0_pay146 (congrArg k0_pay144 e) (congrArg₂ k0_pay145 e6 e8)

end Cert.KernelIdeal.Hand

end
-- ==== Proof.SbRun.lean ====
/-
  The kernel's frame, with what the gain's gradient holds at the end.
-/
module

public import proofs.«01_k».proof.Proof.SbDg

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One point's run -/

theorem bodyAt0_split (t : Fin cfg0.N) : bodyAt0 (F := F) t
    = body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 (tailQ (grid0.coords t) (tailKV (grid0.coords t) (tailE (grid0.coords t)))) :=
  (body_eq (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9).trans (congrArg _ (tail_eq (grid0.coords t) _ _ _ _ _ _ _ _ _ _ _ _ _ _ _ _ _ _ _ _ _ _ _ _ _ _))

theorem cond1_iff : ∀ t : Fin cfg0.N, cond1 (grid0.coords t) = 1#1 ↔ t.val % 2 = 0 := by decide +kernel

/-- What the gain's gradient becomes at a point: the tile's sum added to zero at a head's first tile, to what was there at the later one. -/
def dgStep (t : Fin cfg0.N) (prev : S8x128.Idx → F .f32) (o : S1024x128.Idx → F .f32) (dm : S1024x128.Idx → F .bf16) : S8x128.Idx → F .f32 :=
  if t.val % 2 = 0 then dgv (k0_pay140 (F := F)) o dm else dgv prev o dm

/-- The six scratch buffers the computation works in, at any contents. -/
def Scr (c : Dev nD) : sProp 𝕄 := iprop((∃ f, ((Memref.whole cc0_scratch0).view.loc c ↦[(Memref.whole cc0_scratch0).view.set]{fullShare} f)) ∗ (∃ f, ((Memref.whole cc0_scratch1).view.loc c ↦[(Memref.whole cc0_scratch1).view.set]{fullShare} f)) ∗ (∃ f, ((Memref.whole cc0_scratch2).view.loc c ↦[(Memref.whole cc0_scratch2).view.set]{fullShare} f)) ∗ (∃ f, ((Memref.whole cc0_scratch3).view.loc c ↦[(Memref.whole cc0_scratch3).view.set]{fullShare} f)) ∗ (∃ f, ((Memref.whole cc0_scratch4).view.loc c ↦[(Memref.whole cc0_scratch4).view.set]{fullShare} f)) ∗ (∃ f, ((Memref.whole cc0_scratch5).view.loc c ↦[(Memref.whole cc0_scratch5).view.set]{fullShare} f)))

theorem bodyRun (c : Dev nD) (t : Fin cfg0.N) (X0 : BufTy.Contents (Elt F) (win0_0.stage (cfg0.slots t 0)).view.ty) (X1 : BufTy.Contents (Elt F) (win0_1.stage (cfg0.slots t 1)).view.ty) (X2 : BufTy.Contents (Elt F) (win0_2.stage (cfg0.slots t 2)).view.ty) (X3 : BufTy.Contents (Elt F) (win0_3.stage (cfg0.slots t 3)).view.ty) (X4 : BufTy.Contents (Elt F) (win0_4.stage (cfg0.slots t 4)).view.ty) (X5 : BufTy.Contents (Elt F) (win0_5.stage (cfg0.slots t 5)).view.ty) (X6 : BufTy.Contents (Elt F) (win0_6.stage (cfg0.slots t 6)).view.ty) (X7 : BufTy.Contents (Elt F) (win0_7.stage (cfg0.slots t 7)).view.ty)
    (T : Prog (TpuEff nD τ sig (Elt F) Λ₀ .tc) PUnit) (K : PUnit → sProp 𝕄) :
    iprop(((win0_0.stage (cfg0.slots t 0)).view.loc (c : Thread nD τ) ↦[(win0_0.stage (cfg0.slots t 0)).view.set]{fullShare} X0) ∗ ((win0_1.stage (cfg0.slots t 1)).view.loc (c : Thread nD τ) ↦[(win0_1.stage (cfg0.slots t 1)).view.set]{fullShare} X1) ∗ ((win0_2.stage (cfg0.slots t 2)).view.loc (c : Thread nD τ) ↦[(win0_2.stage (cfg0.slots t 2)).view.set]{fullShare} X2) ∗ ((win0_3.stage (cfg0.slots t 3)).view.loc (c : Thread nD τ) ↦[(win0_3.stage (cfg0.slots t 3)).view.set]{fullShare} X3) ∗ ((win0_4.stage (cfg0.slots t 4)).view.loc (c : Thread nD τ) ↦[(win0_4.stage (cfg0.slots t 4)).view.set]{fullShare} X4) ∗ ((win0_5.stage (cfg0.slots t 5)).view.loc (c : Thread nD τ) ↦[(win0_5.stage (cfg0.slots t 5)).view.set]{fullShare} X5) ∗ ((win0_6.stage (cfg0.slots t 6)).view.loc (c : Thread nD τ) ↦[(win0_6.stage (cfg0.slots t 6)).view.set]{fullShare} X6) ∗ ((win0_7.stage (cfg0.slots t 7)).view.loc (c : Thread nD τ) ↦[(win0_7.stage (cfg0.slots t 7)).view.set]{fullShare} X7) ∗ Scr c
      ∗ (iprop(((win0_0.stage (cfg0.slots t 0)).view.loc (c : Thread nD τ) ↦[(win0_0.stage (cfg0.slots t 0)).view.set]{fullShare} X0) ∗ ((win0_1.stage (cfg0.slots t 1)).view.loc (c : Thread nD τ) ↦[(win0_1.stage (cfg0.slots t 1)).view.set]{fullShare} X1) ∗ ((win0_2.stage (cfg0.slots t 2)).view.loc (c : Thread nD τ) ↦[(win0_2.stage (cfg0.slots t 2)).view.set]{fullShare} X2) ∗ ((win0_3.stage (cfg0.slots t 3)).view.loc (c : Thread nD τ) ↦[(win0_3.stage (cfg0.slots t 3)).view.set]{fullShare} X3) ∗ ((win0_4.stage (cfg0.slots t 4)).view.loc (c : Thread nD τ) ↦[(win0_4.stage (cfg0.slots t 4)).view.set]{fullShare} X4) ∗ ((win0_5.stage (cfg0.slots t 5)).view.loc (c : Thread nD τ) ↦[(win0_5.stage (cfg0.slots t 5)).view.set]{fullShare} X5) ∗ ((win0_6.stage (cfg0.slots t 6)).view.loc (c : Thread nD τ) ↦[(win0_6.stage (cfg0.slots t 6)).view.set]{fullShare} X6) ∗ (∃ f, ⌜(win0_7.stage (cfg0.slots t 7)).view.read (Elt F) f = dgStep t ((win0_7.stage (cfg0.slots t 7)).view.read (Elt F) X7) ((win0_4.stage (cfg0.slots t 4)).view.read (Elt F) X4) ((win0_6.stage (cfg0.slots t 6)).view.read (Elt F) X6)⌝ ∗ ((win0_7.stage (cfg0.slots t 7)).view.loc (c : Thread nD τ) ↦[(win0_7.stage (cfg0.slots t 7)).view.set]{fullShare} f)) ∗ Scr c)
        -∗ wp frame (wpE (defs₀ (F := F)) Variants.none c none) Set.univ T K))
    ⊢ wp frame (wpE (defs₀ (F := F)) Variants.none c none) Set.univ (body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 T) K := by
  by_cases h : t.val % 2 = 0
  · have hc := (cond1_iff t).2 h
    unfold Scr
    iintro ⟨R0, R1, R2, R3, R4, R5, R6, HO, ⟨W0, W1, W2, W3, W4, W5⟩, HK⟩
    iapply ((runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 hc X0 X1 X2 X3 X4 X5 X6 X7).2 T K)
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HO]; · iexact HO
    isplitl [W0]; · iexact W0
    isplitl [W1]; · iexact W1
    isplitl [W2]; · iexact W2
    isplitl [W3]; · iexact W3
    isplitl [W4]; · iexact W4
    isplitl [W5]; · iexact W5
    iintro ⟨R0, R1, R2, R3, R4, R5, R6, ⟨%f, HO⟩, W0, W1, W2, W3, W4, W5⟩
    iapply HK
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HO]
    swap
    · isplitl [W0]; · iexact W0
      isplitl [W1]; · iexact W1
      isplitl [W2]; · iexact W2
      isplitl [W3]; · iexact W3
      isplitl [W4]; · iexact W4
      iexact W5
    iexists _
    isplitr
    swap; · iexact HO
    ipureintro
    unfold dgStep; rw [if_pos h]
    exact runFirst_val c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 hc X0 X1 X2 X3 X4 X5 X6 X7 f
  · have hc : ¬ cond1 (grid0.coords t) = 1#1 := fun h' => h ((cond1_iff t).1 h')
    unfold Scr
    iintro ⟨R0, R1, R2, R3, R4, R5, R6, HO, ⟨W0, W1, W2, W3, W4, W5⟩, HK⟩
    iapply ((runNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 hc X0 X1 X2 X3 X4 X5 X6 X7).2 T K)
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HO]; · iexact HO
    isplitl [W0]; · iexact W0
    isplitl [W1]; · iexact W1
    isplitl [W2]; · iexact W2
    isplitl [W3]; · iexact W3
    isplitl [W4]; · iexact W4
    isplitl [W5]; · iexact W5
    iintro ⟨R0, R1, R2, R3, R4, R5, R6, ⟨%f, HO⟩, W0, W1, W2, W3, W4, W5⟩
    iapply HK
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [HO]
    swap
    · isplitl [W0]; · iexact W0
      isplitl [W1]; · iexact W1
      isplitl [W2]; · iexact W2
      isplitl [W3]; · iexact W3
      isplitl [W4]; · iexact W4
      iexact W5
    iexists _
    isplitr
    swap; · iexact HO
    ipureintro
    unfold dgStep; rw [if_neg h]
    exact runNext_val c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v0_0) (Memref.isWhole_whole _) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 hc X0 X1 X2 X3 X4 X5 X6 X7 f

end Cert.KernelIdeal.Hand

end
-- ==== Proof.SbLaunch.lean ====
/-
  What the launch hands the body, as the body's invariant.
-/
module

public import proofs.«01_k».proof.Proof.SbRun

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's resources -/

/-- The result the body writes with its own copies. -/
def R0 : Finset (Ref sig .tc) := {main_v0_0}
abbrev osem0 : Fin 3 → SemLoc sig := fun j => (![SemLoc.dma 16, SemLoc.dma 17, SemLoc.dma 18] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0
          ∗ semVal ((c : Thread nD τ), SemLoc.dma 18) 0) := by
  rw [Pipeline.ownSems0_eq_of_list c osem0 [0, 1, 2] (by decide) (by decide)]; rfl
def H0 : Finset (Ref sig .tc) := ∅
theorem H0_sub : H0 ⊆ Pipeline.restRefs sig spec0 := by decide
theorem R0_sub : R0 ⊆ Pipeline.restRefs sig spec0 \ H0 := by decide
theorem owned_eq (c : Dev nD) :
    (Pipeline.owned R0 c : sProp 𝕄) = iprop(∃ f, ((c : Thread nD τ).loc main_v0_0) ↦{fullShare} f) := by
  unfold Pipeline.owned; rw [BI.bigSep_eq_bigSepL_of_eq [main_v0_0] (by decide) (by decide)]; rfl
theorem held_eq (c : Dev nD) : (bigSep H0 (fun b => ((c : Thread nD τ).loc b) ↦{fullShare} V m c b) : sProp 𝕄) = iprop(emp) := by
  unfold H0; exact BI.bigSep_empty

theorem whole_eq (c : Dev nD) (b : Ref sig .tc) (f : BufTy.Contents (Elt F) (Memref.whole b).view.ty) :
    (((Memref.whole b).view.loc c ↦[(Memref.whole b).view.set]{fullShare} f) : sProp 𝕄) = (((c : Thread nD τ).loc b) ↦{fullShare} f) := by
  rw [show (Memref.whole b).view.set = Finset.univ from View.set_whole _]
theorem to_buf (c : Dev nD) (b : Ref sig .tc) : (iprop(∃ f, ((c : Thread nD τ).loc b) ↦{fullShare} f) : sProp 𝕄)
    ⊢ iprop(∃ f : BufTy.Contents (Elt F) (Memref.whole b).view.ty, ((Memref.whole b).view.loc c ↦[(Memref.whole b).view.set]{fullShare} f)) := by
  iintro ⟨%f, H⟩
  iexists f
  rw [whole_eq]
  iexact H
theorem of_buf (c : Dev nD) (b : Ref sig .tc) :
    (iprop(∃ f : BufTy.Contents (Elt F) (Memref.whole b).view.ty, ((Memref.whole b).view.loc c ↦[(Memref.whole b).view.set]{fullShare} f)) : sProp 𝕄)
    ⊢ iprop(∃ f, ((c : Thread nD τ).loc b) ↦{fullShare} f) := by
  iintro ⟨%f, H⟩
  iexists f
  rw [← whole_eq]
  iexact H

/-! ## The result by its three column blocks -/

/-- The columns the body never writes. -/
def colsR : Finset S2048x6144.Idx := ((Finset.univ \ colsQ) \ colsK) \ colsV

theorem colsK_sub : colsK ⊆ Finset.univ \ colsQ := by
  intro j hj
  simp only [colsK, colsQ, Finset.mem_filter, Finset.mem_univ, true_and, Finset.mem_sdiff] at *; omega
theorem colsV_sub : colsV ⊆ (Finset.univ \ colsQ) \ colsK := by
  intro j hj
  simp only [colsV, colsK, colsQ, Finset.mem_filter, Finset.mem_univ, true_and, Finset.mem_sdiff] at *; omega

theorem split_result (c : Dev nD) (f : BufTy.Contents (Elt F) (Memref.whole main_v0_0).view.ty) :
    (((c : Thread nD τ).loc main_v0_0 ↦{fullShare} f) : sProp 𝕄)
      ⊢ iprop(((Memref.whole main_v0_0).view.loc c ↦[colsQ]{fullShare} f) ∗ ((Memref.whole main_v0_0).view.loc c ↦[colsK]{fullShare} f)
        ∗ ((Memref.whole main_v0_0).view.loc c ↦[colsV]{fullShare} f) ∗ ((Memref.whole main_v0_0).view.loc c ↦[colsR]{fullShare} f)) := by
  refine (pointsTo_split_subset (I := colsQ) (Finset.subset_univ _)).1.trans ?_
  iintro ⟨HQ, HR⟩
  isplitl [HQ]; · iexact HQ
  ihave H := (pointsTo_split_subset colsK_sub).1 $$ HR
  icases H with ⟨HK, HR⟩
  isplitl [HK]; · iexact HK
  ihave H := (pointsTo_split_subset colsV_sub).1 $$ HR
  icases H with ⟨HV, HR⟩
  isplitl [HV]; · iexact HV
  unfold colsR; iexact HR

theorem join_result (c : Dev nD) :
    iprop((∃ f, ((Memref.whole main_v0_0).view.loc c ↦[colsQ]{fullShare} f)) ∗ (∃ f, ((Memref.whole main_v0_0).view.loc c ↦[colsK]{fullShare} f)) ∗ (∃ f, ((Memref.whole main_v0_0).view.loc c ↦[colsV]{fullShare} f)) ∗ (∃ f, ((Memref.whole main_v0_0).view.loc c ↦[colsR]{fullShare} f))) ⊢ (iprop(∃ f, (c : Thread nD τ).loc main_v0_0 ↦{fullShare} f) : sProp 𝕄) := by
  unfold colsR
  iintro ⟨⟨%fQ, HQ⟩, ⟨%fK, HK⟩, ⟨%fV, HV⟩, ⟨%fR, HR⟩⟩
  iexists _
  iapply (pointsTo_join_subset (I := colsQ) (Finset.subset_univ _))
  isplitl [HQ]; · iexact HQ
  iapply (pointsTo_join_subset colsK_sub)
  isplitl [HK]; · iexact HK
  iapply (pointsTo_join_subset colsV_sub)
  isplitl [HV]; · iexact HV
  iexact HR

/-! ## The invariant -/

/-- The invariant before point `n`: the computation's scratch, the copies under way, the columns nobody writes, the generator. -/
def Phi (C : S2048x6144.Idx → F .bf16 → Prop) (c : Dev nD) (n : ℕ) : sProp 𝕄 :=
  iprop(Scr c ∗ QP C c n ∗ KVP C c n ∗ (∃ f, ((Memref.whole main_v0_0).view.loc c ↦[colsR]{fullShare} f)) ∗ (∃ r, prngReg c r))

theorem hin (C : S2048x6144.Idx → F .bf16 → Prop) (c : Dev nD) : Pipeline.ΦDR osem0 spec0 H0 R0 (V m) c ⊢ Phi C c 0 := by
  rw [Pipeline.ΦDR_eq, scopedRest0_eq, ownSems00_eq, held_eq, owned_eq]
  unfold Phi Scr QP KVP Free
  rw [if_pos rfl, if_pos (by omega)]
  iintro ⟨⟨H0, H1, H2, H3, H4, H5, H6, H7, H8⟩, HP, ⟨S0, S1, S2⟩, -, ⟨%f, HR⟩⟩
  ihave H := (to_buf c cc0_scratch6) $$ H6
  icases H with ⟨%f6, H6⟩
  ihave H := (to_buf c cc0_scratch7) $$ H7
  icases H with ⟨%f7, H7⟩
  ihave H := (to_buf c cc0_scratch8) $$ H8
  icases H with ⟨%f8, H8⟩
  ihave H := (split_result c f) $$ HR
  icases H with ⟨RQ, RK, RV, RR⟩
  isplitl [H0 H1 H2 H3 H4 H5]
  · isplitl [H0]; · iapply (to_buf c cc0_scratch0); iexact H0
    isplitl [H1]; · iapply (to_buf c cc0_scratch1); iexact H1
    isplitl [H2]; · iapply (to_buf c cc0_scratch2); iexact H2
    isplitl [H3]; · iapply (to_buf c cc0_scratch3); iexact H3
    isplitl [H4]; · iapply (to_buf c cc0_scratch4); iexact H4
    iapply (to_buf c cc0_scratch5); iexact H5
  isplitl [S0 H6 RQ]
  · iexists f6, f
    isplitr
    · ipureintro; intro j _ h; omega
    isplitl [S0]; · iexact S0
    isplitl [H6]; · iexact H6
    iexact RQ
  isplitl [S1 H7 RK S2 H8 RV]
  · isplitl [S1 H7 RK]
    · iexists f7, f
      isplitr
      · ipureintro; intro j _ h; omega
      isplitl [S1]; · iexact S1
      isplitl [H7]; · iexact H7
      iexact RK
    · iexists f8, f
      isplitr
      · ipureintro; intro j _ h; omega
      isplitl [S2]; · iexact S2
      isplitl [H8]; · iexact H8
      iexact RV
  isplitl [RR]; · iexists f; iexact RR
  iexact HP

theorem hout (C : S2048x6144.Idx → F .bf16 → Prop) (c : Dev nD) : Phi C c 16 ⊢ Pipeline.ΦDR osem0 spec0 H0 R0 (V m) c := by
  rw [Pipeline.ΦDR_eq, scopedRest0_eq, ownSems00_eq, held_eq, owned_eq]
  unfold Phi Scr QP KVP Free
  rw [if_neg (by omega), if_pos rfl, if_neg (by omega), if_pos rfl]
  iintro ⟨⟨H0, H1, H2, H3, H4, H5⟩, ⟨%f6, %g6, -, S0, H6, RQ⟩, ⟨⟨%f7, %g7, -, S1, H7, RK⟩, ⟨%f8, %g8, -, S2, H8, RV⟩⟩, RR, HP⟩
  isplitl [H0 H1 H2 H3 H4 H5 H6 H7 H8]
  · isplitl [H0]; · iapply (of_buf c cc0_scratch0); iexact H0
    isplitl [H1]; · iapply (of_buf c cc0_scratch1); iexact H1
    isplitl [H2]; · iapply (of_buf c cc0_scratch2); iexact H2
    isplitl [H3]; · iapply (of_buf c cc0_scratch3); iexact H3
    isplitl [H4]; · iapply (of_buf c cc0_scratch4); iexact H4
    isplitl [H5]; · iapply (of_buf c cc0_scratch5); iexact H5
    isplitl [H6]; · iapply (of_buf c cc0_scratch6); iexists _; iexact H6
    isplitl [H7]; · iapply (of_buf c cc0_scratch7); iexists _; iexact H7
    iapply (of_buf c cc0_scratch8); iexists _; iexact H8
  isplitl [HP]; · iexact HP
  isplitl [S0 S1 S2]
  · isplitl [S0]; · iexact S0
    isplitl [S1]; · iexact S1
    iexact S2
  isplitr
  · iempintro
  iapply (join_result c)
  isplitl [RQ]; · iexists _; iexact RQ
  isplitl [RK]; · iexists _; iexact RK
  isplitl [RV]; · iexists _; iexact RV
  iexact RR

end Cert.KernelIdeal.Hand

end
-- ==== Proof.SbData.lean ====
/-
  What each window's buffer holds at each point.
-/
module

public import proofs.«01_k».proof.Proof.SbLaunch

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- Nothing is said of what the copies leave in the result. -/
def anyC : S2048x6144.Idx → F .bf16 → Prop := fun _ _ => True

/-- The gain's gradient after point `t`. -/
def dgAt (c : Dev nD) (t : Fin cfg0.N) : S8x128.Idx → F .f32 :=
  dgStep t (dgStep ⟨t.val - 1, Nat.lt_of_le_of_lt (Nat.sub_le _ _) t.isLt⟩ (k0_pay140 (F := F))
    (iblk m c 4 ⟨t.val - 1, Nat.lt_of_le_of_lt (Nat.sub_le _ _) t.isLt⟩) (iblk m c 6 ⟨t.val - 1, Nat.lt_of_le_of_lt (Nat.sub_le _ _) t.isLt⟩))
    (iblk m c 4 t) (iblk m c 6 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dgAt m c t
  Φ p := Phi anyC c p.val
  q w := Pipeline.shareOf spec0 w
  owed _ := 0

theorem A_eq (c : Dev nD) (w : Fin cfg0.W) : (dats m 0 c).A w = V m c (Pipeline.arrRef spec0 w) := by
  dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun t => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun t => rfl) t d).trans rfl

/-- At a head's later tile the gradient's block still holds what the first tile left. -/
theorem before_7 (c : Dev nD) (t : Fin cfg0.N) (d) (h : ¬ t.val % 2 = 0) :
    (dats m 0 c).before 7 t d = dgAt m c ⟨t.val - 1, Nat.lt_of_le_of_lt (Nat.sub_le _ _) t.isLt⟩ :=
  (dats m 0 c).before_out_kept 7 rfl t (by omega)
    (by rw [← Bool.not_eq_true]; intro h'; have h2 := (flush0_7 _).1 h'; have h3 : (t.val - 1) % 2 = 1 := h2; omega)
    (fun _ => rfl) (fun _ _ => rfl) d

theorem step_7 (c : Dev nD) (t : Fin cfg0.N) (d) :
    dgStep t ((dats m 0 c).before 7 t d) (iblk m c 4 t) (iblk m c 6 t) = dgAt m c t := by
  by_cases h : t.val % 2 = 0
  · unfold dgAt dgStep; rw [if_pos h, if_pos h]
  · rw [before_7 m c t d h]
    unfold dgAt
    have h2 : (t.val - 1) % 2 = 0 := by omega
    unfold dgStep
    rw [if_neg h, if_neg h]
    dsimp only
    rw [if_pos h2, if_pos h2]

end Cert.KernelIdeal.Hand

end
-- ==== Proof.SbPoint.lean ====
/-
  The body at one point keeps the invariant.
-/
module

public import proofs.«01_k».proof.Proof.SbData

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Phi anyC c (t.val + 1) from rfl, show (dats m 0 c).Φ t.castSucc = Phi anyC c t.val from rfl,
    bodyAt0_split]
  unfold Dat.owesAt Pipeline.owesWithin Phi
  rw [show (dats m 0 c).owed t.castSucc = 0 from rfl, show (dats m 0 c).owed t.succ = 0 from rfl]
  unfold owns
  iintro ⟨⟨HS, HQ, HKV, HR, HP⟩, ⟨%W, -, HW⟩, ⟨%d0, ⟨%X0, %hX0, H0⟩⟩, ⟨%d1, ⟨%X1, %hX1, H1⟩⟩, ⟨%d2, ⟨%X2, %hX2, H2⟩⟩, ⟨%d3, ⟨%X3, %hX3, H3⟩⟩, ⟨%d4, ⟨%X4, %hX4, H4⟩⟩, ⟨%d5, ⟨%X5, %hX5, H5⟩⟩, ⟨%d6, ⟨%X6, %hX6, H6⟩⟩, ⟨%d7, ⟨%X7, %hX7, H7⟩⟩⟩
  iapply (bodyRun c t (X0 := X0) (X1 := X1) (X2 := X2) (X3 := X3) (X4 := X4) (X5 := X5) (X6 := X6) (X7 := X7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  unfold Scr
  iintro ⟨H0, H1, H2, H3, H4, H5, H6, ⟨%f7, %hf7, H7⟩, ⟨⟨%s0, S0⟩, ⟨%s1, S1⟩, ⟨%s2, S2⟩, S3, S4, S5⟩⟩
  iapply (tail_run (C := anyC) c t _ s0 s1 s2 W (fun _ _ => trivial) (fun _ _ => trivial) (fun _ => trivial))
  isplitl [S0]; · iexact S0
  isplitl [S1]; · iexact S1
  isplitl [S2]; · iexact S2
  isplitl [HQ]; · iexact HQ
  isplitl [HKV]; · iexact HKV
  isplitl [HW]; · iexact HW
  iintro ⟨S0, S1, S2, HQ, HKV, ⟨%W', HW'⟩⟩
  isplitl [S0 S1 S2 S3 S4 S5 HQ HKV HR HP]
  · isplitl [S0 S1 S2 S3 S4 S5]
    · isplitl [S0]; · iexists _; iexact S0
      isplitl [S1]; · iexists _; iexact S1
      isplitl [S2]; · iexists _; iexact S2
      isplitl [S3]; · iexact S3
      isplitl [S4]; · iexact S4
      iexact S5
    isplitl [HQ]; · iexact HQ
    isplitl [HKV]; · iexact HKV
    isplitl [HR]; · iexact HR
    iexact HP
  isplitl [HW']
  · iexists W'; isplitr; · ipureintro; exact fun _ _ => Or.inl trivial
    iexact HW'
  isplitl [H0]
  · iexists X0
    isplitr
    · ipureintro; exact hX0.trans (before_0 m c t d0)
    iexact H0
  isplitl [H1]
  · iexists X1
    isplitr
    · ipureintro; exact hX1.trans (before_1 m c t d1)
    iexact H1
  isplitl [H2]
  · iexists X2
    isplitr
    · ipureintro; exact hX2.trans (before_2 m c t d2)
    iexact H2
  isplitl [H3]
  · iexists X3
    isplitr
    · ipureintro; exact hX3.trans (before_3 m c t d3)
    iexact H3
  isplitl [H4]
  · iexists X4
    isplitr
    · ipureintro; exact hX4.trans (before_4 m c t d4)
    iexact H4
  isplitl [H5]
  · iexists X5
    isplitr
    · ipureintro; exact hX5.trans (before_5 m c t d5)
    iexact H5
  isplitl [H6]
  · iexists X6
    isplitr
    · ipureintro; exact hX6.trans (before_6 m c t d6)
    iexact H6
  iexists f7
  isplitr
  · ipureintro
    refine hf7.trans ?_
    rw [hX7, hX4, hX6, before_4, before_6]
    exact step_7 m c t d7
  iexact H7

end Cert.KernelIdeal.Hand

end
-- ==== Proof.SbFrame.lean ====
/-
  The kernel's run: its frame, and what the gain's gradient holds at the end.
-/
module

public import proofs.«01_k».proof.Proof.SbPoint

@[expose] public section

set_option maxRecDepth 16384
set_option maxHeartbeats 4000000
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 8000000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain' m Variants.none) (hA := A_eq m)
    (hin := fun c => hin m anyC c) (hout := fun c => hout m anyC c)

/-- The run: every argument as launched, the gain's gradient as the proof data says, every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc (Pipeline.arrRef spec0 7)) = (dats m 0 c).arrAt 7 cfg0.N)
      ∧ r.2.sem = fun _ => 0) :=
  (θ_run defs _ _).mono (fun _ h => ⟨fun c => ⟨⟨((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).1 4).trans (((dats m 0 c).arrAt_in 4 rfl _).trans ((A_eq m c 4).trans (V_main_arg2 m c))),
      ((h.1 c).1 5).trans (((dats m 0 c).arrAt_in 5 rfl _).trans ((A_eq m c 5).trans (V_main_arg3 m c))),
      ((h.1 c).1 6).trans (((dats m 0 c).arrAt_in 6 rfl _).trans ((A_eq m c 6).trans (V_main_arg4 m c)))⟩, (h.1 c).1 7⟩, h.2⟩) (run_main m ρ)

end Cert.KernelIdeal.Hand

end
-- ==== Proof.SbValue.lean ====
/-
  The gain's gradient as numbers: at the ideal values, what the run leaves in the second result of the stick-breaking
  attention's backward pass is the reference's term of the saved attention output and the incoming gradient.
-/
module

public import proofs.«01_k».proof.Proof.SbFrame
public import proofs.«01_k».proof.Proof.Gen.ReferenceIdeal.Run
public import Idealize.ShloMosaic.Lib.Pipeline.ValueKit

@[expose] public section

set_option maxRecDepth 16384
set_option maxHeartbeats 2000000

noncomputable section

/-! ## The reference's term -/

namespace Cert.ReferenceIdeal.Hand

open Cert.ReferenceIdeal Cert.ReferenceIdeal.Gen
open Idealize.ShloMosaic

/-- The reference's composed term over the two arrays it reads: the saved attention output and the incoming gradient. -/
def gainGrad (o : FVec Ideal S2048x1024 .f32) (dm : FVec Ideal S2048x2048 .bf16) : FVec Ideal S8x1024 .f32 :=
  broadcastInDim S8x1024 ![0, 1] bcast_S1x1024_S8x1024_0_1 (broadcastInDim S1x1024 ![1] bcast_S1024_S1x1024_1 (shapeCast _ (shapeCast _ (Host.reduceAdd (mulf (mulf (transpose S1x8x2048x128 [0, 2, 1, 3] (shapeCast _ o shapeCasts_S2048x1024_S1x2048x8x128) transposes_S1x2048x8x128_S1x8x2048x128_0_2_1_3) (broadcastInDim S1x8x2048x128 ![0, 1, 2, 3] bcast_S1x8x2048x1_S1x8x2048x128_0_1_2_3 (Host.rsqrt (addf (Host.divf (broadcastInDim S1x8x2048x1 ![0, 1, 2] bcast_S1x8x2048_S1x8x2048x1_0_1_2 (Host.reduceAdd (mulf (transpose S1x8x2048x128 [0, 2, 1, 3] (shapeCast _ o shapeCasts_S2048x1024_S1x2048x8x128) transposes_S1x2048x8x128_S1x8x2048x128_0_2_1_3) (transpose S1x8x2048x128 [0, 2, 1, 3] (shapeCast _ o shapeCasts_S2048x1024_S1x2048x8x128) transposes_S1x2048x8x128_S1x8x2048x128_0_2_1_3)) (constant S_ .f32 0x00000000#32) reducesTo_S1x8x2048x128_S1x8x2048_d3 h_S_)) (broadcastInDim S1x8x2048x1 ![] bcast_S_S1x8x2048x1 (constant S_ .f32 0x43000000#32))) (broadcastInDim S1x8x2048x1 ![] bcast_S_S1x8x2048x1 (constant S_ .f32 0x358637BD#32)))))) (transpose S1x8x2048x128 [0, 2, 1, 3] (shapeCast _ (extf .f32 (extractStridedSlice S2048x1024 ![0, 0] dm slices_S2048x2048_S2048x1024_0_0) bitsLt_bf16_f32) shapeCasts_S2048x1024_S1x2048x8x128) transposes_S1x2048x8x128_S1x8x2048x128_0_2_1_3)) (constant S_ .f32 0x00000000#32) reducesTo_S1x8x2048x128_S1x8x128_d2 h_S_) shapeCasts_S1x8x128_S1x8x1x128) shapeCasts_S1x8x1x128_S1024))

/-- Read at a row and a column: the sum over all rows of gradient, output and the row's reciprocal root mean square. -/
theorem gainGrad_apply (o : FVec Ideal S2048x1024 .f32) (dm : FVec Ideal S2048x2048 .bf16) (a : Fin 8) (b : Fin 1024) :
    gainGrad o dm (ix2 a b) = ∑ x : Fin 2048, dm (ix2 x ⟨b.val, by omega⟩) * o (ix2 x b)
      * Ideal.rsqrt (Ideal.div (∑ l : Fin 128, o (ix2 x ⟨b.val / 128 * 128 + l.val, by omega⟩) * o (ix2 x ⟨b.val / 128 * 128 + l.val, by omega⟩))
          (Ideal.ofBits .f32 0x43000000#32) + Ideal.ofBits .f32 0x358637BD#32) := by
  pointwise [gainGrad]
  refine Finset.sum_congr rfl fun x _ => ?_
  rw [mul_comm, ← mul_assoc]

end Cert.ReferenceIdeal.Hand

/-! ## The kernel's blocks -/

namespace Cert.KernelIdeal.Hand

open Cert.KernelIdeal Cert.KernelIdeal.Gen
open Idealize.ShloMosaic Idealize.ShloMosaic.TcCoe Idealize.SL.Sem
open Idealize.ShloMosaic.Pipeline (Dat)

/-- One point's contribution, read at a row and a column of the block. -/
theorem dgv_apply (prev : FVec Ideal S8x128 .f32) (o : FVec Ideal S1024x128 .f32) (dm : FVec Ideal S1024x128 .bf16) (a : Fin 8) (b : Fin 128) :
    dgv (F := Ideal) prev o dm (ix2 a b) = prev (ix2 a b) + ∑ x : Fin 1024, dm (ix2 x b) * o (ix2 x b)
      * Ideal.rsqrt (Ideal.div (∑ l : Fin 128, o (ix2 x l) * o (ix2 x l)) (Ideal.ofBits .f32 0x43000000#32) + Ideal.ofBits .f32 0x358637BD#32) := by
  unfold dgv
  pointwise [k0_pay146, k0_pay144, k0_pay145, k0_pay142, k0_pay141]

theorem zero_apply (a : Fin 8) (b : Fin 128) : k0_pay140 (F := Ideal) (ix2 a b) = 0 := by
  pointwise [k0_pay140]

/-- Two points of one column of heads, the first restarting the accumulator. -/
theorem two_points (o₀ o₁ : FVec Ideal S1024x128 .f32) (d₀ d₁ : FVec Ideal S1024x128 .bf16) (a : Fin 8) (b : Fin 128) :
    dgv (F := Ideal) (dgv (F := Ideal) (k0_pay140 (F := Ideal)) o₀ d₀) o₁ d₁ (ix2 a b)
      = (∑ x : Fin 1024, d₀ (ix2 x b) * o₀ (ix2 x b)
          * Ideal.rsqrt (Ideal.div (∑ l : Fin 128, o₀ (ix2 x l) * o₀ (ix2 x l)) (Ideal.ofBits .f32 0x43000000#32) + Ideal.ofBits .f32 0x358637BD#32))
        + ∑ x : Fin 1024, d₁ (ix2 x b) * o₁ (ix2 x b)
          * Ideal.rsqrt (Ideal.div (∑ l : Fin 128, o₁ (ix2 x l) * o₁ (ix2 x l)) (Ideal.ofBits .f32 0x43000000#32) + Ideal.ofBits .f32 0x358637BD#32) := by
  rw [dgv_apply, dgv_apply, zero_apply, zero_add]

variable (m : (ℓ : Loc nD τ sig) → Buf (Elt Ideal) ℓ)

theorem idx : ∀ t : Fin cfg0.N, win0_4.index t = ![t.val % 2, t.val / 2] ∧ win0_6.index t = ![t.val % 2, t.val / 2]
    ∧ win0_7.index t = ![0, t.val / 2] ∧ t.val / 2 < 8 :=
  (by decide +kernel : ∀ t : Fin grid0.N, _)

theorem dgAt_odd (c : Dev nD) (t : Fin cfg0.N) (h : t.val % 2 = 1) : dgAt m c t
    = dgv (F := Ideal) (dgv (F := Ideal) (k0_pay140 (F := Ideal)) (iblk m c 4 ⟨t.val - 1, Nat.lt_of_le_of_lt (Nat.sub_le _ _) t.isLt⟩)
        (iblk m c 6 ⟨t.val - 1, Nat.lt_of_le_of_lt (Nat.sub_le _ _) t.isLt⟩)) (iblk m c 4 t) (iblk m c 6 t) := by
  unfold dgAt dgStep
  rw [if_neg (by omega), if_pos (by show (t.val - 1) % 2 = 0; omega)]

theorem point (c : Dev nD) (t : Fin cfg0.N) (h : t.val % 2 = 1) (y : S8x128.Idx) : dgAt m c t y
    = Cert.ReferenceIdeal.Hand.gainGrad (m ((c : Thread nD τ).loc main_arg2)) (m ((c : Thread nD τ).loc main_arg4)) (((cfg0.win 7).blk t).view.emb y) := by
  rw [dgAt_odd m c t h]
  have hix := (idx t).2.2.2
  have e : ((cfg0.win 7).blk t).view.emb y = ix2 (⟨(y 0).val, (y 0).isLt⟩ : Fin 8) (⟨t.val / 2 * 128 + (y 1).val, by have : (y 1).val < 128 := (y 1).isLt; omega⟩ : Fin 1024) := by
    blk_ext [idx t]
  rw [e]
  have ey : y = ix2 (⟨(y 0).val, (y 0).isLt⟩ : Fin 8) (⟨(y 1).val, (y 1).isLt⟩ : Fin 128) := by blk_ext []
  rw [ey]
  refine (two_points _ _ _ _ _ _).trans (Eq.trans ?_ (Cert.ReferenceIdeal.Hand.gainGrad_apply _ _ _ _).symm)
  rw [Fin.sum_univ_two_halves 1024 1024 rfl]
  have e2 : (t.val - 1) / 2 = t.val / 2 := by omega
  have e3 : (t.val - 1) % 2 = 0 := by omega
  have e4 : ∀ z, z < 128 → (t.val / 2 * 128 + z) / 128 = t.val / 2 := fun z hz => by omega
  have hy : (y 1).val < 128 := (y 1).isLt
  blk_point [iblk, V, idx t, idx ⟨t.val - 1, Nat.lt_of_le_of_lt (Nat.sub_le _ _) t.isLt⟩, e2, e3, h, e4 _ hy]

theorem final (c : Dev nD) : (dats m 0 c).arrAt 7 (cfgs 0).N
    = Cert.ReferenceIdeal.Hand.gainGrad (m ((c : Thread nD τ).loc main_arg2)) (m ((c : Thread nD τ).loc main_arg4)) := by
  refine (dats m 0 c).arrAt_eq_of_covers 7 _ (by decide +kernel) fun t hf y => ?_
  blk_simp
  exact point m c t ((flush0_7 t).mp hf) y

end Cert.KernelIdeal.Hand

end
-- ==== Proof.SbClaim.lean ====
/-
  The claims about the backward pass of the stick-breaking attention: the frames of the kernel, of its ideal form and of
  the reference, and that the gain's gradient is the reference's.
-/
module

public import proofs.«01_k».proof.Defs
public import proofs.«01_k».proof.Proof.Gen.Kernel
public import proofs.«01_k».proof.Proof.SbValue
public import Idealize.ShloMosaic.Lib.Quiescent
public import Idealize.ShloMosaic.Lib.Claim

@[expose] public section

set_option maxRecDepth 16384

noncomputable section

namespace Cert.Proof.Sb

open Idealize.ShloMosaic Idealize.ShloMosaic.TcCoe Idealize.SL.Sem

theorem frame_ideal : Cert.quiescent_KernelIdeal := fun m ρ _ =>
  (θ_run Cert.KernelIdeal.defs _ _).mono (fun _ h => ⟨fun c => (h.1 c).1, h.2⟩) (Cert.KernelIdeal.Hand.run (F := Ideal) m ρ)

/-- The kernel and its ideal form are one text: their body tables agree label by label. -/
theorem defs₀_same : Cert.Kernel.defs₀ (F := Bits) = Cert.KernelIdeal.defs₀ (F := Bits) := by
  refine congrArg Defs.onTc (funext fun l => funext fun x => ?_)
  match l, x with
  | 0, (t, s) => rfl

theorem defs_same : Cert.Kernel.defs (F := Bits) = Cert.KernelIdeal.defs (F := Bits) :=
  congrArg (Pipeline.defs (Cert.KernelIdeal.pcfgs (F := Bits))) defs₀_same

theorem main_same : Cert.Kernel.main (F := Bits) = Cert.KernelIdeal.main (F := Bits) := rfl

theorem frame_kernel : Cert.quiescent_Kernel := fun m ρ _ => by
  have h := (θ_run Cert.KernelIdeal.defs _ _).mono (fun _ h => And.intro (fun c => (h.1 c).1) h.2) (Cert.KernelIdeal.Hand.run (F := Bits) m ρ)
  rw [← defs_same, ← main_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨fun c => Cert.ReferenceIdeal.Hand.gainGrad (m ((c : Thread Cert.KernelIdeal.nD Cert.KernelIdeal.τ).loc Cert.KernelIdeal.main_arg2))
    (m ((c : Thread Cert.KernelIdeal.nD Cert.KernelIdeal.τ).loc Cert.KernelIdeal.main_arg4)), ?_, ?_⟩
  · exact (θ_run Cert.KernelIdeal.defs _ _).mono (fun _ h c => ⟨(h.1 c).2.trans (Cert.KernelIdeal.Hand.final m c), (h.1 c).1⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).2.2.1, (hagree c).2.2.2.2]
    rfl

end Cert.Proof.Sb

end
-- ==== Proof.Mm2.lean ====
/-
  The gradient of the feed-forward's output weights: the kernel's blocks are the reference's product, block by block; with the frames.
-/
module

public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent

@[expose] public section

set_option maxRecDepth 16384
set_option maxHeartbeats 2000000

noncomputable section

namespace Cert.Reference2Ideal.Hand

open Cert.Reference2Ideal Cert.Reference2Ideal.Gen
open Idealize.ShloMosaic

/-- The reference's composed term over its arguments. -/
def product (x0 : FVec Ideal S2048x5632 .bf16) (x1 : FVec Ideal S2048x2048 .bf16) : FVec Ideal S1x5632x2048 .bf16 :=
  truncf .bf16 (broadcastInDim S1x5632x2048 ![1, 2] bcast_S5632x2048_S1x5632x2048_1_2 (transpose S5632x2048 [1, 0] (Host.dotGeneral dot_S2048x2048_S2048x5632_S2048x5632_0_0_1_1_n_n none (extf .f32 x1 bitsLt_bf16_f32) (extf .f32 x0 bitsLt_bf16_f32)) transposes_S2048x5632_S5632x2048_1_0)) bitsLt_bf16_f32

end Cert.Reference2Ideal.Hand

namespace Cert.Kernel2Ideal.Hand

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val / 2] ∧ win0_1.index t = ![0, t.val % 2] ∧ win0_2.index t = ![0, t.val / 2, t.val % 2]
    ∧ t.val % 2 < 2 :=
  (by decide +kernel : ∀ t : Fin grid0.N, _)

theorem point (c : Dev nD) (t : Fin cfg0.N) (y) : k0_pay1 (iblk m c 0 t) (iblk m c 1 t) y
    = Cert.Reference2Ideal.Hand.product (m ((c : Thread nD τ).loc main_arg0)) (m ((c : Thread nD τ).loc main_arg1)) (((cfg0.win 2).blk t).view.emb y) := by
  pointwise [k0_pay1, Cert.Reference2Ideal.Hand.product]
  refine (Finset.sum_congr rfl fun x _ => mul_comm _ _).trans ?_
  blk_point [iblk, V, idx t]

theorem final (c : Dev nD) : (dats m 0 c).arrAt 2 (cfgs 0).N
    = Cert.Reference2Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Hand

namespace Cert.Proof.K2

open Idealize.ShloMosaic Idealize.ShloMosaic.TcCoe Idealize.SL.Sem

theorem frame_ideal : Cert.quiescent_Kernel2Ideal := fun m ρ _ => Cert.Kernel2Ideal.Gen.frame (F := Ideal) m ρ

/-- The kernel and its ideal form are one text: their body tables agree label by label. -/
theorem defs₀_same : Cert.Kernel2.defs₀ (F := Bits) = Cert.Kernel2Ideal.defs₀ (F := Bits) := by
  refine congrArg Defs.onTc (funext fun l => funext fun x => ?_)
  match l, x with
  | 0, (t, s) => rfl

theorem defs_same : Cert.Kernel2.defs (F := Bits) = Cert.Kernel2Ideal.defs (F := Bits) :=
  congrArg (Pipeline.defs (Cert.Kernel2Ideal.pcfgs (F := Bits))) defs₀_same

theorem main_same : Cert.Kernel2.main (F := Bits) = Cert.Kernel2Ideal.main (F := Bits) := rfl

theorem frame_kernel : Cert.quiescent_Kernel2 := fun m ρ _ => by
  have h := Cert.Kernel2Ideal.Gen.frame (F := Bits) m ρ
  rw [← defs_same, ← main_same] at h
  exact h

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨_, (θ_run Cert.Kernel2Ideal.defs _ _).mono (fun _ h c => ⟨(h c).1.trans (Cert.Kernel2Ideal.Hand.final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  rw [(hagree c).1, (hagree c).2]
  rfl

end Cert.Proof.K2

end
-- ==== Proof.Mm3.lean ====
/-
  The gradient of the gated activations: the kernel's blocks are the reference's product, block by block; with the frames.
-/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384
set_option maxHeartbeats 2000000

noncomputable section

namespace Cert.Reference3Ideal.Hand

open Cert.Reference3Ideal Cert.Reference3Ideal.Gen
open Idealize.ShloMosaic

/-- The reference's composed term over its arguments. -/
def product (x0 : FVec Ideal S2048x2048 .bf16) (x1 : FVec Ideal S1x5632x2048 .bf16) : FVec Ideal S2048x5632 .bf16 :=
  truncf .bf16 (Host.dotGeneral dot_S2048x2048_S5632x2048_S2048x5632_1_1_0_0_n_n none (extf .f32 x0 bitsLt_bf16_f32) (shapeCast _ (extf .f32 x1 bitsLt_bf16_f32) shapeCasts_S1x5632x2048_S5632x2048)) bitsLt_bf16_f32

end Cert.Reference3Ideal.Hand

namespace Cert.Kernel3Ideal.Hand

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![0, t.val % 4, 0] ∧ win0_2.index t = ![t.val / 4, t.val % 4]
    ∧ t.val % 4 < 4 :=
  (by decide +kernel : ∀ t : Fin grid0.N, _)

theorem point (c : Dev nD) (t : Fin cfg0.N) (y) : k0_pay1 (iblk m c 0 t) (iblk m c 1 t) y
    = Cert.Reference3Ideal.Hand.product (m ((c : Thread nD τ).loc main_arg0)) (m ((c : Thread nD τ).loc main_arg1)) (((cfg0.win 2).blk t).view.emb y) := by
  pointwise [k0_pay1, Cert.Reference3Ideal.Hand.product]
  blk_point [iblk, V, idx t]

theorem final (c : Dev nD) : (dats m 0 c).arrAt 2 (cfgs 0).N
    = Cert.Reference3Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel3Ideal.Hand

namespace Cert.Proof.K3

open Idealize.ShloMosaic Idealize.ShloMosaic.TcCoe Idealize.SL.Sem

theorem frame_ideal : Cert.quiescent_Kernel3Ideal := fun m ρ _ => Cert.Kernel3Ideal.Gen.frame (F := Ideal) m ρ

/-- The kernel and its ideal form are one text: their body tables agree label by label. -/
theorem defs₀_same : Cert.Kernel3.defs₀ (F := Bits) = Cert.Kernel3Ideal.defs₀ (F := Bits) := by
  refine congrArg Defs.onTc (funext fun l => funext fun x => ?_)
  match l, x with
  | 0, (t, s) => rfl

theorem defs_same : Cert.Kernel3.defs (F := Bits) = Cert.Kernel3Ideal.defs (F := Bits) :=
  congrArg (Pipeline.defs (Cert.Kernel3Ideal.pcfgs (F := Bits))) defs₀_same

theorem main_same : Cert.Kernel3.main (F := Bits) = Cert.Kernel3Ideal.main (F := Bits) := rfl

theorem frame_kernel : Cert.quiescent_Kernel3 := fun m ρ _ => by
  have h := Cert.Kernel3Ideal.Gen.frame (F := Bits) m ρ
  rw [← defs_same, ← main_same] at h
  exact h

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, (θ_run Cert.Kernel3Ideal.defs _ _).mono (fun _ h c => ⟨(h c).1.trans (Cert.Kernel3Ideal.Hand.final m c), (h c).2⟩)
    (Cert.Kernel3Ideal.Value.run_blocks (F := Ideal) m ρ), ?_⟩
  refine (θ_run Cert.Reference3Ideal.defs _ _).mono (fun _ h c => ⟨(h c).1.trans ?_, (h c).2⟩)
    (Cert.Reference3Ideal.Value.run (F := Ideal) m' ρ')
  rw [(hagree c).1, (hagree c).2]
  rfl

end Cert.Proof.K3

end
-- ==== Proof.Mm4.lean ====
/-
  The gradient of the feed-forward's input weights: the kernel's blocks are the reference's product, block by block; with the frames.
-/
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Pipeline.ValueKit
public import Idealize.ShloMosaic.Lib.Quiescent

@[expose] public section

set_option maxRecDepth 16384
set_option maxHeartbeats 2000000

noncomputable section

namespace Cert.Reference4Ideal.Hand

open Cert.Reference4Ideal Cert.Reference4Ideal.Gen
open Idealize.ShloMosaic

/-- The reference's composed term over its arguments. -/
def product (x0 : FVec Ideal S2048x2048 .bf16) (x1 : FVec Ideal S2048x11264 .bf16) : FVec Ideal S1x11264x2048 .bf16 :=
  truncf .bf16 (broadcastInDim S1x11264x2048 ![1, 2] bcast_S11264x2048_S1x11264x2048_1_2 (Host.dotGeneral dot_S2048x11264_S2048x2048_S11264x2048_0_0_1_1_n_n none (extf .f32 x1 bitsLt_bf16_f32) (extf .f32 x0 bitsLt_bf16_f32))) bitsLt_bf16_f32

end Cert.Reference4Ideal.Hand

namespace Cert.Kernel4Ideal.Hand

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val / 2] ∧ win0_1.index t = ![0, t.val % 2] ∧ win0_2.index t = ![0, t.val / 2, t.val % 2]
    ∧ t.val % 2 < 2 :=
  (by decide +kernel : ∀ t : Fin grid0.N, _)

theorem point (c : Dev nD) (t : Fin cfg0.N) (y) : k0_pay1 (iblk m c 0 t) (iblk m c 1 t) y
    = Cert.Reference4Ideal.Hand.product (m ((c : Thread nD τ).loc main_arg0)) (m ((c : Thread nD τ).loc main_arg1)) (((cfg0.win 2).blk t).view.emb y) := by
  pointwise [k0_pay1, Cert.Reference4Ideal.Hand.product]
  blk_point [iblk, V, idx t]

theorem final (c : Dev nD) : (dats m 0 c).arrAt 2 (cfgs 0).N
    = Cert.Reference4Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel4Ideal.Hand

namespace Cert.Proof.K4

open Idealize.ShloMosaic Idealize.ShloMosaic.TcCoe Idealize.SL.Sem

theorem frame_ideal : Cert.quiescent_Kernel4Ideal := fun m ρ _ => Cert.Kernel4Ideal.Gen.frame (F := Ideal) m ρ

/-- The kernel and its ideal form are one text: their body tables agree label by label. -/
theorem defs₀_same : Cert.Kernel4.defs₀ (F := Bits) = Cert.Kernel4Ideal.defs₀ (F := Bits) := by
  refine congrArg Defs.onTc (funext fun l => funext fun x => ?_)
  match l, x with
  | 0, (t, s) => rfl

theorem defs_same : Cert.Kernel4.defs (F := Bits) = Cert.Kernel4Ideal.defs (F := Bits) :=
  congrArg (Pipeline.defs (Cert.Kernel4Ideal.pcfgs (F := Bits))) defs₀_same

theorem main_same : Cert.Kernel4.main (F := Bits) = Cert.Kernel4Ideal.main (F := Bits) := rfl

theorem frame_kernel : Cert.quiescent_Kernel4 := fun m ρ _ => by
  have h := Cert.Kernel4Ideal.Gen.frame (F := Bits) m ρ
  rw [← defs_same, ← main_same] at h
  exact h

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_, (θ_run Cert.Kernel4Ideal.defs _ _).mono (fun _ h c => ⟨(h c).1.trans (Cert.Kernel4Ideal.Hand.final m c), (h c).2⟩)
    (Cert.Kernel4Ideal.Value.run_blocks (F := Ideal) m ρ), ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  rfl

end Cert.Proof.K4

end
-- ==== Proof.Mm5.lean ====
/-
  The gradient of the feed-forward's normalised input: what a run of points gathers in the scratch is the reference's product, block by block;
  with the frames.
-/
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Quiescent

@[expose] public section

set_option maxRecDepth 16384
set_option maxHeartbeats 2000000

noncomputable section

namespace Cert.Reference5Ideal.Hand

open Cert.Reference5Ideal Cert.Reference5Ideal.Gen
open Idealize.ShloMosaic

/-- The reference's composed term over its arguments. -/
def product (x0 : FVec Ideal S2048x11264 .bf16) (x1 : FVec Ideal S8x1408x2048 .bf16) : FVec Ideal S2048x2048 .bf16 :=
  truncf .bf16 (Host.dotGeneral dot_S2048x8x1408_S8x1408x2048_S2048x2048_12_01_0_2_n_n none (shapeCast _ (extf .f32 x0 bitsLt_bf16_f32) shapeCasts_S2048x11264_S2048x8x1408) (extf .f32 x1 bitsLt_bf16_f32)) bitsLt_bf16_f32

/-- The sum over chunks and places in a chunk is one sum over the width. -/
theorem product_apply (x0 x1) (i : S2048x2048.Idx) : product x0 x1 i
    = ∑ l : Fin 11264, x0 (ix2 (i 0) l) * x1 (ix3 (⟨l.val / 1408, by omega⟩ : Fin 8) (⟨l.val % 1408, by omega⟩ : Fin 1408) (i 1)) := by
  pointwise [product]
  refine Fin.sum_mul_add_congr fun s k hl => ?_
  blk_point []

end Cert.Reference5Ideal.Hand

namespace Cert.Kernel5Ideal.Hand

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 4] ∧ win0_1.index t = ![t.val % 4, 0, 0, t.val / 4 % 2] ∧ win0_2.index t = ![t.val / 8, t.val / 4 % 2] :=
  (by decide +kernel : ∀ t : Fin grid0.N, _)

theorem hzero (j) : k0_pay1 (F := Ideal) j = 0 := by pointwise [k0_pay1]

theorem hround (x j) : k0_pay3 (F := Ideal) x j = x j := by pointwise [k0_pay3]

theorem hpay (x1 acc x0 j) : k0_pay2 (F := Ideal) x1 acc x0 j
    = acc j + ∑ k : Fin 2816, x0 (ix2 (j 0) k) * x1 (ix4 0 (⟨k.val / 1408, by omega⟩ : Fin 2) (⟨k.val % 1408, by omega⟩ : Fin 1408) (j 1)) := by
  pointwise [k0_pay2]

theorem final (c : Dev nD) : (dats m 0 c).arrAt 2 (cfgs 0).N
    = Cert.Reference5Ideal.Hand.product (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have hs : (outsAt0 m c t.val t.isLt).1 = k0_pay3 (F := Ideal) (outsAt0 m c t.val t.isLt).2 := by
    rw [outsAt0_C m c t (by omega) ht]; frame_out
  rw [after0_2, hs, hround, Pipeline.eq_sum_fin_of_reset_step_apply_of_flush (fun n h => (outsAt0 m c n h).2) 4 (fun _ => 0) (fun p j => (∑ k : Fin 2816, (show FVec Ideal S1024x2816 .bf16 from iblk m c 0 p) (ix2 (j 0) k) * (show FVec Ideal S1x2x1408x1024 .bf16 from iblk m c 1 p) (ix4 0 (⟨k.val / 1408, by omega⟩ : Fin 2) (⟨k.val % 1408, by omega⟩ : Fin 1408) (j 1)) : EReal))
    (fun t h j => by rw [outsAt0_A m c t h (by omega)]; frame_out; rw [hpay, hzero])
    (fun t h j => by
      by_cases h3 : t.val % 4 = 3
      · rw [outsAt0_C m c t h h3]; frame_out; rw [hpay, read_unread_whole]
      · rw [outsAt0_B m c t h h3]; frame_out; rw [hpay, read_unread_whole]) t ht _, zero_add,
    Cert.Reference5Ideal.Hand.product_apply]
  refine Fin.sum_mul_add_congr fun s k hl => ?_
  blk_point [iblk, V, idx t, idx ⟨_, Pipeline.run_point_lt_of_flush t ht s⟩]

end Cert.Kernel5Ideal.Hand

namespace Cert.Proof.K5

open Idealize.ShloMosaic Idealize.ShloMosaic.TcCoe Idealize.SL.Sem

theorem frame_ideal : Cert.quiescent_Kernel5Ideal := fun m ρ _ => Cert.Kernel5Ideal.Gen.frame (F := Ideal) m ρ

/-- The kernel and its ideal form are one text: their body tables agree label by label. -/
theorem defs₀_same : Cert.Kernel5.defs₀ (F := Bits) = Cert.Kernel5Ideal.defs₀ (F := Bits) := by
  refine congrArg Defs.onTc (funext fun l => funext fun x => ?_)
  match l, x with
  | 0, (t, s) => rfl

theorem defs_same : Cert.Kernel5.defs (F := Bits) = Cert.Kernel5Ideal.defs (F := Bits) :=
  congrArg (Pipeline.defs (Cert.Kernel5Ideal.pcfgs (F := Bits))) defs₀_same

theorem main_same : Cert.Kernel5.main (F := Bits) = Cert.Kernel5Ideal.main (F := Bits) := rfl

theorem frame_kernel : Cert.quiescent_Kernel5 := fun m ρ _ => by
  have h := Cert.Kernel5Ideal.Gen.frame (F := Bits) m ρ
  rw [← defs_same, ← main_same] at h
  exact h

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨_, (θ_run Cert.Kernel5Ideal.defs _ _).mono (fun _ h c => ⟨(h c).1.trans (Cert.Kernel5Ideal.Hand.final m c), (h c).2⟩)
    (Cert.Kernel5Ideal.Value.run_blocks (F := Ideal) m ρ), ?_⟩
  refine (θ_run Cert.Reference5Ideal.defs _ _).mono (fun _ h c => ⟨(h c).1.trans ?_, (h c).2⟩)
    (Cert.Reference5Ideal.Value.run (F := Ideal) m' ρ')
  rw [(hagree c).1, (hagree c).2]
  rfl

end Cert.Proof.K5

end
-- ==== Proof.Mm6.lean ====
/-
  The gradient of the mixer's output weights: the kernel's blocks are the reference's product, block by block; with the frames.
-/
module

public import proofs.«01_k».proof.Defs
public import proofs.«01_k».proof.Proof.Gen.Kernel6
public import proofs.«01_k».proof.Proof.Gen.Kernel6Ideal.Value
public import proofs.«01_k».proof.Proof.Gen.Reference6Ideal.Run
public import Idealize.ShloMosaic.Lib.Pipeline.ValueKit
public import Idealize.ShloMosaic.Lib.Quiescent

@[expose] public section

set_option maxRecDepth 16384
set_option maxHeartbeats 2000000

noncomputable section

namespace Cert.Reference6Ideal.Hand

open Cert.Reference6Ideal Cert.Reference6Ideal.Gen
open Idealize.ShloMosaic

/-- The reference's composed term over its arguments. -/
def product (x0 : FVec Ideal S2048x2048 .bf16) (x1 : FVec Ideal S2048x2048 .bf16) : FVec Ideal S1x2048x2048 .bf16 :=
  truncf .bf16 (broadcastInDim S1x2048x2048 ![1, 2] bcast_S2048x2048_S1x2048x2048_1_2 (transpose S2048x2048 [1, 0] (Host.dotGeneral dot_S2048x2048_S2048x2048_S2048x2048_0_0_1_1_n_n none (extf .f32 x1 bitsLt_bf16_f32) (extf .f32 x0 bitsLt_bf16_f32)) transposes_S2048x2048_S2048x2048_1_0)) bitsLt_bf16_f32

end Cert.Reference6Ideal.Hand

namespace Cert.Kernel6Ideal.Hand

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val / 2] ∧ win0_1.index t = ![0, t.val % 2] ∧ win0_2.index t = ![0, t.val / 2, t.val % 2]
    ∧ t.val % 2 < 2 :=
  (by decide +kernel : ∀ t : Fin grid0.N, _)

theorem point (c : Dev nD) (t : Fin cfg0.N) (y) : k0_pay1 (iblk m c 0 t) (iblk m c 1 t) y
    = Cert.Reference6Ideal.Hand.product (m ((c : Thread nD τ).loc main_arg0)) (m ((c : Thread nD τ).loc main_arg1)) (((cfg0.win 2).blk t).view.emb y) := by
  pointwise [k0_pay1, Cert.Reference6Ideal.Hand.product]
  refine (Finset.sum_congr rfl fun x _ => mul_comm _ _).trans ?_
  blk_point [iblk, V, idx t]

theorem final (c : Dev nD) : (dats m 0 c).arrAt 2 (cfgs 0).N
    = Cert.Reference6Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel6Ideal.Hand

namespace Cert.Proof.K6

open Idealize.ShloMosaic Idealize.ShloMosaic.TcCoe Idealize.SL.Sem

theorem frame_ideal : Cert.quiescent_Kernel6Ideal := fun m ρ _ => Cert.Kernel6Ideal.Gen.frame (F := Ideal) m ρ

/-- The kernel and its ideal form are one text: their body tables agree label by label. -/
theorem defs₀_same : Cert.Kernel6.defs₀ (F := Bits) = Cert.Kernel6Ideal.defs₀ (F := Bits) := by
  refine congrArg Defs.onTc (funext fun l => funext fun x => ?_)
  match l, x with
  | 0, (t, s) => rfl

theorem defs_same : Cert.Kernel6.defs (F := Bits) = Cert.Kernel6Ideal.defs (F := Bits) :=
  congrArg (Pipeline.defs (Cert.Kernel6Ideal.pcfgs (F := Bits))) defs₀_same

theorem main_same : Cert.Kernel6.main (F := Bits) = Cert.Kernel6Ideal.main (F := Bits) := rfl

theorem frame_kernel : Cert.quiescent_Kernel6 := fun m ρ _ => by
  have h := Cert.Kernel6Ideal.Gen.frame (F := Bits) m ρ
  rw [← defs_same, ← main_same] at h
  exact h

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨_, (θ_run Cert.Kernel6Ideal.defs _ _).mono (fun _ h c => ⟨(h c).1.trans (Cert.Kernel6Ideal.Hand.final m c), (h c).2⟩)
    (Cert.Kernel6Ideal.Value.run_blocks (F := Ideal) m ρ), ?_⟩
  refine (θ_run Cert.Reference6Ideal.defs _ _).mono (fun _ h c => ⟨(h c).1.trans ?_, (h c).2⟩)
    (Cert.Reference6Ideal.Value.run (F := Ideal) m' ρ')
  rw [(hagree c).1, (hagree c).2]
  rfl

end Cert.Proof.K6

end
-- ==== Proof.Mm7.lean ====
/-
  The gradient of the mixed heads: the kernel's blocks are the reference's product, block by block; with the frames.
-/
module

public import proofs.«01_k».proof.Defs
public import proofs.«01_k».proof.Proof.Gen.Kernel7
public import proofs.«01_k».proof.Proof.Gen.Kernel7Ideal.Value
public import proofs.«01_k».proof.Proof.Gen.Reference7Ideal.Run
public import Idealize.ShloMosaic.Lib.Pipeline.ValueKit
public import Idealize.ShloMosaic.Lib.Quiescent

@[expose] public section

set_option maxRecDepth 16384
set_option maxHeartbeats 2000000

noncomputable section

namespace Cert.Reference7Ideal.Hand

open Cert.Reference7Ideal Cert.Reference7Ideal.Gen
open Idealize.ShloMosaic

/-- The reference's composed term over its arguments. -/
def product (x0 : FVec Ideal S2048x2048 .bf16) (x1 : FVec Ideal S1x2048x2048 .bf16) : FVec Ideal S2048x2048 .bf16 :=
  truncf .bf16 (Host.dotGeneral dot_S2048x2048_S2048x2048_S2048x2048_1_1_0_0_n_n none (extf .f32 x0 bitsLt_bf16_f32) (shapeCast _ (extf .f32 x1 bitsLt_bf16_f32) shapeCasts_S1x2048x2048_S2048x2048)) bitsLt_bf16_f32

end Cert.Reference7Ideal.Hand

namespace Cert.Kernel7Ideal.Hand

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, t.val % 2, 0] ∧ win0_2.index t = ![t.val / 2, t.val % 2]
    ∧ t.val % 2 < 2 :=
  (by decide +kernel : ∀ t : Fin grid0.N, _)

theorem point (c : Dev nD) (t : Fin cfg0.N) (y) : k0_pay1 (iblk m c 0 t) (iblk m c 1 t) y
    = Cert.Reference7Ideal.Hand.product (m ((c : Thread nD τ).loc main_arg0)) (m ((c : Thread nD τ).loc main_arg1)) (((cfg0.win 2).blk t).view.emb y) := by
  pointwise [k0_pay1, Cert.Reference7Ideal.Hand.product]
  blk_point [iblk, V, idx t]

theorem final (c : Dev nD) : (dats m 0 c).arrAt 2 (cfgs 0).N
    = Cert.Reference7Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel7Ideal.Hand

namespace Cert.Proof.K7

open Idealize.ShloMosaic Idealize.ShloMosaic.TcCoe Idealize.SL.Sem

theorem frame_ideal : Cert.quiescent_Kernel7Ideal := fun m ρ _ => Cert.Kernel7Ideal.Gen.frame (F := Ideal) m ρ

/-- The kernel and its ideal form are one text: their body tables agree label by label. -/
theorem defs₀_same : Cert.Kernel7.defs₀ (F := Bits) = Cert.Kernel7Ideal.defs₀ (F := Bits) := by
  refine congrArg Defs.onTc (funext fun l => funext fun x => ?_)
  match l, x with
  | 0, (t, s) => rfl

theorem defs_same : Cert.Kernel7.defs (F := Bits) = Cert.Kernel7Ideal.defs (F := Bits) :=
  congrArg (Pipeline.defs (Cert.Kernel7Ideal.pcfgs (F := Bits))) defs₀_same

theorem main_same : Cert.Kernel7.main (F := Bits) = Cert.Kernel7Ideal.main (F := Bits) := rfl

theorem frame_kernel : Cert.quiescent_Kernel7 := fun m ρ _ => by
  have h := Cert.Kernel7Ideal.Gen.frame (F := Bits) m ρ
  rw [← defs_same, ← main_same] at h
  exact h

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨_, (θ_run Cert.Kernel7Ideal.defs _ _).mono (fun _ h c => ⟨(h c).1.trans (Cert.Kernel7Ideal.Hand.final m c), (h c).2⟩)
    (Cert.Kernel7Ideal.Value.run_blocks (F := Ideal) m ρ), ?_⟩
  refine (θ_run Cert.Reference7Ideal.defs _ _).mono (fun _ h c => ⟨(h c).1.trans ?_, (h c).2⟩)
    (Cert.Reference7Ideal.Value.run (F := Ideal) m' ρ')
  rw [(hagree c).1, (hagree c).2]
  rfl

end Cert.Proof.K7

end
-- ==== Proof.Mm8.lean ====
/-
  The gradient of the mixer's input weights: the kernel's blocks are the reference's product, block by block; with the frames.
-/
module

public import proofs.«01_k».proof.Defs
public import proofs.«01_k».proof.Proof.Gen.Kernel8
public import proofs.«01_k».proof.Proof.Gen.Kernel8Ideal.Value
public import proofs.«01_k».proof.Proof.Gen.Reference8Ideal.Run
public import Idealize.ShloMosaic.Lib.Pipeline.ValueKit
public import Idealize.ShloMosaic.Lib.Quiescent

@[expose] public section

set_option maxRecDepth 16384
set_option maxHeartbeats 2000000

noncomputable section

namespace Cert.Reference8Ideal.Hand

open Cert.Reference8Ideal Cert.Reference8Ideal.Gen
open Idealize.ShloMosaic

/-- The reference's composed term over its arguments. -/
def product (x0 : FVec Ideal S2048x2048 .bf16) (x1 : FVec Ideal S2048x6144 .bf16) : FVec Ideal S8x2048x768 .bf16 :=
  truncf .bf16 (transpose S8x2048x768 [0, 2, 1] (Host.dotGeneral dot_S2048x8x768_S2048x2048_S8x768x2048_0_0_12_1_n_n none (shapeCast _ (extf .f32 x1 bitsLt_bf16_f32) shapeCasts_S2048x6144_S2048x8x768) (extf .f32 x0 bitsLt_bf16_f32)) transposes_S8x768x2048_S8x2048x768_0_2_1) bitsLt_bf16_f32

end Cert.Reference8Ideal.Hand

namespace Cert.Kernel8Ideal.Hand

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val / 8] ∧ win0_1.index t = ![0, t.val % 8] ∧ win0_2.index t = ![t.val % 8, t.val / 8, 0]
    ∧ t.val % 8 < 8 :=
  (by decide +kernel : ∀ t : Fin grid0.N, _)

theorem point (c : Dev nD) (t : Fin cfg0.N) (y) : k0_pay1 (iblk m c 0 t) (iblk m c 1 t) y
    = Cert.Reference8Ideal.Hand.product (m ((c : Thread nD τ).loc main_arg0)) (m ((c : Thread nD τ).loc main_arg1)) (((cfg0.win 2).blk t).view.emb y) := by
  pointwise [k0_pay1, Cert.Reference8Ideal.Hand.product]
  refine (Finset.sum_congr rfl fun x _ => mul_comm _ _).trans ?_
  blk_point [iblk, V, idx t]

theorem final (c : Dev nD) : (dats m 0 c).arrAt 2 (cfgs 0).N
    = Cert.Reference8Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Hand

namespace Cert.Proof.K8

open Idealize.ShloMosaic Idealize.ShloMosaic.TcCoe Idealize.SL.Sem

theorem frame_ideal : Cert.quiescent_Kernel8Ideal := fun m ρ _ => Cert.Kernel8Ideal.Gen.frame (F := Ideal) m ρ

/-- The kernel and its ideal form are one text: their body tables agree label by label. -/
theorem defs₀_same : Cert.Kernel8.defs₀ (F := Bits) = Cert.Kernel8Ideal.defs₀ (F := Bits) := by
  refine congrArg Defs.onTc (funext fun l => funext fun x => ?_)
  match l, x with
  | 0, (t, s) => rfl

theorem defs_same : Cert.Kernel8.defs (F := Bits) = Cert.Kernel8Ideal.defs (F := Bits) :=
  congrArg (Pipeline.defs (Cert.Kernel8Ideal.pcfgs (F := Bits))) defs₀_same

theorem main_same : Cert.Kernel8.main (F := Bits) = Cert.Kernel8Ideal.main (F := Bits) := rfl

theorem frame_kernel : Cert.quiescent_Kernel8 := fun m ρ _ => by
  have h := Cert.Kernel8Ideal.Gen.frame (F := Bits) m ρ
  rw [← defs_same, ← main_same] at h
  exact h

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨_, (θ_run Cert.Kernel8Ideal.defs _ _).mono (fun _ h c => ⟨(h c).1.trans (Cert.Kernel8Ideal.Hand.final m c), (h c).2⟩)
    (Cert.Kernel8Ideal.Value.run_blocks (F := Ideal) m ρ), ?_⟩
  refine (θ_run Cert.Reference8Ideal.defs _ _).mono (fun _ h c => ⟨(h c).1.trans ?_, (h c).2⟩)
    (Cert.Reference8Ideal.Value.run (F := Ideal) m' ρ')
  rw [(hagree c).1, (hagree c).2]
  rfl

end Cert.Proof.K8

end
-- ==== Proof.Mm9.lean ====
/-
  The gradient of the mixer's normalised input: what a run of points gathers in the scratch is the reference's product, block by block;
  with the frames.
-/
module

public import proofs.«01_k».proof.Defs
public import proofs.«01_k».proof.Proof.Gen.Kernel9
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Quiescent

@[expose] public section

set_option maxRecDepth 16384
set_option maxHeartbeats 2000000

noncomputable section

namespace Cert.Reference9Ideal.Hand

open Cert.Reference9Ideal Cert.Reference9Ideal.Gen
open Idealize.ShloMosaic

/-- The reference's composed term over its arguments. -/
def product (x0 : FVec Ideal S2048x6144 .bf16) (x1 : FVec Ideal S8x2048x768 .bf16) : FVec Ideal S2048x2048 .bf16 :=
  truncf .bf16 (Host.dotGeneral dot_S2048x8x768_S8x2048x768_S2048x2048_12_02_0_1_n_n none (shapeCast _ (extf .f32 x0 bitsLt_bf16_f32) shapeCasts_S2048x6144_S2048x8x768) (extf .f32 x1 bitsLt_bf16_f32)) bitsLt_bf16_f32

/-- The sum over chunks and places in a chunk is one sum over the width. -/
theorem product_apply (x0 x1) (i : S2048x2048.Idx) : product x0 x1 i
    = ∑ l : Fin 6144, x0 (ix2 (i 0) l) * x1 (ix3 (⟨l.val / 768, by omega⟩ : Fin 8) (i 1) (⟨l.val % 768, by omega⟩ : Fin 768)) := by
  pointwise [product]
  refine Fin.sum_mul_add_congr fun s k hl => ?_
  blk_point []

end Cert.Reference9Ideal.Hand

namespace Cert.Kernel9Ideal.Hand

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 2] ∧ win0_1.index t = ![t.val % 2, 0, t.val / 2 % 2, 0] ∧ win0_2.index t = ![t.val / 4, t.val / 2 % 2] :=
  (by decide +kernel : ∀ t : Fin grid0.N, _)

theorem hzero (j) : k0_pay1 (F := Ideal) j = 0 := by pointwise [k0_pay1]

theorem hround (x j) : k0_pay3 (F := Ideal) x j = x j := by pointwise [k0_pay3]

theorem hpay (x1 acc x0 j) : k0_pay2 (F := Ideal) x1 acc x0 j
    = acc j + ∑ k : Fin 3072, x0 (ix2 (j 0) k) * x1 (ix4 0 (⟨k.val / 768, by omega⟩ : Fin 4) (j 1) (⟨k.val % 768, by omega⟩ : Fin 768)) := by
  have e (a b : Fin 4) (p q : Fin 768) (hab : a.val = b.val) (hpq : p.val = q.val) : x1 (ix4 0 a (j 1) p) = x1 (ix4 0 b (j 1) q) := by
    rw [Fin.ext hab, Fin.ext hpq]
  pointwise [k0_pay2]
  refine congrArg (acc j + ·) (Finset.sum_congr rfl fun x _ => congrArg (x0 _ * ·) ?_)
  have hx : x.val < 3072 := x.isLt
  split
  · exact e _ _ _ _ (by dsimp only; omega) (by dsimp only; omega)
  split
  · exact e _ _ _ _ (by dsimp only; omega) (by dsimp only; omega)
  split
  · exact e _ _ _ _ (by dsimp only; omega) (by dsimp only; omega)
  · exact e _ _ _ _ (by dsimp only; omega) (by dsimp only; omega)

theorem final (c : Dev nD) : (dats m 0 c).arrAt 2 (cfgs 0).N
    = Cert.Reference9Ideal.Hand.product (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have hs : (outsAt0 m c t.val t.isLt).1 = k0_pay3 (F := Ideal) (outsAt0 m c t.val t.isLt).2 := by
    rw [outsAt0_B m c t (by omega) ht]; frame_out
  rw [after0_2, hs, hround, Pipeline.eq_sum_fin_of_reset_step_apply_of_flush (fun n h => (outsAt0 m c n h).2) 2 (fun _ => 0) (fun p j => (∑ k : Fin 3072, (show FVec Ideal S1024x3072 .bf16 from iblk m c 0 p) (ix2 (j 0) k) * (show FVec Ideal S1x4x1024x768 .bf16 from iblk m c 1 p) (ix4 0 (⟨k.val / 768, by omega⟩ : Fin 4) (j 1) (⟨k.val % 768, by omega⟩ : Fin 768)) : EReal))
    (fun t h j => by rw [outsAt0_A m c t h (by omega)]; frame_out; rw [hpay, hzero])
    (fun t h j => by rw [outsAt0_B m c t h (by omega)]; frame_out; rw [hpay, read_unread_whole]) t ht _, zero_add,
    Cert.Reference9Ideal.Hand.product_apply]
  refine Fin.sum_mul_add_congr fun s k hl => ?_
  blk_point [iblk, V, idx t, idx ⟨_, Pipeline.run_point_lt_of_flush t ht s⟩]

end Cert.Kernel9Ideal.Hand

namespace Cert.Proof.K9

open Idealize.ShloMosaic Idealize.ShloMosaic.TcCoe Idealize.SL.Sem

theorem frame_ideal : Cert.quiescent_Kernel9Ideal := fun m ρ _ => Cert.Kernel9Ideal.Gen.frame (F := Ideal) m ρ

/-- The kernel and its ideal form are one text: their body tables agree label by label. -/
theorem defs₀_same : Cert.Kernel9.defs₀ (F := Bits) = Cert.Kernel9Ideal.defs₀ (F := Bits) := by
  refine congrArg Defs.onTc (funext fun l => funext fun x => ?_)
  match l, x with
  | 0, (t, s) => rfl

theorem defs_same : Cert.Kernel9.defs (F := Bits) = Cert.Kernel9Ideal.defs (F := Bits) :=
  congrArg (Pipeline.defs (Cert.Kernel9Ideal.pcfgs (F := Bits))) defs₀_same

theorem main_same : Cert.Kernel9.main (F := Bits) = Cert.Kernel9Ideal.main (F := Bits) := rfl

theorem frame_kernel : Cert.quiescent_Kernel9 := fun m ρ _ => by
  have h := Cert.Kernel9Ideal.Gen.frame (F := Bits) m ρ
  rw [← defs_same, ← main_same] at h
  exact h

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_, (θ_run Cert.Kernel9Ideal.defs _ _).mono (fun _ h c => ⟨(h c).1.trans (Cert.Kernel9Ideal.Hand.final m c), (h c).2⟩)
    (Cert.Kernel9Ideal.Value.run_blocks (F := Ideal) m ρ), ?_⟩
  refine (θ_run Cert.Reference9Ideal.defs _ _).mono (fun _ h c => ⟨(h c).1.trans ?_, (h c).2⟩)
    (Cert.Reference9Ideal.Value.run (F := Ideal) m' ρ')
  rw [(hagree c).1, (hagree c).2]
  rfl

end Cert.Proof.K9

end
-- ==== Proof.Mm10.lean ====
/-
  The feed-forward's output product: what a run of points gathers in the scratch is the reference's product, block by block;
  with the frames.
-/
module

public import proofs.«01_k».proof.Defs
public import proofs.«01_k».proof.Proof.Gen.Kernel10
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Quiescent

@[expose] public section

set_option maxRecDepth 16384
set_option maxHeartbeats 2000000

noncomputable section

namespace Cert.Reference10Ideal.Hand

open Cert.Reference10Ideal Cert.Reference10Ideal.Gen
open Idealize.ShloMosaic

/-- The reference's composed term over its arguments. -/
def product (x0 : FVec Ideal S2048x5632 .bf16) (x1 : FVec Ideal S1x5632x2048 .bf16) : FVec Ideal S2048x2048 .f32 :=
  Host.dotGeneral dot_S2048x5632_S5632x2048_S2048x2048_1_0_0_1_n_n none (extf .f32 x0 bitsLt_bf16_f32) (shapeCast S5632x2048 (extf .f32 x1 bitsLt_bf16_f32) shapeCasts_S1x5632x2048_S5632x2048)

theorem product_apply (x0 x1) (i : S2048x2048.Idx) : product x0 x1 i = ∑ l : Fin 5632, x0 (ix2 (i 0) l) * x1 (ix3 0 l (i 1)) := by
  pointwise [product]

end Cert.Reference10Ideal.Hand

namespace Cert.Kernel10Ideal.Hand

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, t.val % 2] ∧ win0_1.index t = ![0, t.val % 2, t.val / 2 % 2] ∧ win0_2.index t = ![t.val / 4, t.val / 2 % 2] :=
  (by decide +kernel : ∀ t : Fin grid0.N, _)

theorem hzero (j) : k0_pay1 (F := Ideal) j = 0 := by pointwise [k0_pay1]

theorem hpay (acc x1 x0 j) : k0_pay2 (F := Ideal) acc x0 x1 j = acc j + ∑ k : Fin 2816, x0 (ix2 (j 0) k) * x1 (ix3 0 k (j 1)) := by
  pointwise [k0_pay2]

theorem final (c : Dev nD) : (dats m 0 c).arrAt 2 (cfgs 0).N
    = Cert.Reference10Ideal.Hand.product (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have hs : (outsAt0 m c t.val t.isLt).1 = (outsAt0 m c t.val t.isLt).2 := by
    rw [outsAt0_B m c t (by omega) ht]; frame_out
  rw [after0_2, hs, Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [hpay, read_unread_whole]) t ht _, zero_add, Cert.Reference10Ideal.Hand.product_apply]
  refine Fin.sum_mul_add_congr fun s k hl => ?_
  blk_point [iblk, V, idx t, idx ⟨_, Pipeline.run_point_lt_of_flush t ht s⟩]

end Cert.Kernel10Ideal.Hand

namespace Cert.Proof.K10

open Idealize.ShloMosaic Idealize.ShloMosaic.TcCoe Idealize.SL.Sem

theorem frame_ideal : Cert.quiescent_Kernel10Ideal := fun m ρ _ => Cert.Kernel10Ideal.Gen.frame (F := Ideal) m ρ

/-- The kernel and its ideal form are one text: their body tables agree label by label. -/
theorem defs₀_same : Cert.Kernel10.defs₀ (F := Bits) = Cert.Kernel10Ideal.defs₀ (F := Bits) := by
  refine congrArg Defs.onTc (funext fun l => funext fun x => ?_)
  match l, x with
  | 0, (t, s) => rfl

theorem defs_same : Cert.Kernel10.defs (F := Bits) = Cert.Kernel10Ideal.defs (F := Bits) :=
  congrArg (Pipeline.defs (Cert.Kernel10Ideal.pcfgs (F := Bits))) defs₀_same

theorem main_same : Cert.Kernel10.main (F := Bits) = Cert.Kernel10Ideal.main (F := Bits) := rfl

theorem frame_kernel : Cert.quiescent_Kernel10 := fun m ρ _ => by
  have h := Cert.Kernel10Ideal.Gen.frame (F := Bits) m ρ
  rw [← defs_same, ← main_same] at h
  exact h

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_, (θ_run Cert.Kernel10Ideal.defs _ _).mono (fun _ h c => ⟨(h c).1.trans (Cert.Kernel10Ideal.Hand.final m c), (h c).2⟩)
    (Cert.Kernel10Ideal.Value.run_blocks (F := Ideal) m ρ), ?_⟩
  refine (θ_run Cert.Reference10Ideal.defs _ _).mono (fun _ h c => ⟨(h c).1.trans ?_, (h c).2⟩)
    (Cert.Reference10Ideal.Value.run (F := Ideal) m' ρ')
  rw [(hagree c).1, (hagree c).2]
  rfl

end Cert.Proof.K10

end
-- ==== Proof.Mm11.lean ====
/-
  The feed-forward's input product: the kernel's blocks are the reference's product, block by block; with the frames.
-/
module

public import proofs.«01_k».proof.Defs
public import proofs.«01_k».proof.Proof.Gen.Kernel11
public import proofs.«01_k».proof.Proof.Gen.Kernel11Ideal.Value
public import proofs.«01_k».proof.Proof.Gen.Reference11Ideal.Run
public import Idealize.ShloMosaic.Lib.Pipeline.ValueKit
public import Idealize.ShloMosaic.Lib.Quiescent

@[expose] public section

set_option maxRecDepth 16384
set_option maxHeartbeats 2000000

noncomputable section

namespace Cert.Reference11Ideal.Hand

open Cert.Reference11Ideal Cert.Reference11Ideal.Gen
open Idealize.ShloMosaic

/-- The reference's composed term over its arguments. -/
def product (x0 : FVec Ideal S2048x2048 .bf16) (x1 : FVec Ideal S8x1408x2048 .bf16) : FVec Ideal S2048x11264 .bf16 :=
  truncf .bf16 (shapeCast _ (Host.dotGeneral dot_S2048x2048_S8x1408x2048_S2048x8x1408_1_2_0_01_n_n none (extf .f32 x0 bitsLt_bf16_f32) (extf .f32 x1 bitsLt_bf16_f32)) shapeCasts_S2048x8x1408_S2048x11264) bitsLt_bf16_f32

end Cert.Reference11Ideal.Hand

namespace Cert.Kernel11Ideal.Hand

open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8]
    ∧ t.val % 8 < 8 :=
  (by decide +kernel : ∀ t : Fin grid0.N, _)

theorem point (c : Dev nD) (t : Fin cfg0.N) (y) : k0_pay1 (iblk m c 0 t) (iblk m c 1 t) y
    = Cert.Reference11Ideal.Hand.product (m ((c : Thread nD τ).loc main_arg0)) (m ((c : Thread nD τ).loc main_arg1)) (((cfg0.win 2).blk t).view.emb y) := by
  pointwise [k0_pay1, Cert.Reference11Ideal.Hand.product]
  blk_point [iblk, V, idx t]

theorem final (c : Dev nD) : (dats m 0 c).arrAt 2 (cfgs 0).N
    = Cert.Reference11Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.Hand

namespace Cert.Proof.K11

open Idealize.ShloMosaic Idealize.ShloMosaic.TcCoe Idealize.SL.Sem

theorem frame_ideal : Cert.quiescent_Kernel11Ideal := fun m ρ _ => Cert.Kernel11Ideal.Gen.frame (F := Ideal) m ρ

/-- The kernel and its ideal form are one text: their body tables agree label by label. -/
theorem defs₀_same : Cert.Kernel11.defs₀ (F := Bits) = Cert.Kernel11Ideal.defs₀ (F := Bits) := by
  refine congrArg Defs.onTc (funext fun l => funext fun x => ?_)
  match l, x with
  | 0, (t, s) => rfl

theorem defs_same : Cert.Kernel11.defs (F := Bits) = Cert.Kernel11Ideal.defs (F := Bits) :=
  congrArg (Pipeline.defs (Cert.Kernel11Ideal.pcfgs (F := Bits))) defs₀_same

theorem main_same : Cert.Kernel11.main (F := Bits) = Cert.Kernel11Ideal.main (F := Bits) := rfl

theorem frame_kernel : Cert.quiescent_Kernel11 := fun m ρ _ => by
  have h := Cert.Kernel11Ideal.Gen.frame (F := Bits) m ρ
  rw [← defs_same, ← main_same] at h
  exact h

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨_, (θ_run Cert.Kernel11Ideal.defs _ _).mono (fun _ h c => ⟨(h c).1.trans (Cert.Kernel11Ideal.Hand.final m c), (h c).2⟩)
    (Cert.Kernel11Ideal.Value.run_blocks (F := Ideal) m ρ), ?_⟩
  refine (θ_run Cert.Reference11Ideal.defs _ _).mono (fun _ h c => ⟨(h c).1.trans ?_, (h c).2⟩)
    (Cert.Reference11Ideal.Value.run (F := Ideal) m' ρ')
  rw [(hagree c).1, (hagree c).2]
  rfl

end Cert.Proof.K11

end
-- ==== Proof.Mm12.lean ====
/-
  The mixer's output product: the kernel's blocks are the reference's product, block by block; with the frames.
-/
module

public import proofs.«01_k».proof.Defs
public import proofs.«01_k».proof.Proof.Gen.Kernel12
public import proofs.«01_k».proof.Proof.Gen.Kernel12Ideal.Value
public import proofs.«01_k».proof.Proof.Gen.Reference12Ideal.Run
public import Idealize.ShloMosaic.Lib.Pipeline.ValueKit
public import Idealize.ShloMosaic.Lib.Quiescent

@[expose] public section

set_option maxRecDepth 16384
set_option maxHeartbeats 2000000

noncomputable section

namespace Cert.Reference12Ideal.Hand

open Cert.Reference12Ideal Cert.Reference12Ideal.Gen
open Idealize.ShloMosaic

/-- The reference's composed term over its arguments. -/
def product (x0 : FVec Ideal S2048x2048 .bf16) (x1 : FVec Ideal S1x2048x2048 .bf16) : FVec Ideal S2048x2048 .f32 :=
  Host.dotGeneral dot_S2048x2048_S2048x2048_S2048x2048_1_0_0_1_n_n none (extf .f32 x0 bitsLt_bf16_f32) (shapeCast _ (extf .f32 x1 bitsLt_bf16_f32) shapeCasts_S1x2048x2048_S2048x2048)

end Cert.Reference12Ideal.Hand

namespace Cert.Kernel12Ideal.Hand

open Cert.Kernel12Ideal Cert.Kernel12Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![0, 0, t.val % 2] ∧ win0_2.index t = ![t.val / 2, t.val % 2]
    ∧ t.val % 2 < 2 :=
  (by decide +kernel : ∀ t : Fin grid0.N, _)

theorem point (c : Dev nD) (t : Fin cfg0.N) (y) : k0_pay1 (iblk m c 0 t) (iblk m c 1 t) y
    = Cert.Reference12Ideal.Hand.product (m ((c : Thread nD τ).loc main_arg0)) (m ((c : Thread nD τ).loc main_arg1)) (((cfg0.win 2).blk t).view.emb y) := by
  pointwise [k0_pay1, Cert.Reference12Ideal.Hand.product]
  blk_point [iblk, V, idx t]

theorem final (c : Dev nD) : (dats m 0 c).arrAt 2 (cfgs 0).N
    = Cert.Reference12Ideal.Hand.product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.Hand

namespace Cert.Proof.K12

open Idealize.ShloMosaic Idealize.ShloMosaic.TcCoe Idealize.SL.Sem

theorem frame_ideal : Cert.quiescent_Kernel12Ideal := fun m ρ _ => Cert.Kernel12Ideal.Gen.frame (F := Ideal) m ρ

/-- The kernel and its ideal form are one text: their body tables agree label by label. -/
theorem defs₀_same : Cert.Kernel12.defs₀ (F := Bits) = Cert.Kernel12Ideal.defs₀ (F := Bits) := by
  refine congrArg Defs.onTc (funext fun l => funext fun x => ?_)
  match l, x with
  | 0, (t, s) => rfl

theorem defs_same : Cert.Kernel12.defs (F := Bits) = Cert.Kernel12Ideal.defs (F := Bits) :=
  congrArg (Pipeline.defs (Cert.Kernel12Ideal.pcfgs (F := Bits))) defs₀_same

theorem main_same : Cert.Kernel12.main (F := Bits) = Cert.Kernel12Ideal.main (F := Bits) := rfl

theorem frame_kernel : Cert.quiescent_Kernel12 := fun m ρ _ => by
  have h := Cert.Kernel12Ideal.Gen.frame (F := Bits) m ρ
  rw [← defs_same, ← main_same] at h
  exact h

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨_, (θ_run Cert.Kernel12Ideal.defs _ _).mono (fun _ h c => ⟨(h c).1.trans (Cert.Kernel12Ideal.Hand.final m c), (h c).2⟩)
    (Cert.Kernel12Ideal.Value.run_blocks (F := Ideal) m ρ), ?_⟩
  refine (θ_run Cert.Reference12Ideal.defs _ _).mono (fun _ h c => ⟨(h c).1.trans ?_, (h c).2⟩)
    (Cert.Reference12Ideal.Value.run (F := Ideal) m' ρ')
  rw [(hagree c).1, (hagree c).2]
  rfl

end Cert.Proof.K12

end
-- ==== Proof.NormGrad.lean ====
/-
  The gradient of a row's root-mean-square normalisation over the extended reals: the closed form
  the kernels use is the one that differentiating the normalisation gives, at every row, infinite
  entries included.
-/
module

public import Idealize.ShloMosaic.Lib.Pipeline.ValueKit

@[expose] public section

noncomputable section

namespace Cert.Proof.NormGrad

open Idealize.ShloMosaic

/-- The row's length, the floor under its mean square, and minus a half, as the words both programs hold. -/
theorem len_eq : Ideal.ofBits .f32 0x45000000#32 = ((2048 : ℝ) : EReal) := by
  simp [Ideal.ofBits, Ideal.ieee, -EReal.coe_mul]; norm_num

theorem floor_pos : 0 < Ideal.ofBits .f32 0x358637BD#32 := by
  simp [Ideal.ofBits, Ideal.ieee, -EReal.coe_mul]

theorem neg_half_eq : Ideal.ofBits .f32 0xBF000000#32 = ((-(1 / 2) : ℝ) : EReal) := by
  simp [Ideal.ofBits, Ideal.ieee, -EReal.coe_mul]; norm_num

theorem div_len (a : EReal) : Ideal.div a (Ideal.ofBits .f32 0x45000000#32) = a * ((2048⁻¹ : ℝ) : EReal) := by
  rw [len_eq, Ideal.div, if_neg (by norm_num), EReal.coe_inv]

theorem mul_self_nonneg (a : EReal) : 0 ≤ a * a := by
  rcases le_total 0 a with h | h
  · exact EReal.mul_nonneg h h
  · have := EReal.neg_nonneg.mpr h
    simpa using EReal.mul_nonneg this this

/-- The mean of a row's squares. -/
def meanSq (v : Fin 2048 → EReal) : EReal :=
  Ideal.div (∑ k, v k * v k) (Ideal.ofBits .f32 0x45000000#32) + Ideal.ofBits .f32 0x358637BD#32

theorem meanSq_pos (v : Fin 2048 → EReal) : 0 < meanSq v := by
  have h : 0 ≤ Ideal.div (∑ k, v k * v k) (Ideal.ofBits .f32 0x45000000#32) := by
    rw [div_len]
    exact EReal.mul_nonneg (Finset.sum_nonneg fun k _ => mul_self_nonneg (v k)) (by norm_num)
  calc (0 : EReal) < Ideal.ofBits .f32 0x358637BD#32 := floor_pos
    _ = 0 + Ideal.ofBits .f32 0x358637BD#32 := (zero_add _).symm
    _ ≤ meanSq v := add_le_add_left h _

theorem rsqrt_top : Ideal.rsqrt ⊤ = 0 := rfl

theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg hr.not_gt, if_neg hr.ne']

/-- One over the root, over the square, is the cube of one over the root. -/
theorem rsqrt_cube (X : EReal) (hX : 0 < X) :
    ∃ q : ℝ, Ideal.div (Ideal.rsqrt X) X = (q : EReal)
      ∧ Ideal.rsqrt X * Ideal.rsqrt X * Ideal.rsqrt X = (q : EReal) := by
  induction X using EReal.rec with
  | bot => exact absurd hX (by simp)
  | top => exact ⟨0, by rw [rsqrt_top, Ideal.div, if_neg (by simp), zero_mul, EReal.coe_zero], by rw [rsqrt_top, mul_zero, EReal.coe_zero]⟩
  | coe r =>
    have hr : 0 < r := by exact_mod_cast hX
    have hs : Real.sqrt r * Real.sqrt r = r := Real.mul_self_sqrt hr.le
    refine ⟨(Real.sqrt r)⁻¹ * (Real.sqrt r)⁻¹ * (Real.sqrt r)⁻¹, ?_, ?_⟩
    · rw [Ideal.div, if_neg hX.ne', rsqrt_coe r hr, ← EReal.coe_inv, ← EReal.coe_mul]
      congr 1
      have hi : r⁻¹ = (Real.sqrt r)⁻¹ * (Real.sqrt r)⁻¹ := by rw [← mul_inv, hs]
      rw [hi, mul_assoc]
    · rw [rsqrt_coe r hr, EReal.coe_mul, EReal.coe_mul]

/-- Two negative halves make the whole. -/
theorem neg_halves (z : EReal) : z * ((-(1 / 2) : ℝ) : EReal) + z * ((-(1 / 2) : ℝ) : EReal) = -z := by
  induction z using EReal.rec with
  | bot => rw [EReal.bot_mul_coe_of_neg (by norm_num)]; rfl
  | top => rw [EReal.top_mul_coe_of_neg (by norm_num)]; rfl
  | coe r => rw [← EReal.coe_mul, ← EReal.coe_add, ← EReal.coe_neg]; congr 1; ring

/-- The normalisation's share of the cotangent, once per occurrence of the row in its mean square. -/
theorem share (X S v : EReal) (hX : 0 < X) :
    v * Ideal.div (S * (Ideal.ofBits .f32 0xBF000000#32 * Ideal.div (Ideal.rsqrt X) X)) (Ideal.ofBits .f32 0x45000000#32)
        + Ideal.div (S * (Ideal.ofBits .f32 0xBF000000#32 * Ideal.div (Ideal.rsqrt X) X)) (Ideal.ofBits .f32 0x45000000#32) * v
      = -(v * (Ideal.rsqrt X * Ideal.rsqrt X * Ideal.rsqrt X * Ideal.div S (Ideal.ofBits .f32 0x45000000#32))) := by
  obtain ⟨q, h1, h2⟩ := rsqrt_cube X hX
  rw [h1, h2, div_len, div_len, neg_half_eq, ← neg_halves]
  congr 1 <;> ac_rfl

/-- The gradient of a row's normalisation at the row `v` under the cotangent `gy`. -/
def grad (v gy : Fin 2048 → EReal) (j : Fin 2048) : EReal :=
  Ideal.rsqrt (meanSq v) * gy j
    - v j * (Ideal.rsqrt (meanSq v) * Ideal.rsqrt (meanSq v) * Ideal.rsqrt (meanSq v)
        * Ideal.div (∑ k, gy k * v k) (Ideal.ofBits .f32 0x45000000#32))

/-- Differentiating the normalisation, term by term, gives `grad`; `a` is what the row has gathered before. -/
theorem add_grad (a : EReal) (v gy : Fin 2048 → EReal) (j : Fin 2048) :
    a + gy j * Ideal.rsqrt (meanSq v)
        + v j * ∑ _x : Fin 1, Ideal.div ((∑ k, v k * gy k) * (Ideal.ofBits .f32 0xBF000000#32 * Ideal.div (Ideal.rsqrt (meanSq v)) (meanSq v)))
            (Ideal.ofBits .f32 0x45000000#32)
        + (∑ _x : Fin 1, Ideal.div ((∑ k, v k * gy k) * (Ideal.ofBits .f32 0xBF000000#32 * Ideal.div (Ideal.rsqrt (meanSq v)) (meanSq v)))
            (Ideal.ofBits .f32 0x45000000#32)) * v j
      = a + grad v gy j := by
  have hs : ∑ k, gy k * v k = ∑ k, v k * gy k := Finset.sum_congr rfl fun k _ => mul_comm _ _
  simp only [Fin.sum_univ_one, Finset.univ_unique, Finset.sum_singleton]
  rw [add_assoc, share _ _ _ (meanSq_pos v), grad, hs, sub_eq_add_neg, mul_comm (gy j), add_assoc]

theorem grad_eq (v gy : Fin 2048 → EReal) (j : Fin 2048) :
    gy j * Ideal.rsqrt (meanSq v)
        + v j * ∑ _x : Fin 1, Ideal.div ((∑ k, v k * gy k) * (Ideal.ofBits .f32 0xBF000000#32 * Ideal.div (Ideal.rsqrt (meanSq v)) (meanSq v)))
            (Ideal.ofBits .f32 0x45000000#32)
        + (∑ _x : Fin 1, Ideal.div ((∑ k, v k * gy k) * (Ideal.ofBits .f32 0xBF000000#32 * Ideal.div (Ideal.rsqrt (meanSq v)) (meanSq v)))
            (Ideal.ofBits .f32 0x45000000#32)) * v j
      = grad v gy j := by
  have h := add_grad 0 v gy j
  rwa [zero_add, zero_add] at h

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem inv_len_eq : Ideal.ofBits .f32 0x3A000000#32 = ((2048⁻¹ : ℝ) : EReal) := by
  simp [Ideal.ofBits, Ideal.ieee, -EReal.coe_mul]; norm_num

/-- Half of a mean, twice the error: the error's share of the mean. -/
theorem mean_share (e : EReal) :
    Ideal.div (Ideal.ofBits .f32 0x3F000000#32) (Ideal.ofBits .f32 0x45000000#32) * (Ideal.ofBits .f32 0x40000000#32 * e)
      = e * Ideal.ofBits .f32 0x3A000000#32 := by
  rw [div_len, half_eq, two_eq, inv_len_eq, ← mul_assoc, ← EReal.coe_mul, ← EReal.coe_mul, mul_comm e]
  congr 2; ring

/-- Half of a sum is the sum of the halves. -/
theorem half_sum {n : ℕ} (a : Fin n → EReal) :
    Ideal.ofBits .f32 0x3F000000#32 * ∑ l, a l = ∑ l, Ideal.ofBits .f32 0x3F000000#32 * a l := by
  rw [half_eq]
  induction n with
  | zero => simp
  | succ n ih =>
    rw [Fin.sum_univ_succ, Fin.sum_univ_succ, EReal.left_distrib_of_nonneg_of_ne_top (by exact_mod_cast (by norm_num : (0 : ℝ) ≤ 1 / 2)) (EReal.coe_ne_top _), ih]

end Cert.Proof.NormGrad

end
-- ==== Proof.Ew13.lean ====
/-
  The gradient of the mixer’s normalised input and of its gain: the rows block by block, the gain over the run of points; with the frames.
-/
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.NormGrad
public import Idealize.ShloMosaic.Lib.Pipeline.ValueKit
public import Idealize.ShloMosaic.Lib.Quiescent

@[expose] public section

set_option maxRecDepth 16384
set_option maxHeartbeats 2000000

noncomputable section

namespace Cert.Reference13Ideal.Hand

open Cert.Reference13Ideal Cert.Reference13Ideal.Gen
open Idealize.ShloMosaic Cert.Proof.NormGrad

/-! The reference’s composed terms over its arguments. -/

def ref0 (x0 : FVec Ideal S2048x2048 .f32) (x1 : FVec Ideal S2048x2048 .bf16) (x2 : FVec Ideal S2048x2048 .f32) (x3 : FVec Ideal S1x2048 .f32) : FVec Ideal S2048x2048 .f32 :=
  (addf (addf (addf x0 (mulf (mulf (extf .f32 x1 bitsLt_bf16_f32) (broadcastInDim S2048x2048 ![0, 1] bcast_S1x2048_S2048x2048_0_1 (broadcastInDim S1x2048 ![1] bcast_S2048_S1x2048_1 (shapeCast _ x3 shapeCasts_S1x2048_S2048)))) (broadcastInDim S2048x2048 ![0, 1] bcast_S2048x1_S2048x2048_0_1 (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf x2 (broadcastInDim S2048x2048 ![0] bcast_S2048_S2048x2048_0 (Host.reduceAdd (Host.divf (mulf (shapeCast _ (Host.reduceAdd (mulf x2 (mulf (extf .f32 x1 bitsLt_bf16_f32) (broadcastInDim S2048x2048 ![0, 1] bcast_S1x2048_S2048x2048_0_1 (broadcastInDim S1x2048 ![1] bcast_S2048_S1x2048_1 (shapeCast _ x3 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf x2 (mulf (extf .f32 x1 bitsLt_bf16_f32) (broadcastInDim S2048x2048 ![0, 1] bcast_S1x2048_S2048x2048_0_1 (broadcastInDim S1x2048 ![1] bcast_S2048_S1x2048_1 (shapeCast _ x3 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) x2))

def ref1 (x0 : FVec Ideal S2048x2048 .f32) (x1 : FVec Ideal S2048x2048 .bf16) (x2 : FVec Ideal S2048x2048 .f32) (x3 : FVec Ideal S1x2048 .f32) : FVec Ideal S1x2048 .f32 :=
  broadcastInDim S1x2048 ![1] bcast_S2048_S1x2048_1 (Host.reduceAdd (shapeCast _ (Host.reduceAdd (mulf (mulf x2 (broadcastInDim S2048x2048 ![0, 1] bcast_S2048x1_S2048x2048_0_1 (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (extf .f32 x1 bitsLt_bf16_f32)) (constant S_ .f32 0x00000000#32) reducesTo_S2048x2048_S2048_d0 h_S_) shapeCasts_S2048_S1x2048) (constant S_ .f32 0x00000000#32) reducesTo_S1x2048_S2048_d0 h_S_)

theorem ref0_apply (x0 x1 x2 x3 i) : ref0 x0 x1 x2 x3 i
    = x0 i + grad (fun k => x2 (ix2 (i 0) k)) (fun k => x1 (ix2 (i 0) k) * x3 (ix2 0 k)) (i 1) := by
  refine Eq.trans ?_ (add_grad _ (fun k => x2 (ix2 (i 0) k)) (fun k => x1 (ix2 (i 0) k) * x3 (ix2 0 k)) (i 1))
  pointwise [ref0, meanSq]

theorem ref1_apply (x0 x1 x2 x3 j) : ref1 x0 x1 x2 x3 j
    = ∑ l : Fin 2048, x1 (ix2 l (j 1)) * x2 (ix2 l (j 1)) * Ideal.rsqrt (meanSq fun k => x2 (ix2 l k)) := by
  pointwise [ref1, meanSq]
  rw [Finset.sum_const, Finset.card_univ, Fintype.card_fin, one_smul]
  exact Finset.sum_congr rfl fun l _ => by ac_rfl

end Cert.Reference13Ideal.Hand

namespace Cert.Kernel13Ideal.Hand

open Cert.Kernel13Ideal Cert.Kernel13Ideal.Gen
open Idealize.ShloMosaic Idealize.ShloMosaic.TcCoe Idealize.SL.Sem
open Idealize.ShloMosaic.Pipeline (Dat)
open Cert.Proof.NormGrad

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

theorem hgrad (v3 v4 v14 v15 y) : k0_pay5 (F := Ideal) v3 v4 v14 v15 y
    = v14 y + grad (fun k => v3 (ix2 (y 0) k)) (fun k => v4 (ix2 (y 0) k) * v15 (ix2 0 k)) (y 1) := by
  pointwise [k0_pay3, k0_pay4, k0_pay5, grad, meanSq]

theorem point4 (c : Dev nD) (t : Fin cfg0.N) (y) : k0_pay5 (F := Ideal) (iblk m c 2 t) (iblk m c 1 t) (iblk m c 0 t) (iblk m c 3 t) y
    = Cert.Reference13Ideal.Hand.ref0 (m ((c : Thread nD τ).loc main_arg0)) (m ((c : Thread nD τ).loc main_arg1)) (m ((c : Thread nD τ).loc main_arg2)) (m ((c : Thread nD τ).loc main_arg3)) (((cfg0.win 4).blk t).view.emb y) := by
  rw [hgrad, Cert.Reference13Ideal.Hand.ref0_apply]
  simp only [grad, meanSq]
  blk_point [iblk, V, idx t]

theorem hzero (j) : k0_pay2 (F := Ideal) j = 0 := by pointwise [k0_pay2]

theorem hpay (x0 x1 a j) : k0_pay1 (F := Ideal) (k0_pay6 a) (k0_pay7 x0 x1) j
    = a j + ∑ l : Fin 256, x1 (ix2 l (j 1)) * x0 (ix2 l (j 1)) * Ideal.rsqrt (meanSq fun k => x0 (ix2 l k)) := by
  pointwise [k0_pay1, k0_pay6, k0_pay7, k0_pay3, k0_pay4, meanSq]

theorem final4 (c : Dev nD) : (dats m 0 c).arrAt 4 (cfgs 0).N
    = Cert.Reference13Ideal.Hand.ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h]; frame_out; exact point4 m c t y
  · rw [outsAt0_B m c t h]; frame_out; exact point4 m c t y

theorem final5 (c : Dev nD) : (dats m 0 c).arrAt 5 (cfgs 0).N
    = Cert.Reference13Ideal.Hand.ref1 (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) (fun t j => ∑ l : Fin 256,
      (show FVec Ideal S256x2048 .bf16 from iblk m c 1 t) (ix2 l (j 1)) * (show FVec Ideal S256x2048 .f32 from iblk m c 2 t) (ix2 l (j 1))
        * Ideal.rsqrt (meanSq fun k => (show FVec Ideal S256x2048 .f32 from iblk m c 2 t) (ix2 l k)))
    (fun t h j => by rw [outsAt0_A m c t h]; frame_out; rw [hpay, hzero])
    (fun t h j => by rw [outsAt0_B m c t h]; frame_out; rw [hpay]) (le_of_eq N_0) t0_7 rfl j, zero_add, Cert.Reference13Ideal.Hand.ref1_apply]
  refine Fin.sum_mul_add_congr fun t k hl => ?_
  simp only [meanSq]
  blk_point [iblk, V, idx t]

end Cert.Kernel13Ideal.Hand

namespace Cert.Proof.K13

open Idealize.ShloMosaic Idealize.ShloMosaic.TcCoe Idealize.SL.Sem

theorem frame_ideal : Cert.quiescent_Kernel13Ideal := fun m ρ _ => Cert.Kernel13Ideal.Gen.frame (F := Ideal) m ρ

/-- The kernel and its ideal form are one text: their body tables agree label by label. -/
theorem defs₀_same : Cert.Kernel13.defs₀ (F := Bits) = Cert.Kernel13Ideal.defs₀ (F := Bits) := by
  refine congrArg Defs.onTc (funext fun l => funext fun x => ?_)
  match l, x with
  | 0, (t, s) => rfl

theorem defs_same : Cert.Kernel13.defs (F := Bits) = Cert.Kernel13Ideal.defs (F := Bits) :=
  congrArg (Pipeline.defs (Cert.Kernel13Ideal.pcfgs (F := Bits))) defs₀_same

theorem main_same : Cert.Kernel13.main (F := Bits) = Cert.Kernel13Ideal.main (F := Bits) := rfl

theorem frame_kernel : Cert.quiescent_Kernel13 := fun m ρ _ => by
  have h := Cert.Kernel13Ideal.Gen.frame (F := Bits) m ρ
  rw [← defs_same, ← main_same] at h
  exact h

theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨_, _, (θ_run Cert.Kernel13Ideal.defs _ _).mono (fun _ h c => ⟨(h c).1.trans (Cert.Kernel13Ideal.Hand.final4 m c), (h c).2.1.trans (Cert.Kernel13Ideal.Hand.final5 m c), (h c).2.2⟩)
    (Cert.Kernel13Ideal.Value.run_blocks (F := Ideal) m ρ), ?_⟩
  refine (θ_run Cert.Reference13Ideal.defs _ _).mono (fun _ h c => ⟨(h c).1.trans ?_, (h c).2.1.trans ?_, (h c).2.2⟩)
    (Cert.Reference13Ideal.Value.run (F := Ideal) m' ρ')
  · unfold Cert.Reference13Ideal.Value.res_main_v38
    rw [(hagree c).1, (hagree c).2.1, (hagree c).2.2.1, (hagree c).2.2.2]
    rfl
  · rw [(hagree c).2.1, (hagree c).2.2.1]
    rfl

end Cert.Proof.K13

end
-- ==== Proof.Ew14.lean ====
/-
  The gradients of the two normalisations around the mixer’s residual: the rows block by block, the gains over the run of points; with the frames.
-/
module

public import proofs.«01_k».proof.Defs
public import proofs.«01_k».proof.Proof.Gen.Kernel14
public import proofs.«01_k».proof.Proof.Gen.Kernel14Ideal.Value
public import proofs.«01_k».proof.Proof.Gen.Reference14Ideal.Run
public import proofs.«01_k».proof.Proof.NormGrad
public import Idealize.ShloMosaic.Lib.Pipeline.ValueKit
public import Idealize.ShloMosaic.Lib.Quiescent

@[expose] public section

set_option maxRecDepth 16384
set_option maxHeartbeats 2000000

noncomputable section

namespace Cert.Reference14Ideal.Hand

open Cert.Reference14Ideal Cert.Reference14Ideal.Gen
open Idealize.ShloMosaic Cert.Proof.NormGrad

/-! The reference’s composed terms over its arguments. -/

def ref0 (x0 : FVec Ideal S2048x2048 .f32) (x1 : FVec Ideal S2048x2048 .bf16) (x2 : FVec Ideal S2048x2048 .f32) (x3 : FVec Ideal S2048x2048 .f32) (x4 : FVec Ideal S1x2048 .f32) (x5 : FVec Ideal S1x2048 .f32) : FVec Ideal S2048x2048 .f32 :=
  (addf (addf (addf x0 (mulf (mulf (extf .f32 x1 bitsLt_bf16_f32) (broadcastInDim S2048x2048 ![0, 1] bcast_S1x2048_S2048x2048_0_1 (broadcastInDim S1x2048 ![1] bcast_S2048_S1x2048_1 (shapeCast _ x4 shapeCasts_S1x2048_S2048)))) (broadcastInDim S2048x2048 ![0, 1] bcast_S2048x1_S2048x2048_0_1 (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))))))) (mulf x2 (broadcastInDim S2048x2048 ![0] bcast_S2048_S2048x2048_0 (Host.reduceAdd (Host.divf (mulf (shapeCast _ (Host.reduceAdd (mulf x2 (mulf (extf .f32 x1 bitsLt_bf16_f32) (broadcastInDim S2048x2048 ![0, 1] bcast_S1x2048_S2048x2048_0_1 (broadcastInDim S1x2048 ![1] bcast_S2048_S1x2048_1 (shapeCast _ x4 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf x2 (mulf (extf .f32 x1 bitsLt_bf16_f32) (broadcastInDim S2048x2048 ![0, 1] bcast_S1x2048_S2048x2048_0_1 (broadcastInDim S1x2048 ![1] bcast_S2048_S1x2048_1 (shapeCast _ x4 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) x2))

def ref1 (x0 : FVec Ideal S2048x2048 .f32) (x1 : FVec Ideal S2048x2048 .bf16) (x2 : FVec Ideal S2048x2048 .f32) (x3 : FVec Ideal S2048x2048 .f32) (x4 : FVec Ideal S1x2048 .f32) (x5 : FVec Ideal S1x2048 .f32) : FVec Ideal S2048x2048 .bf16 :=
  (truncf .bf16 (addf (addf (mulf (mulf (ref0 x0 x1 x2 x3 x4 x5) (broadcastInDim S2048x2048 ![0, 1] bcast_S1x2048_S2048x2048_0_1 (broadcastInDim S1x2048 ![1] bcast_S2048_S1x2048_1 (shapeCast _ x5 shapeCasts_S1x2048_S2048)))) (broadcastInDim S2048x2048 ![0, 1] bcast_S2048x1_S2048x2048_0_1 (Host.rsqrt (addf (Host.divf (broadcastInDim S2048x1 ![0] bcast_S2048_S2048x1_0 (Host.reduceAdd (mulf x3 x3) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf x3 (broadcastInDim S2048x2048 ![0] bcast_S2048_S2048x2048_0 (Host.reduceAdd (Host.divf (mulf (shapeCast _ (Host.reduceAdd (mulf x3 (mulf (ref0 x0 x1 x2 x3 x4 x5) (broadcastInDim S2048x2048 ![0, 1] bcast_S1x2048_S2048x2048_0_1 (broadcastInDim S1x2048 ![1] bcast_S2048_S1x2048_1 (shapeCast _ x5 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x3 x3) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x3 x3) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf x3 (mulf (ref0 x0 x1 x2 x3 x4 x5) (broadcastInDim S2048x2048 ![0, 1] bcast_S1x2048_S2048x2048_0_1 (broadcastInDim S1x2048 ![1] bcast_S2048_S1x2048_1 (shapeCast _ x5 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x3 x3) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x3 x3) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) x3)) bitsLt_bf16_f32)

def ref2 (x0 : FVec Ideal S2048x2048 .f32) (x1 : FVec Ideal S2048x2048 .bf16) (x2 : FVec Ideal S2048x2048 .f32) (x3 : FVec Ideal S2048x2048 .f32) (x4 : FVec Ideal S1x2048 .f32) (x5 : FVec Ideal S1x2048 .f32) : FVec Ideal S1x2048 .f32 :=
  broadcastInDim S1x2048 ![1] bcast_S2048_S1x2048_1 (Host.reduceAdd (shapeCast _ (Host.reduceAdd (mulf (mulf x2 (broadcastInDim S2048x2048 ![0, 1] bcast_S2048x1_S2048x2048_0_1 (Host.rsqrt (addf (Host.divf (broadcastInDim S2048x1 ![0] bcast_S2048_S2048x1_0 (Host.reduceAdd (mulf x2 x2) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (extf .f32 x1 bitsLt_bf16_f32)) (constant S_ .f32 0x00000000#32) reducesTo_S2048x2048_S2048_d0 h_S_) shapeCasts_S2048_S1x2048) (constant S_ .f32 0x00000000#32) reducesTo_S1x2048_S2048_d0 h_S_)

def ref3 (x0 : FVec Ideal S2048x2048 .f32) (x1 : FVec Ideal S2048x2048 .bf16) (x2 : FVec Ideal S2048x2048 .f32) (x3 : FVec Ideal S2048x2048 .f32) (x4 : FVec Ideal S1x2048 .f32) (x5 : FVec Ideal S1x2048 .f32) : FVec Ideal S1x2048 .f32 :=
  (broadcastInDim S1x2048 ![1] bcast_S2048_S1x2048_1 (Host.reduceAdd (shapeCast _ (Host.reduceAdd (mulf (mulf x3 (broadcastInDim S2048x2048 ![0, 1] bcast_S2048x1_S2048x2048_0_1 (Host.rsqrt (addf (Host.divf (broadcastInDim S2048x1 ![0] bcast_S2048_S2048x1_0 (Host.reduceAdd (mulf x3 x3) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (ref0 x0 x1 x2 x3 x4 x5)) (constant S_ .f32 0x00000000#32) reducesTo_S2048x2048_S2048_d0 h_S_) shapeCasts_S2048_S1x2048) (constant S_ .f32 0x00000000#32) reducesTo_S1x2048_S2048_d0 h_S_))

theorem ref0_apply (x0 x1 x2 x3 x4 x5 i) : ref0 x0 x1 x2 x3 x4 x5 i
    = x0 i + grad (fun k => x2 (ix2 (i 0) k)) (fun k => x1 (ix2 (i 0) k) * x4 (ix2 0 k)) (i 1) := by
  refine Eq.trans ?_ (add_grad _ (fun k => x2 (ix2 (i 0) k)) (fun k => x1 (ix2 (i 0) k) * x4 (ix2 0 k)) (i 1))
  pointwise [ref0, meanSq]

theorem ref1_apply (x0 x1 x2 x3 x4 x5 i) : ref1 x0 x1 x2 x3 x4 x5 i
    = grad (fun k => x3 (ix2 (i 0) k)) (fun k => ref0 x0 x1 x2 x3 x4 x5 (ix2 (i 0) k) * x5 (ix2 0 k)) (i 1) := by
  refine Eq.trans ?_ (grad_eq (fun k => x3 (ix2 (i 0) k)) (fun k => ref0 x0 x1 x2 x3 x4 x5 (ix2 (i 0) k) * x5 (ix2 0 k)) (i 1))
  pointwise [ref1, meanSq]

theorem ref2_apply (x0 x1 x2 x3 x4 x5 j) : ref2 x0 x1 x2 x3 x4 x5 j
    = ∑ l : Fin 2048, x1 (ix2 l (j 1)) * x2 (ix2 l (j 1)) * Ideal.rsqrt (meanSq fun k => x2 (ix2 l k)) := by
  pointwise [ref2, meanSq]
  rw [Finset.sum_const, Finset.card_univ, Fintype.card_fin, one_smul]
  exact Finset.sum_congr rfl fun l _ => by ac_rfl

theorem ref3_apply (x0 x1 x2 x3 x4 x5 j) : ref3 x0 x1 x2 x3 x4 x5 j
    = ∑ l : Fin 2048, ref0 x0 x1 x2 x3 x4 x5 (ix2 l (j 1)) * x3 (ix2 l (j 1)) * Ideal.rsqrt (meanSq fun k => x3 (ix2 l k)) := by
  pointwise [ref3, meanSq]
  rw [Finset.sum_const, Finset.card_univ, Fintype.card_fin, one_smul]
  exact Finset.sum_congr rfl fun l _ => by ac_rfl

end Cert.Reference14Ideal.Hand

namespace Cert.Kernel14Ideal.Hand

open Cert.Kernel14Ideal Cert.Kernel14Ideal.Gen
open Idealize.ShloMosaic Idealize.ShloMosaic.TcCoe Idealize.SL.Sem
open Idealize.ShloMosaic.Pipeline (Dat)
open Cert.Proof.NormGrad

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![0, 0] ∧ win0_9.index t = ![0, 0] :=
  (by decide +kernel : ∀ t : Fin grid0.N, _)

theorem hgrad (v3 v4 v14 v15 y) : k0_pay5 (F := Ideal) v3 v4 v14 v15 y
    = v14 y + grad (fun k => v3 (ix2 (y 0) k)) (fun k => v4 (ix2 (y 0) k) * v15 (ix2 0 k)) (y 1) := by
  pointwise [k0_pay3, k0_pay4, k0_pay5, grad, meanSq]

theorem hgrad' (d v g y) : k0_pay8 (F := Ideal) d v g y
    = grad (fun k => v (ix2 (y 0) k)) (fun k => d (ix2 (y 0) k) * g (ix2 0 k)) (y 1) := by
  pointwise [k0_pay7, k0_pay8, grad, meanSq]

theorem hzero (j) : k0_pay1 (F := Ideal) j = 0 := by pointwise [k0_pay1]
theorem hzero' (j) : k0_pay2 (F := Ideal) j = 0 := by pointwise [k0_pay2]

theorem hpay (x0 x1 a j) : k0_pay6 (F := Ideal) x0 x1 a j
    = a j + ∑ l : Fin 256, x1 (ix2 l (j 1)) * x0 (ix2 l (j 1)) * Ideal.rsqrt (meanSq fun k => x0 (ix2 l k)) := by
  pointwise [k0_pay6, k0_pay3, k0_pay4, meanSq]

theorem hpay' (d v a j) : k0_pay9 (F := Ideal) d v a j
    = a j + ∑ l : Fin 256, d (ix2 l (j 1)) * v (ix2 l (j 1)) * Ideal.rsqrt (meanSq fun k => v (ix2 l k)) := by
  pointwise [k0_pay7, k0_pay9, meanSq]

theorem point6 (c : Dev nD) (t : Fin cfg0.N) (y) : k0_pay5 (F := Ideal) (iblk m c 2 t) (iblk m c 1 t) (iblk m c 0 t) (iblk m c 4 t) y
    = Cert.Reference14Ideal.Hand.ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  rw [hgrad, Cert.Reference14Ideal.Hand.ref0_apply]
  simp only [grad, meanSq]
  blk_point [iblk, V, idx t]

theorem point7 (c : Dev nD) (t : Fin cfg0.N) (y) : k0_pay8 (F := Ideal) (k0_pay5 (F := Ideal) (iblk m c 2 t) (iblk m c 1 t) (iblk m c 0 t) (iblk m c 4 t)) (iblk m c 3 t) (iblk m c 5 t) y
    = Cert.Reference14Ideal.Hand.ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  rw [hgrad', Cert.Reference14Ideal.Hand.ref1_apply]
  simp only [grad, meanSq, point6]
  blk_point [iblk, V, idx t]

theorem final6 (c : Dev nD) : (dats m 0 c).arrAt 6 (cfgs 0).N
    = Cert.Reference14Ideal.Hand.ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  by_cases h : t.val % 8 = 0
  · rw [outsAt0_A m c t h]; frame_out; exact point6 m c t y
  · rw [outsAt0_B m c t h]; frame_out; exact point6 m c t y

theorem final7 (c : Dev nD) : (dats m 0 c).arrAt 7 (cfgs 0).N
    = Cert.Reference14Ideal.Hand.ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  by_cases h : t.val % 8 = 0
  · rw [outsAt0_A m c t h]; frame_out; exact point7 m c t y
  · rw [outsAt0_B m c t h]; frame_out; exact point7 m c t y

theorem final8 (c : Dev nD) : (dats m 0 c).arrAt 8 (cfgs 0).N
    = Cert.Reference14Ideal.Hand.ref2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) (fun t j => ∑ l : Fin 256, (show FVec Ideal S256x2048 .bf16 from iblk m c 1 t) (ix2 l (j 1)) * (show FVec Ideal S256x2048 .f32 from iblk m c 2 t) (ix2 l (j 1)) * Ideal.rsqrt (meanSq fun k => (show FVec Ideal S256x2048 .f32 from iblk m c 2 t) (ix2 l k)))
    (fun t h j => by rw [outsAt0_A m c t h]; frame_out; rw [hpay, hzero])
    (fun t h j => by rw [outsAt0_B m c t h]; frame_out; rw [hpay]) (le_of_eq N_0) t0_7 rfl j, zero_add, Cert.Reference14Ideal.Hand.ref2_apply]
  refine Fin.sum_mul_add_congr fun t k hl => ?_
  simp only [meanSq]
  blk_point [iblk, V, idx t]

theorem final9 (c : Dev nD) : (dats m 0 c).arrAt 9 (cfgs 0).N
    = Cert.Reference14Ideal.Hand.ref3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) (fun t j => ∑ l : Fin 256, (k0_pay5 (F := Ideal) (iblk m c 2 t) (iblk m c 1 t) (iblk m c 0 t) (iblk m c 4 t)) (ix2 l (j 1)) * (show FVec Ideal S256x2048 .f32 from iblk m c 3 t) (ix2 l (j 1)) * Ideal.rsqrt (meanSq fun k => (show FVec Ideal S256x2048 .f32 from iblk m c 3 t) (ix2 l k)))
    (fun t h j => by rw [outsAt0_A m c t h]; frame_out; rw [hpay', hzero'])
    (fun t h j => by rw [outsAt0_B m c t h]; frame_out; rw [hpay']) (le_of_eq N_0) t0_7 rfl j, zero_add, Cert.Reference14Ideal.Hand.ref3_apply]
  refine Fin.sum_mul_add_congr fun t k hl => ?_
  simp only [meanSq, point6]
  blk_point [iblk, V, idx t]

end Cert.Kernel14Ideal.Hand

namespace Cert.Proof.K14

open Idealize.ShloMosaic Idealize.ShloMosaic.TcCoe Idealize.SL.Sem

theorem frame_ideal : Cert.quiescent_Kernel14Ideal := fun m ρ _ => Cert.Kernel14Ideal.Gen.frame (F := Ideal) m ρ

/-- The kernel and its ideal form are one text: their body tables agree label by label. -/
theorem defs₀_same : Cert.Kernel14.defs₀ (F := Bits) = Cert.Kernel14Ideal.defs₀ (F := Bits) := by
  refine congrArg Defs.onTc (funext fun l => funext fun x => ?_)
  match l, x with
  | 0, (t, s) => rfl

theorem defs_same : Cert.Kernel14.defs (F := Bits) = Cert.Kernel14Ideal.defs (F := Bits) :=
  congrArg (Pipeline.defs (Cert.Kernel14Ideal.pcfgs (F := Bits))) defs₀_same

theorem main_same : Cert.Kernel14.main (F := Bits) = Cert.Kernel14Ideal.main (F := Bits) := rfl

theorem frame_kernel : Cert.quiescent_Kernel14 := fun m ρ _ => by
  have h := Cert.Kernel14Ideal.Gen.frame (F := Bits) m ρ
  rw [← defs_same, ← main_same] at h
  exact h

theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem algebraic : Cert.algebraic_Kernel14Ideal_Reference14Ideal := by
  intro m ρ m' ρ' _ hagree
  refine ⟨_, _, _, _, (θ_run Cert.Kernel14Ideal.defs _ _).mono (fun _ h c => ⟨(h c).1.trans (Cert.Kernel14Ideal.Hand.final6 m c), (h c).2.1.trans (Cert.Kernel14Ideal.Hand.final7 m c), (h c).2.2.1.trans (Cert.Kernel14Ideal.Hand.final8 m c), (h c).2.2.2.1.trans (Cert.Kernel14Ideal.Hand.final9 m c), (h c).2.2.2.2⟩)
    (Cert.Kernel14Ideal.Value.run_blocks (F := Ideal) m ρ), ?_⟩
  refine (θ_run Cert.Reference14Ideal.defs _ _).mono (fun _ h c => ⟨(h c).1.trans ?_, (h c).2.1.trans ?_, (h c).2.2.1.trans ?_, (h c).2.2.2.1.trans ?_, (h c).2.2.2.2⟩)
    (Cert.Reference14Ideal.Value.run (F := Ideal) m' ρ')
  · unfold Cert.Reference14Ideal.Value.res_main_v38
    rw [(hagree c).1, (hagree c).2.1, (hagree c).2.2.1, (hagree c).2.2.2.2.1]
    rfl
  · unfold Cert.Reference14Ideal.Value.res_main_v76
    rw [(hagree c).1, (hagree c).2.1, (hagree c).2.2.1, (hagree c).2.2.2.1, (hagree c).2.2.2.2.1, (hagree c).2.2.2.2.2]
    rfl
  · rw [(hagree c).2.1, (hagree c).2.2.1]
    rfl
  · unfold Cert.Reference14Ideal.Value.res_main_v78
    rw [(hagree c).1, (hagree c).2.1, (hagree c).2.2.1, (hagree c).2.2.2.1, (hagree c).2.2.2.2.1]
    rfl

end Cert.Proof.K14

end
-- ==== Proof.Ew15.lean ====
/-
  The loss and the gradients it sends into the feed-forward: the rows block by block, the gain and the loss over the run of points; with the frames.
-/
module

public import proofs.«01_k».proof.Defs
public import proofs.«01_k».proof.Proof.Gen.Kernel15
public import proofs.«01_k».proof.Proof.Gen.Kernel15Ideal.Value
public import proofs.«01_k».proof.Proof.Gen.Reference15Ideal.Run
public import proofs.«01_k».proof.Proof.NormGrad
public import Idealize.ShloMosaic.Lib.Pipeline.ValueKit
public import Idealize.ShloMosaic.Lib.Quiescent

@[expose] public section

set_option maxRecDepth 16384
set_option maxHeartbeats 2000000

noncomputable section

namespace Cert.Reference15Ideal.Hand

open Cert.Reference15Ideal Cert.Reference15Ideal.Gen
open Idealize.ShloMosaic Cert.Proof.NormGrad

/-! The reference’s composed terms over its arguments. -/

def ref0 (x0 : FVec Ideal S2048x2048 .f32) (x1 : FVec Ideal S2048x2048 .f32) (x2 : FVec Ideal S2048x2048 .f32) (x3 : FVec Ideal S1x2048 .f32) : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) (subf (addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x3 shapeCasts_S1x2048_S2048))))) x2))

def ref1 (x0 : FVec Ideal S2048x2048 .f32) (x1 : FVec Ideal S2048x2048 .f32) (x2 : FVec Ideal S2048x2048 .f32) (x3 : FVec Ideal S1x2048 .f32) : FVec Ideal S2048x2048 .bf16 :=
  (truncf .bf16 (addf (addf (mulf (mulf (ref0 x0 x1 x2 x3) (broadcastInDim S2048x2048 ![0, 1] bcast_S1x2048_S2048x2048_0_1 (broadcastInDim S1x2048 ![1] bcast_S2048_S1x2048_1 (shapeCast _ x3 shapeCasts_S1x2048_S2048)))) (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf x1 (broadcastInDim S2048x2048 ![0] bcast_S2048_S2048x2048_0 (Host.reduceAdd (Host.divf (mulf (shapeCast _ (Host.reduceAdd (mulf x1 (mulf (ref0 x0 x1 x2 x3) (broadcastInDim S2048x2048 ![0, 1] bcast_S1x2048_S2048x2048_0_1 (broadcastInDim S1x2048 ![1] bcast_S2048_S1x2048_1 (shapeCast _ x3 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf x1 (mulf (ref0 x0 x1 x2 x3) (broadcastInDim S2048x2048 ![0, 1] bcast_S1x2048_S2048x2048_0_1 (broadcastInDim S1x2048 ![1] bcast_S2048_S1x2048_1 (shapeCast _ x3 shapeCasts_S1x2048_S2048))))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) x1)) bitsLt_bf16_f32)

def ref2 (x0 : FVec Ideal S2048x2048 .f32) (x1 : FVec Ideal S2048x2048 .f32) (x2 : FVec Ideal S2048x2048 .f32) (x3 : FVec Ideal S1x2048 .f32) : FVec Ideal S1x2048 .f32 :=
  broadcastInDim S1x2048 ![1] bcast_S2048_S1x2048_1 (Host.reduceAdd (shapeCast _ (Host.reduceAdd (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (ref0 x0 x1 x2 x3)) (constant S_ .f32 0x00000000#32) reducesTo_S2048x2048_S2048_d0 h_S_) shapeCasts_S2048_S1x2048) (constant S_ .f32 0x00000000#32) reducesTo_S1x2048_S2048_d0 h_S_)

def ref3 (x0 : FVec Ideal S2048x2048 .f32) (x1 : FVec Ideal S2048x2048 .f32) (x2 : FVec Ideal S2048x2048 .f32) (x3 : FVec Ideal S1x2048 .f32) : FVec Ideal S1x128 .f32 :=
  broadcastInDim S1x128 ![] bcast_S_S1x128 (mulf (constant S_ .f32 0x3F000000#32) (Host.reduceAdd (Host.divf (Host.reduceAdd (mulf (subf (addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x3 shapeCasts_S1x2048_S2048))))) x2) (subf (addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x3 shapeCasts_S1x2048_S2048))))) x2)) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

theorem ref0_apply (x0 x1 x2 x3 i) : ref0 x0 x1 x2 x3 i
    = (x0 i + x1 i * Ideal.rsqrt (meanSq fun k => x1 (ix2 (i 0) k)) * x3 (ix2 0 (i 1)) - x2 i) * Ideal.ofBits .f32 0x3A000000#32 := by
  rw [← mean_share]
  pointwise [ref0, meanSq]

theorem ref1_apply (x0 x1 x2 x3 i) : ref1 x0 x1 x2 x3 i
    = grad (fun k => x1 (ix2 (i 0) k)) (fun k => ref0 x0 x1 x2 x3 (ix2 (i 0) k) * x3 (ix2 0 k)) (i 1) := by
  refine Eq.trans ?_ (grad_eq (fun k => x1 (ix2 (i 0) k)) (fun k => ref0 x0 x1 x2 x3 (ix2 (i 0) k) * x3 (ix2 0 k)) (i 1))
  pointwise [ref1, meanSq]

theorem ref2_apply (x0 x1 x2 x3 j) : ref2 x0 x1 x2 x3 j
    = ∑ l : Fin 2048, ref0 x0 x1 x2 x3 (ix2 l (j 1)) * x1 (ix2 l (j 1)) * Ideal.rsqrt (meanSq fun k => x1 (ix2 l k)) := by
  pointwise [ref2, meanSq]
  rw [Finset.sum_const, Finset.card_univ, Fintype.card_fin, one_smul]
  exact Finset.sum_congr rfl fun l _ => by ac_rfl

/-- A row's error at place `k`. -/
def err (x0 x1 x2 : FVec Ideal S2048x2048 .f32) (x3 : FVec Ideal S1x2048 .f32) (l k : Fin 2048) : EReal :=
  x0 (ix2 l k) + x1 (ix2 l k) * Ideal.rsqrt (meanSq fun k => x1 (ix2 l k)) * x3 (ix2 0 k) - x2 (ix2 l k)

theorem ref3_apply (x0 x1 x2 x3 j) : ref3 x0 x1 x2 x3 j
    = ∑ l : Fin 2048, Ideal.ofBits .f32 0x3F000000#32 * Ideal.div (∑ k : Fin 2048, err x0 x1 x2 x3 l k * err x0 x1 x2 x3 l k) (Ideal.ofBits .f32 0x45000000#32) := by
  rw [← half_sum]
  pointwise [ref3, meanSq, err]

end Cert.Reference15Ideal.Hand

namespace Cert.Kernel15Ideal.Hand

open Cert.Kernel15Ideal Cert.Kernel15Ideal.Gen
open Idealize.ShloMosaic Idealize.ShloMosaic.TcCoe Idealize.SL.Sem
open Idealize.ShloMosaic.Pipeline (Dat)
open Cert.Proof.NormGrad

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

theorem hgrad (v g e y) : k0_pay2 (F := Ideal) v (k0_pay6 v) g e y
    = grad (fun k => v (ix2 (y 0) k)) (fun k => k0_pay1 (F := Ideal) e (ix2 (y 0) k) * g (ix2 0 k)) (y 1) := by
  pointwise [k0_pay6, k0_pay2, grad, meanSq]

theorem hzero (j) : k0_pay4 (F := Ideal) j = 0 := by pointwise [k0_pay4]
theorem hzero' (j) : k0_pay5 (F := Ideal) j = 0 := by pointwise [k0_pay5]

theorem hpay (v e a j) : k0_pay3 (F := Ideal) v (k0_pay6 v) e a j
    = a j + ∑ l : Fin 256, k0_pay1 (F := Ideal) e (ix2 l (j 1)) * v (ix2 l (j 1)) * Ideal.rsqrt (meanSq fun k => v (ix2 l k)) := by
  pointwise [k0_pay3, k0_pay6, meanSq]

theorem hpay' (v g x y a j) : k0_pay8 (F := Ideal) v g x y a j
    = a j + ∑ l : Fin 256, Ideal.ofBits .f32 0x3F000000#32 * Ideal.div (∑ k : Fin 2048, k0_pay7 (F := Ideal) v g x y (ix2 l k) * k0_pay7 (F := Ideal) v g x y (ix2 l k)) (Ideal.ofBits .f32 0x45000000#32) := by
  rw [← half_sum]
  pointwise [k0_pay8]

theorem point4 (c : Dev nD) (t : Fin cfg0.N) (y) : (k0_pay1 (F := Ideal) (k0_pay7 (F := Ideal) (iblk m c 1 t) (iblk m c 3 t) (iblk m c 0 t) (iblk m c 2 t))) y
    = Cert.Reference15Ideal.Hand.ref0 (m ((c : Thread nD τ).loc main_arg0)) (m ((c : Thread nD τ).loc main_arg1)) (m ((c : Thread nD τ).loc main_arg2)) (m ((c : Thread nD τ).loc main_arg3)) (((cfg0.win 4).blk t).view.emb y) := by
  rw [Cert.Reference15Ideal.Hand.ref0_apply]
  pointwise [k0_pay1, k0_pay7, k0_pay6, meanSq]
  blk_point [iblk, V, idx t]

theorem point5 (c : Dev nD) (t : Fin cfg0.N) (y) : k0_pay2 (F := Ideal) (iblk m c 1 t) (k0_pay6 (iblk m c 1 t)) (iblk m c 3 t) (k0_pay7 (F := Ideal) (iblk m c 1 t) (iblk m c 3 t) (iblk m c 0 t) (iblk m c 2 t)) y
    = Cert.Reference15Ideal.Hand.ref1 (m ((c : Thread nD τ).loc main_arg0)) (m ((c : Thread nD τ).loc main_arg1)) (m ((c : Thread nD τ).loc main_arg2)) (m ((c : Thread nD τ).loc main_arg3)) (((cfg0.win 5).blk t).view.emb y) := by
  rw [hgrad, Cert.Reference15Ideal.Hand.ref1_apply]
  simp only [grad, meanSq, point4]
  blk_point [iblk, V, idx t]

theorem final4 (c : Dev nD) : (dats m 0 c).arrAt 4 (cfgs 0).N
    = Cert.Reference15Ideal.Hand.ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h]; frame_out; exact point4 m c t y
  · rw [outsAt0_B m c t h]; frame_out; exact point4 m c t y

theorem final5 (c : Dev nD) : (dats m 0 c).arrAt 5 (cfgs 0).N
    = Cert.Reference15Ideal.Hand.ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h : t.val % 8 = 0
  · rw [outsAt0_A m c t h]; frame_out; exact point5 m c t y
  · rw [outsAt0_B m c t h]; frame_out; exact point5 m c t y

theorem final6 (c : Dev nD) : (dats m 0 c).arrAt 6 (cfgs 0).N
    = Cert.Reference15Ideal.Hand.ref2 (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => 0) (fun t j => ∑ l : Fin 256, (k0_pay1 (F := Ideal) (k0_pay7 (F := Ideal) (iblk m c 1 t) (iblk m c 3 t) (iblk m c 0 t) (iblk m c 2 t))) (ix2 l (j 1)) * (show FVec Ideal S256x2048 .f32 from iblk m c 1 t) (ix2 l (j 1)) * Ideal.rsqrt (meanSq fun k => (show FVec Ideal S256x2048 .f32 from iblk m c 1 t) (ix2 l k)))
    (fun t h j => by rw [outsAt0_A m c t h]; frame_out; rw [hpay, hzero])
    (fun t h j => by rw [outsAt0_B m c t h]; frame_out; rw [hpay]) (le_of_eq N_0) t0_7 rfl j, zero_add, Cert.Reference15Ideal.Hand.ref2_apply]
  refine Fin.sum_mul_add_congr fun t k hl => ?_
  simp only [meanSq, point4]
  blk_point [iblk, V, idx t]

theorem final7 (c : Dev nD) : (dats m 0 c).arrAt 7 (cfgs 0).N
    = Cert.Reference15Ideal.Hand.ref3 (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0) (fun t j => ∑ l : Fin 256, Ideal.ofBits .f32 0x3F000000#32 * Ideal.div (∑ k : Fin 2048, (k0_pay7 (F := Ideal) (iblk m c 1 t) (iblk m c 3 t) (iblk m c 0 t) (iblk m c 2 t)) (ix2 l k) * (k0_pay7 (F := Ideal) (iblk m c 1 t) (iblk m c 3 t) (iblk m c 0 t) (iblk m c 2 t)) (ix2 l k)) (Ideal.ofBits .f32 0x45000000#32))
    (fun t h j => by rw [outsAt0_A m c t h]; frame_out; rw [hpay', hzero'])
    (fun t h j => by rw [outsAt0_B m c t h]; frame_out; rw [hpay']) (le_of_eq N_0) t0_7 rfl j, zero_add, Cert.Reference15Ideal.Hand.ref3_apply]
  refine Fin.sum_mul_add_congr fun t k hl => ?_
  pointwise [k0_pay7, k0_pay6, Cert.Reference15Ideal.Hand.err, meanSq]
  blk_point [iblk, V, idx t]

end Cert.Kernel15Ideal.Hand

namespace Cert.Proof.K15

open Idealize.ShloMosaic Idealize.ShloMosaic.TcCoe Idealize.SL.Sem

theorem frame_ideal : Cert.quiescent_Kernel15Ideal := fun m ρ _ => Cert.Kernel15Ideal.Gen.frame (F := Ideal) m ρ

/-- The kernel and its ideal form are one text: their body tables agree label by label. -/
theorem defs₀_same : Cert.Kernel15.defs₀ (F := Bits) = Cert.Kernel15Ideal.defs₀ (F := Bits) := by
  refine congrArg Defs.onTc (funext fun l => funext fun x => ?_)
  match l, x with
  | 0, (t, s) => rfl

theorem defs_same : Cert.Kernel15.defs (F := Bits) = Cert.Kernel15Ideal.defs (F := Bits) :=
  congrArg (Pipeline.defs (Cert.Kernel15Ideal.pcfgs (F := Bits))) defs₀_same

theorem main_same : Cert.Kernel15.main (F := Bits) = Cert.Kernel15Ideal.main (F := Bits) := rfl

theorem frame_kernel : Cert.quiescent_Kernel15 := fun m ρ _ => by
  have h := Cert.Kernel15Ideal.Gen.frame (F := Bits) m ρ
  rw [← defs_same, ← main_same] at h
  exact h

theorem frame_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_, _, _, _, (θ_run Cert.Kernel15Ideal.defs _ _).mono (fun _ h c => ⟨(h c).1.trans (Cert.Kernel15Ideal.Hand.final4 m c), (h c).2.1.trans (Cert.Kernel15Ideal.Hand.final5 m c), (h c).2.2.1.trans (Cert.Kernel15Ideal.Hand.final6 m c), (h c).2.2.2.1.trans (Cert.Kernel15Ideal.Hand.final7 m c), (h c).2.2.2.2⟩)
    (Cert.Kernel15Ideal.Value.run_blocks (F := Ideal) m ρ), ?_⟩
  refine (θ_run Cert.Reference15Ideal.defs _ _).mono (fun _ h c => ⟨(h c).1.trans ?_, (h c).2.1.trans ?_, (h c).2.2.1.trans ?_, (h c).2.2.2.1.trans ?_, (h c).2.2.2.2⟩)
    (Cert.Reference15Ideal.Value.run (F := Ideal) m' ρ')
  · rw [(hagree c).1, (hagree c).2.1, (hagree c).2.2.1, (hagree c).2.2.2]
    rfl
  · unfold Cert.Reference15Ideal.Value.res_main_v53
    rw [(hagree c).1, (hagree c).2.1, (hagree c).2.2.1, (hagree c).2.2.2]
    rfl
  · rw [(hagree c).1, (hagree c).2.1, (hagree c).2.2.1, (hagree c).2.2.2]
    rfl
  · rw [(hagree c).1, (hagree c).2.1, (hagree c).2.2.1, (hagree c).2.2.2]
    rfl

end Cert.Proof.K15

end
-- ==== Proof.Ew16.lean ====
/-
  The backward pass of the short convolution: each block of rows is the three shifted products of the reference, the rows past a block taken from the next; with the frames.
-/
module

public import proofs.«01_k».proof.Defs
public import proofs.«01_k».proof.Proof.Gen.Kernel16
public import proofs.«01_k».proof.Proof.Gen.Kernel16Ideal.Value
public import proofs.«01_k».proof.Proof.Gen.Reference16Ideal.Run
public import Idealize.ShloMosaic.Lib.Pipeline.ValueKit
public import Idealize.ShloMosaic.Lib.Quiescent

@[expose] public section

set_option maxRecDepth 16384
set_option maxHeartbeats 2000000

noncomputable section

namespace Cert.Reference16Ideal.Hand

open Cert.Reference16Ideal Cert.Reference16Ideal.Gen
open Idealize.ShloMosaic

/-! The reference’s composed terms over its arguments. -/

def ref0 (x0 : FVec Ideal S2x2048x5632 .bf16) (x1 : FVec Ideal S8x11264 .f32) : FVec Ideal S2048x11264 .bf16 :=
  truncf .bf16 (shapeCast _ (extractStridedSlice S1x2048x11264 ![0, 2, 0] (addf (addf (pad S1x2050x11264 ![0, 2, 0] ![0, 0, 0] ![0, 0, 0] (mulf (broadcastInDim S1x2048x11264 ![1, 2] bcast_S2048x11264_S1x2048x11264_1_2 (extf .f32 (concatenate S2048x11264 1 [⟨S2048x5632, (shapeCast _ (extractStridedSlice S1x2048x5632 ![0, 0, 0] x0 slices_S2x2048x5632_S1x2048x5632_0_0_0) shapeCasts_S1x2048x5632_S2048x5632)⟩, ⟨S2048x5632, (shapeCast _ (extractStridedSlice S1x2048x5632 ![1, 0, 0] x0 slices_S2x2048x5632_S1x2048x5632_1_0_0) shapeCasts_S1x2048x5632_S2048x5632)⟩] concatenates_S2048x5632_S2048x5632_S2048x11264_d1) bitsLt_bf16_f32)) (broadcastInDim S1x2048x11264 ![0, 1, 2] bcast_S1x1x11264_S1x2048x11264_0_1_2 (broadcastInDim S1x1x11264 ![2] bcast_S11264_S1x1x11264_2 (shapeCast _ (extractStridedSlice S1x11264 ![2, 0] (extractStridedSlice S3x11264 ![0, 0] x1 slices_S8x11264_S3x11264_0_0) slices_S3x11264_S1x11264_2_0) shapeCasts_S1x11264_S11264)))) (constant S_ .f32 0x00000000#32) pads_S1x2048x11264_S1x2050x11264_000_200_000 h_S_) (pad S1x2050x11264 ![0, 1, 0] ![0, 1, 0] ![0, 0, 0] (mulf (broadcastInDim S1x2048x11264 ![1, 2] bcast_S2048x11264_S1x2048x11264_1_2 (extf .f32 (concatenate S2048x11264 1 [⟨S2048x5632, (shapeCast _ (extractStridedSlice S1x2048x5632 ![0, 0, 0] x0 slices_S2x2048x5632_S1x2048x5632_0_0_0) shapeCasts_S1x2048x5632_S2048x5632)⟩, ⟨S2048x5632, (shapeCast _ (extractStridedSlice S1x2048x5632 ![1, 0, 0] x0 slices_S2x2048x5632_S1x2048x5632_1_0_0) shapeCasts_S1x2048x5632_S2048x5632)⟩] concatenates_S2048x5632_S2048x5632_S2048x11264_d1) bitsLt_bf16_f32)) (broadcastInDim S1x2048x11264 ![0, 1, 2] bcast_S1x1x11264_S1x2048x11264_0_1_2 (broadcastInDim S1x1x11264 ![2] bcast_S11264_S1x1x11264_2 (shapeCast _ (extractStridedSlice S1x11264 ![1, 0] (extractStridedSlice S3x11264 ![0, 0] x1 slices_S8x11264_S3x11264_0_0) slices_S3x11264_S1x11264_1_0) shapeCasts_S1x11264_S11264)))) (constant S_ .f32 0x00000000#32) pads_S1x2048x11264_S1x2050x11264_000_110_000 h_S_)) (pad S1x2050x11264 ![0, 0, 0] ![0, 2, 0] ![0, 0, 0] (mulf (broadcastInDim S1x2048x11264 ![1, 2] bcast_S2048x11264_S1x2048x11264_1_2 (extf .f32 (concatenate S2048x11264 1 [⟨S2048x5632, (shapeCast _ (extractStridedSlice S1x2048x5632 ![0, 0, 0] x0 slices_S2x2048x5632_S1x2048x5632_0_0_0) shapeCasts_S1x2048x5632_S2048x5632)⟩, ⟨S2048x5632, (shapeCast _ (extractStridedSlice S1x2048x5632 ![1, 0, 0] x0 slices_S2x2048x5632_S1x2048x5632_1_0_0) shapeCasts_S1x2048x5632_S2048x5632)⟩] concatenates_S2048x5632_S2048x5632_S2048x11264_d1) bitsLt_bf16_f32)) (broadcastInDim S1x2048x11264 ![0, 1, 2] bcast_S1x1x11264_S1x2048x11264_0_1_2 (broadcastInDim S1x1x11264 ![2] bcast_S11264_S1x1x11264_2 (shapeCast _ (extractStridedSlice S1x11264 ![0, 0] (extractStridedSlice S3x11264 ![0, 0] x1 slices_S8x11264_S3x11264_0_0) slices_S3x11264_S1x11264_0_0) shapeCasts_S1x11264_S11264)))) (constant S_ .f32 0x00000000#32) pads_S1x2048x11264_S1x2050x11264_000_020_000 h_S_)) slices_S1x2050x11264_S1x2048x11264_0_2_0) shapeCasts_S1x2048x11264_S2048x11264) bitsLt_bf16_f32

/-- The gradient that reaches the convolution, row `l` and channel `ch` of both halves side by side; rows past the end are zero. -/
def tap (x0 : FVec Ideal S2x2048x5632 .bf16) (l ch : ℕ) : EReal :=
  if hl : l < 2048 then
    if hc : ch < 5632 then x0 (ix3 0 ⟨l, hl⟩ ⟨ch, hc⟩)
    else if hd : ch - 5632 < 5632 then x0 (ix3 1 ⟨l, hl⟩ ⟨ch - 5632, hd⟩) else 0
  else 0

/-- An entry of the result is the sum of three shifted products. -/
theorem ref0_apply (x0 x1) (l : Fin 2048) (ch : Fin 11264) : ref0 x0 x1 (ix2 l ch)
    = tap x0 l ch * x1 (ix2 2 ch) + tap x0 (l + 1) ch * x1 (ix2 1 ch) + tap x0 (l + 2) ch * x1 (ix2 0 ch) := by
  have hd : ch.val - 5632 < 5632 := by omega
  have e2 : 2 + l.val = l.val + 2 := by omega
  have e1 : l.val + 2 - 1 = l.val + 1 := by omega
  pointwise [ref0]
  simp only [tap, l.isLt, hd, dite_true, e2, e1]
  congr 1
  · congr 1
    by_cases h1 : l.val + 1 < 2048
    · rw [dif_pos ⟨by omega, h1⟩, dif_pos h1]
    · rw [dif_neg (fun h => h1 h.2), dif_neg h1, zero_mul]
  · by_cases h1 : l.val + 2 < 2048
    · simp only [h1, dite_true]
    · simp only [h1, dite_false, zero_mul]
end Cert.Reference16Ideal.Hand

namespace Cert.Kernel16Ideal.Hand

open Cert.Kernel16Ideal Cert.Kernel16Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 4, t.val / 4 % 4]
    ∧ win0_1.index t = ![t.val / 16, min ((t.val % 4 + 1) * 32) 127, t.val / 4 % 4]
    ∧ win0_2.index t = ![0, t.val / 4] ∧ win0_3.index t = ![t.val % 4, t.val / 4]
    ∧ (grid0.coords t 2).val = t.val % 4 :=
  (by decide +kernel : ∀ t : Fin grid0.N, _)

/-- The two rows that wrap around, told apart by their row number. -/
theorem row511 : ∀ r : Fin 512, IntOp.cmpi .eq (BitVec.ofNat 32 r.val) 511#32 = if r.val = 511 then 1#1 else 0#1 := by decide +kernel
theorem row510 : ∀ r : Fin 512, IntOp.cmpi .eq (BitVec.ofNat 32 r.val) 510#32 = if r.val = 510 then 1#1 else 0#1 := by decide +kernel
theorem lastTile : ∀ b : Fin 4, Scalar.cmpi .slt (BitVec.ofNat 32 b.val) 3#32 = if b.val < 3 then 1#1 else 0#1 := by decide +kernel

/-- A row of the block, its two successors taken from the next rows where they leave the block. -/
theorem pay_apply (i : grid0.Coords) (v : Vec Ideal S1x512x1408 .bf16) (h : Vec Ideal S1x16x1408 .bf16) (w : Vec Ideal S8x1408 .f32)
    (b : Fin 4) (hb : (i 2).val = b.val) (f : ℕ → ℕ → EReal) (hv : ∀ (r : Fin 512) (c : Fin 1408), v (ix3 0 r c) = f r c)
    (hh : ∀ (s : Fin 16) (c : Fin 1408), b.val < 3 → h (ix3 0 s c) = f (512 + s) c)
    (hz : ∀ (s : Fin 16) (c : Fin 1408), ¬ b.val < 3 → f (512 + s) c = 0) (r : Fin 512) (c : Fin 1408) :
    k0_pay1 (F := Ideal) (k0_pay4 i v h w) (k0_pay5 i v h w) (ix2 r c)
      = f r c * w (ix2 2 c) + f (r + 1) c * w (ix2 1 c) + f (r + 2) c * w (ix2 0 c) := by
  have hs : ∀ s : Fin 16, Scalar.select (Scalar.cmpi .slt (BitVec.ofNat 32 (i 2).val) 3#32) (h (ix3 0 s c)) 0 = f (512 + s) c := fun s => by
    rw [hb, lastTile b]
    by_cases h3 : b.val < 3
    · rw [if_pos h3]; exact hh s c h3
    · rw [if_neg h3]; exact (hz s c h3).symm
  have hs0 := hs 0
  have hs1 := hs 1
  pointwise [k0_pay1, k0_pay2, k0_pay3, k0_pay4, k0_pay5]
  refine Eq.trans (b := f r c * w (ix2 2 c) + Scalar.select (if r.val = 511 then 1#1 else 0#1) (f 512 c) (f ((r.val + 512 - 511) % 512) c) * w (ix2 1 c)
    + Scalar.select (if r.val = 511 then 1#1 else 0#1) (f 513 c)
      (Scalar.select (if r.val = 510 then 1#1 else 0#1) (f 512 c) (f ((r.val + 512 - 510) % 512) c)) * w (ix2 0 c)) ?_ ?_
  · rw [← row511 r, ← row510 r]
    exact congr (congrArg (· + ·) (congr (congrArg (· + ·) (congrArg (· * _) (hv r c))) (congrArg (· * _)
      (congr (congrArg (Scalar.select _) hs0) (hv _ c))))) (congrArg (· * _)
      (congr (congrArg (Scalar.select _) hs1) (congr (congrArg (Scalar.select _) hs0) (hv _ c))))
  · have hr := r.isLt
    by_cases h1 : r.val = 511
    · rw [if_pos h1, h1]; rfl
    · rw [if_neg h1]
      have e1 : (r.val + 512 - 511) % 512 = r.val + 1 := by omega
      by_cases h2 : r.val = 510
      · rw [if_pos h2, h2]; rfl
      · have e2 : (r.val + 512 - 510) % 512 = r.val + 2 := by omega
        rw [if_neg h2, e1, e2]; rfl

theorem point3 (c : Dev nD) (t : Fin cfg0.N) (y) :
    k0_pay1 (F := Ideal) (k0_pay4 (grid0.coords t) (iblk m c 0 t) (iblk m c 1 t) (iblk m c 2 t)) (k0_pay5 (grid0.coords t) (iblk m c 0 t) (iblk m c 1 t) (iblk m c 2 t)) y
      = Cert.Reference16Ideal.Hand.ref0 (m ((c : Thread nD τ).loc main_arg0)) (m ((c : Thread nD τ).loc main_arg1)) (((cfg0.win 3).blk t).view.emb y) := by
  obtain ⟨i0, i1, i2, i3, i4⟩ := idx t
  have ht : t.val < 32 := t.isLt
  refine (congrArg _ (show y = ix2 (y 0 : Fin 512) (y 1 : Fin 1408) by ext a; fin_cases a <;> rfl)).trans ?_
  refine (pay_apply (grid0.coords t) _ _ _ ⟨t.val % 4, by omega⟩ i4
    (fun r ch => Cert.Reference16Ideal.Hand.tap (m ((c : Thread nD τ).loc main_arg0)) (t.val % 4 * 512 + r) (t.val / 4 * 1408 + ch)) ?_ ?_ ?_ (y 0) (y 1)).trans ?_
  · intro r ch
    have hr := r.isLt
    have hc := ch.isLt
    simp only [Cert.Reference16Ideal.Hand.tap]
    rw [dif_pos (by omega)]
    by_cases h : t.val / 4 * 1408 + ch.val < 5632
    · rw [dif_pos h]
      blk_point [iblk, V, i0]
    · rw [dif_neg h, dif_pos (by omega)]
      blk_point [iblk, V, i0]
  · intro s ch h3
    have hs := s.isLt
    have hc := ch.isLt
    simp only at h3
    have e : min ((t.val % 4 + 1) * 32) 127 = (t.val % 4 + 1) * 32 := by omega
    rw [e] at i1
    simp only [Cert.Reference16Ideal.Hand.tap]
    rw [dif_pos (by omega)]
    by_cases h : t.val / 4 * 1408 + ch.val < 5632
    · rw [dif_pos h]
      blk_point [iblk, V, i1]
    · rw [dif_neg h, dif_pos (by omega)]
      blk_point [iblk, V, i1]
  · intro s ch h3
    simp only at h3
    simp only [Cert.Reference16Ideal.Hand.tap]
    rw [dif_neg (by omega)]
  · have hr : (y 0 : Fin 512).val < 512 := (y 0 : Fin 512).isLt
    have hc : (y 1 : Fin 1408).val < 1408 := (y 1 : Fin 1408).isLt
    have e : (((cfg0.win 3).blk t).view.emb y) = ix2 (⟨t.val % 4 * 512 + (y 0 : Fin 512).val, by omega⟩ : Fin 2048) (⟨t.val / 4 * 1408 + (y 1 : Fin 1408).val, by omega⟩ : Fin 11264) := by
      blk_point [i3]
    rw [e, Cert.Reference16Ideal.Hand.ref0_apply]
    blk_point [iblk, V, i2]
    · exact (Nat.add_assoc _ _ _).symm
    · exact (Nat.add_assoc _ _ _).symm

theorem final3 (c : Dev nD) : (dats m 0 c).arrAt 3 (cfgs 0).N
    = Cert.Reference16Ideal.Hand.ref0 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

end Cert.Kernel16Ideal.Hand

namespace Cert.Proof.K16

open Idealize.ShloMosaic Idealize.ShloMosaic.TcCoe Idealize.SL.Sem

theorem frame_ideal : Cert.quiescent_Kernel16Ideal := fun m ρ _ => Cert.Kernel16Ideal.Gen.frame (F := Ideal) m ρ

/-- The kernel and its ideal form are one text: their body tables agree label by label. -/
theorem defs₀_same : Cert.Kernel16.defs₀ (F := Bits) = Cert.Kernel16Ideal.defs₀ (F := Bits) := by
  refine congrArg Defs.onTc (funext fun l => funext fun x => ?_)
  match l, x with
  | 0, (t, s) => rfl

theorem defs_same : Cert.Kernel16.defs (F := Bits) = Cert.Kernel16Ideal.defs (F := Bits) :=
  congrArg (Pipeline.defs (Cert.Kernel16Ideal.pcfgs (F := Bits))) defs₀_same

theorem main_same : Cert.Kernel16.main (F := Bits) = Cert.Kernel16Ideal.main (F := Bits) := rfl

theorem frame_kernel : Cert.quiescent_Kernel16 := fun m ρ _ => by
  have h := Cert.Kernel16Ideal.Gen.frame (F := Bits) m ρ
  rw [← defs_same, ← main_same] at h
  exact h

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨_, (θ_run Cert.Kernel16Ideal.defs _ _).mono (fun _ h c => ⟨(h c).1.trans (Cert.Kernel16Ideal.Hand.final3 m c), (h c).2⟩)
    (Cert.Kernel16Ideal.Value.run_blocks (F := Ideal) m ρ), ?_⟩
  refine (θ_run Cert.Reference16Ideal.defs _ _).mono (fun _ h c => ⟨(h c).1.trans ?_, (h c).2⟩)
    (Cert.Reference16Ideal.Value.run (F := Ideal) m' ρ')
  · rw [(hagree c).1, (hagree c).2]
    rfl

end Cert.Proof.K16

end
-- ==== Proof.Ew17.lean ====
/-
  The normalised rows that enter the mixer: each block of rows is the reference’s; with the frames.
-/
module

public import proofs.«01_k».proof.Defs
public import proofs.«01_k».proof.Proof.Gen.Kernel17
public import proofs.«01_k».proof.Proof.Gen.Kernel17Ideal.Value
public import proofs.«01_k».proof.Proof.Gen.Reference17Ideal.Run
public import Idealize.ShloMosaic.Lib.Pipeline.ValueKit
public import Idealize.ShloMosaic.Lib.Quiescent

@[expose] public section

set_option maxRecDepth 16384
set_option maxHeartbeats 2000000

noncomputable section

namespace Cert.Reference17Ideal.Hand

open Cert.Reference17Ideal Cert.Reference17Ideal.Gen
open Idealize.ShloMosaic

/-! The reference’s composed terms over its arguments. -/

def ref0 (x0 : FVec Ideal S2048x2048 .f32) (x1 : FVec Ideal S1x2048 .f32) : FVec Ideal S2048x2048 .bf16 :=
  truncf .bf16 (mulf (mulf x0 (broadcastInDim S2048x2048 ![0, 1] bcast_S2048x1_S2048x2048_0_1 (Host.rsqrt (addf (Host.divf (broadcastInDim S2048x1 ![0] bcast_S2048_S2048x1_0 (Host.reduceAdd (mulf x0 x0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x1 shapeCasts_S1x2048_S2048)))) bitsLt_bf16_f32

end Cert.Reference17Ideal.Hand

namespace Cert.Kernel17Ideal.Hand

open Cert.Kernel17Ideal Cert.Kernel17Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem point2 (c : Dev nD) (t : Fin cfg0.N) (y) : k0_pay1 (F := Ideal) (iblk m c 0 t) (iblk m c 1 t) y
    = Cert.Reference17Ideal.Hand.ref0 (m ((c : Thread nD τ).loc main_arg0)) (m ((c : Thread nD τ).loc main_arg1)) (((cfg0.win 2).blk t).view.emb y) := by
  pointwise [k0_pay1, Cert.Reference17Ideal.Hand.ref0]
  blk_point [iblk, V, idx t]

theorem final2 (c : Dev nD) : (dats m 0 c).arrAt 2 (cfgs 0).N
    = Cert.Reference17Ideal.Hand.ref0 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.Kernel17Ideal.Hand

namespace Cert.Proof.K17

open Idealize.ShloMosaic Idealize.ShloMosaic.TcCoe Idealize.SL.Sem

theorem frame_ideal : Cert.quiescent_Kernel17Ideal := fun m ρ _ => Cert.Kernel17Ideal.Gen.frame (F := Ideal) m ρ

/-- The kernel and its ideal form are one text: their body tables agree label by label. -/
theorem defs₀_same : Cert.Kernel17.defs₀ (F := Bits) = Cert.Kernel17Ideal.defs₀ (F := Bits) := by
  refine congrArg Defs.onTc (funext fun l => funext fun x => ?_)
  match l, x with
  | 0, (t, s) => rfl

theorem defs_same : Cert.Kernel17.defs (F := Bits) = Cert.Kernel17Ideal.defs (F := Bits) :=
  congrArg (Pipeline.defs (Cert.Kernel17Ideal.pcfgs (F := Bits))) defs₀_same

theorem main_same : Cert.Kernel17.main (F := Bits) = Cert.Kernel17Ideal.main (F := Bits) := rfl

theorem frame_kernel : Cert.quiescent_Kernel17 := fun m ρ _ => by
  have h := Cert.Kernel17Ideal.Gen.frame (F := Bits) m ρ
  rw [← defs_same, ← main_same] at h
  exact h

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic : Cert.algebraic_Kernel17Ideal_Reference17Ideal := by
  intro m ρ m' ρ' _ hagree
  refine ⟨_, (θ_run Cert.Kernel17Ideal.defs _ _).mono (fun _ h c => ⟨(h c).1.trans (Cert.Kernel17Ideal.Hand.final2 m c), (h c).2⟩)
    (Cert.Kernel17Ideal.Value.run_blocks (F := Ideal) m ρ), ?_⟩
  refine (θ_run Cert.Reference17Ideal.defs _ _).mono (fun _ h c => ⟨(h c).1.trans ?_, (h c).2⟩)
    (Cert.Reference17Ideal.Value.run (F := Ideal) m' ρ')
  · rw [(hagree c).1, (hagree c).2]
    rfl

end Cert.Proof.K17

end
-- ==== Proof.Ew18.lean ====
/-
  The residual sum after the mixer and the normalised rows that enter the feed-forward: each block of rows is the reference’s; with the frames.
-/
module

public import proofs.«01_k».proof.Defs
public import proofs.«01_k».proof.Proof.Gen.Kernel18
public import proofs.«01_k».proof.Proof.Gen.Kernel18Ideal.Value
public import proofs.«01_k».proof.Proof.Gen.Reference18Ideal.Run
public import Idealize.ShloMosaic.Lib.Pipeline.ValueKit
public import Idealize.ShloMosaic.Lib.Quiescent

@[expose] public section

set_option maxRecDepth 16384
set_option maxHeartbeats 2000000

noncomputable section

namespace Cert.Reference18Ideal.Hand

open Cert.Reference18Ideal Cert.Reference18Ideal.Gen
open Idealize.ShloMosaic

/-! The reference’s composed terms over its arguments. -/

def ref0 (x0 : FVec Ideal S2048x2048 .f32) (x1 : FVec Ideal S2048x2048 .f32) (x2 : FVec Ideal S1x2048 .f32) (x3 : FVec Ideal S1x2048 .f32) : FVec Ideal S2048x2048 .f32 :=
  addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x2 shapeCasts_S1x2048_S2048))))

def ref1 (x0 : FVec Ideal S2048x2048 .f32) (x1 : FVec Ideal S2048x2048 .f32) (x2 : FVec Ideal S1x2048 .f32) (x3 : FVec Ideal S1x2048 .f32) : FVec Ideal S2048x2048 .bf16 :=
  truncf .bf16 (mulf (mulf (addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x2 shapeCasts_S1x2048_S2048))))) (broadcastInDim S2048x2048 ![0, 1] bcast_S2048x1_S2048x2048_0_1 (Host.rsqrt (addf (Host.divf (broadcastInDim S2048x1 ![0] bcast_S2048_S2048x1_0 (Host.reduceAdd (mulf (addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x2 shapeCasts_S1x2048_S2048))))) (addf x0 (mulf (mulf x1 (broadcastInDim S2048x2048 ![0, 1] bcast_S2048x1_S2048x2048_0_1 (Host.rsqrt (addf (Host.divf (broadcastInDim S2048x1 ![0] bcast_S2048_S2048x1_0 (Host.reduceAdd (mulf x1 x1) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x2 shapeCasts_S1x2048_S2048)))))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 (shapeCast _ x3 shapeCasts_S1x2048_S2048)))) bitsLt_bf16_f32

end Cert.Reference18Ideal.Hand

namespace Cert.Kernel18Ideal.Hand

open Cert.Kernel18Ideal Cert.Kernel18Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

theorem point4 (c : Dev nD) (t : Fin cfg0.N) (y) : k0_pay1 (F := Ideal) (iblk m c 1 t) (iblk m c 0 t) (iblk m c 2 t) y
    = Cert.Reference18Ideal.Hand.ref0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, Cert.Reference18Ideal.Hand.ref0]
  blk_point [iblk, V, idx t]

theorem final4 (c : Dev nD) : (dats m 0 c).arrAt 4 (cfgs 0).N
    = Cert.Reference18Ideal.Hand.ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

theorem point5 (c : Dev nD) (t : Fin cfg0.N) (y) : k0_pay2 (F := Ideal) (iblk m c 1 t) (iblk m c 0 t) (iblk m c 2 t) (iblk m c 3 t) y
    = Cert.Reference18Ideal.Hand.ref1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, Cert.Reference18Ideal.Hand.ref1]
  blk_point [iblk, V, idx t]

theorem final5 (c : Dev nD) : (dats m 0 c).arrAt 5 (cfgs 0).N
    = Cert.Reference18Ideal.Hand.ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

end Cert.Kernel18Ideal.Hand

namespace Cert.Proof.K18

open Idealize.ShloMosaic Idealize.ShloMosaic.TcCoe Idealize.SL.Sem

theorem frame_ideal : Cert.quiescent_Kernel18Ideal := fun m ρ _ => Cert.Kernel18Ideal.Gen.frame (F := Ideal) m ρ

/-- The kernel and its ideal form are one text: their body tables agree label by label. -/
theorem defs₀_same : Cert.Kernel18.defs₀ (F := Bits) = Cert.Kernel18Ideal.defs₀ (F := Bits) := by
  refine congrArg Defs.onTc (funext fun l => funext fun x => ?_)
  match l, x with
  | 0, (t, s) => rfl

theorem defs_same : Cert.Kernel18.defs (F := Bits) = Cert.Kernel18Ideal.defs (F := Bits) :=
  congrArg (Pipeline.defs (Cert.Kernel18Ideal.pcfgs (F := Bits))) defs₀_same

theorem main_same : Cert.Kernel18.main (F := Bits) = Cert.Kernel18Ideal.main (F := Bits) := rfl

theorem frame_kernel : Cert.quiescent_Kernel18 := fun m ρ _ => by
  have h := Cert.Kernel18Ideal.Gen.frame (F := Bits) m ρ
  rw [← defs_same, ← main_same] at h
  exact h

theorem frame_reference : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨_, _, (θ_run Cert.Kernel18Ideal.defs _ _).mono (fun _ h c => ⟨(h c).1.trans (Cert.Kernel18Ideal.Hand.final4 m c), (h c).2.1.trans (Cert.Kernel18Ideal.Hand.final5 m c), (h c).2.2⟩)
    (Cert.Kernel18Ideal.Value.run_blocks (F := Ideal) m ρ), ?_⟩
  refine (θ_run Cert.Reference18Ideal.defs _ _).mono (fun _ h c => ⟨(h c).1.trans ?_, (h c).2.1.trans ?_, (h c).2.2⟩)
    (Cert.Reference18Ideal.Value.run (F := Ideal) m' ρ')
  · rw [(hagree c).1, (hagree c).2.1, (hagree c).2.2.1]
    rfl
  · rw [(hagree c).1, (hagree c).2.1, (hagree c).2.2.1, (hagree c).2.2.2]
    rfl

end Cert.Proof.K18

end
-- ==== Proof.Frame19.lean ====
/-
The run of the call `_small_finish` (program 19): its frame, and what it leaves in its twenty-seven results.
-/
module

public import proofs.«01_k».proof.Proof.Gen.Kernel19Ideal.Launch
public import proofs.«01_k».proof.Proof.Gen.Kernel19Ideal.Skeleton
public import proofs.«01_k».proof.Proof.Gen.Kernel19Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel19Ideal.Hand

open Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays when the call is entered: as given. -/
abbrev V (c : Dev nD) (b : Ref sig .tc) : Buf (Elt F) ((c : Thread nD τ).loc b) := m ((c : Thread nD τ).loc b)

set_option maxHeartbeats 800000 in
/-- The program is its one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A window of an argument holds its block when the body starts. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 2880000 in
/-- A run that ends at the arrays its proof data names leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c)))⟩) h

abbrev r0_0 : Rect S8x8x2048 := Rect.unit (s := S8x8x2048) ![0, 0, 0] S1x8x2048.size inb_S8x8x2048_S1x8x2048_0_0_0
abbrev r0_1 : Rect S8x8x2048 := Rect.unit (s := S8x8x2048) ![1, 0, 0] S1x8x2048.size inb_S8x8x2048_S1x8x2048_1_0_0
abbrev r0_2 : Rect S8x8x2048 := Rect.unit (s := S8x8x2048) ![2, 0, 0] S1x8x2048.size inb_S8x8x2048_S1x8x2048_2_0_0
abbrev r0_3 : Rect S8x8x2048 := Rect.unit (s := S8x8x2048) ![3, 0, 0] S1x8x2048.size inb_S8x8x2048_S1x8x2048_3_0_0
abbrev r0_4 : Rect S8x8x2048 := Rect.unit (s := S8x8x2048) ![4, 0, 0] S1x8x2048.size inb_S8x8x2048_S1x8x2048_4_0_0
abbrev r0_5 : Rect S8x8x2048 := Rect.unit (s := S8x8x2048) ![5, 0, 0] S1x8x2048.size inb_S8x8x2048_S1x8x2048_5_0_0
abbrev r0_6 : Rect S8x8x2048 := Rect.unit (s := S8x8x2048) ![6, 0, 0] S1x8x2048.size inb_S8x8x2048_S1x8x2048_6_0_0
abbrev r0_7 : Rect S8x8x2048 := Rect.unit (s := S8x8x2048) ![7, 0, 0] S1x8x2048.size inb_S8x8x2048_S1x8x2048_7_0_0
abbrev r0_8 : Rect S8x2048 := Rect.unit (s := S8x2048) ![0, 0] S8x2048.size inb_S8x2048_S8x2048_0_0
abbrev r0_9 : Rect S8x8x1024 := Rect.unit (s := S8x8x1024) ![0, 0, 0] S1x8x1024.size inb_S8x8x1024_S1x8x1024_0_0_0
abbrev r0_10 : Rect S8x8x1024 := Rect.unit (s := S8x8x1024) ![1, 0, 0] S1x8x1024.size inb_S8x8x1024_S1x8x1024_1_0_0
abbrev r0_11 : Rect S8x8x1024 := Rect.unit (s := S8x8x1024) ![2, 0, 0] S1x8x1024.size inb_S8x8x1024_S1x8x1024_2_0_0
abbrev r0_12 : Rect S8x8x1024 := Rect.unit (s := S8x8x1024) ![3, 0, 0] S1x8x1024.size inb_S8x8x1024_S1x8x1024_3_0_0
abbrev r0_13 : Rect S8x8x1024 := Rect.unit (s := S8x8x1024) ![4, 0, 0] S1x8x1024.size inb_S8x8x1024_S1x8x1024_4_0_0
abbrev r0_14 : Rect S8x8x1024 := Rect.unit (s := S8x8x1024) ![5, 0, 0] S1x8x1024.size inb_S8x8x1024_S1x8x1024_5_0_0
abbrev r0_15 : Rect S8x8x1024 := Rect.unit (s := S8x8x1024) ![6, 0, 0] S1x8x1024.size inb_S8x8x1024_S1x8x1024_6_0_0
abbrev r0_16 : Rect S8x8x1024 := Rect.unit (s := S8x8x1024) ![7, 0, 0] S1x8x1024.size inb_S8x8x1024_S1x8x1024_7_0_0
abbrev r0_17 : Rect S8x1024 := Rect.unit (s := S8x1024) ![0, 0] S8x1024.size inb_S8x1024_S8x1024_0_0
abbrev r0_18 : Rect S8x8x11264 := Rect.unit (s := S8x8x11264) ![0, 0, 0] S1x8x11264.size inb_S8x8x11264_S1x8x11264_0_0_0
abbrev r0_19 : Rect S8x8x11264 := Rect.unit (s := S8x8x11264) ![1, 0, 0] S1x8x11264.size inb_S8x8x11264_S1x8x11264_1_0_0
abbrev r0_20 : Rect S8x8x11264 := Rect.unit (s := S8x8x11264) ![2, 0, 0] S1x8x11264.size inb_S8x8x11264_S1x8x11264_2_0_0
abbrev r0_21 : Rect S8x8x11264 := Rect.unit (s := S8x8x11264) ![3, 0, 0] S1x8x11264.size inb_S8x8x11264_S1x8x11264_3_0_0
abbrev r0_22 : Rect S8x8x11264 := Rect.unit (s := S8x8x11264) ![4, 0, 0] S1x8x11264.size inb_S8x8x11264_S1x8x11264_4_0_0
abbrev r0_23 : Rect S8x8x11264 := Rect.unit (s := S8x8x11264) ![5, 0, 0] S1x8x11264.size inb_S8x8x11264_S1x8x11264_5_0_0
abbrev r0_24 : Rect S8x8x11264 := Rect.unit (s := S8x8x11264) ![6, 0, 0] S1x8x11264.size inb_S8x8x11264_S1x8x11264_6_0_0
abbrev r0_25 : Rect S8x8x11264 := Rect.unit (s := S8x8x11264) ![7, 0, 0] S1x8x11264.size inb_S8x8x11264_S1x8x11264_7_0_0
abbrev r0_26 : Rect S8x11264 := Rect.unit (s := S8x11264) ![0, 0] S8x11264.size inb_S8x11264_S8x11264_0_0
abbrev r0_27 : Rect S1x2048 := Rect.unit (s := S1x2048) ![0, 0] S1x2048.size inb_S1x2048_S1x2048_0_0
abbrev r0_28 : Rect S1x1024 := Rect.unit (s := S1x1024) ![0, 0] S1x1024.size inb_S1x1024_S1x1024_0_0

/-- Values of the body used in more than one result: the sums of the gathered rows, and the moving averages of the gradients. -/
def k0_pay39 (x0 : Vec F S8x8x2048 .f32) : FVec F S8x2048 .f32 :=
  k0_pay2 (View.ld x0 r0_0) (View.ld x0 r0_1) (View.ld x0 r0_2) (View.ld x0 r0_3) (View.ld x0 r0_4) (View.ld x0 r0_5) (View.ld x0 r0_6) (View.ld x0 r0_7)
def k0_pay40 (x1 : Vec F S8x8x1024 .f32) : FVec F S8x1024 .f32 :=
  k0_pay3 (View.ld x1 r0_9)
def k0_pay41 (x1 : Vec F S8x8x1024 .f32) : FVec F S8x1024 .f32 :=
  k0_pay4 (k0_pay40 x1) (View.ld x1 r0_10) (View.ld x1 r0_11) (View.ld x1 r0_12) (View.ld x1 r0_13) (View.ld x1 r0_14) (View.ld x1 r0_15) (View.ld x1 r0_16)
def k0_pay42 (x0 : Vec F S8x8x2048 .f32) (x4 : Vec F S1x2048 .f32) : FVec F S1x2048 .f32 :=
  k0_pay8 (k0_pay39 x0) (View.ld x4 r0_27)
def k0_pay43 (x0 : Vec F S8x8x2048 .f32) (x5 : Vec F S1x2048 .f32) : FVec F S1x2048 .f32 :=
  k0_pay9 (k0_pay39 x0) (View.ld x5 r0_27)
def k0_pay44 (x0 : Vec F S8x8x2048 .f32) (x8 : Vec F S1x2048 .f32) : FVec F S1x2048 .f32 :=
  k0_pay14 (k0_pay39 x0) (View.ld x8 r0_27)
def k0_pay45 (x0 : Vec F S8x8x2048 .f32) (x11 : Vec F S1x2048 .f32) : FVec F S1x2048 .f32 :=
  k0_pay19 (k0_pay39 x0) (View.ld x11 r0_27)
def k0_pay46 (x0 : Vec F S8x8x2048 .f32) (x14 : Vec F S1x2048 .f32) : FVec F S1x2048 .f32 :=
  k0_pay24 (k0_pay39 x0) (View.ld x14 r0_27)

/-- What the body leaves in each result, from the blocks of the arguments it uses. -/
def out0_21 (x0 : Vec F S8x8x2048 .f32) : Vec F S8x2048 .f32 :=
  View.canon [⟨r0_8, k0_pay2 (View.ld x0 r0_0) (View.ld x0 r0_1) (View.ld x0 r0_2) (View.ld x0 r0_3) (View.ld x0 r0_4) (View.ld x0 r0_5) (View.ld x0 r0_6) (View.ld x0 r0_7)⟩]

/-- A store through the whole of a buffer covers it. -/
theorem cover0_21 (p0 : Vec F S8x2048 .f32) (y : S8x2048.Idx) :
    ∃ pc ∈ ([⟨r0_8, p0⟩] : List (View.Piece (Elt F) S8x2048 .f32)), y ∈ pc.1.set :=
  View.cover_of_tiled [⟨r0_8, p0⟩] S8x2048.size (by rfl) y

def out0_22 (x1 : Vec F S8x8x1024 .f32) : Vec F S8x1024 .f32 :=
  View.canon [⟨r0_17, k0_pay4 (k0_pay40 x1) (View.ld x1 r0_10) (View.ld x1 r0_11) (View.ld x1 r0_12) (View.ld x1 r0_13) (View.ld x1 r0_14) (View.ld x1 r0_15) (View.ld x1 r0_16)⟩]

theorem cover0_22 (p0 : Vec F S8x1024 .f32) (y : S8x1024.Idx) :
    ∃ pc ∈ ([⟨r0_17, p0⟩] : List (View.Piece (Elt F) S8x1024 .f32)), y ∈ pc.1.set :=
  View.cover_of_tiled [⟨r0_17, p0⟩] S8x1024.size (by rfl) y

def out0_23 (x2 : Vec F S8x8x11264 .f32) : Vec F S8x11264 .f32 :=
  View.canon [⟨r0_26, k0_pay6 (k0_pay5 (View.ld x2 r0_18) (View.ld x2 r0_19) (View.ld x2 r0_20)) (View.ld x2 r0_21) (View.ld x2 r0_22) (View.ld x2 r0_23) (View.ld x2 r0_24) (View.ld x2 r0_25)⟩]

theorem cover0_23 (p0 : Vec F S8x11264 .f32) (y : S8x11264.Idx) :
    ∃ pc ∈ ([⟨r0_26, p0⟩] : List (View.Piece (Elt F) S8x11264 .f32)), y ∈ pc.1.set :=
  View.cover_of_tiled [⟨r0_26, p0⟩] S8x11264.size (by rfl) y

def out0_24 (x0 : Vec F S8x8x2048 .f32) : Vec F S1x2048 .f32 :=
  View.canon [⟨r0_27, k0_pay7 (k0_pay39 x0)⟩]

theorem cover0_24 (p0 : Vec F S1x2048 .f32) (y : S1x2048.Idx) :
    ∃ pc ∈ ([⟨r0_27, p0⟩] : List (View.Piece (Elt F) S1x2048 .f32)), y ∈ pc.1.set :=
  View.cover_of_tiled [⟨r0_27, p0⟩] S1x2048.size (by rfl) y

def out0_25 (x0 : Vec F S8x8x2048 .f32) (x3 : Vec F S1x2048 .f32) (x4 : Vec F S1x2048 .f32) (x5 : Vec F S1x2048 .f32) : Vec F S1x2048 .f32 :=
  View.canon [⟨r0_27, k0_pay11 (View.ld x3 r0_27) (k0_pay42 x0 x4) (k0_pay43 x0 x5) (k0_pay10 (F := F))⟩]

def out0_26 (x0 : Vec F S8x8x2048 .f32) (x4 : Vec F S1x2048 .f32) : Vec F S1x2048 .f32 :=
  View.canon [⟨r0_27, k0_pay42 x0 x4⟩]

def out0_27 (x0 : Vec F S8x8x2048 .f32) (x5 : Vec F S1x2048 .f32) : Vec F S1x2048 .f32 :=
  View.canon [⟨r0_27, k0_pay43 x0 x5⟩]

def out0_28 (x0 : Vec F S8x8x2048 .f32) : Vec F S1x2048 .f32 :=
  View.canon [⟨r0_27, k0_pay12 (k0_pay39 x0)⟩]

def out0_29 (x0 : Vec F S8x8x2048 .f32) (x6 : Vec F S1x2048 .f32) (x7 : Vec F S1x2048 .f32) (x8 : Vec F S1x2048 .f32) : Vec F S1x2048 .f32 :=
  View.canon [⟨r0_27, k0_pay16 (View.ld x6 r0_27) (k0_pay44 x0 x8) (k0_pay15 (k0_pay39 x0) (View.ld x7 r0_27))⟩]

def out0_30 (x0 : Vec F S8x8x2048 .f32) (x7 : Vec F S1x2048 .f32) : Vec F S1x2048 .f32 :=
  View.canon [⟨r0_27, k0_pay13 (k0_pay39 x0) (View.ld x7 r0_27)⟩]

def out0_31 (x0 : Vec F S8x8x2048 .f32) (x8 : Vec F S1x2048 .f32) : Vec F S1x2048 .f32 :=
  View.canon [⟨r0_27, k0_pay44 x0 x8⟩]

def out0_32 (x0 : Vec F S8x8x2048 .f32) : Vec F S1x2048 .f32 :=
  View.canon [⟨r0_27, k0_pay17 (k0_pay39 x0)⟩]

def out0_33 (x0 : Vec F S8x8x2048 .f32) (x9 : Vec F S1x2048 .f32) (x10 : Vec F S1x2048 .f32) (x11 : Vec F S1x2048 .f32) : Vec F S1x2048 .f32 :=
  View.canon [⟨r0_27, k0_pay21 (View.ld x9 r0_27) (k0_pay45 x0 x11) (k0_pay20 (k0_pay39 x0) (View.ld x10 r0_27)) (Scalar.ofBits .f32 0x3C231ACC#32)⟩]

def out0_34 (x0 : Vec F S8x8x2048 .f32) (x10 : Vec F S1x2048 .f32) : Vec F S1x2048 .f32 :=
  View.canon [⟨r0_27, k0_pay18 (k0_pay39 x0) (View.ld x10 r0_27)⟩]

def out0_35 (x0 : Vec F S8x8x2048 .f32) (x11 : Vec F S1x2048 .f32) : Vec F S1x2048 .f32 :=
  View.canon [⟨r0_27, k0_pay45 x0 x11⟩]

def out0_36 (x0 : Vec F S8x8x2048 .f32) : Vec F S1x2048 .f32 :=
  View.canon [⟨r0_27, k0_pay22 (k0_pay39 x0)⟩]

def out0_37 (x0 : Vec F S8x8x2048 .f32) (x12 : Vec F S1x2048 .f32) (x13 : Vec F S1x2048 .f32) (x14 : Vec F S1x2048 .f32) : Vec F S1x2048 .f32 :=
  View.canon [⟨r0_27, k0_pay27 (View.ld x12 r0_27) (k0_pay46 x0 x14) (k0_pay25 (k0_pay39 x0) (View.ld x13 r0_27)) (k0_pay26 (F := F))⟩]

def out0_38 (x0 : Vec F S8x8x2048 .f32) (x13 : Vec F S1x2048 .f32) : Vec F S1x2048 .f32 :=
  View.canon [⟨r0_27, k0_pay23 (k0_pay39 x0) (View.ld x13 r0_27)⟩]

def out0_39 (x0 : Vec F S8x8x2048 .f32) (x14 : Vec F S1x2048 .f32) : Vec F S1x2048 .f32 :=
  View.canon [⟨r0_27, k0_pay46 x0 x14⟩]

def out0_40 (x1 : Vec F S8x8x1024 .f32) : Vec F S1x1024 .f32 :=
  View.canon [⟨r0_28, k0_pay28 (k0_pay41 x1)⟩]

theorem cover0_40 (p0 : Vec F S1x1024 .f32) (y : S1x1024.Idx) :
    ∃ pc ∈ ([⟨r0_28, p0⟩] : List (View.Piece (Elt F) S1x1024 .f32)), y ∈ pc.1.set :=
  View.cover_of_tiled [⟨r0_28, p0⟩] S1x1024.size (by rfl) y

def out0_41 (x1 : Vec F S8x8x1024 .f32) (x15 : Vec F S1x1024 .f32) (x16 : Vec F S1x1024 .f32) (x17 : Vec F S1x1024 .f32) : Vec F S1x1024 .f32 :=
  View.canon [⟨r0_28, k0_pay33 (View.ld x15 r0_28) (k0_pay31 (k0_pay41 x1) (View.ld x16 r0_28)) (k0_pay32 (k0_pay41 x1) (View.ld x17 r0_28))⟩]

def out0_42 (x1 : Vec F S8x8x1024 .f32) (x16 : Vec F S1x1024 .f32) : Vec F S1x1024 .f32 :=
  View.canon [⟨r0_28, k0_pay29 (k0_pay41 x1) (View.ld x16 r0_28)⟩]

def out0_43 (x1 : Vec F S8x8x1024 .f32) (x17 : Vec F S1x1024 .f32) : Vec F S1x1024 .f32 :=
  View.canon [⟨r0_28, k0_pay30 (k0_pay41 x1) (View.ld x17 r0_28)⟩]

def out0_44 (x1 : Vec F S8x8x1024 .f32) : Vec F S1x1024 .f32 :=
  View.canon [⟨r0_28, k0_pay34 (k0_pay41 x1)⟩]

def out0_45 (x1 : Vec F S8x8x1024 .f32) (x18 : Vec F S1x1024 .f32) (x19 : Vec F S1x1024 .f32) (x20 : Vec F S1x1024 .f32) : Vec F S1x1024 .f32 :=
  View.canon [⟨r0_28, k0_pay1 (View.ld x18 r0_28) (k0_pay37 (k0_pay41 x1) (View.ld x19 r0_28)) (k0_pay38 (k0_pay41 x1) (View.ld x20 r0_28))⟩]

def out0_46 (x1 : Vec F S8x8x1024 .f32) (x19 : Vec F S1x1024 .f32) : Vec F S1x1024 .f32 :=
  View.canon [⟨r0_28, k0_pay35 (k0_pay41 x1) (View.ld x19 r0_28)⟩]

def out0_47 (x1 : Vec F S8x8x1024 .f32) (x20 : Vec F S1x1024 .f32) : Vec F S1x1024 .f32 :=
  View.canon [⟨r0_28, k0_pay36 (k0_pay41 x1) (View.ld x20 r0_28)⟩]

set_option maxHeartbeats 1000000 in
/-- The body, run on whole buffers, leaves the arguments as they were and each result as stated above. -/
theorem sound_kernel (c : Dev nD) (E : Set ℕ) (arg0 : Memref sig .tc .vmem S8x8x2048 .f32) (harg0 : arg0.IsWhole) (arg1 : Memref sig .tc .vmem S8x8x1024 .f32) (harg1 : arg1.IsWhole) (arg2 : Memref sig .tc .vmem S8x8x11264 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S8x2048 .f32) (harg21 : arg21.IsWhole) (arg22 : Memref sig .tc .vmem S8x1024 .f32) (harg22 : arg22.IsWhole) (arg23 : Memref sig .tc .vmem S8x11264 .f32) (harg23 : arg23.IsWhole) (arg24 : Memref sig .tc .vmem S1x2048 .f32) (harg24 : arg24.IsWhole) (arg25 : Memref sig .tc .vmem S1x2048 .f32) (harg25 : arg25.IsWhole) (arg26 : Memref sig .tc .vmem S1x2048 .f32) (harg26 : arg26.IsWhole) (arg27 : Memref sig .tc .vmem S1x2048 .f32) (harg27 : arg27.IsWhole) (arg28 : Memref sig .tc .vmem S1x2048 .f32) (harg28 : arg28.IsWhole) (arg29 : Memref sig .tc .vmem S1x2048 .f32) (harg29 : arg29.IsWhole) (arg30 : Memref sig .tc .vmem S1x2048 .f32) (harg30 : arg30.IsWhole) (arg31 : Memref sig .tc .vmem S1x2048 .f32) (harg31 : arg31.IsWhole) (arg32 : Memref sig .tc .vmem S1x2048 .f32) (harg32 : arg32.IsWhole) (arg33 : Memref sig .tc .vmem S1x2048 .f32) (harg33 : arg33.IsWhole) (arg34 : Memref sig .tc .vmem S1x2048 .f32) (harg34 : arg34.IsWhole) (arg35 : Memref sig .tc .vmem S1x2048 .f32) (harg35 : arg35.IsWhole) (arg36 : Memref sig .tc .vmem S1x2048 .f32) (harg36 : arg36.IsWhole) (arg37 : Memref sig .tc .vmem S1x2048 .f32) (harg37 : arg37.IsWhole) (arg38 : Memref sig .tc .vmem S1x2048 .f32) (harg38 : arg38.IsWhole) (arg39 : Memref sig .tc .vmem S1x2048 .f32) (harg39 : arg39.IsWhole) (arg40 : Memref sig .tc .vmem S1x1024 .f32) (harg40 : arg40.IsWhole) (arg41 : Memref sig .tc .vmem S1x1024 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x1024 .f32) (harg46 : arg46.IsWhole) (arg47 : Memref sig .tc .vmem S1x1024 .f32) (harg47 : arg47.IsWhole)
    (x0 : Vec F S8x8x2048 .f32) (x1 : Vec F S8x8x1024 .f32) (x2 : Vec F S8x8x11264 .f32) (x3 : Vec F S1x2048 .f32) (x4 : Vec F S1x2048 .f32) (x5 : Vec F S1x2048 .f32) (x6 : Vec F S1x2048 .f32) (x7 : Vec F S1x2048 .f32) (x8 : Vec F S1x2048 .f32) (x9 : Vec F S1x2048 .f32) (x10 : Vec F S1x2048 .f32) (x11 : Vec F S1x2048 .f32) (x12 : Vec F S1x2048 .f32) (x13 : Vec F S1x2048 .f32) (x14 : Vec F S1x2048 .f32) (x15 : Vec F S1x1024 .f32) (x16 : Vec F S1x1024 .f32) (x17 : Vec F S1x1024 .f32) (x18 : Vec F S1x1024 .f32) (x19 : Vec F S1x1024 .f32) (x20 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare (out0_21 x0) ∗ owns (c : Thread nD τ) arg22 fullShare (out0_22 x1) ∗ owns (c : Thread nD τ) arg23 fullShare (out0_23 x2) ∗ owns (c : Thread nD τ) arg24 fullShare (out0_24 x0) ∗ owns (c : Thread nD τ) arg25 fullShare (out0_25 x0 x3 x4 x5) ∗ owns (c : Thread nD τ) arg26 fullShare (out0_26 x0 x4) ∗ owns (c : Thread nD τ) arg27 fullShare (out0_27 x0 x5) ∗ owns (c : Thread nD τ) arg28 fullShare (out0_28 x0) ∗ owns (c : Thread nD τ) arg29 fullShare (out0_29 x0 x6 x7 x8) ∗ owns (c : Thread nD τ) arg30 fullShare (out0_30 x0 x7) ∗ owns (c : Thread nD τ) arg31 fullShare (out0_31 x0 x8) ∗ owns (c : Thread nD τ) arg32 fullShare (out0_32 x0) ∗ owns (c : Thread nD τ) arg33 fullShare (out0_33 x0 x9 x10 x11) ∗ owns (c : Thread nD τ) arg34 fullShare (out0_34 x0 x10) ∗ owns (c : Thread nD τ) arg35 fullShare (out0_35 x0 x11) ∗ owns (c : Thread nD τ) arg36 fullShare (out0_36 x0) ∗ owns (c : Thread nD τ) arg37 fullShare (out0_37 x0 x12 x13 x14) ∗ owns (c : Thread nD τ) arg38 fullShare (out0_38 x0 x13) ∗ owns (c : Thread nD τ) arg39 fullShare (out0_39 x0 x14) ∗ owns (c : Thread nD τ) arg40 fullShare (out0_40 x1) ∗ owns (c : Thread nD τ) arg41 fullShare (out0_41 x1 x15 x16 x17) ∗ owns (c : Thread nD τ) arg42 fullShare (out0_42 x1 x16) ∗ owns (c : Thread nD τ) arg43 fullShare (out0_43 x1 x17) ∗ owns (c : Thread nD τ) arg44 fullShare (out0_44 x1) ∗ owns (c : Thread nD τ) arg45 fullShare (out0_45 x1 x18 x19 x20) ∗ owns (c : Thread nD τ) arg46 fullShare (out0_46 x1 x19) ∗ owns (c : Thread nD τ) arg47 fullShare (out0_47 x1 x20)) -∗ K ⟨⟩))
      ⊢ wp frame (wpE (defs₀ (F := F)) Variants.none c none) E (cc0_small_finish arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47) K := by
  simp only [cc0_small_finish_eq_skeleton]; unfold cc0_small_finish_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_24 _)).trans ?_
    rfl
  isplitl [H26]
  · iexists _; isplitr
    swap; · iexact H26
    ipureintro
    refine (View.read_writes_eq_canon _ _ _ (cover0_24 _)).trans ?_
    rfl
  isplitl [H27]
  · iexists _; isplitr
    swap; · iexact H27
    ipureintro
    refine (View.read_writes_eq_canon _ _ _ (cover0_24 _)).trans ?_
    rfl
  isplitl [H28]
  · iexists _; isplitr
    swap; · iexact H28
    ipureintro
    refine (View.read_writes_eq_canon _ _ _ (cover0_24 _)).trans ?_
    rfl
  isplitl [H29]
  · iexists _; isplitr
    swap; · iexact H29
    ipureintro
    refine (View.read_writes_eq_canon _ _ _ (cover0_24 _)).trans ?_
    rfl
  isplitl [H30]
  · iexists _; isplitr
    swap; · iexact H30
    ipureintro
    refine (View.read_writes_eq_canon _ _ _ (cover0_24 _)).trans ?_
    rfl
  isplitl [H31]
  · iexists _; isplitr
    swap; · iexact H31
    ipureintro
    refine (View.read_writes_eq_canon _ _ _ (cover0_24 _)).trans ?_
    rfl
  isplitl [H32]
  · iexists _; isplitr
    swap; · iexact H32
    ipureintro
    refine (View.read_writes_eq_canon _ _ _ (cover0_24 _)).trans ?_
    rfl
  isplitl [H33]
  · iexists _; isplitr
    swap; · iexact H33
    ipureintro
    refine (View.read_writes_eq_canon _ _ _ (cover0_24 _)).trans ?_
    rfl
  isplitl [H34]
  · iexists _; isplitr
    swap; · iexact H34
    ipureintro
    refine (View.read_writes_eq_canon _ _ _ (cover0_24 _)).trans ?_
    rfl
  isplitl [H35]
  · iexists _; isplitr
    swap; · iexact H35
    ipureintro
    refine (View.read_writes_eq_canon _ _ _ (cover0_24 _)).trans ?_
    rfl
  isplitl [H36]
  · iexists _; isplitr
    swap; · iexact H36
    ipureintro
    refine (View.read_writes_eq_canon _ _ _ (cover0_24 _)).trans ?_
    rfl
  isplitl [H37]
  · iexists _; isplitr
    swap; · iexact H37
    ipureintro
    refine (View.read_writes_eq_canon _ _ _ (cover0_24 _)).trans ?_
    rfl
  isplitl [H38]
  · iexists _; isplitr
    swap; · iexact H38
    ipureintro
    refine (View.read_writes_eq_canon _ _ _ (cover0_24 _)).trans ?_
    rfl
  isplitl [H39]
  · iexists _; isplitr
    swap; · iexact H39
    ipureintro
    refine (View.read_writes_eq_canon _ _ _ (cover0_24 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_40 _)).trans ?_
    rfl
  isplitl [H42]
  · iexists _; isplitr
    swap; · iexact H42
    ipureintro
    refine (View.read_writes_eq_canon _ _ _ (cover0_40 _)).trans ?_
    rfl
  isplitl [H43]
  · iexists _; isplitr
    swap; · iexact H43
    ipureintro
    refine (View.read_writes_eq_canon _ _ _ (cover0_40 _)).trans ?_
    rfl
  isplitl [H44]
  · iexists _; isplitr
    swap; · iexact H44
    ipureintro
    refine (View.read_writes_eq_canon _ _ _ (cover0_40 _)).trans ?_
    rfl
  isplitl [H45]
  · iexists _; isplitr
    swap; · iexact H45
    ipureintro
    refine (View.read_writes_eq_canon _ _ _ (cover0_40 _)).trans ?_
    rfl
  isplitl [H46]
  · iexists _; isplitr
    swap; · iexact H46
    ipureintro
    refine (View.read_writes_eq_canon _ _ _ (cover0_40 _)).trans ?_
    rfl
  iexists _; isplitr
  swap; · iexact H47
  ipureintro
  refine (View.read_writes_eq_canon _ _ _ (cover0_40 _)).trans ?_
  rfl

/-- What the pipeline holds at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t)
    | ⟨22, _⟩ => out0_22 (iblk m c 1 t)
    | ⟨23, _⟩ => out0_23 (iblk m c 2 t)
    | ⟨24, _⟩ => out0_24 (iblk m c 0 t)
    | ⟨25, _⟩ => out0_25 (iblk m c 0 t) (iblk m c 3 t) (iblk m c 4 t) (iblk m c 5 t)
    | ⟨26, _⟩ => out0_26 (iblk m c 0 t) (iblk m c 4 t)
    | ⟨27, _⟩ => out0_27 (iblk m c 0 t) (iblk m c 5 t)
    | ⟨28, _⟩ => out0_28 (iblk m c 0 t)
    | ⟨29, _⟩ => out0_29 (iblk m c 0 t) (iblk m c 6 t) (iblk m c 7 t) (iblk m c 8 t)
    | ⟨30, _⟩ => out0_30 (iblk m c 0 t) (iblk m c 7 t)
    | ⟨31, _⟩ => out0_31 (iblk m c 0 t) (iblk m c 8 t)
    | ⟨32, _⟩ => out0_32 (iblk m c 0 t)
    | ⟨33, _⟩ => out0_33 (iblk m c 0 t) (iblk m c 9 t) (iblk m c 10 t) (iblk m c 11 t)
    | ⟨34, _⟩ => out0_34 (iblk m c 0 t) (iblk m c 10 t)
    | ⟨35, _⟩ => out0_35 (iblk m c 0 t) (iblk m c 11 t)
    | ⟨36, _⟩ => out0_36 (iblk m c 0 t)
    | ⟨37, _⟩ => out0_37 (iblk m c 0 t) (iblk m c 12 t) (iblk m c 13 t) (iblk m c 14 t)
    | ⟨38, _⟩ => out0_38 (iblk m c 0 t) (iblk m c 13 t)
    | ⟨39, _⟩ => out0_39 (iblk m c 0 t) (iblk m c 14 t)
    | ⟨40, _⟩ => out0_40 (iblk m c 1 t)
    | ⟨41, _⟩ => out0_41 (iblk m c 1 t) (iblk m c 15 t) (iblk m c 16 t) (iblk m c 17 t)
    | ⟨42, _⟩ => out0_42 (iblk m c 1 t) (iblk m c 16 t)
    | ⟨43, _⟩ => out0_43 (iblk m c 1 t) (iblk m c 17 t)
    | ⟨44, _⟩ => out0_44 (iblk m c 1 t)
    | ⟨45, _⟩ => out0_45 (iblk m c 1 t) (iblk m c 18 t) (iblk m c 19 t) (iblk m c 20 t)
    | ⟨46, _⟩ => out0_46 (iblk m c 1 t) (iblk m c 19 t)
    | ⟨47, _⟩ => out0_47 (iblk m c 1 t) (iblk m c 20 t)
    | ⟨_ + 48, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) := by dsimp only [dats]
theorem after0_22 (c : Dev nD) (t : Fin cfg0.N) : (dats m 0 c).after 22 t = out0_22 (iblk m c 1 t) := by dsimp only [dats]
theorem after0_23 (c : Dev nD) (t : Fin cfg0.N) : (dats m 0 c).after 23 t = out0_23 (iblk m c 2 t) := by dsimp only [dats]
theorem after0_24 (c : Dev nD) (t : Fin cfg0.N) : (dats m 0 c).after 24 t = out0_24 (iblk m c 0 t) := by dsimp only [dats]
theorem after0_25 (c : Dev nD) (t : Fin cfg0.N) : (dats m 0 c).after 25 t = out0_25 (iblk m c 0 t) (iblk m c 3 t) (iblk m c 4 t) (iblk m c 5 t) := by dsimp only [dats]
theorem after0_26 (c : Dev nD) (t : Fin cfg0.N) : (dats m 0 c).after 26 t = out0_26 (iblk m c 0 t) (iblk m c 4 t) := by dsimp only [dats]
theorem after0_27 (c : Dev nD) (t : Fin cfg0.N) : (dats m 0 c).after 27 t = out0_27 (iblk m c 0 t) (iblk m c 5 t) := by dsimp only [dats]
theorem after0_28 (c : Dev nD) (t : Fin cfg0.N) : (dats m 0 c).after 28 t = out0_28 (iblk m c 0 t) := by dsimp only [dats]
theorem after0_29 (c : Dev nD) (t : Fin cfg0.N) : (dats m 0 c).after 29 t = out0_29 (iblk m c 0 t) (iblk m c 6 t) (iblk m c 7 t) (iblk m c 8 t) := by dsimp only [dats]
theorem after0_30 (c : Dev nD) (t : Fin cfg0.N) : (dats m 0 c).after 30 t = out0_30 (iblk m c 0 t) (iblk m c 7 t) := by dsimp only [dats]
theorem after0_31 (c : Dev nD) (t : Fin cfg0.N) : (dats m 0 c).after 31 t = out0_31 (iblk m c 0 t) (iblk m c 8 t) := by dsimp only [dats]
theorem after0_32 (c : Dev nD) (t : Fin cfg0.N) : (dats m 0 c).after 32 t = out0_32 (iblk m c 0 t) := by dsimp only [dats]
theorem after0_33 (c : Dev nD) (t : Fin cfg0.N) : (dats m 0 c).after 33 t = out0_33 (iblk m c 0 t) (iblk m c 9 t) (iblk m c 10 t) (iblk m c 11 t) := by dsimp only [dats]
theorem after0_34 (c : Dev nD) (t : Fin cfg0.N) : (dats m 0 c).after 34 t = out0_34 (iblk m c 0 t) (iblk m c 10 t) := by dsimp only [dats]
theorem after0_35 (c : Dev nD) (t : Fin cfg0.N) : (dats m 0 c).after 35 t = out0_35 (iblk m c 0 t) (iblk m c 11 t) := by dsimp only [dats]
theorem after0_36 (c : Dev nD) (t : Fin cfg0.N) : (dats m 0 c).after 36 t = out0_36 (iblk m c 0 t) := by dsimp only [dats]
theorem after0_37 (c : Dev nD) (t : Fin cfg0.N) : (dats m 0 c).after 37 t = out0_37 (iblk m c 0 t) (iblk m c 12 t) (iblk m c 13 t) (iblk m c 14 t) := by dsimp only [dats]
theorem after0_38 (c : Dev nD) (t : Fin cfg0.N) : (dats m 0 c).after 38 t = out0_38 (iblk m c 0 t) (iblk m c 13 t) := by dsimp only [dats]
theorem after0_39 (c : Dev nD) (t : Fin cfg0.N) : (dats m 0 c).after 39 t = out0_39 (iblk m c 0 t) (iblk m c 14 t) := by dsimp only [dats]
theorem after0_40 (c : Dev nD) (t : Fin cfg0.N) : (dats m 0 c).after 40 t = out0_40 (iblk m c 1 t) := by dsimp only [dats]
theorem after0_41 (c : Dev nD) (t : Fin cfg0.N) : (dats m 0 c).after 41 t = out0_41 (iblk m c 1 t) (iblk m c 15 t) (iblk m c 16 t) (iblk m c 17 t) := by dsimp only [dats]
theorem after0_42 (c : Dev nD) (t : Fin cfg0.N) : (dats m 0 c).after 42 t = out0_42 (iblk m c 1 t) (iblk m c 16 t) := by dsimp only [dats]
theorem after0_43 (c : Dev nD) (t : Fin cfg0.N) : (dats m 0 c).after 43 t = out0_43 (iblk m c 1 t) (iblk m c 17 t) := by dsimp only [dats]
theorem after0_44 (c : Dev nD) (t : Fin cfg0.N) : (dats m 0 c).after 44 t = out0_44 (iblk m c 1 t) := by dsimp only [dats]
theorem after0_45 (c : Dev nD) (t : Fin cfg0.N) : (dats m 0 c).after 45 t = out0_45 (iblk m c 1 t) (iblk m c 18 t) (iblk m c 19 t) (iblk m c 20 t) := by dsimp only [dats]
theorem after0_46 (c : Dev nD) (t : Fin cfg0.N) : (dats m 0 c).after 46 t = out0_46 (iblk m c 1 t) (iblk m c 19 t) := by dsimp only [dats]
theorem after0_47 (c : Dev nD) (t : Fin cfg0.N) : (dats m 0 c).after 47 t = out0_47 (iblk m c 1 t) (iblk m c 20 t) := by dsimp only [dats]

/-- What the body finds in the windows of the arguments: their blocks. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d)))

/-- What the body ends in. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

theorem defs₀_row (t : Fin cfg0.N) :
    defs₀ (F := F) .tc cfg0.body (cfg0.bodyArgs t (cfg0.slots t)) = bodyAt0 t := by
  unfold defs₀; rw [Defs.onTc_tc]

set_option maxHeartbeats 16000000 in
/-- The same, as the pipeline asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, to the arrays the proof data names. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- The frame of the kernel, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel19Ideal.Hand

end
-- ==== Proof.Ew19.lean ====
/-
  The sums of the small gathered gradients over the devices, and the step of the six gains: the twenty-seven results entry by entry.
-/
module

public import proofs.«01_k».proof.Defs
public import proofs.«01_k».proof.Proof.Gen.Kernel19
public import proofs.«01_k».proof.Proof.Gen.Kernel19Ideal
public import proofs.«01_k».proof.Proof.Frame19
public import proofs.«01_k».proof.Proof.Gen.Reference19Ideal.Run
public import Idealize.ShloMosaic.Lib.Pipeline.ValueKit
public import Idealize.ShloMosaic.Lib.Quiescent

@[expose] public section

set_option maxRecDepth 16384
set_option maxHeartbeats 2000000

noncomputable section

namespace Cert.Reference19Ideal.Hand

open Cert.Reference19Ideal Cert.Reference19Ideal.Gen
open Idealize.ShloMosaic

/-! The reference’s composed terms: the three sums over the devices, a gain’s gradient as a row of a sum, and its step. -/

def sum0 (x0 : FVec Ideal S8x8x2048 .f32) : FVec Ideal S8x2048 .f32 :=
  Host.reduceAdd x0 (constant S_ .f32 0x00000000#32) reducesTo_S8x8x2048_S8x2048_d0 h_S_

def sum1 (x1 : FVec Ideal S8x8x1024 .f32) : FVec Ideal S8x1024 .f32 :=
  Host.reduceAdd x1 (constant S_ .f32 0x00000000#32) reducesTo_S8x8x1024_S8x1024_d0 h_S_

def sum2 (x2 : FVec Ideal S8x8x11264 .f32) : FVec Ideal S8x11264 .f32 :=
  Host.reduceAdd x2 (constant S_ .f32 0x00000000#32) reducesTo_S8x8x11264_S8x11264_d0 h_S_

def row0 (s : FVec Ideal S8x2048 .f32) : FVec Ideal S1x2048 .f32 :=
  broadcastInDim S1x2048 ![1] bcast_S2048_S1x2048_1 (shapeCast _ (extractStridedSlice S1x2048 ![0, 0] (s) slices_S8x2048_S1x2048_0_0) shapeCasts_S1x2048_S2048)

def row1 (s : FVec Ideal S8x2048 .f32) : FVec Ideal S1x2048 .f32 :=
  broadcastInDim S1x2048 ![1] bcast_S2048_S1x2048_1 (shapeCast _ (extractStridedSlice S1x2048 ![1, 0] (s) slices_S8x2048_S1x2048_1_0) shapeCasts_S1x2048_S2048)

def row2 (s : FVec Ideal S8x2048 .f32) : FVec Ideal S1x2048 .f32 :=
  broadcastInDim S1x2048 ![1] bcast_S2048_S1x2048_1 (shapeCast _ (extractStridedSlice S1x2048 ![2, 0] (s) slices_S8x2048_S1x2048_2_0) shapeCasts_S1x2048_S2048)

def row3 (s : FVec Ideal S8x2048 .f32) : FVec Ideal S1x2048 .f32 :=
  broadcastInDim S1x2048 ![1] bcast_S2048_S1x2048_1 (shapeCast _ (extractStridedSlice S1x2048 ![3, 0] (s) slices_S8x2048_S1x2048_3_0) shapeCasts_S1x2048_S2048)

def row4 (s : FVec Ideal S8x1024 .f32) : FVec Ideal S1x1024 .f32 :=
  broadcastInDim S1x1024 ![1] bcast_S1024_S1x1024_1 (shapeCast _ (extractStridedSlice S1x1024 ![0, 0] (s) slices_S8x1024_S1x1024_0_0) shapeCasts_S1x1024_S1024)

def row5 (s : FVec Ideal S8x1024 .f32) : FVec Ideal S1x1024 .f32 :=
  broadcastInDim S1x1024 ![1] bcast_S1024_S1x1024_1 (shapeCast _ (extractStridedSlice S1x1024 ![1, 0] (s) slices_S8x1024_S1x1024_1_0) shapeCasts_S1x1024_S1024)

def step2048 (w : FVec Ideal S1x2048 .f32) (g : FVec Ideal S1x2048 .f32) (p : FVec Ideal S1x2048 .f32) (q : FVec Ideal S1x2048 .f32) : FVec Ideal S1x2048 .f32 :=
  mulf (broadcastInDim S1x2048 ![] bcast_S_S1x2048 (constant S_ .f32 0xBA83126F#32)) (addf (Host.divf (Host.divf (addf (mulf (broadcastInDim S1x2048 ![] bcast_S_S1x2048 (constant S_ .f32 0x3F666666#32)) p) (mulf (broadcastInDim S1x2048 ![] bcast_S_S1x2048 (constant S_ .f32 0x3DCCCCCD#32)) g)) (broadcastInDim S1x2048 ![] bcast_S_S1x2048 (constant S_ .f32 0x3F26BD02#32))) (addf (Host.sqrt (Host.divf (addf (mulf (broadcastInDim S1x2048 ![] bcast_S_S1x2048 (constant S_ .f32 0x3F7FBE77#32)) q) (mulf (broadcastInDim S1x2048 ![] bcast_S_S1x2048 (constant S_ .f32 0x3A83126F#32)) (mulf g g))) (broadcastInDim S1x2048 ![] bcast_S_S1x2048 (constant S_ .f32 0x3C231ACC#32)))) (broadcastInDim S1x2048 ![] bcast_S_S1x2048 (constant S_ .f32 0x322BCC77#32)))) (mulf (broadcastInDim S1x2048 ![] bcast_S_S1x2048 (constant S_ .f32 0x3C23D70A#32)) w))

def mom2048 (g : FVec Ideal S1x2048 .f32) (p : FVec Ideal S1x2048 .f32) : FVec Ideal S1x2048 .f32 :=
  addf (mulf (broadcastInDim S1x2048 ![] bcast_S_S1x2048 (constant S_ .f32 0x3F666666#32)) p) (mulf (broadcastInDim S1x2048 ![] bcast_S_S1x2048 (constant S_ .f32 0x3DCCCCCD#32)) g)

def vel2048 (g : FVec Ideal S1x2048 .f32) (q : FVec Ideal S1x2048 .f32) : FVec Ideal S1x2048 .f32 :=
  addf (mulf (broadcastInDim S1x2048 ![] bcast_S_S1x2048 (constant S_ .f32 0x3F7FBE77#32)) q) (mulf (broadcastInDim S1x2048 ![] bcast_S_S1x2048 (constant S_ .f32 0x3A83126F#32)) (mulf g g))

def step1024 (w : FVec Ideal S1x1024 .f32) (g : FVec Ideal S1x1024 .f32) (p : FVec Ideal S1x1024 .f32) (q : FVec Ideal S1x1024 .f32) : FVec Ideal S1x1024 .f32 :=
  mulf (broadcastInDim S1x1024 ![] bcast_S_S1x1024 (constant S_ .f32 0xBA83126F#32)) (addf (Host.divf (Host.divf (addf (mulf (broadcastInDim S1x1024 ![] bcast_S_S1x1024 (constant S_ .f32 0x3F666666#32)) p) (mulf (broadcastInDim S1x1024 ![] bcast_S_S1x1024 (constant S_ .f32 0x3DCCCCCD#32)) g)) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) q) (mulf (broadcastInDim S1x1024 ![] bcast_S_S1x1024 (constant S_ .f32 0x3A83126F#32)) (mulf g g))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) w))

def mom1024 (g : FVec Ideal S1x1024 .f32) (p : FVec Ideal S1x1024 .f32) : FVec Ideal S1x1024 .f32 :=
  addf (mulf (broadcastInDim S1x1024 ![] bcast_S_S1x1024 (constant S_ .f32 0x3F666666#32)) p) (mulf (broadcastInDim S1x1024 ![] bcast_S_S1x1024 (constant S_ .f32 0x3DCCCCCD#32)) g)

def vel1024 (g : FVec Ideal S1x1024 .f32) (q : FVec Ideal S1x1024 .f32) : FVec Ideal S1x1024 .f32 :=
  addf (mulf (broadcastInDim S1x1024 ![] bcast_S_S1x1024 (constant S_ .f32 0x3F7FBE77#32)) q) (mulf (broadcastInDim S1x1024 ![] bcast_S_S1x1024 (constant S_ .f32 0x3A83126F#32)) (mulf g g))

end Cert.Reference19Ideal.Hand

namespace Cert.Kernel19Ideal.Hand

open Cert.Kernel19Ideal Cert.Kernel19Ideal.Gen Cert.Reference19Ideal.Hand
open Idealize.ShloMosaic Idealize.ShloMosaic.TcCoe Idealize.SL.Sem
open Idealize.ShloMosaic.Pipeline (Dat)

/-! The sums: a chain of additions is the sum over the devices. -/

theorem sum0_eq (x0 : FVec Ideal S8x8x2048 .f32) : k0_pay39 x0 = sum0 x0 := by
  funext y
  obtain ⟨a, b, rfl⟩ : ∃ (a : Fin 8) (b : Fin 2048), y = ix2 a b := ⟨y 0, y 1, by funext i; match i with | 0 => rfl | 1 => rfl⟩
  pointwise [k0_pay39, k0_pay2, sum0]
  simp only [Fin.sum_univ_eight]

theorem sum1_eq (x1 : FVec Ideal S8x8x1024 .f32) : k0_pay41 x1 = sum1 x1 := by
  funext y
  obtain ⟨a, b, rfl⟩ : ∃ (a : Fin 8) (b : Fin 1024), y = ix2 a b := ⟨y 0, y 1, by funext i; match i with | 0 => rfl | 1 => rfl⟩
  pointwise [k0_pay41, k0_pay40, k0_pay3, k0_pay4, sum1]
  simp only [Fin.sum_univ_eight]

theorem sum2_eq (x2 : FVec Ideal S8x8x11264 .f32) : k0_pay6 (k0_pay5 (View.ld x2 r0_18) (View.ld x2 r0_19) (View.ld x2 r0_20)) (View.ld x2 r0_21) (View.ld x2 r0_22) (View.ld x2 r0_23) (View.ld x2 r0_24) (View.ld x2 r0_25) = sum2 x2 := by
  funext y
  obtain ⟨a, b, rfl⟩ : ∃ (a : Fin 8) (b : Fin 11264), y = ix2 a b := ⟨y 0, y 1, by funext i; match i with | 0 => rfl | 1 => rfl⟩
  pointwise [k0_pay5, k0_pay6, sum2]
  simp only [Fin.sum_univ_eight]

/-! Each result of the body, as the reference's. -/

theorem row_idx {n : ℕ} (y : (⟨2, ![1, n]⟩ : Shape).Idx) : ix2 0 (y 1) = y := by
  funext a
  match a with
  | 0 => exact Subsingleton.elim (α := Fin 1) _ _
  | 1 => rfl

theorem hz : (![0, 0] : Fin 2 → Nat) = fun _ => 0 := funext fun a => by fin_cases a <;> rfl

theorem out21 (x0 : FVec Ideal S8x8x2048 .f32) : out0_21 (F := Ideal) x0 = sum0 x0 := by
  unfold out0_21
  rw [View.canon_unit_zero hz]
  exact sum0_eq x0

theorem out22 (x1 : FVec Ideal S8x8x1024 .f32) : out0_22 (F := Ideal) x1 = sum1 x1 := by
  unfold out0_22
  rw [View.canon_unit_zero hz]
  exact sum1_eq x1

theorem out23 (x2 : FVec Ideal S8x8x11264 .f32) : out0_23 (F := Ideal) x2 = sum2 x2 := by
  unfold out0_23
  rw [View.canon_unit_zero hz]
  exact sum2_eq x2

theorem out24 (x0 : FVec Ideal S8x8x2048 .f32) : out0_24 (F := Ideal) x0 = row0 (sum0 x0) := by
  unfold out0_24
  rw [View.canon_unit_zero hz, sum0_eq x0]
  generalize sum0 x0 = s
  funext y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row0]

theorem out25 (x0 : FVec Ideal S8x8x2048 .f32) (x3 : FVec Ideal S1x2048 .f32) (x4 : FVec Ideal S1x2048 .f32) (x5 : FVec Ideal S1x2048 .f32) : out0_25 (F := Ideal) x0 x3 x4 x5 = step2048 x3 (row0 (sum0 x0)) x4 x5 := by
  unfold out0_25 k0_pay42 k0_pay43
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row0, step2048]

theorem out26 (x0 : FVec Ideal S8x8x2048 .f32) (x4 : FVec Ideal S1x2048 .f32) : out0_26 (F := Ideal) x0 x4 = mom2048 (row0 (sum0 x0)) x4 := by
  unfold out0_26 k0_pay42
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row0, mom2048]

theorem out27 (x0 : FVec Ideal S8x8x2048 .f32) (x5 : FVec Ideal S1x2048 .f32) : out0_27 (F := Ideal) x0 x5 = vel2048 (row0 (sum0 x0)) x5 := by
  unfold out0_27 k0_pay43
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row0, vel2048]

theorem out28 (x0 : FVec Ideal S8x8x2048 .f32) : out0_28 (F := Ideal) x0 = row1 (sum0 x0) := by
  unfold out0_28
  rw [View.canon_unit_zero hz, sum0_eq x0]
  generalize sum0 x0 = s
  funext y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row1]

theorem out29 (x0 : FVec Ideal S8x8x2048 .f32) (x6 : FVec Ideal S1x2048 .f32) (x7 : FVec Ideal S1x2048 .f32) (x8 : FVec Ideal S1x2048 .f32) : out0_29 (F := Ideal) x0 x6 x7 x8 = step2048 x6 (row1 (sum0 x0)) x7 x8 := by
  unfold out0_29 k0_pay44
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row1, step2048]

theorem out30 (x0 : FVec Ideal S8x8x2048 .f32) (x7 : FVec Ideal S1x2048 .f32) : out0_30 (F := Ideal) x0 x7 = mom2048 (row1 (sum0 x0)) x7 := by
  unfold out0_30
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row1, mom2048]

theorem out31 (x0 : FVec Ideal S8x8x2048 .f32) (x8 : FVec Ideal S1x2048 .f32) : out0_31 (F := Ideal) x0 x8 = vel2048 (row1 (sum0 x0)) x8 := by
  unfold out0_31 k0_pay44
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row1, vel2048]

theorem out32 (x0 : FVec Ideal S8x8x2048 .f32) : out0_32 (F := Ideal) x0 = row2 (sum0 x0) := by
  unfold out0_32
  rw [View.canon_unit_zero hz, sum0_eq x0]
  generalize sum0 x0 = s
  funext y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row2]

theorem out33 (x0 : FVec Ideal S8x8x2048 .f32) (x9 : FVec Ideal S1x2048 .f32) (x10 : FVec Ideal S1x2048 .f32) (x11 : FVec Ideal S1x2048 .f32) : out0_33 (F := Ideal) x0 x9 x10 x11 = step2048 x9 (row2 (sum0 x0)) x10 x11 := by
  unfold out0_33 k0_pay45
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row2, step2048]

theorem out34 (x0 : FVec Ideal S8x8x2048 .f32) (x10 : FVec Ideal S1x2048 .f32) : out0_34 (F := Ideal) x0 x10 = mom2048 (row2 (sum0 x0)) x10 := by
  unfold out0_34
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row2, mom2048]

theorem out35 (x0 : FVec Ideal S8x8x2048 .f32) (x11 : FVec Ideal S1x2048 .f32) : out0_35 (F := Ideal) x0 x11 = vel2048 (row2 (sum0 x0)) x11 := by
  unfold out0_35 k0_pay45
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row2, vel2048]

theorem out36 (x0 : FVec Ideal S8x8x2048 .f32) : out0_36 (F := Ideal) x0 = row3 (sum0 x0) := by
  unfold out0_36
  rw [View.canon_unit_zero hz, sum0_eq x0]
  generalize sum0 x0 = s
  funext y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row3]

theorem out37 (x0 : FVec Ideal S8x8x2048 .f32) (x12 : FVec Ideal S1x2048 .f32) (x13 : FVec Ideal S1x2048 .f32) (x14 : FVec Ideal S1x2048 .f32) : out0_37 (F := Ideal) x0 x12 x13 x14 = step2048 x12 (row3 (sum0 x0)) x13 x14 := by
  unfold out0_37 k0_pay46
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row3, step2048]

theorem out38 (x0 : FVec Ideal S8x8x2048 .f32) (x13 : FVec Ideal S1x2048 .f32) : out0_38 (F := Ideal) x0 x13 = mom2048 (row3 (sum0 x0)) x13 := by
  unfold out0_38
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row3, mom2048]

theorem out39 (x0 : FVec Ideal S8x8x2048 .f32) (x14 : FVec Ideal S1x2048 .f32) : out0_39 (F := Ideal) x0 x14 = vel2048 (row3 (sum0 x0)) x14 := by
  unfold out0_39 k0_pay46
  rw [View.canon_unit_zero hz, sum0_eq x0]
  generalize sum0 x0 = s
  funext y
  obtain ⟨a, rfl⟩ : ∃ a : Fin 2048, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row3, vel2048]

theorem out40 (x1 : FVec Ideal S8x8x1024 .f32) : out0_40 (F := Ideal) x1 = row4 (sum1 x1) := by
  unfold out0_40
  rw [View.canon_unit_zero hz, sum1_eq x1]
  generalize sum1 x1 = s
  funext y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row4]

theorem out41 (x1 : FVec Ideal S8x8x1024 .f32) (x15 : FVec Ideal S1x1024 .f32) (x16 : FVec Ideal S1x1024 .f32) (x17 : FVec Ideal S1x1024 .f32) : out0_41 (F := Ideal) x1 x15 x16 x17 = step1024 x15 (row4 (sum1 x1)) x16 x17 := by
  unfold out0_41
  rw [View.canon_unit_zero hz, sum1_eq x1]
  generalize sum1 x1 = s
  funext y
  obtain ⟨a, rfl⟩ : ∃ a : Fin 1024, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row4, step1024]

theorem out42 (x1 : FVec Ideal S8x8x1024 .f32) (x16 : FVec Ideal S1x1024 .f32) : out0_42 (F := Ideal) x1 x16 = mom1024 (row4 (sum1 x1)) x16 := by
  unfold out0_42
  rw [View.canon_unit_zero hz, sum1_eq x1]
  generalize sum1 x1 = s
  funext y
  obtain ⟨a, rfl⟩ : ∃ a : Fin 1024, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row4, mom1024]

theorem out43 (x1 : FVec Ideal S8x8x1024 .f32) (x17 : FVec Ideal S1x1024 .f32) : out0_43 (F := Ideal) x1 x17 = vel1024 (row4 (sum1 x1)) x17 := by
  unfold out0_43
  rw [View.canon_unit_zero hz, sum1_eq x1]
  generalize sum1 x1 = s
  funext y
  obtain ⟨a, rfl⟩ : ∃ a : Fin 1024, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row4, vel1024]

theorem out44 (x1 : FVec Ideal S8x8x1024 .f32) : out0_44 (F := Ideal) x1 = row5 (sum1 x1) := by
  unfold out0_44
  rw [View.canon_unit_zero hz, sum1_eq x1]
  generalize sum1 x1 = s
  funext y
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row5]

theorem out45 (x1 : FVec Ideal S8x8x1024 .f32) (x18 : FVec Ideal S1x1024 .f32) (x19 : FVec Ideal S1x1024 .f32) (x20 : FVec Ideal S1x1024 .f32) : out0_45 (F := Ideal) x1 x18 x19 x20 = step1024 x18 (row5 (sum1 x1)) x19 x20 := by
  unfold out0_45
  rw [View.canon_unit_zero hz, sum1_eq x1]
  generalize sum1 x1 = s
  funext y
  obtain ⟨a, rfl⟩ : ∃ a : Fin 1024, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row5, step1024]

theorem out46 (x1 : FVec Ideal S8x8x1024 .f32) (x19 : FVec Ideal S1x1024 .f32) : out0_46 (F := Ideal) x1 x19 = mom1024 (row5 (sum1 x1)) x19 := by
  unfold out0_46
  rw [View.canon_unit_zero hz, sum1_eq x1]
  generalize sum1 x1 = s
  funext y
  obtain ⟨a, rfl⟩ : ∃ a : Fin 1024, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row5, mom1024]

theorem out47 (x1 : FVec Ideal S8x8x1024 .f32) (x20 : FVec Ideal S1x1024 .f32) : out0_47 (F := Ideal) x1 x20 = vel1024 (row5 (sum1 x1)) x20 := by
  unfold out0_47
  rw [View.canon_unit_zero hz, sum1_eq x1]
  generalize sum1 x1 = s
  funext y
  obtain ⟨a, rfl⟩ : ∃ a : Fin 1024, y = ix2 0 a := ⟨y 1, (row_idx y).symm⟩
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, row5, vel1024]

variable (m : (ℓ : Loc nD τ sig) → Buf (Elt Ideal) ℓ)

/-! There is one point, and every window is its whole array. -/

theorem emb0 (t : Fin cfg0.N) (j : S8x8x2048.Idx) : ((cfg0.win 0).blk t).view.emb j = j := by
  obtain ⟨e0, e1, e2⟩ := (by decide +kernel : ∀ t : Fin grid0.N, win0_0.index t (0 : Fin 3) = 0 ∧ win0_0.index t (1 : Fin 3) = 0 ∧ win0_0.index t (2 : Fin 3) = 0) t
  funext a; apply Fin.ext
  match a with
  | ⟨0, _⟩ => show win0_0.index t (0 : Fin 3) * 8 + 1 * (j 0).val = (j 0).val; omega
  | ⟨1, _⟩ => show win0_0.index t (1 : Fin 3) * 8 + 1 * (j 1).val = (j 1).val; omega
  | ⟨2, _⟩ => show win0_0.index t (2 : Fin 3) * 2048 + 1 * (j 2).val = (j 2).val; omega
theorem iblk0_eq (c : Dev nD) (t : Fin cfg0.N) : iblk m c 0 t = m ((c : Thread nD τ).loc main_arg0) := by
  funext j; show m ((c : Thread nD τ).loc main_arg0) (((cfg0.win 0).blk t).view.emb j) = _; rw [emb0]

theorem emb1 (t : Fin cfg0.N) (j : S8x8x1024.Idx) : ((cfg0.win 1).blk t).view.emb j = j := by
  obtain ⟨e0, e1, e2⟩ := (by decide +kernel : ∀ t : Fin grid0.N, win0_1.index t (0 : Fin 3) = 0 ∧ win0_1.index t (1 : Fin 3) = 0 ∧ win0_1.index t (2 : Fin 3) = 0) t
  funext a; apply Fin.ext
  match a with
  | ⟨0, _⟩ => show win0_1.index t (0 : Fin 3) * 8 + 1 * (j 0).val = (j 0).val; omega
  | ⟨1, _⟩ => show win0_1.index t (1 : Fin 3) * 8 + 1 * (j 1).val = (j 1).val; omega
  | ⟨2, _⟩ => show win0_1.index t (2 : Fin 3) * 1024 + 1 * (j 2).val = (j 2).val; omega
theorem iblk1_eq (c : Dev nD) (t : Fin cfg0.N) : iblk m c 1 t = m ((c : Thread nD τ).loc main_arg1) := by
  funext j; show m ((c : Thread nD τ).loc main_arg1) (((cfg0.win 1).blk t).view.emb j) = _; rw [emb1]

theorem emb2 (t : Fin cfg0.N) (j : S8x8x11264.Idx) : ((cfg0.win 2).blk t).view.emb j = j := by
  obtain ⟨e0, e1, e2⟩ := (by decide +kernel : ∀ t : Fin grid0.N, win0_2.index t (0 : Fin 3) = 0 ∧ win0_2.index t (1 : Fin 3) = 0 ∧ win0_2.index t (2 : Fin 3) = 0) t
  funext a; apply Fin.ext
  match a with
  | ⟨0, _⟩ => show win0_2.index t (0 : Fin 3) * 8 + 1 * (j 0).val = (j 0).val; omega
  | ⟨1, _⟩ => show win0_2.index t (1 : Fin 3) * 8 + 1 * (j 1).val = (j 1).val; omega
  | ⟨2, _⟩ => show win0_2.index t (2 : Fin 3) * 11264 + 1 * (j 2).val = (j 2).val; omega
theorem iblk2_eq (c : Dev nD) (t : Fin cfg0.N) : iblk m c 2 t = m ((c : Thread nD τ).loc main_arg2) := by
  funext j; show m ((c : Thread nD τ).loc main_arg2) (((cfg0.win 2).blk t).view.emb j) = _; rw [emb2]

theorem emb3 (t : Fin cfg0.N) (j : S1x2048.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem iblk3_eq (c : Dev nD) (t : Fin cfg0.N) : iblk m c 3 t = m ((c : Thread nD τ).loc main_arg3) := by
  funext j; show m ((c : Thread nD τ).loc main_arg3) (((cfg0.win 3).blk t).view.emb j) = _; rw [emb3]

theorem emb4 (t : Fin cfg0.N) (j : S1x2048.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem iblk4_eq (c : Dev nD) (t : Fin cfg0.N) : iblk m c 4 t = m ((c : Thread nD τ).loc main_arg4) := by
  funext j; show m ((c : Thread nD τ).loc main_arg4) (((cfg0.win 4).blk t).view.emb j) = _; rw [emb4]

theorem emb5 (t : Fin cfg0.N) (j : S1x2048.Idx) : ((cfg0.win 5).blk t).view.emb j = j := by
  obtain ⟨e0, e1⟩ := (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem iblk5_eq (c : Dev nD) (t : Fin cfg0.N) : iblk m c 5 t = m ((c : Thread nD τ).loc main_arg5) := by
  funext j; show m ((c : Thread nD τ).loc main_arg5) (((cfg0.win 5).blk t).view.emb j) = _; rw [emb5]

theorem emb6 (t : Fin cfg0.N) (j : S1x2048.Idx) : ((cfg0.win 6).blk t).view.emb j = j := by
  obtain ⟨e0, e1⟩ := (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 1 + 1 * (j 0).val = (j 0).val; omega
  | ⟨1, _⟩ => show win0_6.index t (1 : Fin 2) * 2048 + 1 * (j 1).val = (j 1).val; omega
theorem iblk6_eq (c : Dev nD) (t : Fin cfg0.N) : iblk m c 6 t = m ((c : Thread nD τ).loc main_arg6) := by
  funext j; show m ((c : Thread nD τ).loc main_arg6) (((cfg0.win 6).blk t).view.emb j) = _; rw [emb6]

theorem emb7 (t : Fin cfg0.N) (j : S1x2048.Idx) : ((cfg0.win 7).blk t).view.emb j = j := by
  obtain ⟨e0, e1⟩ := (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 1 + 1 * (j 0).val = (j 0).val; omega
  | ⟨1, _⟩ => show win0_7.index t (1 : Fin 2) * 2048 + 1 * (j 1).val = (j 1).val; omega
theorem iblk7_eq (c : Dev nD) (t : Fin cfg0.N) : iblk m c 7 t = m ((c : Thread nD τ).loc main_arg7) := by
  funext j; show m ((c : Thread nD τ).loc main_arg7) (((cfg0.win 7).blk t).view.emb j) = _; rw [emb7]

theorem emb8 (t : Fin cfg0.N) (j : S1x2048.Idx) : ((cfg0.win 8).blk t).view.emb j = j := by
  obtain ⟨e0, e1⟩ := (by decide +kernel : ∀ t : Fin grid0.N, win0_8.index t (0 : Fin 2) = 0 ∧ win0_8.index t (1 : Fin 2) = 0) t
  funext a; apply Fin.ext
  match a with
  | ⟨0, _⟩ => show win0_8.index t (0 : Fin 2) * 1 + 1 * (j 0).val = (j 0).val; omega
  | ⟨1, _⟩ => show win0_8.index t (1 : Fin 2) * 2048 + 1 * (j 1).val = (j 1).val; omega
theorem iblk8_eq (c : Dev nD) (t : Fin cfg0.N) : iblk m c 8 t = m ((c : Thread nD τ).loc main_arg8) := by
  funext j; show m ((c : Thread nD τ).loc main_arg8) (((cfg0.win 8).blk t).view.emb j) = _; rw [emb8]

theorem emb9 (t : Fin cfg0.N) (j : S1x2048.Idx) : ((cfg0.win 9).blk t).view.emb j = j := by
  obtain ⟨e0, e1⟩ := (by decide +kernel : ∀ t : Fin grid0.N, win0_9.index t (0 : Fin 2) = 0 ∧ win0_9.index t (1 : Fin 2) = 0) t
  funext a; apply Fin.ext
  match a with
  | ⟨0, _⟩ => show win0_9.index t (0 : Fin 2) * 1 + 1 * (j 0).val = (j 0).val; omega
  | ⟨1, _⟩ => show win0_9.index t (1 : Fin 2) * 2048 + 1 * (j 1).val = (j 1).val; omega
theorem iblk9_eq (c : Dev nD) (t : Fin cfg0.N) : iblk m c 9 t = m ((c : Thread nD τ).loc main_arg9) := by
  funext j; show m ((c : Thread nD τ).loc main_arg9) (((cfg0.win 9).blk t).view.emb j) = _; rw [emb9]

theorem emb10 (t : Fin cfg0.N) (j : S1x2048.Idx) : ((cfg0.win 10).blk t).view.emb j = j := by
  obtain ⟨e0, e1⟩ := (by decide +kernel : ∀ t : Fin grid0.N, win0_10.index t (0 : Fin 2) = 0 ∧ win0_10.index t (1 : Fin 2) = 0) t
  funext a; apply Fin.ext
  match a with
  | ⟨0, _⟩ => show win0_10.index t (0 : Fin 2) * 1 + 1 * (j 0).val = (j 0).val; omega
  | ⟨1, _⟩ => show win0_10.index t (1 : Fin 2) * 2048 + 1 * (j 1).val = (j 1).val; omega
theorem iblk10_eq (c : Dev nD) (t : Fin cfg0.N) : iblk m c 10 t = m ((c : Thread nD τ).loc main_arg10) := by
  funext j; show m ((c : Thread nD τ).loc main_arg10) (((cfg0.win 10).blk t).view.emb j) = _; rw [emb10]

theorem emb11 (t : Fin cfg0.N) (j : S1x2048.Idx) : ((cfg0.win 11).blk t).view.emb j = j := by
  obtain ⟨e0, e1⟩ := (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 1 + 1 * (j 0).val = (j 0).val; omega
  | ⟨1, _⟩ => show win0_11.index t (1 : Fin 2) * 2048 + 1 * (j 1).val = (j 1).val; omega
theorem iblk11_eq (c : Dev nD) (t : Fin cfg0.N) : iblk m c 11 t = m ((c : Thread nD τ).loc main_arg11) := by
  funext j; show m ((c : Thread nD τ).loc main_arg11) (((cfg0.win 11).blk t).view.emb j) = _; rw [emb11]

theorem emb12 (t : Fin cfg0.N) (j : S1x2048.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1 + 1 * (j 0).val = (j 0).val; omega
  | ⟨1, _⟩ => show win0_12.index t (1 : Fin 2) * 2048 + 1 * (j 1).val = (j 1).val; omega
theorem iblk12_eq (c : Dev nD) (t : Fin cfg0.N) : iblk m c 12 t = m ((c : Thread nD τ).loc main_arg12) := by
  funext j; show m ((c : Thread nD τ).loc main_arg12) (((cfg0.win 12).blk t).view.emb j) = _; rw [emb12]

theorem emb13 (t : Fin cfg0.N) (j : S1x2048.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * (j 0).val = (j 0).val; omega
  | ⟨1, _⟩ => show win0_13.index t (1 : Fin 2) * 2048 + 1 * (j 1).val = (j 1).val; omega
theorem iblk13_eq (c : Dev nD) (t : Fin cfg0.N) : iblk m c 13 t = m ((c : Thread nD τ).loc main_arg13) := by
  funext j; show m ((c : Thread nD τ).loc main_arg13) (((cfg0.win 13).blk t).view.emb j) = _; rw [emb13]

theorem emb14 (t : Fin cfg0.N) (j : S1x2048.Idx) : ((cfg0.win 14).blk t).view.emb j = j := by
  obtain ⟨e0, e1⟩ := (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 1 + 1 * (j 0).val = (j 0).val; omega
  | ⟨1, _⟩ => show win0_14.index t (1 : Fin 2) * 2048 + 1 * (j 1).val = (j 1).val; omega
theorem iblk14_eq (c : Dev nD) (t : Fin cfg0.N) : iblk m c 14 t = m ((c : Thread nD τ).loc main_arg14) := by
  funext j; show m ((c : Thread nD τ).loc main_arg14) (((cfg0.win 14).blk t).view.emb j) = _; rw [emb14]

theorem emb15 (t : Fin cfg0.N) (j : S1x1024.Idx) : ((cfg0.win 15).blk t).view.emb j = j := by
  obtain ⟨e0, e1⟩ := (by decide +kernel : ∀ t : Fin grid0.N, win0_15.index t (0 : Fin 2) = 0 ∧ win0_15.index t (1 : Fin 2) = 0) t
  funext a; apply Fin.ext
  match a with
  | ⟨0, _⟩ => show win0_15.index t (0 : Fin 2) * 1 + 1 * (j 0).val = (j 0).val; omega
  | ⟨1, _⟩ => show win0_15.index t (1 : Fin 2) * 1024 + 1 * (j 1).val = (j 1).val; omega
theorem iblk15_eq (c : Dev nD) (t : Fin cfg0.N) : iblk m c 15 t = m ((c : Thread nD τ).loc main_arg15) := by
  funext j; show m ((c : Thread nD τ).loc main_arg15) (((cfg0.win 15).blk t).view.emb j) = _; rw [emb15]

theorem emb16 (t : Fin cfg0.N) (j : S1x1024.Idx) : ((cfg0.win 16).blk t).view.emb j = j := by
  obtain ⟨e0, e1⟩ := (by decide +kernel : ∀ t : Fin grid0.N, win0_16.index t (0 : Fin 2) = 0 ∧ win0_16.index t (1 : Fin 2) = 0) t
  funext a; apply Fin.ext
  match a with
  | ⟨0, _⟩ => show win0_16.index t (0 : Fin 2) * 1 + 1 * (j 0).val = (j 0).val; omega
  | ⟨1, _⟩ => show win0_16.index t (1 : Fin 2) * 1024 + 1 * (j 1).val = (j 1).val; omega
theorem iblk16_eq (c : Dev nD) (t : Fin cfg0.N) : iblk m c 16 t = m ((c : Thread nD τ).loc main_arg16) := by
  funext j; show m ((c : Thread nD τ).loc main_arg16) (((cfg0.win 16).blk t).view.emb j) = _; rw [emb16]

theorem emb17 (t : Fin cfg0.N) (j : S1x1024.Idx) : ((cfg0.win 17).blk t).view.emb j = j := by
  obtain ⟨e0, e1⟩ := (by decide +kernel : ∀ t : Fin grid0.N, win0_17.index t (0 : Fin 2) = 0 ∧ win0_17.index t (1 : Fin 2) = 0) t
  funext a; apply Fin.ext
  match a with
  | ⟨0, _⟩ => show win0_17.index t (0 : Fin 2) * 1 + 1 * (j 0).val = (j 0).val; omega
  | ⟨1, _⟩ => show win0_17.index t (1 : Fin 2) * 1024 + 1 * (j 1).val = (j 1).val; omega
theorem iblk17_eq (c : Dev nD) (t : Fin cfg0.N) : iblk m c 17 t = m ((c : Thread nD τ).loc main_arg17) := by
  funext j; show m ((c : Thread nD τ).loc main_arg17) (((cfg0.win 17).blk t).view.emb j) = _; rw [emb17]

theorem emb18 (t : Fin cfg0.N) (j : S1x1024.Idx) : ((cfg0.win 18).blk t).view.emb j = j := by
  obtain ⟨e0, e1⟩ := (by decide +kernel : ∀ t : Fin grid0.N, win0_18.index t (0 : Fin 2) = 0 ∧ win0_18.index t (1 : Fin 2) = 0) t
  funext a; apply Fin.ext
  match a with
  | ⟨0, _⟩ => show win0_18.index t (0 : Fin 2) * 1 + 1 * (j 0).val = (j 0).val; omega
  | ⟨1, _⟩ => show win0_18.index t (1 : Fin 2) * 1024 + 1 * (j 1).val = (j 1).val; omega
theorem iblk18_eq (c : Dev nD) (t : Fin cfg0.N) : iblk m c 18 t = m ((c : Thread nD τ).loc main_arg18) := by
  funext j; show m ((c : Thread nD τ).loc main_arg18) (((cfg0.win 18).blk t).view.emb j) = _; rw [emb18]

theorem emb19 (t : Fin cfg0.N) (j : S1x1024.Idx) : ((cfg0.win 19).blk t).view.emb j = j := by
  obtain ⟨e0, e1⟩ := (by decide +kernel : ∀ t : Fin grid0.N, win0_19.index t (0 : Fin 2) = 0 ∧ win0_19.index t (1 : Fin 2) = 0) t
  funext a; apply Fin.ext
  match a with
  | ⟨0, _⟩ => show win0_19.index t (0 : Fin 2) * 1 + 1 * (j 0).val = (j 0).val; omega
  | ⟨1, _⟩ => show win0_19.index t (1 : Fin 2) * 1024 + 1 * (j 1).val = (j 1).val; omega
theorem iblk19_eq (c : Dev nD) (t : Fin cfg0.N) : iblk m c 19 t = m ((c : Thread nD τ).loc main_arg19) := by
  funext j; show m ((c : Thread nD τ).loc main_arg19) (((cfg0.win 19).blk t).view.emb j) = _; rw [emb19]

theorem emb20 (t : Fin cfg0.N) (j : S1x1024.Idx) : ((cfg0.win 20).blk t).view.emb j = j := by
  obtain ⟨e0, e1⟩ := (by decide +kernel : ∀ t : Fin grid0.N, win0_20.index t (0 : Fin 2) = 0 ∧ win0_20.index t (1 : Fin 2) = 0) t
  funext a; apply Fin.ext
  match a with
  | ⟨0, _⟩ => show win0_20.index t (0 : Fin 2) * 1 + 1 * (j 0).val = (j 0).val; omega
  | ⟨1, _⟩ => show win0_20.index t (1 : Fin 2) * 1024 + 1 * (j 1).val = (j 1).val; omega
theorem iblk20_eq (c : Dev nD) (t : Fin cfg0.N) : iblk m c 20 t = m ((c : Thread nD τ).loc main_arg20) := by
  funext j; show m ((c : Thread nD τ).loc main_arg20) (((cfg0.win 20).blk t).view.emb j) = _; rw [emb20]

theorem emb21 (t : Fin cfg0.N) (j : S8x2048.Idx) : ((cfg0.win 21).blk t).view.emb j = j := by
  obtain ⟨e0, e1⟩ := (by decide +kernel : ∀ t : Fin grid0.N, win0_21.index t (0 : Fin 2) = 0 ∧ win0_21.index t (1 : Fin 2) = 0) t
  funext a; apply Fin.ext
  match a with
  | ⟨0, _⟩ => show win0_21.index t (0 : Fin 2) * 8 + 1 * (j 0).val = (j 0).val; omega
  | ⟨1, _⟩ => show win0_21.index t (1 : Fin 2) * 2048 + 1 * (j 1).val = (j 1).val; omega

theorem emb22 (t : Fin cfg0.N) (j : S8x1024.Idx) : ((cfg0.win 22).blk t).view.emb j = j := by
  obtain ⟨e0, e1⟩ := (by decide +kernel : ∀ t : Fin grid0.N, win0_22.index t (0 : Fin 2) = 0 ∧ win0_22.index t (1 : Fin 2) = 0) t
  funext a; apply Fin.ext
  match a with
  | ⟨0, _⟩ => show win0_22.index t (0 : Fin 2) * 8 + 1 * (j 0).val = (j 0).val; omega
  | ⟨1, _⟩ => show win0_22.index t (1 : Fin 2) * 1024 + 1 * (j 1).val = (j 1).val; omega

theorem emb23 (t : Fin cfg0.N) (j : S8x11264.Idx) : ((cfg0.win 23).blk t).view.emb j = j := by
  obtain ⟨e0, e1⟩ := (by decide +kernel : ∀ t : Fin grid0.N, win0_23.index t (0 : Fin 2) = 0 ∧ win0_23.index t (1 : Fin 2) = 0) t
  funext a; apply Fin.ext
  match a with
  | ⟨0, _⟩ => show win0_23.index t (0 : Fin 2) * 8 + 1 * (j 0).val = (j 0).val; omega
  | ⟨1, _⟩ => show win0_23.index t (1 : Fin 2) * 11264 + 1 * (j 1).val = (j 1).val; omega

theorem emb24 (t : Fin cfg0.N) (j : S1x2048.Idx) : ((cfg0.win 24).blk t).view.emb j = j := by
  obtain ⟨e0, e1⟩ := (by decide +kernel : ∀ t : Fin grid0.N, win0_24.index t (0 : Fin 2) = 0 ∧ win0_24.index t (1 : Fin 2) = 0) t
  funext a; apply Fin.ext
  match a with
  | ⟨0, _⟩ => show win0_24.index t (0 : Fin 2) * 1 + 1 * (j 0).val = (j 0).val; omega
  | ⟨1, _⟩ => show win0_24.index t (1 : Fin 2) * 2048 + 1 * (j 1).val = (j 1).val; omega

theorem emb25 (t : Fin cfg0.N) (j : S1x2048.Idx) : ((cfg0.win 25).blk t).view.emb j = j := by
  obtain ⟨e0, e1⟩ := (by decide +kernel : ∀ t : Fin grid0.N, win0_25.index t (0 : Fin 2) = 0 ∧ win0_25.index t (1 : Fin 2) = 0) t
  funext a; apply Fin.ext
  match a with
  | ⟨0, _⟩ => show win0_25.index t (0 : Fin 2) * 1 + 1 * (j 0).val = (j 0).val; omega
  | ⟨1, _⟩ => show win0_25.index t (1 : Fin 2) * 2048 + 1 * (j 1).val = (j 1).val; omega

theorem emb26 (t : Fin cfg0.N) (j : S1x2048.Idx) : ((cfg0.win 26).blk t).view.emb j = j := by
  obtain ⟨e0, e1⟩ := (by decide +kernel : ∀ t : Fin grid0.N, win0_26.index t (0 : Fin 2) = 0 ∧ win0_26.index t (1 : Fin 2) = 0) t
  funext a; apply Fin.ext
  match a with
  | ⟨0, _⟩ => show win0_26.index t (0 : Fin 2) * 1 + 1 * (j 0).val = (j 0).val; omega
  | ⟨1, _⟩ => show win0_26.index t (1 : Fin 2) * 2048 + 1 * (j 1).val = (j 1).val; omega

theorem emb27 (t : Fin cfg0.N) (j : S1x2048.Idx) : ((cfg0.win 27).blk t).view.emb j = j := by
  obtain ⟨e0, e1⟩ := (by decide +kernel : ∀ t : Fin grid0.N, win0_27.index t (0 : Fin 2) = 0 ∧ win0_27.index t (1 : Fin 2) = 0) t
  funext a; apply Fin.ext
  match a with
  | ⟨0, _⟩ => show win0_27.index t (0 : Fin 2) * 1 + 1 * (j 0).val = (j 0).val; omega
  | ⟨1, _⟩ => show win0_27.index t (1 : Fin 2) * 2048 + 1 * (j 1).val = (j 1).val; omega

theorem emb28 (t : Fin cfg0.N) (j : S1x2048.Idx) : ((cfg0.win 28).blk t).view.emb j = j := by
  obtain ⟨e0, e1⟩ := (by decide +kernel : ∀ t : Fin grid0.N, win0_28.index t (0 : Fin 2) = 0 ∧ win0_28.index t (1 : Fin 2) = 0) t
  funext a; apply Fin.ext
  match a with
  | ⟨0, _⟩ => show win0_28.index t (0 : Fin 2) * 1 + 1 * (j 0).val = (j 0).val; omega
  | ⟨1, _⟩ => show win0_28.index t (1 : Fin 2) * 2048 + 1 * (j 1).val = (j 1).val; omega

theorem emb29 (t : Fin cfg0.N) (j : S1x2048.Idx) : ((cfg0.win 29).blk t).view.emb j = j := by
  obtain ⟨e0, e1⟩ := (by decide +kernel : ∀ t : Fin grid0.N, win0_29.index t (0 : Fin 2) = 0 ∧ win0_29.index t (1 : Fin 2) = 0) t
  funext a; apply Fin.ext
  match a with
  | ⟨0, _⟩ => show win0_29.index t (0 : Fin 2) * 1 + 1 * (j 0).val = (j 0).val; omega
  | ⟨1, _⟩ => show win0_29.index t (1 : Fin 2) * 2048 + 1 * (j 1).val = (j 1).val; omega

theorem emb30 (t : Fin cfg0.N) (j : S1x2048.Idx) : ((cfg0.win 30).blk t).view.emb j = j := by
  obtain ⟨e0, e1⟩ := (by decide +kernel : ∀ t : Fin grid0.N, win0_30.index t (0 : Fin 2) = 0 ∧ win0_30.index t (1 : Fin 2) = 0) t
  funext a; apply Fin.ext
  match a with
  | ⟨0, _⟩ => show win0_30.index t (0 : Fin 2) * 1 + 1 * (j 0).val = (j 0).val; omega
  | ⟨1, _⟩ => show win0_30.index t (1 : Fin 2) * 2048 + 1 * (j 1).val = (j 1).val; omega

theorem emb31 (t : Fin cfg0.N) (j : S1x2048.Idx) : ((cfg0.win 31).blk t).view.emb j = j := by
  obtain ⟨e0, e1⟩ := (by decide +kernel : ∀ t : Fin grid0.N, win0_31.index t (0 : Fin 2) = 0 ∧ win0_31.index t (1 : Fin 2) = 0) t
  funext a; apply Fin.ext
  match a with
  | ⟨0, _⟩ => show win0_31.index t (0 : Fin 2) * 1 + 1 * (j 0).val = (j 0).val; omega
  | ⟨1, _⟩ => show win0_31.index t (1 : Fin 2) * 2048 + 1 * (j 1).val = (j 1).val; omega

theorem emb32 (t : Fin cfg0.N) (j : S1x2048.Idx) : ((cfg0.win 32).blk t).view.emb j = j := by
  obtain ⟨e0, e1⟩ := (by decide +kernel : ∀ t : Fin grid0.N, win0_32.index t (0 : Fin 2) = 0 ∧ win0_32.index t (1 : Fin 2) = 0) t
  funext a; apply Fin.ext
  match a with
  | ⟨0, _⟩ => show win0_32.index t (0 : Fin 2) * 1 + 1 * (j 0).val = (j 0).val; omega
  | ⟨1, _⟩ => show win0_32.index t (1 : Fin 2) * 2048 + 1 * (j 1).val = (j 1).val; omega

theorem emb33 (t : Fin cfg0.N) (j : S1x2048.Idx) : ((cfg0.win 33).blk t).view.emb j = j := by
  obtain ⟨e0, e1⟩ := (by decide +kernel : ∀ t : Fin grid0.N, win0_33.index t (0 : Fin 2) = 0 ∧ win0_33.index t (1 : Fin 2) = 0) t
  funext a; apply Fin.ext
  match a with
  | ⟨0, _⟩ => show win0_33.index t (0 : Fin 2) * 1 + 1 * (j 0).val = (j 0).val; omega
  | ⟨1, _⟩ => show win0_33.index t (1 : Fin 2) * 2048 + 1 * (j 1).val = (j 1).val; omega

theorem emb34 (t : Fin cfg0.N) (j : S1x2048.Idx) : ((cfg0.win 34).blk t).view.emb j = j := by
  obtain ⟨e0, e1⟩ := (by decide +kernel : ∀ t : Fin grid0.N, win0_34.index t (0 : Fin 2) = 0 ∧ win0_34.index t (1 : Fin 2) = 0) t
  funext a; apply Fin.ext
  match a with
  | ⟨0, _⟩ => show win0_34.index t (0 : Fin 2) * 1 + 1 * (j 0).val = (j 0).val; omega
  | ⟨1, _⟩ => show win0_34.index t (1 : Fin 2) * 2048 + 1 * (j 1).val = (j 1).val; omega

theorem emb35 (t : Fin cfg0.N) (j : S1x2048.Idx) : ((cfg0.win 35).blk t).view.emb j = j := by
  obtain ⟨e0, e1⟩ := (by decide +kernel : ∀ t : Fin grid0.N, win0_35.index t (0 : Fin 2) = 0 ∧ win0_35.index t (1 : Fin 2) = 0) t
  funext a; apply Fin.ext
  match a with
  | ⟨0, _⟩ => show win0_35.index t (0 : Fin 2) * 1 + 1 * (j 0).val = (j 0).val; omega
  | ⟨1, _⟩ => show win0_35.index t (1 : Fin 2) * 2048 + 1 * (j 1).val = (j 1).val; omega

theorem emb36 (t : Fin cfg0.N) (j : S1x2048.Idx) : ((cfg0.win 36).blk t).view.emb j = j := by
  obtain ⟨e0, e1⟩ := (by decide +kernel : ∀ t : Fin grid0.N, win0_36.index t (0 : Fin 2) = 0 ∧ win0_36.index t (1 : Fin 2) = 0) t
  funext a; apply Fin.ext
  match a with
  | ⟨0, _⟩ => show win0_36.index t (0 : Fin 2) * 1 + 1 * (j 0).val = (j 0).val; omega
  | ⟨1, _⟩ => show win0_36.index t (1 : Fin 2) * 2048 + 1 * (j 1).val = (j 1).val; omega

theorem emb37 (t : Fin cfg0.N) (j : S1x2048.Idx) : ((cfg0.win 37).blk t).view.emb j = j := by
  obtain ⟨e0, e1⟩ := (by decide +kernel : ∀ t : Fin grid0.N, win0_37.index t (0 : Fin 2) = 0 ∧ win0_37.index t (1 : Fin 2) = 0) t
  funext a; apply Fin.ext
  match a with
  | ⟨0, _⟩ => show win0_37.index t (0 : Fin 2) * 1 + 1 * (j 0).val = (j 0).val; omega
  | ⟨1, _⟩ => show win0_37.index t (1 : Fin 2) * 2048 + 1 * (j 1).val = (j 1).val; omega

theorem emb38 (t : Fin cfg0.N) (j : S1x2048.Idx) : ((cfg0.win 38).blk t).view.emb j = j := by
  obtain ⟨e0, e1⟩ := (by decide +kernel : ∀ t : Fin grid0.N, win0_38.index t (0 : Fin 2) = 0 ∧ win0_38.index t (1 : Fin 2) = 0) t
  funext a; apply Fin.ext
  match a with
  | ⟨0, _⟩ => show win0_38.index t (0 : Fin 2) * 1 + 1 * (j 0).val = (j 0).val; omega
  | ⟨1, _⟩ => show win0_38.index t (1 : Fin 2) * 2048 + 1 * (j 1).val = (j 1).val; omega

theorem emb39 (t : Fin cfg0.N) (j : S1x2048.Idx) : ((cfg0.win 39).blk t).view.emb j = j := by
  obtain ⟨e0, e1⟩ := (by decide +kernel : ∀ t : Fin grid0.N, win0_39.index t (0 : Fin 2) = 0 ∧ win0_39.index t (1 : Fin 2) = 0) t
  funext a; apply Fin.ext
  match a with
  | ⟨0, _⟩ => show win0_39.index t (0 : Fin 2) * 1 + 1 * (j 0).val = (j 0).val; omega
  | ⟨1, _⟩ => show win0_39.index t (1 : Fin 2) * 2048 + 1 * (j 1).val = (j 1).val; omega

theorem emb40 (t : Fin cfg0.N) (j : S1x1024.Idx) : ((cfg0.win 40).blk t).view.emb j = j := by
  obtain ⟨e0, e1⟩ := (by decide +kernel : ∀ t : Fin grid0.N, win0_40.index t (0 : Fin 2) = 0 ∧ win0_40.index t (1 : Fin 2) = 0) t
  funext a; apply Fin.ext
  match a with
  | ⟨0, _⟩ => show win0_40.index t (0 : Fin 2) * 1 + 1 * (j 0).val = (j 0).val; omega
  | ⟨1, _⟩ => show win0_40.index t (1 : Fin 2) * 1024 + 1 * (j 1).val = (j 1).val; omega

theorem emb41 (t : Fin cfg0.N) (j : S1x1024.Idx) : ((cfg0.win 41).blk t).view.emb j = j := by
  obtain ⟨e0, e1⟩ := (by decide +kernel : ∀ t : Fin grid0.N, win0_41.index t (0 : Fin 2) = 0 ∧ win0_41.index t (1 : Fin 2) = 0) t
  funext a; apply Fin.ext
  match a with
  | ⟨0, _⟩ => show win0_41.index t (0 : Fin 2) * 1 + 1 * (j 0).val = (j 0).val; omega
  | ⟨1, _⟩ => show win0_41.index t (1 : Fin 2) * 1024 + 1 * (j 1).val = (j 1).val; omega

theorem emb42 (t : Fin cfg0.N) (j : S1x1024.Idx) : ((cfg0.win 42).blk t).view.emb j = j := by
  obtain ⟨e0, e1⟩ := (by decide +kernel : ∀ t : Fin grid0.N, win0_42.index t (0 : Fin 2) = 0 ∧ win0_42.index t (1 : Fin 2) = 0) t
  funext a; apply Fin.ext
  match a with
  | ⟨0, _⟩ => show win0_42.index t (0 : Fin 2) * 1 + 1 * (j 0).val = (j 0).val; omega
  | ⟨1, _⟩ => show win0_42.index t (1 : Fin 2) * 1024 + 1 * (j 1).val = (j 1).val; omega

theorem emb43 (t : Fin cfg0.N) (j : S1x1024.Idx) : ((cfg0.win 43).blk t).view.emb j = j := by
  obtain ⟨e0, e1⟩ := (by decide +kernel : ∀ t : Fin grid0.N, win0_43.index t (0 : Fin 2) = 0 ∧ win0_43.index t (1 : Fin 2) = 0) t
  funext a; apply Fin.ext
  match a with
  | ⟨0, _⟩ => show win0_43.index t (0 : Fin 2) * 1 + 1 * (j 0).val = (j 0).val; omega
  | ⟨1, _⟩ => show win0_43.index t (1 : Fin 2) * 1024 + 1 * (j 1).val = (j 1).val; omega

theorem emb44 (t : Fin cfg0.N) (j : S1x1024.Idx) : ((cfg0.win 44).blk t).view.emb j = j := by
  obtain ⟨e0, e1⟩ := (by decide +kernel : ∀ t : Fin grid0.N, win0_44.index t (0 : Fin 2) = 0 ∧ win0_44.index t (1 : Fin 2) = 0) t
  funext a; apply Fin.ext
  match a with
  | ⟨0, _⟩ => show win0_44.index t (0 : Fin 2) * 1 + 1 * (j 0).val = (j 0).val; omega
  | ⟨1, _⟩ => show win0_44.index t (1 : Fin 2) * 1024 + 1 * (j 1).val = (j 1).val; omega

theorem emb45 (t : Fin cfg0.N) (j : S1x1024.Idx) : ((cfg0.win 45).blk t).view.emb j = j := by
  obtain ⟨e0, e1⟩ := (by decide +kernel : ∀ t : Fin grid0.N, win0_45.index t (0 : Fin 2) = 0 ∧ win0_45.index t (1 : Fin 2) = 0) t
  funext a; apply Fin.ext
  match a with
  | ⟨0, _⟩ => show win0_45.index t (0 : Fin 2) * 1 + 1 * (j 0).val = (j 0).val; omega
  | ⟨1, _⟩ => show win0_45.index t (1 : Fin 2) * 1024 + 1 * (j 1).val = (j 1).val; omega

theorem emb46 (t : Fin cfg0.N) (j : S1x1024.Idx) : ((cfg0.win 46).blk t).view.emb j = j := by
  obtain ⟨e0, e1⟩ := (by decide +kernel : ∀ t : Fin grid0.N, win0_46.index t (0 : Fin 2) = 0 ∧ win0_46.index t (1 : Fin 2) = 0) t
  funext a; apply Fin.ext
  match a with
  | ⟨0, _⟩ => show win0_46.index t (0 : Fin 2) * 1 + 1 * (j 0).val = (j 0).val; omega
  | ⟨1, _⟩ => show win0_46.index t (1 : Fin 2) * 1024 + 1 * (j 1).val = (j 1).val; omega

theorem emb47 (t : Fin cfg0.N) (j : S1x1024.Idx) : ((cfg0.win 47).blk t).view.emb j = j := by
  obtain ⟨e0, e1⟩ := (by decide +kernel : ∀ t : Fin grid0.N, win0_47.index t (0 : Fin 2) = 0 ∧ win0_47.index t (1 : Fin 2) = 0) t
  funext a; apply Fin.ext
  match a with
  | ⟨0, _⟩ => show win0_47.index t (0 : Fin 2) * 1 + 1 * (j 0).val = (j 0).val; omega
  | ⟨1, _⟩ => show win0_47.index t (1 : Fin 2) * 1024 + 1 * (j 1).val = (j 1).val; omega

/-! What each result ends holding. -/

theorem final21 (c : Dev nD) : (dats m 0 c).arrAt 21 (cfgs 0).N = sum0 (m ((c : Thread nD τ).loc main_arg0)) := by
  refine (dats m 0 c).arrAt_eq_of_covers 21 _ (by decide +kernel) fun t _ y => ?_
  blk_simp
  rw [after0_21, iblk0_eq, out21]
  exact congrArg _ (emb21 t y).symm

theorem final22 (c : Dev nD) : (dats m 0 c).arrAt 22 (cfgs 0).N = sum1 (m ((c : Thread nD τ).loc main_arg1)) := by
  refine (dats m 0 c).arrAt_eq_of_covers 22 _ (by decide +kernel) fun t _ y => ?_
  blk_simp
  rw [after0_22, iblk1_eq, out22]
  exact congrArg _ (emb22 t y).symm

theorem final23 (c : Dev nD) : (dats m 0 c).arrAt 23 (cfgs 0).N = sum2 (m ((c : Thread nD τ).loc main_arg2)) := by
  refine (dats m 0 c).arrAt_eq_of_covers 23 _ (by decide +kernel) fun t _ y => ?_
  blk_simp
  rw [after0_23, iblk2_eq, out23]
  exact congrArg _ (emb23 t y).symm

theorem final24 (c : Dev nD) : (dats m 0 c).arrAt 24 (cfgs 0).N = row0 (sum0 (m ((c : Thread nD τ).loc main_arg0))) := by
  refine (dats m 0 c).arrAt_eq_of_covers 24 _ (by decide +kernel) fun t _ y => ?_
  blk_simp
  rw [after0_24, iblk0_eq, out24]
  exact congrArg _ (emb24 t y).symm

theorem final25 (c : Dev nD) : (dats m 0 c).arrAt 25 (cfgs 0).N = step2048 (m ((c : Thread nD τ).loc main_arg3)) (row0 (sum0 (m ((c : Thread nD τ).loc main_arg0)))) (m ((c : Thread nD τ).loc main_arg4)) (m ((c : Thread nD τ).loc main_arg5)) := by
  refine (dats m 0 c).arrAt_eq_of_covers 25 _ (by decide +kernel) fun t _ y => ?_
  blk_simp
  rw [after0_25, iblk0_eq, iblk3_eq, iblk4_eq, iblk5_eq, out25]
  exact congrArg _ (emb25 t y).symm

theorem final26 (c : Dev nD) : (dats m 0 c).arrAt 26 (cfgs 0).N = mom2048 (row0 (sum0 (m ((c : Thread nD τ).loc main_arg0)))) (m ((c : Thread nD τ).loc main_arg4)) := by
  refine (dats m 0 c).arrAt_eq_of_covers 26 _ (by decide +kernel) fun t _ y => ?_
  blk_simp
  rw [after0_26, iblk0_eq, iblk4_eq, out26]
  exact congrArg _ (emb26 t y).symm

theorem final27 (c : Dev nD) : (dats m 0 c).arrAt 27 (cfgs 0).N = vel2048 (row0 (sum0 (m ((c : Thread nD τ).loc main_arg0)))) (m ((c : Thread nD τ).loc main_arg5)) := by
  refine (dats m 0 c).arrAt_eq_of_covers 27 _ (by decide +kernel) fun t _ y => ?_
  blk_simp
  rw [after0_27, iblk0_eq, iblk5_eq, out27]
  exact congrArg _ (emb27 t y).symm

theorem final28 (c : Dev nD) : (dats m 0 c).arrAt 28 (cfgs 0).N = row1 (sum0 (m ((c : Thread nD τ).loc main_arg0))) := by
  refine (dats m 0 c).arrAt_eq_of_covers 28 _ (by decide +kernel) fun t _ y => ?_
  blk_simp
  rw [after0_28, iblk0_eq, out28]
  exact congrArg _ (emb28 t y).symm

theorem final29 (c : Dev nD) : (dats m 0 c).arrAt 29 (cfgs 0).N = step2048 (m ((c : Thread nD τ).loc main_arg6)) (row1 (sum0 (m ((c : Thread nD τ).loc main_arg0)))) (m ((c : Thread nD τ).loc main_arg7)) (m ((c : Thread nD τ).loc main_arg8)) := by
  refine (dats m 0 c).arrAt_eq_of_covers 29 _ (by decide +kernel) fun t _ y => ?_
  blk_simp
  rw [after0_29, iblk0_eq, iblk6_eq, iblk7_eq, iblk8_eq, out29]
  exact congrArg _ (emb29 t y).symm

theorem final30 (c : Dev nD) : (dats m 0 c).arrAt 30 (cfgs 0).N = mom2048 (row1 (sum0 (m ((c : Thread nD τ).loc main_arg0)))) (m ((c : Thread nD τ).loc main_arg7)) := by
  refine (dats m 0 c).arrAt_eq_of_covers 30 _ (by decide +kernel) fun t _ y => ?_
  blk_simp
  rw [after0_30, iblk0_eq, iblk7_eq, out30]
  exact congrArg _ (emb30 t y).symm

theorem final31 (c : Dev nD) : (dats m 0 c).arrAt 31 (cfgs 0).N = vel2048 (row1 (sum0 (m ((c : Thread nD τ).loc main_arg0)))) (m ((c : Thread nD τ).loc main_arg8)) := by
  refine (dats m 0 c).arrAt_eq_of_covers 31 _ (by decide +kernel) fun t _ y => ?_
  blk_simp
  rw [after0_31, iblk0_eq, iblk8_eq, out31]
  exact congrArg _ (emb31 t y).symm

theorem final32 (c : Dev nD) : (dats m 0 c).arrAt 32 (cfgs 0).N = row2 (sum0 (m ((c : Thread nD τ).loc main_arg0))) := by
  refine (dats m 0 c).arrAt_eq_of_covers 32 _ (by decide +kernel) fun t _ y => ?_
  blk_simp
  rw [after0_32, iblk0_eq, out32]
  exact congrArg _ (emb32 t y).symm

theorem final33 (c : Dev nD) : (dats m 0 c).arrAt 33 (cfgs 0).N = step2048 (m ((c : Thread nD τ).loc main_arg9)) (row2 (sum0 (m ((c : Thread nD τ).loc main_arg0)))) (m ((c : Thread nD τ).loc main_arg10)) (m ((c : Thread nD τ).loc main_arg11)) := by
  refine (dats m 0 c).arrAt_eq_of_covers 33 _ (by decide +kernel) fun t _ y => ?_
  blk_simp
  rw [after0_33, iblk0_eq, iblk9_eq, iblk10_eq, iblk11_eq, out33]
  exact congrArg _ (emb33 t y).symm

theorem final34 (c : Dev nD) : (dats m 0 c).arrAt 34 (cfgs 0).N = mom2048 (row2 (sum0 (m ((c : Thread nD τ).loc main_arg0)))) (m ((c : Thread nD τ).loc main_arg10)) := by
  refine (dats m 0 c).arrAt_eq_of_covers 34 _ (by decide +kernel) fun t _ y => ?_
  blk_simp
  rw [after0_34, iblk0_eq, iblk10_eq, out34]
  exact congrArg _ (emb34 t y).symm

theorem final35 (c : Dev nD) : (dats m 0 c).arrAt 35 (cfgs 0).N = vel2048 (row2 (sum0 (m ((c : Thread nD τ).loc main_arg0)))) (m ((c : Thread nD τ).loc main_arg11)) := by
  refine (dats m 0 c).arrAt_eq_of_covers 35 _ (by decide +kernel) fun t _ y => ?_
  blk_simp
  rw [after0_35, iblk0_eq, iblk11_eq, out35]
  exact congrArg _ (emb35 t y).symm

theorem final36 (c : Dev nD) : (dats m 0 c).arrAt 36 (cfgs 0).N = row3 (sum0 (m ((c : Thread nD τ).loc main_arg0))) := by
  refine (dats m 0 c).arrAt_eq_of_covers 36 _ (by decide +kernel) fun t _ y => ?_
  blk_simp
  rw [after0_36, iblk0_eq, out36]
  exact congrArg _ (emb36 t y).symm

theorem final37 (c : Dev nD) : (dats m 0 c).arrAt 37 (cfgs 0).N = step2048 (m ((c : Thread nD τ).loc main_arg12)) (row3 (sum0 (m ((c : Thread nD τ).loc main_arg0)))) (m ((c : Thread nD τ).loc main_arg13)) (m ((c : Thread nD τ).loc main_arg14)) := by
  refine (dats m 0 c).arrAt_eq_of_covers 37 _ (by decide +kernel) fun t _ y => ?_
  blk_simp
  rw [after0_37, iblk0_eq, iblk12_eq, iblk13_eq, iblk14_eq, out37]
  exact congrArg _ (emb37 t y).symm

theorem final38 (c : Dev nD) : (dats m 0 c).arrAt 38 (cfgs 0).N = mom2048 (row3 (sum0 (m ((c : Thread nD τ).loc main_arg0)))) (m ((c : Thread nD τ).loc main_arg13)) := by
  refine (dats m 0 c).arrAt_eq_of_covers 38 _ (by decide +kernel) fun t _ y => ?_
  blk_simp
  rw [after0_38, iblk0_eq, iblk13_eq, out38]
  exact congrArg _ (emb38 t y).symm

theorem final39 (c : Dev nD) : (dats m 0 c).arrAt 39 (cfgs 0).N = vel2048 (row3 (sum0 (m ((c : Thread nD τ).loc main_arg0)))) (m ((c : Thread nD τ).loc main_arg14)) := by
  refine (dats m 0 c).arrAt_eq_of_covers 39 _ (by decide +kernel) fun t _ y => ?_
  blk_simp
  rw [after0_39, iblk0_eq, iblk14_eq, out39]
  exact congrArg _ (emb39 t y).symm

theorem final40 (c : Dev nD) : (dats m 0 c).arrAt 40 (cfgs 0).N = row4 (sum1 (m ((c : Thread nD τ).loc main_arg1))) := by
  refine (dats m 0 c).arrAt_eq_of_covers 40 _ (by decide +kernel) fun t _ y => ?_
  blk_simp
  rw [after0_40, iblk1_eq, out40]
  exact congrArg _ (emb40 t y).symm

theorem final41 (c : Dev nD) : (dats m 0 c).arrAt 41 (cfgs 0).N = step1024 (m ((c : Thread nD τ).loc main_arg15)) (row4 (sum1 (m ((c : Thread nD τ).loc main_arg1)))) (m ((c : Thread nD τ).loc main_arg16)) (m ((c : Thread nD τ).loc main_arg17)) := by
  refine (dats m 0 c).arrAt_eq_of_covers 41 _ (by decide +kernel) fun t _ y => ?_
  blk_simp
  rw [after0_41, iblk1_eq, iblk15_eq, iblk16_eq, iblk17_eq, out41]
  exact congrArg _ (emb41 t y).symm

theorem final42 (c : Dev nD) : (dats m 0 c).arrAt 42 (cfgs 0).N = mom1024 (row4 (sum1 (m ((c : Thread nD τ).loc main_arg1)))) (m ((c : Thread nD τ).loc main_arg16)) := by
  refine (dats m 0 c).arrAt_eq_of_covers 42 _ (by decide +kernel) fun t _ y => ?_
  blk_simp
  rw [after0_42, iblk1_eq, iblk16_eq, out42]
  exact congrArg _ (emb42 t y).symm

theorem final43 (c : Dev nD) : (dats m 0 c).arrAt 43 (cfgs 0).N = vel1024 (row4 (sum1 (m ((c : Thread nD τ).loc main_arg1)))) (m ((c : Thread nD τ).loc main_arg17)) := by
  refine (dats m 0 c).arrAt_eq_of_covers 43 _ (by decide +kernel) fun t _ y => ?_
  blk_simp
  rw [after0_43, iblk1_eq, iblk17_eq, out43]
  exact congrArg _ (emb43 t y).symm

theorem final44 (c : Dev nD) : (dats m 0 c).arrAt 44 (cfgs 0).N = row5 (sum1 (m ((c : Thread nD τ).loc main_arg1))) := by
  refine (dats m 0 c).arrAt_eq_of_covers 44 _ (by decide +kernel) fun t _ y => ?_
  blk_simp
  rw [after0_44, iblk1_eq, out44]
  exact congrArg _ (emb44 t y).symm

theorem final45 (c : Dev nD) : (dats m 0 c).arrAt 45 (cfgs 0).N = step1024 (m ((c : Thread nD τ).loc main_arg18)) (row5 (sum1 (m ((c : Thread nD τ).loc main_arg1)))) (m ((c : Thread nD τ).loc main_arg19)) (m ((c : Thread nD τ).loc main_arg20)) := by
  refine (dats m 0 c).arrAt_eq_of_covers 45 _ (by decide +kernel) fun t _ y => ?_
  blk_simp
  rw [after0_45, iblk1_eq, iblk18_eq, iblk19_eq, iblk20_eq, out45]
  exact congrArg _ (emb45 t y).symm

theorem final46 (c : Dev nD) : (dats m 0 c).arrAt 46 (cfgs 0).N = mom1024 (row5 (sum1 (m ((c : Thread nD τ).loc main_arg1)))) (m ((c : Thread nD τ).loc main_arg19)) := by
  refine (dats m 0 c).arrAt_eq_of_covers 46 _ (by decide +kernel) fun t _ y => ?_
  blk_simp
  rw [after0_46, iblk1_eq, iblk19_eq, out46]
  exact congrArg _ (emb46 t y).symm

theorem final47 (c : Dev nD) : (dats m 0 c).arrAt 47 (cfgs 0).N = vel1024 (row5 (sum1 (m ((c : Thread nD τ).loc main_arg1)))) (m ((c : Thread nD τ).loc main_arg20)) := by
  refine (dats m 0 c).arrAt_eq_of_covers 47 _ (by decide +kernel) fun t _ y => ?_
  blk_simp
  rw [after0_47, iblk1_eq, iblk20_eq, out47]
  exact congrArg _ (emb47 t y).symm

end Cert.Kernel19Ideal.Hand

end
-- ==== Proof.Claim19.lean ====
/-
  The claims of program 19: its frames, and its twenty-seven results against the reference’s.
-/
module

public import proofs.«01_k».proof.Proof.Ew19

@[expose] public section

set_option maxRecDepth 16384
set_option maxHeartbeats 2000000

noncomputable section

namespace Cert.Proof.K19

open Cert.Reference19Ideal.Hand
open Idealize.ShloMosaic Idealize.ShloMosaic.TcCoe Idealize.SL.Sem

theorem frame_ideal : Cert.quiescent_Kernel19Ideal := fun m ρ _ => Cert.Kernel19Ideal.Hand.frame (F := Ideal) m ρ

/-- The kernel and its ideal form are one text: their body tables agree label by label. -/
theorem defs₀_same : Cert.Kernel19.defs₀ (F := Bits) = Cert.Kernel19Ideal.defs₀ (F := Bits) := by
  refine congrArg Defs.onTc (funext fun l => funext fun x => ?_)
  match l, x with
  | 0, (t, s) => rfl

theorem defs_same : Cert.Kernel19.defs (F := Bits) = Cert.Kernel19Ideal.defs (F := Bits) :=
  congrArg (Pipeline.defs (Cert.Kernel19Ideal.pcfgs (F := Bits))) defs₀_same

theorem main_same : Cert.Kernel19.main (F := Bits) = Cert.Kernel19Ideal.main (F := Bits) := rfl

theorem frame_kernel : Cert.quiescent_Kernel19 := fun m ρ _ => by
  have h := Cert.Kernel19Ideal.Hand.frame (F := Bits) m ρ
  rw [← defs_same, ← main_same] at h
  exact h

theorem frame_reference : Cert.quiescent_Reference19Ideal := fun m ρ _ =>
  (θ_run Cert.Reference19Ideal.defs _ _).mono (fun r h => ⟨fun c => (h c).2.2.2.2.2.2.2.2.2.2.2.2.2.2.2.2.2.2.2.2.2.2.2.2.2.2.2, sem_eq_zero_of_no_sems (by decide) r.2⟩)
    (Cert.Reference19Ideal.Value.run (F := Ideal) m ρ)

open Cert.Kernel19Ideal Cert.Kernel19Ideal.Gen Cert.Kernel19Ideal.Hand in
/-- The arguments end as they were. -/
theorem kept (m : (ℓ : Loc nD τ sig) → Buf (Elt Ideal) ℓ) (r : PUnit × MemSt nD τ sig (Elt Ideal))
    (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10)),
    ((h c).1 11).trans (((dats m 0 c).arrAt_in 11 rfl _).trans (A_eq m c 11)),
    ((h c).1 12).trans (((dats m 0 c).arrAt_in 12 rfl _).trans (A_eq m c 12)),
    ((h c).1 13).trans (((dats m 0 c).arrAt_in 13 rfl _).trans (A_eq m c 13)),
    ((h c).1 14).trans (((dats m 0 c).arrAt_in 14 rfl _).trans (A_eq m c 14)),
    ((h c).1 15).trans (((dats m 0 c).arrAt_in 15 rfl _).trans (A_eq m c 15)),
    ((h c).1 16).trans (((dats m 0 c).arrAt_in 16 rfl _).trans (A_eq m c 16)),
    ((h c).1 17).trans (((dats m 0 c).arrAt_in 17 rfl _).trans (A_eq m c 17)),
    ((h c).1 18).trans (((dats m 0 c).arrAt_in 18 rfl _).trans (A_eq m c 18)),
    ((h c).1 19).trans (((dats m 0 c).arrAt_in 19 rfl _).trans (A_eq m c 19)),
    ((h c).1 20).trans (((dats m 0 c).arrAt_in 20 rfl _).trans (A_eq m c 20))⟩

theorem algebraic : Cert.algebraic_Kernel19Ideal_Reference19Ideal := by
  intro m ρ m' ρ' _ hagree
  refine ⟨_, _, _, _, _, _, _, _, _, _, _, _, _, _, _, _, _, _, _, _, _, _, _, _, _, _, _, (θ_run Cert.Kernel19Ideal.defs _ _).mono (fun r h c => ⟨((h c).1 21).trans (Cert.Kernel19Ideal.Hand.final21 m c),
      ((h c).1 22).trans (Cert.Kernel19Ideal.Hand.final22 m c),
      ((h c).1 23).trans (Cert.Kernel19Ideal.Hand.final23 m c),
      ((h c).1 24).trans (Cert.Kernel19Ideal.Hand.final24 m c),
      ((h c).1 25).trans (Cert.Kernel19Ideal.Hand.final25 m c),
      ((h c).1 26).trans (Cert.Kernel19Ideal.Hand.final26 m c),
      ((h c).1 27).trans (Cert.Kernel19Ideal.Hand.final27 m c),
      ((h c).1 28).trans (Cert.Kernel19Ideal.Hand.final28 m c),
      ((h c).1 29).trans (Cert.Kernel19Ideal.Hand.final29 m c),
      ((h c).1 30).trans (Cert.Kernel19Ideal.Hand.final30 m c),
      ((h c).1 31).trans (Cert.Kernel19Ideal.Hand.final31 m c),
      ((h c).1 32).trans (Cert.Kernel19Ideal.Hand.final32 m c),
      ((h c).1 33).trans (Cert.Kernel19Ideal.Hand.final33 m c),
      ((h c).1 34).trans (Cert.Kernel19Ideal.Hand.final34 m c),
      ((h c).1 35).trans (Cert.Kernel19Ideal.Hand.final35 m c),
      ((h c).1 36).trans (Cert.Kernel19Ideal.Hand.final36 m c),
      ((h c).1 37).trans (Cert.Kernel19Ideal.Hand.final37 m c),
      ((h c).1 38).trans (Cert.Kernel19Ideal.Hand.final38 m c),
      ((h c).1 39).trans (Cert.Kernel19Ideal.Hand.final39 m c),
      ((h c).1 40).trans (Cert.Kernel19Ideal.Hand.final40 m c),
      ((h c).1 41).trans (Cert.Kernel19Ideal.Hand.final41 m c),
      ((h c).1 42).trans (Cert.Kernel19Ideal.Hand.final42 m c),
      ((h c).1 43).trans (Cert.Kernel19Ideal.Hand.final43 m c),
      ((h c).1 44).trans (Cert.Kernel19Ideal.Hand.final44 m c),
      ((h c).1 45).trans (Cert.Kernel19Ideal.Hand.final45 m c),
      ((h c).1 46).trans (Cert.Kernel19Ideal.Hand.final46 m c),
      ((h c).1 47).trans (Cert.Kernel19Ideal.Hand.final47 m c),
      kept m r h c⟩)
    (Cert.Kernel19Ideal.Hand.run_main (F := Ideal) m ρ), ?_⟩
  refine (θ_run Cert.Reference19Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2.1.trans ?_, (h c).2.2.2.2.2.2.2.2.2.2.2.2.2.2.2.2.1.trans ?_, (h c).2.2.2.2.2.2.2.2.2.2.2.2.2.2.2.2.2.1.trans ?_, (h c).2.2.2.2.2.2.2.2.2.2.2.2.2.2.2.2.2.2.1.trans ?_, (h c).2.2.2.2.2.2.2.2.2.2.2.2.2.2.2.2.2.2.2.1.trans ?_, (h c).2.2.2.2.2.2.2.2.2.2.2.2.2.2.2.2.2.2.2.2.1.trans ?_, (h c).2.2.2.2.2.2.2.2.2.2.2.2.2.2.2.2.2.2.2.2.2.1.trans ?_, (h c).2.2.2.2.2.2.2.2.2.2.2.2.2.2.2.2.2.2.2.2.2.2.1.trans ?_, (h c).2.2.2.2.2.2.2.2.2.2.2.2.2.2.2.2.2.2.2.2.2.2.2.1.trans ?_, (h c).2.2.2.2.2.2.2.2.2.2.2.2.2.2.2.2.2.2.2.2.2.2.2.2.1.trans ?_, (h c).2.2.2.2.2.2.2.2.2.2.2.2.2.2.2.2.2.2.2.2.2.2.2.2.2.1.trans ?_, (h c).2.2.2.2.2.2.2.2.2.2.2.2.2.2.2.2.2.2.2.2.2.2.2.2.2.2.1.trans ?_, (h c).2.2.2.2.2.2.2.2.2.2.2.2.2.2.2.2.2.2.2.2.2.2.2.2.2.2.2⟩)
    (Cert.Reference19Ideal.Value.run (F := Ideal) m' ρ')
  · show sum0 (m' ((c.tc : Thread Cert.Reference19Ideal.nD Cert.Reference19Ideal.τ).loc Cert.Reference19Ideal.main_arg0)) = _
    rw [(hagree c).1]
  · show sum1 (m' ((c.tc : Thread Cert.Reference19Ideal.nD Cert.Reference19Ideal.τ).loc Cert.Reference19Ideal.main_arg1)) = _
    rw [(hagree c).2.1]
  · show sum2 (m' ((c.tc : Thread Cert.Reference19Ideal.nD Cert.Reference19Ideal.τ).loc Cert.Reference19Ideal.main_arg2)) = _
    rw [(hagree c).2.2.1]
  · show row0 (sum0 (m' ((c.tc : Thread Cert.Reference19Ideal.nD Cert.Reference19Ideal.τ).loc Cert.Reference19Ideal.main_arg0))) = _
    rw [(hagree c).1]
  · show step2048 (m' ((c.tc : Thread Cert.Reference19Ideal.nD Cert.Reference19Ideal.τ).loc Cert.Reference19Ideal.main_arg3)) (row0 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg4)) (m' ((c.tc : Thread Cert.Reference19Ideal.nD Cert.Reference19Ideal.τ).loc Cert.Reference19Ideal.main_arg5)) = _
    rw [(hagree c).1, (hagree c).2.2.2.1, (hagree c).2.2.2.2.1, (hagree c).2.2.2.2.2.1]
  · show mom2048 (row0 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg4)) = _
    rw [(hagree c).1, (hagree c).2.2.2.2.1]
  · show vel2048 (row0 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg5)) = _
    rw [(hagree c).1, (hagree c).2.2.2.2.2.1]
  · show row1 (sum0 (m' ((c.tc : Thread Cert.Reference19Ideal.nD Cert.Reference19Ideal.τ).loc Cert.Reference19Ideal.main_arg0))) = _
    rw [(hagree c).1]
  · show step2048 (m' ((c.tc : Thread Cert.Reference19Ideal.nD Cert.Reference19Ideal.τ).loc Cert.Reference19Ideal.main_arg6)) (row1 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg7)) (m' ((c.tc : Thread Cert.Reference19Ideal.nD Cert.Reference19Ideal.τ).loc Cert.Reference19Ideal.main_arg8)) = _
    rw [(hagree c).1, (hagree c).2.2.2.2.2.2.1, (hagree c).2.2.2.2.2.2.2.1, (hagree c).2.2.2.2.2.2.2.2.1]
  · show mom2048 (row1 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg7)) = _
    rw [(hagree c).1, (hagree c).2.2.2.2.2.2.2.1]
  · show vel2048 (row1 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg8)) = _
    rw [(hagree c).1, (hagree c).2.2.2.2.2.2.2.2.1]
  · show row2 (sum0 (m' ((c.tc : Thread Cert.Reference19Ideal.nD Cert.Reference19Ideal.τ).loc Cert.Reference19Ideal.main_arg0))) = _
    rw [(hagree c).1]
  · show step2048 (m' ((c.tc : Thread Cert.Reference19Ideal.nD Cert.Reference19Ideal.τ).loc Cert.Reference19Ideal.main_arg9)) (row2 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg10)) (m' ((c.tc : Thread Cert.Reference19Ideal.nD Cert.Reference19Ideal.τ).loc Cert.Reference19Ideal.main_arg11)) = _
    rw [(hagree c).1, (hagree c).2.2.2.2.2.2.2.2.2.1, (hagree c).2.2.2.2.2.2.2.2.2.2.1, (hagree c).2.2.2.2.2.2.2.2.2.2.2.1]
  · show mom2048 (row2 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg10)) = _
    rw [(hagree c).1, (hagree c).2.2.2.2.2.2.2.2.2.2.1]
  · show vel2048 (row2 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg11)) = _
    rw [(hagree c).1, (hagree c).2.2.2.2.2.2.2.2.2.2.2.1]
  · show row3 (sum0 (m' ((c.tc : Thread Cert.Reference19Ideal.nD Cert.Reference19Ideal.τ).loc Cert.Reference19Ideal.main_arg0))) = _
    rw [(hagree c).1]
  · show step2048 (m' ((c.tc : Thread Cert.Reference19Ideal.nD Cert.Reference19Ideal.τ).loc Cert.Reference19Ideal.main_arg12)) (row3 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg13)) (m' ((c.tc : Thread Cert.Reference19Ideal.nD Cert.Reference19Ideal.τ).loc Cert.Reference19Ideal.main_arg14)) = _
    rw [(hagree c).1, (hagree c).2.2.2.2.2.2.2.2.2.2.2.2.1, (hagree c).2.2.2.2.2.2.2.2.2.2.2.2.2.1, (hagree c).2.2.2.2.2.2.2.2.2.2.2.2.2.2.1]
  · show mom2048 (row3 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg13)) = _
    rw [(hagree c).1, (hagree c).2.2.2.2.2.2.2.2.2.2.2.2.2.1]
  · show vel2048 (row3 (sum0 (m' ((c.tc : Thread Cert.Reference19Ideal.nD Cert.Reference19Ideal.τ).loc Cert.Reference19Ideal.main_arg0)))) (m' ((c.tc : Thread Cert.Reference19Ideal.nD Cert.Reference19Ideal.τ).loc Cert.Reference19Ideal.main_arg14)) = _
    rw [(hagree c).1, (hagree c).2.2.2.2.2.2.2.2.2.2.2.2.2.2.1]
  · show row4 (sum1 (m' ((c.tc : Thread Cert.Reference19Ideal.nD Cert.Reference19Ideal.τ).loc Cert.Reference19Ideal.main_arg1))) = _
    rw [(hagree c).2.1]
  · show step1024 (m' ((c.tc : Thread Cert.Reference19Ideal.nD Cert.Reference19Ideal.τ).loc Cert.Reference19Ideal.main_arg15)) (row4 (sum1 (m' ((c.tc : Thread Cert.Reference19Ideal.nD Cert.Reference19Ideal.τ).loc Cert.Reference19Ideal.main_arg1)))) (m' ((c.tc : Thread Cert.Reference19Ideal.nD Cert.Reference19Ideal.τ).loc Cert.Reference19Ideal.main_arg16)) (m' ((c.tc : Thread Cert.Reference19Ideal.nD Cert.Reference19Ideal.τ).loc Cert.Reference19Ideal.main_arg17)) = _
    rw [(hagree c).2.1, (hagree c).2.2.2.2.2.2.2.2.2.2.2.2.2.2.2.1, (hagree c).2.2.2.2.2.2.2.2.2.2.2.2.2.2.2.2.1, (hagree c).2.2.2.2.2.2.2.2.2.2.2.2.2.2.2.2.2.1]
  · show mom1024 (row4 (sum1 (m' ((c.tc : Thread Cert.Reference19Ideal.nD Cert.Reference19Ideal.τ).loc Cert.Reference19Ideal.main_arg1)))) (m' ((c.tc : Thread Cert.Reference19Ideal.nD Cert.Reference19Ideal.τ).loc Cert.Reference19Ideal.main_arg16)) = _
    rw [(hagree c).2.1, (hagree c).2.2.2.2.2.2.2.2.2.2.2.2.2.2.2.2.1]
  · show vel1024 (row4 (sum1 (m' ((c.tc : Thread Cert.Reference19Ideal.nD Cert.Reference19Ideal.τ).loc Cert.Reference19Ideal.main_arg1)))) (m' ((c.tc : Thread Cert.Reference19Ideal.nD Cert.Reference19Ideal.τ).loc Cert.Reference19Ideal.main_arg17)) = _
    rw [(hagree c).2.1, (hagree c).2.2.2.2.2.2.2.2.2.2.2.2.2.2.2.2.2.1]
  · show row5 (sum1 (m' ((c.tc : Thread Cert.Reference19Ideal.nD Cert.Reference19Ideal.τ).loc Cert.Reference19Ideal.main_arg1))) = _
    rw [(hagree c).2.1]
  · show step1024 (m' ((c.tc : Thread Cert.Reference19Ideal.nD Cert.Reference19Ideal.τ).loc Cert.Reference19Ideal.main_arg18)) (row5 (sum1 (m' ((c.tc : Thread Cert.Reference19Ideal.nD Cert.Reference19Ideal.τ).loc Cert.Reference19Ideal.main_arg1)))) (m' ((c.tc : Thread Cert.Reference19Ideal.nD Cert.Reference19Ideal.τ).loc Cert.Reference19Ideal.main_arg19)) (m' ((c.tc : Thread Cert.Reference19Ideal.nD Cert.Reference19Ideal.τ).loc Cert.Reference19Ideal.main_arg20)) = _
    rw [(hagree c).2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
  · show mom1024 (row5 (sum1 (m' ((c.tc : Thread Cert.Reference19Ideal.nD Cert.Reference19Ideal.τ).loc Cert.Reference19Ideal.main_arg1)))) (m' ((c.tc : Thread Cert.Reference19Ideal.nD Cert.Reference19Ideal.τ).loc Cert.Reference19Ideal.main_arg19)) = _
    rw [(hagree c).2.1, (hagree c).2.2.2.2.2.2.2.2.2.2.2.2.2.2.2.2.2.2.2.1]
  · show vel1024 (row5 (sum1 (m' ((c.tc : Thread Cert.Reference19Ideal.nD Cert.Reference19Ideal.τ).loc Cert.Reference19Ideal.main_arg1)))) (m' ((c.tc : Thread Cert.Reference19Ideal.nD Cert.Reference19Ideal.τ).loc Cert.Reference19Ideal.main_arg20)) = _
    rw [(hagree c).2.1, (hagree c).2.2.2.2.2.2.2.2.2.2.2.2.2.2.2.2.2.2.2.2]

end Cert.Proof.K19

end
-- ==== Proof.Ew20.lean ====
/-
  The step of the convolution’s bias: the four results entry by entry; with the frames.
-/
module

public import proofs.«01_k».proof.Defs
public import proofs.«01_k».proof.Proof.Gen.Kernel20
public import proofs.«01_k».proof.Proof.Gen.Kernel20Ideal.Value
public import proofs.«01_k».proof.Proof.Gen.Reference20Ideal.Run
public import Idealize.ShloMosaic.Lib.Pipeline.ValueKit
public import Idealize.ShloMosaic.Lib.Quiescent

@[expose] public section

set_option maxRecDepth 16384
set_option maxHeartbeats 2000000

noncomputable section

namespace Cert.Reference20Ideal.Hand

open Cert.Reference20Ideal Cert.Reference20Ideal.Gen
open Idealize.ShloMosaic

/-! The reference’s composed terms over its arguments. -/

def ref0 (x0 : FVec Ideal S1x11008 .f32) (x1 : FVec Ideal S1x11008 .f32) (x2 : FVec Ideal S1x11008 .f32) (x3 : FVec Ideal S1x11008 .f32) : FVec Ideal S1x11008 .f32 :=
  x1

def ref1 (x0 : FVec Ideal S1x11008 .f32) (x1 : FVec Ideal S1x11008 .f32) (x2 : FVec Ideal S1x11008 .f32) (x3 : FVec Ideal S1x11008 .f32) : FVec Ideal S1x11008 .f32 :=
  mulf (broadcastInDim S1x11008 ![] bcast_S_S1x11008 (constant S_ .f32 0xBA83126F#32)) (addf (Host.divf (Host.divf (addf (mulf (broadcastInDim S1x11008 ![] bcast_S_S1x11008 (constant S_ .f32 0x3F666666#32)) x2) (mulf (broadcastInDim S1x11008 ![] bcast_S_S1x11008 (constant S_ .f32 0x3DCCCCCD#32)) x1)) (broadcastInDim S1x11008 ![] bcast_S_S1x11008 (constant S_ .f32 0x3F26BD02#32))) (addf (Host.sqrt (Host.divf (addf (mulf (broadcastInDim S1x11008 ![] bcast_S_S1x11008 (constant S_ .f32 0x3F7FBE77#32)) x3) (mulf (broadcastInDim S1x11008 ![] bcast_S_S1x11008 (constant S_ .f32 0x3A83126F#32)) (mulf x1 x1))) (broadcastInDim S1x11008 ![] bcast_S_S1x11008 (constant S_ .f32 0x3C231ACC#32)))) (broadcastInDim S1x11008 ![] bcast_S_S1x11008 (constant S_ .f32 0x322BCC77#32)))) (mulf (broadcastInDim S1x11008 ![] bcast_S_S1x11008 (constant S_ .f32 0x3C23D70A#32)) x0))

def ref2 (x0 : FVec Ideal S1x11008 .f32) (x1 : FVec Ideal S1x11008 .f32) (x2 : FVec Ideal S1x11008 .f32) (x3 : FVec Ideal S1x11008 .f32) : FVec Ideal S1x11008 .f32 :=
  addf (mulf (broadcastInDim S1x11008 ![] bcast_S_S1x11008 (constant S_ .f32 0x3F666666#32)) x2) (mulf (broadcastInDim S1x11008 ![] bcast_S_S1x11008 (constant S_ .f32 0x3DCCCCCD#32)) x1)

def ref3 (x0 : FVec Ideal S1x11008 .f32) (x1 : FVec Ideal S1x11008 .f32) (x2 : FVec Ideal S1x11008 .f32) (x3 : FVec Ideal S1x11008 .f32) : FVec Ideal S1x11008 .f32 :=
  addf (mulf (broadcastInDim S1x11008 ![] bcast_S_S1x11008 (constant S_ .f32 0x3F7FBE77#32)) x3) (mulf (broadcastInDim S1x11008 ![] bcast_S_S1x11008 (constant S_ .f32 0x3A83126F#32)) (mulf x1 x1))

end Cert.Reference20Ideal.Hand

namespace Cert.Kernel20Ideal.Hand

open Cert.Kernel20Ideal Cert.Kernel20Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem point4 (c : Dev nD) (t : Fin cfg0.N) (y) : k0_pay1 (F := Ideal) (iblk m c 1 t) y
    = Cert.Reference20Ideal.Hand.ref0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, Cert.Reference20Ideal.Hand.ref0]
  blk_point [iblk, V, idx t]

theorem final4 (c : Dev nD) : (dats m 0 c).arrAt 4 (cfgs 0).N
    = Cert.Reference20Ideal.Hand.ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

theorem point5 (c : Dev nD) (t : Fin cfg0.N) (y) : k0_pay4 (F := Ideal) (iblk m c 1 t) (iblk m c 0 t) (iblk m c 2 t) (iblk m c 3 t) y
    = Cert.Reference20Ideal.Hand.ref1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, Cert.Reference20Ideal.Hand.ref1]
  blk_point [iblk, V, idx t]

theorem final5 (c : Dev nD) : (dats m 0 c).arrAt 5 (cfgs 0).N
    = Cert.Reference20Ideal.Hand.ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (F := Ideal) (iblk m c 1 t) (iblk m c 2 t) y
    = Cert.Reference20Ideal.Hand.ref2 (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay1, k0_pay2, k0_pay3, k0_pay4, Cert.Reference20Ideal.Hand.ref2]
  blk_point [iblk, V, idx t]

theorem final6 (c : Dev nD) : (dats m 0 c).arrAt 6 (cfgs 0).N
    = Cert.Reference20Ideal.Hand.ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (F := Ideal) (iblk m c 1 t) (iblk m c 3 t) y
    = Cert.Reference20Ideal.Hand.ref3 (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay4, Cert.Reference20Ideal.Hand.ref3]
  blk_point [iblk, V, idx t]

theorem final7 (c : Dev nD) : (dats m 0 c).arrAt 7 (cfgs 0).N
    = Cert.Reference20Ideal.Hand.ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

end Cert.Kernel20Ideal.Hand

namespace Cert.Proof.K20

open Idealize.ShloMosaic Idealize.ShloMosaic.TcCoe Idealize.SL.Sem

theorem frame_ideal : Cert.quiescent_Kernel20Ideal := fun m ρ _ => Cert.Kernel20Ideal.Gen.frame (F := Ideal) m ρ

/-- The kernel and its ideal form are one text: their body tables agree label by label. -/
theorem defs₀_same : Cert.Kernel20.defs₀ (F := Bits) = Cert.Kernel20Ideal.defs₀ (F := Bits) := by
  refine congrArg Defs.onTc (funext fun l => funext fun x => ?_)
  match l, x with
  | 0, (t, s) => rfl

theorem defs_same : Cert.Kernel20.defs (F := Bits) = Cert.Kernel20Ideal.defs (F := Bits) :=
  congrArg (Pipeline.defs (Cert.Kernel20Ideal.pcfgs (F := Bits))) defs₀_same

theorem main_same : Cert.Kernel20.main (F := Bits) = Cert.Kernel20Ideal.main (F := Bits) := rfl

theorem frame_kernel : Cert.quiescent_Kernel20 := fun m ρ _ => by
  have h := Cert.Kernel20Ideal.Gen.frame (F := Bits) m ρ
  rw [← defs_same, ← main_same] at h
  exact h

theorem frame_reference : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

theorem algebraic : Cert.algebraic_Kernel20Ideal_Reference20Ideal := by
  intro m ρ m' ρ' _ hagree
  refine ⟨_, _, _, _, (θ_run Cert.Kernel20Ideal.defs _ _).mono (fun _ h c => ⟨(h c).1.trans (Cert.Kernel20Ideal.Hand.final4 m c), (h c).2.1.trans (Cert.Kernel20Ideal.Hand.final5 m c), (h c).2.2.1.trans (Cert.Kernel20Ideal.Hand.final6 m c), (h c).2.2.2.1.trans (Cert.Kernel20Ideal.Hand.final7 m c), (h c).2.2.2.2⟩)
    (Cert.Kernel20Ideal.Value.run_blocks (F := Ideal) m ρ), ?_⟩
  refine (θ_run Cert.Reference20Ideal.defs _ _).mono (fun _ h c => ⟨(h c).1.trans ?_, (h c).2.1.trans ?_, (h c).2.2.1.trans ?_, (h c).2.2.2.1.trans ?_, (h c).2.2.2.2⟩)
    (Cert.Reference20Ideal.Value.run (F := Ideal) m' ρ')
  · rw [(hagree c).2.1]
    rfl
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.K20

end
-- ==== Proof.Ew21.lean ====
/-
  The step of the convolution’s taps: the four results entry by entry; with the frames.
-/
module

public import proofs.«01_k».proof.Defs
public import proofs.«01_k».proof.Proof.Gen.Kernel21
public import proofs.«01_k».proof.Proof.Gen.Kernel21Ideal.Value
public import proofs.«01_k».proof.Proof.Gen.Reference21Ideal.Run
public import Idealize.ShloMosaic.Lib.Pipeline.ValueKit
public import Idealize.ShloMosaic.Lib.Quiescent

@[expose] public section

set_option maxRecDepth 16384
set_option maxHeartbeats 2000000

noncomputable section

namespace Cert.Reference21Ideal.Hand

open Cert.Reference21Ideal Cert.Reference21Ideal.Gen
open Idealize.ShloMosaic

/-! The reference’s composed terms over its arguments. -/

def ref0 (x0 : FVec Ideal S3x1376 .f32) (x1 : FVec Ideal S3x1376 .f32) (x2 : FVec Ideal S3x1376 .f32) (x3 : FVec Ideal S3x1376 .f32) : FVec Ideal S3x1376 .f32 :=
  x1

def ref1 (x0 : FVec Ideal S3x1376 .f32) (x1 : FVec Ideal S3x1376 .f32) (x2 : FVec Ideal S3x1376 .f32) (x3 : FVec Ideal S3x1376 .f32) : FVec Ideal S3x1376 .f32 :=
  mulf (broadcastInDim S3x1376 ![] bcast_S_S3x1376 (constant S_ .f32 0xBA83126F#32)) (addf (Host.divf (Host.divf (addf (mulf (broadcastInDim S3x1376 ![] bcast_S_S3x1376 (constant S_ .f32 0x3F666666#32)) x2) (mulf (broadcastInDim S3x1376 ![] bcast_S_S3x1376 (constant S_ .f32 0x3DCCCCCD#32)) x1)) (broadcastInDim S3x1376 ![] bcast_S_S3x1376 (constant S_ .f32 0x3F26BD02#32))) (addf (Host.sqrt (Host.divf (addf (mulf (broadcastInDim S3x1376 ![] bcast_S_S3x1376 (constant S_ .f32 0x3F7FBE77#32)) x3) (mulf (broadcastInDim S3x1376 ![] bcast_S_S3x1376 (constant S_ .f32 0x3A83126F#32)) (mulf x1 x1))) (broadcastInDim S3x1376 ![] bcast_S_S3x1376 (constant S_ .f32 0x3C231ACC#32)))) (broadcastInDim S3x1376 ![] bcast_S_S3x1376 (constant S_ .f32 0x322BCC77#32)))) (mulf (broadcastInDim S3x1376 ![] bcast_S_S3x1376 (constant S_ .f32 0x3C23D70A#32)) x0))

def ref2 (x0 : FVec Ideal S3x1376 .f32) (x1 : FVec Ideal S3x1376 .f32) (x2 : FVec Ideal S3x1376 .f32) (x3 : FVec Ideal S3x1376 .f32) : FVec Ideal S3x1376 .f32 :=
  addf (mulf (broadcastInDim S3x1376 ![] bcast_S_S3x1376 (constant S_ .f32 0x3F666666#32)) x2) (mulf (broadcastInDim S3x1376 ![] bcast_S_S3x1376 (constant S_ .f32 0x3DCCCCCD#32)) x1)

def ref3 (x0 : FVec Ideal S3x1376 .f32) (x1 : FVec Ideal S3x1376 .f32) (x2 : FVec Ideal S3x1376 .f32) (x3 : FVec Ideal S3x1376 .f32) : FVec Ideal S3x1376 .f32 :=
  addf (mulf (broadcastInDim S3x1376 ![] bcast_S_S3x1376 (constant S_ .f32 0x3F7FBE77#32)) x3) (mulf (broadcastInDim S3x1376 ![] bcast_S_S3x1376 (constant S_ .f32 0x3A83126F#32)) (mulf x1 x1))

end Cert.Reference21Ideal.Hand

namespace Cert.Kernel21Ideal.Hand

open Cert.Kernel21Ideal Cert.Kernel21Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem point4 (c : Dev nD) (t : Fin cfg0.N) (y) : k0_pay1 (F := Ideal) (iblk m c 1 t) y
    = Cert.Reference21Ideal.Hand.ref0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, Cert.Reference21Ideal.Hand.ref0]
  blk_point [iblk, V, idx t]

theorem final4 (c : Dev nD) : (dats m 0 c).arrAt 4 (cfgs 0).N
    = Cert.Reference21Ideal.Hand.ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

theorem point5 (c : Dev nD) (t : Fin cfg0.N) (y) : k0_pay4 (F := Ideal) (iblk m c 1 t) (iblk m c 0 t) (iblk m c 2 t) (iblk m c 3 t) y
    = Cert.Reference21Ideal.Hand.ref1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, Cert.Reference21Ideal.Hand.ref1]
  blk_point [iblk, V, idx t]

theorem final5 (c : Dev nD) : (dats m 0 c).arrAt 5 (cfgs 0).N
    = Cert.Reference21Ideal.Hand.ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem point6 (c : Dev nD) (t : Fin cfg0.N) (y) : k0_pay2 (F := Ideal) (iblk m c 1 t) (iblk m c 2 t) y
    = Cert.Reference21Ideal.Hand.ref2 (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay1, k0_pay2, k0_pay3, k0_pay4, Cert.Reference21Ideal.Hand.ref2]
  blk_point [iblk, V, idx t]

theorem final6 (c : Dev nD) : (dats m 0 c).arrAt 6 (cfgs 0).N
    = Cert.Reference21Ideal.Hand.ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point6 m c t y

theorem point7 (c : Dev nD) (t : Fin cfg0.N) (y) : k0_pay3 (F := Ideal) (iblk m c 1 t) (iblk m c 3 t) y
    = Cert.Reference21Ideal.Hand.ref3 (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay4, Cert.Reference21Ideal.Hand.ref3]
  blk_point [iblk, V, idx t]

theorem final7 (c : Dev nD) : (dats m 0 c).arrAt 7 (cfgs 0).N
    = Cert.Reference21Ideal.Hand.ref3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

end Cert.Kernel21Ideal.Hand

namespace Cert.Proof.K21

open Idealize.ShloMosaic Idealize.ShloMosaic.TcCoe Idealize.SL.Sem

theorem frame_ideal : Cert.quiescent_Kernel21Ideal := fun m ρ _ => Cert.Kernel21Ideal.Gen.frame (F := Ideal) m ρ

/-- The kernel and its ideal form are one text: their body tables agree label by label. -/
theorem defs₀_same : Cert.Kernel21.defs₀ (F := Bits) = Cert.Kernel21Ideal.defs₀ (F := Bits) := by
  refine congrArg Defs.onTc (funext fun l => funext fun x => ?_)
  match l, x with
  | 0, (t, s) => rfl

theorem defs_same : Cert.Kernel21.defs (F := Bits) = Cert.Kernel21Ideal.defs (F := Bits) :=
  congrArg (Pipeline.defs (Cert.Kernel21Ideal.pcfgs (F := Bits))) defs₀_same

theorem main_same : Cert.Kernel21.main (F := Bits) = Cert.Kernel21Ideal.main (F := Bits) := rfl

theorem frame_kernel : Cert.quiescent_Kernel21 := fun m ρ _ => by
  have h := Cert.Kernel21Ideal.Gen.frame (F := Bits) m ρ
  rw [← defs_same, ← main_same] at h
  exact h

theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

theorem algebraic : Cert.algebraic_Kernel21Ideal_Reference21Ideal := by
  intro m ρ m' ρ' _ hagree
  refine ⟨_, _, _, _, (θ_run Cert.Kernel21Ideal.defs _ _).mono (fun _ h c => ⟨(h c).1.trans (Cert.Kernel21Ideal.Hand.final4 m c), (h c).2.1.trans (Cert.Kernel21Ideal.Hand.final5 m c), (h c).2.2.1.trans (Cert.Kernel21Ideal.Hand.final6 m c), (h c).2.2.2.1.trans (Cert.Kernel21Ideal.Hand.final7 m c), (h c).2.2.2.2⟩)
    (Cert.Kernel21Ideal.Value.run_blocks (F := Ideal) m ρ), ?_⟩
  refine (θ_run Cert.Reference21Ideal.defs _ _).mono (fun _ h c => ⟨(h c).1.trans ?_, (h c).2.1.trans ?_, (h c).2.2.1.trans ?_, (h c).2.2.2.1.trans ?_, (h c).2.2.2.2⟩)
    (Cert.Reference21Ideal.Value.run (F := Ideal) m' ρ')
  · rw [(hagree c).2.1]
    rfl
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.K21

end
-- ==== Proof.Ew22.lean ====
/-
  The mixer's input product over the shards of w_in that are there at first: the columns of the result whose shard is listed in the table
  hold the reference's product; nothing is said of the others. With the frames.
-/
module

public import proofs.«01_k».proof.Defs
public import proofs.«01_k».proof.Proof.Gen.Kernel22
public import proofs.«01_k».proof.Proof.Gen.Kernel22Ideal.Frame
public import proofs.«01_k».proof.Proof.Gen.Reference22Ideal.Run
public import proofs.«01_k».proof.Proof.Gen.On_columns_there
public import Idealize.ShloMosaic.Lib.Pipeline.ValueKit
public import Idealize.ShloMosaic.Lib.Quiescent

@[expose] public section

set_option maxRecDepth 16384
set_option maxHeartbeats 2000000

noncomputable section

namespace Cert.Reference22Ideal.Hand

open Cert.Reference22Ideal Cert.Reference22Ideal.Gen
open Idealize.ShloMosaic

/-- The reference's composed term over its arguments. -/
def product (x0 : FVec Ideal S2048x2048 .bf16) (x1 : FVec Ideal S8x2048x768 .bf16) : FVec Ideal S2048x6144 .bf16 :=
  truncf .bf16 (Host.dotGeneral dot_S2048x2048_S2048x6144_S2048x6144_1_0_0_1_n_n none (extf .f32 x0 bitsLt_bf16_f32) (extf .f32 ((concatenate S2048x6144 1 [⟨S2048x768, ((shapeCast _ (extractStridedSlice S1x2048x768 ![0, 0, 0] x1 slices_S8x2048x768_S1x2048x768_0_0_0) shapeCasts_S1x2048x768_S2048x768) : (⟨S2048x768, .bf16⟩ : BufTy).Contents (Elt Ideal))⟩, ⟨S2048x768, ((shapeCast _ (extractStridedSlice S1x2048x768 ![1, 0, 0] x1 slices_S8x2048x768_S1x2048x768_1_0_0) shapeCasts_S1x2048x768_S2048x768) : (⟨S2048x768, .bf16⟩ : BufTy).Contents (Elt Ideal))⟩, ⟨S2048x768, ((shapeCast _ (extractStridedSlice S1x2048x768 ![2, 0, 0] x1 slices_S8x2048x768_S1x2048x768_2_0_0) shapeCasts_S1x2048x768_S2048x768) : (⟨S2048x768, .bf16⟩ : BufTy).Contents (Elt Ideal))⟩, ⟨S2048x768, ((shapeCast _ (extractStridedSlice S1x2048x768 ![3, 0, 0] x1 slices_S8x2048x768_S1x2048x768_3_0_0) shapeCasts_S1x2048x768_S2048x768) : (⟨S2048x768, .bf16⟩ : BufTy).Contents (Elt Ideal))⟩, ⟨S2048x768, ((shapeCast _ (extractStridedSlice S1x2048x768 ![4, 0, 0] x1 slices_S8x2048x768_S1x2048x768_4_0_0) shapeCasts_S1x2048x768_S2048x768) : (⟨S2048x768, .bf16⟩ : BufTy).Contents (Elt Ideal))⟩, ⟨S2048x768, ((shapeCast _ (extractStridedSlice S1x2048x768 ![5, 0, 0] x1 slices_S8x2048x768_S1x2048x768_5_0_0) shapeCasts_S1x2048x768_S2048x768) : (⟨S2048x768, .bf16⟩ : BufTy).Contents (Elt Ideal))⟩, ⟨S2048x768, ((shapeCast _ (extractStridedSlice S1x2048x768 ![6, 0, 0] x1 slices_S8x2048x768_S1x2048x768_6_0_0) shapeCasts_S1x2048x768_S2048x768) : (⟨S2048x768, .bf16⟩ : BufTy).Contents (Elt Ideal))⟩, ⟨S2048x768, ((shapeCast _ (extractStridedSlice S1x2048x768 ![7, 0, 0] x1 slices_S8x2048x768_S1x2048x768_7_0_0) shapeCasts_S1x2048x768_S2048x768) : (⟨S2048x768, .bf16⟩ : BufTy).Contents (Elt Ideal))⟩] concatenates_S2048x768_S2048x768_S2048x768_S2048x768_S2048x768_S2048x768_S2048x768_S2048x768_S2048x6144_d1 : (⟨S2048x6144, .bf16⟩ : BufTy).Contents (Elt Ideal))) bitsLt_bf16_f32)) bitsLt_bf16_f32

end Cert.Reference22Ideal.Hand

namespace Cert.Kernel22Ideal.Hand

open Cert.Kernel22Ideal Cert.Kernel22Ideal.Gen
open Idealize.ShloMosaic Idealize.ShloMosaic.TcCoe Idealize.SL.Sem
open Idealize.ShloMosaic.Pipeline (Dat)

section Tables

variable {F : FTy → Type} [FloatOps F]

set_option backward.proofsInPublic true in
/-- The table's words, as the host wrote them. -/
def words : pre0.Contents (Elt F) := fun | ⟨0, _⟩ => fun i => lit0 (S4.rowMajor i) | ⟨_ + 1, h⟩ => absurd h (by simp)

variable (m : (ℓ : Loc nD τ sig) → Buf (Elt F) ℓ)

/-- The region finds the table as the host wrote it. -/
theorem tbl_words : tbl m = words := by
  funext j
  match j with
  | ⟨0, _⟩ =>
    show StableHlo.after hostOps0 (fun b => m (0, b)) main_c = _
    after_results <;> rfl

end Tables

/-- Each block the table places is inside its array. -/
theorem ok_words : ok0 (F := Ideal) words := by decide +kernel

theorem ok (m : (ℓ : Loc nD τ sig) → Buf (Elt Ideal) ℓ) : Ok m := by unfold Ok; rw [tbl_words]; exact ok_words

theorem ok_words_bits : ok0 (F := Bits) words := by decide +kernel

theorem ok_bits (m : (ℓ : Loc nD τ sig) → Buf (Elt Bits) ℓ) : Ok m := by unfold Ok; rw [tbl_words]; exact ok_words_bits

variable (m : (ℓ : Loc nD τ sig) → Buf (Elt Ideal) ℓ)

/-- The table's words, as contents the pipeline admits. -/
def admitted : (pcfg0 (F := Ideal)).Adm := ⟨words, ok_words⟩

theorem adm_eq (hO : Ok m) : adm m hO = admitted := Subtype.ext (tbl_words m)

/-- The shard the table lists at each point. -/
def place : ℕ → ℕ | 0 => 0 | 1 => 1 | 2 => 4 | _ => 2

theorem place_lt (n : ℕ) : place n < 8 := by unfold place; split <;> omega

theorem idx_admitted : ∀ t : Fin (cfg0 (F := Ideal) admitted).N, (pcfg0.win admitted (0 : Fin (cfg0 (F := Ideal) admitted).W)).index t = ![0, 0]
    ∧ (pcfg0.win admitted (1 : Fin (cfg0 (F := Ideal) admitted).W)).index t = ![place t.val, 0, 0]
    ∧ (pcfg0.win admitted (2 : Fin (cfg0 (F := Ideal) admitted).W)).index t = ![0, place t.val] :=
  (by decide +kernel : ∀ t : Fin grid0.N, _)

theorem idx (hO : Ok m) : ∀ t : Fin (cfgM m hO).N, (pcfg0.win (adm m hO) (0 : Fin (cfgM m hO).W)).index t = ![0, 0]
    ∧ (pcfg0.win (adm m hO) (1 : Fin (cfgM m hO).W)).index t = ![place t.val, 0, 0]
    ∧ (pcfg0.win (adm m hO) (2 : Fin (cfgM m hO).W)).index t = ![0, place t.val] := by
  have h : ∀ a : (pcfg0 (F := Ideal)).Adm, a = admitted → ∀ t : Fin (cfg0 a).N, (pcfg0.win a (0 : Fin (cfg0 a).W)).index t = ![0, 0]
      ∧ (pcfg0.win a (1 : Fin (cfg0 a).W)).index t = ![place t.val, 0, 0]
      ∧ (pcfg0.win a (2 : Fin (cfg0 a).W)).index t = ![0, place t.val] := by
    rintro _ rfl; exact idx_admitted
  exact h _ (adm_eq m hO)

theorem covers_admitted : ((cfg0 (F := Ideal) admitted).win 2).CoversWhere fun β => β (1 : Fin 2) < 3 ∨ β (1 : Fin 2) = 4 := by decide +kernel

theorem covers (hO : Ok m) : ((cfgM m hO).win 2).CoversWhere fun β => β (1 : Fin 2) < 3 ∨ β (1 : Fin 2) = 4 := by
  unfold cfgM; rw [adm_eq m hO]; exact covers_admitted

theorem point (hO : Ok m) (c : Dev nD) (t : Fin (cfgM m hO).N) (p : ℕ) (hp : p < 8) (e0 : (pcfg0.win (adm m hO) (0 : Fin (cfgM m hO).W)).index t = ![0, 0])
    (e1 : (pcfg0.win (adm m hO) (1 : Fin (cfgM m hO).W)).index t = ![p, 0, 0]) (e2 : (pcfg0.win (adm m hO) (2 : Fin (cfgM m hO).W)).index t = ![0, p]) (y) :
    k0_pay1 (iblk m hO c 0 t) (iblk m hO c 1 t) y
      = Cert.Reference22Ideal.Hand.product (m ((c : Thread nD τ).loc main_arg0)) (m ((c : Thread nD τ).loc main_arg1)) ((((cfgM m hO).win 2).blk t).view.emb y) := by
  pointwise [k0_pay1, Cert.Reference22Ideal.Hand.product]
  have hc : (((spec0 (2 : Fin (cfgM m hO).W)).arr.view.slice ((pcfg0.win (adm m hO) (2 : Fin (cfgM m hO).W)).rect t)).emb y (1 : Fin 2) : ℕ)
      = p * 768 + (y (1 : Fin 2) : ℕ) := by
    have h : (((((cfgM m hO).win 2).blk t).view.emb y) (1 : Fin 2) : ℕ) = p * 768 + (y (1 : Fin 2) : ℕ) := by blk_simp [e2]
    exact h
  blk_point [iblk, V, e0, e1, e2]
  all_goals first | omega | (show (0 : ℕ) = _; omega) | (show (1 : ℕ) = _; omega) | (show (2 : ℕ) = _; omega) | (show (3 : ℕ) = _; omega) | (show (4 : ℕ) = _; omega) | (show (5 : ℕ) = _; omega) | (show (6 : ℕ) = _; omega) | (show (7 : ℕ) = _; omega)

theorem point_at (hO : Ok m) (c : Dev nD) (t : Fin (cfgM m hO).N) (y) : k0_pay1 (iblk m hO c 0 t) (iblk m hO c 1 t) y
    = Cert.Reference22Ideal.Hand.product (m ((c : Thread nD τ).loc main_arg0)) (m ((c : Thread nD τ).loc main_arg1)) ((((cfgM m hO).win 2).blk t).view.emb y) :=
  point m hO c t (place t.val) (place_lt t.val) (idx m hO t).1 (idx m hO t).2.1 (idx m hO t).2.2 y

theorem after_eq (hO : Ok m) (c : Dev nD) (t : Fin (cfgM m hO).N) :
    (dats m hO 0 c).after 2 t = k0_pay1 (iblk m hO c 0 t) (iblk m hO c 1 t) := by
  funext y
  rw [after0_2]; unfold outsAt0; frame_out
  exact congrFun (congrArg₂ k0_pay1 ((hs0_0 m hO t).read_unread (iblk m hO c 0 t)) ((hs0_1 m hO t).read_unread (iblk m hO c 1 t))) y

/-- At a column whose shard is listed, the result holds the reference's product. -/
theorem final (hO : Ok m) (c : Dev nD) (i : S2048x6144.Idx) (hi : (i 1).val / 768 < 3 ∨ (i 1).val / 768 = 4) :
    (dats m hO 0 c).arrAt 2 (cfgM m hO).N i = Cert.Reference22Ideal.Hand.product (m ((c : Thread nD τ).loc main_arg0)) (m ((c : Thread nD τ).loc main_arg1)) i := by
  have h := (dats m hO 0 c).arrAt_emb_eq_of_coversWhere 2 (Cert.Reference22Ideal.Hand.product (m ((c : Thread nD τ).loc main_arg0)) (m ((c : Thread nD τ).loc main_arg1)))
    (fun β => β (1 : Fin 2) < 3 ∨ β (1 : Fin 2) = 4) (covers m hO) (fun t _ y => by
      blk_simp
      rw [after_eq]
      exact point_at m hO c t y) i
  exact h.trans (if_pos hi)

/-- The columns selected are those whose shard is listed. -/
theorem there (x0 : FVec Ideal S2048x2048 .bf16) (x1 : FVec Ideal S8x2048x768 .bf16) (i : S2048x6144.Idx)
    (h : Cert.On_columns_there.fn (F := Ideal) x0 x1 i = 1#1) : (i 1).val / 768 < 3 ∨ (i 1).val / 768 = 4 := by
  have hi := (i 1).isLt
  simp only [Cert.On_columns_there.fn, ori, andi, cmpi, broadcastInDim, constantI, iotaInDim] at h
  have key : ∀ n : Fin 6144, IntOp.ori (IntOp.cmpi .slt (BitVec.ofNat 32 n.val) 2304#32)
      (IntOp.andi (IntOp.cmpi .sge (BitVec.ofNat 32 n.val) 3072#32) (IntOp.cmpi .slt (BitVec.ofNat 32 n.val) 3840#32)) = 1#1 →
      n.val / 768 < 3 ∨ n.val / 768 = 4 := by decide +kernel
  exact key (i 1) h
end Cert.Kernel22Ideal.Hand

namespace Cert.Proof.K22

open Idealize.ShloMosaic Idealize.ShloMosaic.TcCoe Idealize.SL.Sem

theorem frame_ideal : Cert.quiescent_Kernel22Ideal := fun m ρ _ => Cert.Kernel22Ideal.Gen.frame (F := Ideal) m ρ (Cert.Kernel22Ideal.Hand.ok m)

/-- The kernel and its ideal form are one text: their body tables agree label by label. -/
theorem defs₀_same : Cert.Kernel22.defs₀ (F := Bits) = Cert.Kernel22Ideal.defs₀ (F := Bits) := by
  refine congrArg Defs.onTc (funext fun l => funext fun x => ?_)
  match l, x with
  | 0, (t, s) => rfl

theorem defs_same : Cert.Kernel22.defs (F := Bits) = Cert.Kernel22Ideal.defs (F := Bits) :=
  congrArg (Pipeline.defs (Cert.Kernel22Ideal.pcfgs (F := Bits))) defs₀_same

theorem main_same : Cert.Kernel22.main (F := Bits) = Cert.Kernel22Ideal.main (F := Bits) := rfl

theorem frame_kernel : Cert.quiescent_Kernel22 := fun m ρ _ => by
  have h := Cert.Kernel22Ideal.Gen.frame (F := Bits) m ρ (Cert.Kernel22Ideal.Hand.ok_bits m)
  rw [← defs_same, ← main_same] at h
  exact h

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic : Cert.algebraic_Kernel22Ideal_Reference22Ideal_on_columns_there := by
  intro m ρ m' ρ' _ hagree
  refine ⟨fun c => Cert.Reference22Ideal.Hand.product (m (c.tc.loc Cert.Kernel22Ideal.main_arg0)) (m (c.tc.loc Cert.Kernel22Ideal.main_arg1)), ?_, ?_⟩
  · have h1 := Cert.Kernel22Ideal.Gen.run_main (F := Ideal) m ρ (Cert.Kernel22Ideal.Hand.ok m)
    have h2 := Cert.Kernel22Ideal.Gen.unchanged (F := Ideal) m ρ (Cert.Kernel22Ideal.Hand.ok m)
    exact (θ_run Cert.Kernel22Ideal.defs _ _).mono (fun _ h c => ⟨fun i hi => (congrFun ((h.1 c).1 2) i).trans
      (Cert.Kernel22Ideal.Hand.final m _ c i (Cert.Kernel22Ideal.Hand.there _ _ i hi)), h.2 c⟩) (θ_run_and h1 h2)
  refine (θ_run Cert.Reference22Ideal.defs _ _).mono (fun _ h c => ⟨fun i _ => (congrFun (h c).1 i).trans ?_, (h c).2⟩)
    (Cert.Reference22Ideal.Value.run (F := Ideal) m' ρ')
  rw [(hagree c).1, (hagree c).2]
  rfl
end Cert.Proof.K22

end
-- ==== Proof.Ew23.lean ====
/-
  The mixer's input product over the shards of w_in still coming: the columns of the result whose shard is listed in the table hold the
  reference's product, the others what the result held before. With the frames.
-/
module

public import proofs.«01_k».proof.Defs
public import proofs.«01_k».proof.Proof.Gen.Kernel23
public import proofs.«01_k».proof.Proof.Gen.Kernel23Ideal.Frame
public import proofs.«01_k».proof.Proof.Gen.Reference23Ideal.Run
public import Idealize.ShloMosaic.Lib.Pipeline.ValueKit
public import Idealize.ShloMosaic.Lib.Quiescent

@[expose] public section

set_option maxRecDepth 16384
set_option maxHeartbeats 2000000

noncomputable section

namespace Cert.Reference23Ideal.Hand

open Cert.Reference23Ideal Cert.Reference23Ideal.Gen
open Idealize.ShloMosaic

/-- The reference's composed term over its arguments. -/
def product (x0 : FVec Ideal S2048x2048 .bf16) (x1 : FVec Ideal S8x2048x768 .bf16) : FVec Ideal S2048x6144 .bf16 :=
  truncf .bf16 (Host.dotGeneral dot_S2048x2048_S2048x6144_S2048x6144_1_0_0_1_n_n none (extf .f32 x0 bitsLt_bf16_f32) (extf .f32 ((concatenate S2048x6144 1 [⟨S2048x768, ((shapeCast _ (extractStridedSlice S1x2048x768 ![0, 0, 0] x1 slices_S8x2048x768_S1x2048x768_0_0_0) shapeCasts_S1x2048x768_S2048x768) : (⟨S2048x768, .bf16⟩ : BufTy).Contents (Elt Ideal))⟩, ⟨S2048x768, ((shapeCast _ (extractStridedSlice S1x2048x768 ![1, 0, 0] x1 slices_S8x2048x768_S1x2048x768_1_0_0) shapeCasts_S1x2048x768_S2048x768) : (⟨S2048x768, .bf16⟩ : BufTy).Contents (Elt Ideal))⟩, ⟨S2048x768, ((shapeCast _ (extractStridedSlice S1x2048x768 ![2, 0, 0] x1 slices_S8x2048x768_S1x2048x768_2_0_0) shapeCasts_S1x2048x768_S2048x768) : (⟨S2048x768, .bf16⟩ : BufTy).Contents (Elt Ideal))⟩, ⟨S2048x768, ((shapeCast _ (extractStridedSlice S1x2048x768 ![3, 0, 0] x1 slices_S8x2048x768_S1x2048x768_3_0_0) shapeCasts_S1x2048x768_S2048x768) : (⟨S2048x768, .bf16⟩ : BufTy).Contents (Elt Ideal))⟩, ⟨S2048x768, ((shapeCast _ (extractStridedSlice S1x2048x768 ![4, 0, 0] x1 slices_S8x2048x768_S1x2048x768_4_0_0) shapeCasts_S1x2048x768_S2048x768) : (⟨S2048x768, .bf16⟩ : BufTy).Contents (Elt Ideal))⟩, ⟨S2048x768, ((shapeCast _ (extractStridedSlice S1x2048x768 ![5, 0, 0] x1 slices_S8x2048x768_S1x2048x768_5_0_0) shapeCasts_S1x2048x768_S2048x768) : (⟨S2048x768, .bf16⟩ : BufTy).Contents (Elt Ideal))⟩, ⟨S2048x768, ((shapeCast _ (extractStridedSlice S1x2048x768 ![6, 0, 0] x1 slices_S8x2048x768_S1x2048x768_6_0_0) shapeCasts_S1x2048x768_S2048x768) : (⟨S2048x768, .bf16⟩ : BufTy).Contents (Elt Ideal))⟩, ⟨S2048x768, ((shapeCast _ (extractStridedSlice S1x2048x768 ![7, 0, 0] x1 slices_S8x2048x768_S1x2048x768_7_0_0) shapeCasts_S1x2048x768_S2048x768) : (⟨S2048x768, .bf16⟩ : BufTy).Contents (Elt Ideal))⟩] concatenates_S2048x768_S2048x768_S2048x768_S2048x768_S2048x768_S2048x768_S2048x768_S2048x768_S2048x6144_d1 : (⟨S2048x6144, .bf16⟩ : BufTy).Contents (Elt Ideal))) bitsLt_bf16_f32)) bitsLt_bf16_f32

/-- The columns of the shards listed elsewhere keep what the result held. -/
def kept (x0 : FVec Ideal S2048x2048 .bf16) (x1 : FVec Ideal S8x2048x768 .bf16) (x2 : FVec Ideal S2048x6144 .bf16) : FVec Ideal S2048x6144 .bf16 :=
  select (ori (cmpi .slt (iotaInDim S2048x6144 32 1) (broadcastInDim S2048x6144 ![] bcast_S_S2048x6144 (constantI S_ 32 2304#32))) (andi (cmpi .sge (iotaInDim S2048x6144 32 1) (broadcastInDim S2048x6144 ![] bcast_S_S2048x6144 (constantI S_ 32 3072#32))) (cmpi .slt (iotaInDim S2048x6144 32 1) (broadcastInDim S2048x6144 ![] bcast_S_S2048x6144 (constantI S_ 32 3840#32))))) x2 (product x0 x1)

theorem kept_apply (x0 : FVec Ideal S2048x2048 .bf16) (x1 : FVec Ideal S8x2048x768 .bf16) (x2 : FVec Ideal S2048x6144 .bf16) (i : S2048x6144.Idx) :
    kept x0 x1 x2 i = if (i 1).val / 768 < 3 ∨ (i 1).val / 768 = 4 then x2 i else product x0 x1 i := by
  have key : ∀ n : Fin 6144, IntOp.ori (IntOp.cmpi .slt (BitVec.ofNat 32 n.val) 2304#32)
      (IntOp.andi (IntOp.cmpi .sge (BitVec.ofNat 32 n.val) 3072#32) (IntOp.cmpi .slt (BitVec.ofNat 32 n.val) 3840#32))
      = if n.val / 768 < 3 ∨ n.val / 768 = 4 then 1#1 else 0#1 := by decide +kernel
  simp only [kept, select, ori, andi, cmpi, broadcastInDim, constantI, iotaInDim]
  rw [key (i 1)]
  split <;> rfl

end Cert.Reference23Ideal.Hand

namespace Cert.Kernel23Ideal.Hand

open Cert.Kernel23Ideal Cert.Kernel23Ideal.Gen
open Idealize.ShloMosaic Idealize.ShloMosaic.TcCoe Idealize.SL.Sem
open Idealize.ShloMosaic.Pipeline (Dat)

section Tables

variable {F : FTy → Type} [FloatOps F]

set_option backward.proofsInPublic true in
/-- The table's words, as the host wrote them. -/
def words : pre0.Contents (Elt F) := fun | ⟨0, _⟩ => fun i => lit0 (S4.rowMajor i) | ⟨_ + 1, h⟩ => absurd h (by simp)

variable (m : (ℓ : Loc nD τ sig) → Buf (Elt F) ℓ)

/-- The region finds the table as the host wrote it. -/
theorem tbl_words : tbl m = words := by
  funext j
  match j with
  | ⟨0, _⟩ =>
    show StableHlo.after hostOps0 (fun b => m (0, b)) main_c = _
    after_results <;> rfl

end Tables

/-- Each block the table places is inside its array. -/
theorem ok_words : ok0 (F := Ideal) words := by decide +kernel

theorem ok (m : (ℓ : Loc nD τ sig) → Buf (Elt Ideal) ℓ) : Ok m := by unfold Ok; rw [tbl_words]; exact ok_words

theorem ok_words_bits : ok0 (F := Bits) words := by decide +kernel

theorem ok_bits (m : (ℓ : Loc nD τ sig) → Buf (Elt Bits) ℓ) : Ok m := by unfold Ok; rw [tbl_words]; exact ok_words_bits

variable (m : (ℓ : Loc nD τ sig) → Buf (Elt Ideal) ℓ)

/-- The table's words, as contents the pipeline admits. -/
def admitted : (pcfg0 (F := Ideal)).Adm := ⟨words, ok_words⟩

theorem adm_eq (hO : Ok m) : adm m hO = admitted := Subtype.ext (tbl_words m)

/-- The shard the table lists at each point. -/
def place : ℕ → ℕ | 0 => 5 | 1 => 3 | 2 => 6 | _ => 7

theorem place_lt (n : ℕ) : place n < 8 := by unfold place; split <;> omega

theorem idx_admitted : ∀ t : Fin (cfg0 (F := Ideal) admitted).N, (pcfg0.win admitted (0 : Fin (cfg0 (F := Ideal) admitted).W)).index t = ![0, 0]
    ∧ (pcfg0.win admitted (1 : Fin (cfg0 (F := Ideal) admitted).W)).index t = ![place t.val, 0, 0]
    ∧ (pcfg0.win admitted (2 : Fin (cfg0 (F := Ideal) admitted).W)).index t = ![0, place t.val] :=
  (by decide +kernel : ∀ t : Fin grid0.N, _)

theorem idx (hO : Ok m) : ∀ t : Fin (cfgM m hO).N, (pcfg0.win (adm m hO) (0 : Fin (cfgM m hO).W)).index t = ![0, 0]
    ∧ (pcfg0.win (adm m hO) (1 : Fin (cfgM m hO).W)).index t = ![place t.val, 0, 0]
    ∧ (pcfg0.win (adm m hO) (2 : Fin (cfgM m hO).W)).index t = ![0, place t.val] := by
  have h : ∀ a : (pcfg0 (F := Ideal)).Adm, a = admitted → ∀ t : Fin (cfg0 a).N, (pcfg0.win a (0 : Fin (cfg0 a).W)).index t = ![0, 0]
      ∧ (pcfg0.win a (1 : Fin (cfg0 a).W)).index t = ![place t.val, 0, 0]
      ∧ (pcfg0.win a (2 : Fin (cfg0 a).W)).index t = ![0, place t.val] := by
    rintro _ rfl; exact idx_admitted
  exact h _ (adm_eq m hO)

theorem covers_admitted : ((cfg0 (F := Ideal) admitted).win 2).CoversWhere fun β => ¬ (β (1 : Fin 2) < 3 ∨ β (1 : Fin 2) = 4) := by decide +kernel

theorem covers (hO : Ok m) : ((cfgM m hO).win 2).CoversWhere fun β => ¬ (β (1 : Fin 2) < 3 ∨ β (1 : Fin 2) = 4) := by
  unfold cfgM; rw [adm_eq m hO]; exact covers_admitted

theorem point (hO : Ok m) (c : Dev nD) (t : Fin (cfgM m hO).N) (p : ℕ) (hp : p < 8) (e0 : (pcfg0.win (adm m hO) (0 : Fin (cfgM m hO).W)).index t = ![0, 0])
    (e1 : (pcfg0.win (adm m hO) (1 : Fin (cfgM m hO).W)).index t = ![p, 0, 0]) (e2 : (pcfg0.win (adm m hO) (2 : Fin (cfgM m hO).W)).index t = ![0, p]) (y) :
    k0_pay1 (iblk m hO c 0 t) (iblk m hO c 1 t) y
      = Cert.Reference23Ideal.Hand.product (m ((c : Thread nD τ).loc main_arg0)) (m ((c : Thread nD τ).loc main_arg1)) ((((cfgM m hO).win 2).blk t).view.emb y) := by
  pointwise [k0_pay1, Cert.Reference23Ideal.Hand.product]
  have hc : (((spec0 (2 : Fin (cfgM m hO).W)).arr.view.slice ((pcfg0.win (adm m hO) (2 : Fin (cfgM m hO).W)).rect t)).emb y (1 : Fin 2) : ℕ)
      = p * 768 + (y (1 : Fin 2) : ℕ) := by
    have h : (((((cfgM m hO).win 2).blk t).view.emb y) (1 : Fin 2) : ℕ) = p * 768 + (y (1 : Fin 2) : ℕ) := by blk_simp [e2]
    exact h
  blk_point [iblk, V, e0, e1, e2]
  all_goals first | omega | (show (0 : ℕ) = _; omega) | (show (1 : ℕ) = _; omega) | (show (2 : ℕ) = _; omega) | (show (3 : ℕ) = _; omega) | (show (4 : ℕ) = _; omega) | (show (5 : ℕ) = _; omega) | (show (6 : ℕ) = _; omega) | (show (7 : ℕ) = _; omega)

theorem point_at (hO : Ok m) (c : Dev nD) (t : Fin (cfgM m hO).N) (y) : k0_pay1 (iblk m hO c 0 t) (iblk m hO c 1 t) y
    = Cert.Reference23Ideal.Hand.product (m ((c : Thread nD τ).loc main_arg0)) (m ((c : Thread nD τ).loc main_arg1)) ((((cfgM m hO).win 2).blk t).view.emb y) :=
  point m hO c t (place t.val) (place_lt t.val) (idx m hO t).1 (idx m hO t).2.1 (idx m hO t).2.2 y

theorem after_eq (hO : Ok m) (c : Dev nD) (t : Fin (cfgM m hO).N) :
    (dats m hO 0 c).after 2 t = k0_pay1 (iblk m hO c 0 t) (iblk m hO c 1 t) := by
  funext y
  rw [after0_2]; unfold outsAt0; frame_out
  exact congrFun (congrArg₂ k0_pay1 ((hs0_0 m hO t).read_unread (iblk m hO c 0 t)) ((hs0_1 m hO t).read_unread (iblk m hO c 1 t))) y

theorem col (hO : Ok m) (t : Fin (cfgM m hO).N) (y) :
    (((((cfgM m hO).win 2).blk t).view.emb y) (1 : Fin 2) : ℕ) = place t.val * 768 + (y (1 : Fin 2) : ℕ) := by
  have e2 := (idx m hO t).2.2
  blk_simp [e2]

theorem V_main_v0 (c : Dev nD) : V m c main_v0 = m ((c : Thread nD τ).loc main_arg2) := by
  show StableHlo.after hostOps0 (fun b => m (c, b)) main_v0 = _
  after_results <;> rfl

/-- The result: the listed shards' columns at the reference's product, the others as before. -/
theorem final (hO : Ok m) (c : Dev nD) : (dats m hO 0 c).arrAt 2 (cfgM m hO).N
    = Cert.Reference23Ideal.Hand.kept (m ((c : Thread nD τ).loc main_arg0)) (m ((c : Thread nD τ).loc main_arg1)) (m ((c : Thread nD τ).loc main_arg2)) := by
  refine (dats m hO 0 c).arrAt_eq_of_coversWhere_of_agree 2 (Cert.Reference23Ideal.Hand.kept (m ((c : Thread nD τ).loc main_arg0)) (m ((c : Thread nD τ).loc main_arg1)) (m ((c : Thread nD τ).loc main_arg2)))
    (fun β => ¬ (β (1 : Fin 2) < 3 ∨ β (1 : Fin 2) = 4)) (covers m hO) (fun t _ y => ?_) (fun j hj => ?_)
  · have hy : (y (1 : Fin 2)).val < 768 := (y (1 : Fin 2)).isLt
    have hn : ¬ (place t.val < 3 ∨ place t.val = 4) := by unfold place; split <;> omega
    have hd : (((((cfgM m hO).win 2).blk t).view.emb y) (1 : Fin 2) : ℕ) / 768 = place t.val := by
      rw [col m hO t y]; omega
    refine Eq.trans ?_ (Eq.trans (point_at m hO c t y) ?_)
    · blk_simp
      rw [after_eq]
    · refine ((Cert.Reference23Ideal.Hand.kept_apply _ _ _ _).trans (if_neg ?_)).symm
      intro h
      exact hn (hd ▸ h)
  · refine Eq.trans ?_ ((Cert.Reference23Ideal.Hand.kept_apply _ _ _ _).trans (if_pos (not_not.mp hj))).symm
    exact congrFun (V_main_v0 m c) j
end Cert.Kernel23Ideal.Hand

namespace Cert.Proof.K23

open Idealize.ShloMosaic Idealize.ShloMosaic.TcCoe Idealize.SL.Sem

theorem frame_ideal : Cert.quiescent_Kernel23Ideal := fun m ρ _ => Cert.Kernel23Ideal.Gen.frame (F := Ideal) m ρ (Cert.Kernel23Ideal.Hand.ok m)

/-- The kernel and its ideal form are one text: their body tables agree label by label. -/
theorem defs₀_same : Cert.Kernel23.defs₀ (F := Bits) = Cert.Kernel23Ideal.defs₀ (F := Bits) := by
  refine congrArg Defs.onTc (funext fun l => funext fun x => ?_)
  match l, x with
  | 0, (t, s) => rfl

theorem defs_same : Cert.Kernel23.defs (F := Bits) = Cert.Kernel23Ideal.defs (F := Bits) :=
  congrArg (Pipeline.defs (Cert.Kernel23Ideal.pcfgs (F := Bits))) defs₀_same

theorem main_same : Cert.Kernel23.main (F := Bits) = Cert.Kernel23Ideal.main (F := Bits) := rfl

theorem frame_kernel : Cert.quiescent_Kernel23 := fun m ρ _ => by
  have h := Cert.Kernel23Ideal.Gen.frame (F := Bits) m ρ (Cert.Kernel23Ideal.Hand.ok_bits m)
  rw [← defs_same, ← main_same] at h
  exact h

theorem frame_reference : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic : Cert.algebraic_Kernel23Ideal_Reference23Ideal := by
  intro m ρ m' ρ' _ hagree
  refine ⟨fun c => Cert.Reference23Ideal.Hand.kept (m (c.tc.loc Cert.Kernel23Ideal.main_arg0)) (m (c.tc.loc Cert.Kernel23Ideal.main_arg1)) (m (c.tc.loc Cert.Kernel23Ideal.main_arg2)), ?_, ?_⟩
  · have h1 := Cert.Kernel23Ideal.Gen.run_main (F := Ideal) m ρ (Cert.Kernel23Ideal.Hand.ok m)
    have h2 := Cert.Kernel23Ideal.Gen.unchanged (F := Ideal) m ρ (Cert.Kernel23Ideal.Hand.ok m)
    exact (θ_run Cert.Kernel23Ideal.defs _ _).mono (fun _ h c => ⟨((h.1 c).1 2).trans (Cert.Kernel23Ideal.Hand.final m _ c), h.2 c⟩) (θ_run_and h1 h2)
  refine (θ_run Cert.Reference23Ideal.defs _ _).mono (fun _ h c => ⟨(h c).1.trans ?_, (h c).2⟩)
    (Cert.Reference23Ideal.Value.run (F := Ideal) m' ρ')
  rw [(hagree c).1, (hagree c).2.1, (hagree c).2.2]
  rfl
end Cert.Proof.K23

end
-- ==== Proof.Ew24.lean ====
/-
  The step of w_in: the gradient as the sum of four chips' shares, and the three other results, entry by entry; the two of the shares
  that change places are summed in another order. With the frames.
-/
module

public import proofs.«01_k».proof.Defs
public import proofs.«01_k».proof.Proof.Gen.Kernel24
public import proofs.«01_k».proof.Proof.Gen.Kernel24Ideal.Frame
public import proofs.«01_k».proof.Proof.Gen.Reference24Ideal.Run
public import Idealize.ShloMosaic.Lib.Pipeline.ValueKit
public import Idealize.ShloMosaic.Lib.Quiescent

@[expose] public section

set_option maxRecDepth 16384
set_option maxHeartbeats 2000000

noncomputable section

namespace Cert.Reference24Ideal.Hand

open Cert.Reference24Ideal Cert.Reference24Ideal.Gen
open Idealize.ShloMosaic

/-- The gradient: the sum of the four chips' shares in their order. -/
def grad (x1 : FVec Ideal S4x2048x768 .bf16) (x2 : FVec Ideal S4x2048x768 .bf16) : FVec Ideal S2048x768 .f32 :=
  addf (addf (addf (extf .f32 (shapeCast _ (extractStridedSlice S1x2048x768 ![0, 0, 0] x1 slices_S4x2048x768_S1x2048x768_0_0_0) shapeCasts_S1x2048x768_S2048x768) bitsLt_bf16_f32) (extf .f32 (shapeCast _ (extractStridedSlice S1x2048x768 ![1, 0, 0] x2 slices_S4x2048x768_S1x2048x768_1_0_0) shapeCasts_S1x2048x768_S2048x768) bitsLt_bf16_f32)) (extf .f32 (shapeCast _ (extractStridedSlice S1x2048x768 ![2, 0, 0] x2 slices_S4x2048x768_S1x2048x768_2_0_0) shapeCasts_S1x2048x768_S2048x768) bitsLt_bf16_f32)) (extf .f32 (shapeCast _ (extractStridedSlice S1x2048x768 ![3, 0, 0] x2 slices_S4x2048x768_S1x2048x768_3_0_0) shapeCasts_S1x2048x768_S2048x768) bitsLt_bf16_f32)

/-- The same sum in the order in which the copies come. -/
def gradComing (x1 : FVec Ideal S4x2048x768 .bf16) (x2 : FVec Ideal S4x2048x768 .bf16) : FVec Ideal S2048x768 .f32 :=
  addf (addf (addf (extf .f32 (shapeCast _ (extractStridedSlice S1x2048x768 ![0, 0, 0] x1 slices_S4x2048x768_S1x2048x768_0_0_0) shapeCasts_S1x2048x768_S2048x768) bitsLt_bf16_f32) (extf .f32 (shapeCast _ (extractStridedSlice S1x2048x768 ![2, 0, 0] x2 slices_S4x2048x768_S1x2048x768_2_0_0) shapeCasts_S1x2048x768_S2048x768) bitsLt_bf16_f32)) (extf .f32 (shapeCast _ (extractStridedSlice S1x2048x768 ![1, 0, 0] x2 slices_S4x2048x768_S1x2048x768_1_0_0) shapeCasts_S1x2048x768_S2048x768) bitsLt_bf16_f32)) (extf .f32 (shapeCast _ (extractStridedSlice S1x2048x768 ![3, 0, 0] x2 slices_S4x2048x768_S1x2048x768_3_0_0) shapeCasts_S1x2048x768_S2048x768) bitsLt_bf16_f32)

theorem grad_eq (x1 : FVec Ideal S4x2048x768 .bf16) (x2 : FVec Ideal S4x2048x768 .bf16) : gradComing x1 x2 = grad x1 x2 :=
  funext fun i => congrArg₂ (· + ·) (add_right_comm (G := EReal) _ _ _) rfl

/-! The step over the gradient. -/

def delta (x0 : FVec Ideal S2048x768 .f32) (g : FVec Ideal S2048x768 .f32) (x3 : FVec Ideal S2048x768 .f32) (x4 : FVec Ideal S2048x768 .f32) : FVec Ideal S2048x768 .f32 :=
  mulf (broadcastInDim S2048x768 ![] bcast_S_S2048x768 (constant S_ .f32 0xBA83126F#32)) (addf (Host.divf (Host.divf (addf (mulf (broadcastInDim S2048x768 ![] bcast_S_S2048x768 (constant S_ .f32 0x3F666666#32)) x3) (mulf (broadcastInDim S2048x768 ![] bcast_S_S2048x768 (constant S_ .f32 0x3DCCCCCD#32)) g)) (broadcastInDim S2048x768 ![] bcast_S_S2048x768 (constant S_ .f32 0x3F26BD02#32))) (addf (Host.sqrt (Host.divf (addf (mulf (broadcastInDim S2048x768 ![] bcast_S_S2048x768 (constant S_ .f32 0x3F7FBE77#32)) x4) (mulf (broadcastInDim S2048x768 ![] bcast_S_S2048x768 (constant S_ .f32 0x3A83126F#32)) (mulf g g))) (broadcastInDim S2048x768 ![] bcast_S_S2048x768 (constant S_ .f32 0x3C231ACC#32)))) (broadcastInDim S2048x768 ![] bcast_S_S2048x768 (constant S_ .f32 0x322BCC77#32)))) (mulf (broadcastInDim S2048x768 ![] bcast_S_S2048x768 (constant S_ .f32 0x3C23D70A#32)) x0))

def mean (g : FVec Ideal S2048x768 .f32) (x3 : FVec Ideal S2048x768 .f32) : FVec Ideal S2048x768 .f32 :=
  addf (mulf (broadcastInDim S2048x768 ![] bcast_S_S2048x768 (constant S_ .f32 0x3F666666#32)) x3) (mulf (broadcastInDim S2048x768 ![] bcast_S_S2048x768 (constant S_ .f32 0x3DCCCCCD#32)) g)

def square (g : FVec Ideal S2048x768 .f32) (x4 : FVec Ideal S2048x768 .f32) : FVec Ideal S2048x768 .f32 :=
  addf (mulf (broadcastInDim S2048x768 ![] bcast_S_S2048x768 (constant S_ .f32 0x3F7FBE77#32)) x4) (mulf (broadcastInDim S2048x768 ![] bcast_S_S2048x768 (constant S_ .f32 0x3A83126F#32)) (mulf g g))

end Cert.Reference24Ideal.Hand

namespace Cert.Kernel24Ideal.Hand

open Cert.Kernel24Ideal Cert.Kernel24Ideal.Gen
open Idealize.ShloMosaic Idealize.ShloMosaic.TcCoe Idealize.SL.Sem
open Idealize.ShloMosaic.Pipeline (Dat)

section Tables

variable {F : FTy → Type} [FloatOps F]

set_option backward.proofsInPublic true in
/-- The table's words, as the host wrote them. -/
def words : pre0.Contents (Elt F) := fun | ⟨0, _⟩ => fun i => lit0 (S4.rowMajor i) | ⟨_ + 1, h⟩ => absurd h (by simp)

variable (m : (ℓ : Loc nD τ sig) → Buf (Elt F) ℓ)

/-- The region finds the table as the host wrote it. -/
theorem tbl_words : tbl m = words := by
  funext j
  match j with
  | ⟨0, _⟩ =>
    show StableHlo.after hostOps0 (fun b => m (0, b)) main_c = _
    after_results <;> rfl

end Tables

/-- Each block the table places is inside its array. -/
theorem ok_words : ok0 (F := Ideal) words := by decide +kernel

theorem ok (m : (ℓ : Loc nD τ sig) → Buf (Elt Ideal) ℓ) : Ok m := by unfold Ok; rw [tbl_words]; exact ok_words

theorem ok_words_bits : ok0 (F := Bits) words := by decide +kernel

theorem ok_bits (m : (ℓ : Loc nD τ sig) → Buf (Elt Bits) ℓ) : Ok m := by unfold Ok; rw [tbl_words]; exact ok_words_bits

variable (m : (ℓ : Loc nD τ sig) → Buf (Elt Ideal) ℓ)

/-- The table's words, as contents the pipeline admits. -/
def admitted : (pcfg0 (F := Ideal)).Adm := ⟨words, ok_words⟩

theorem adm_eq (hO : Ok m) : adm m hO = admitted := Subtype.ext (tbl_words m)

theorem idx_admitted : ∀ t : Fin (cfg0 (F := Ideal) admitted).N, (pcfg0.win admitted (0 : Fin (cfg0 (F := Ideal) admitted).W)).index t = ![t.val, 0]
    ∧ (pcfg0.win admitted (1 : Fin (cfg0 (F := Ideal) admitted).W)).index t = ![0, t.val, 0]
    ∧ (pcfg0.win admitted (2 : Fin (cfg0 (F := Ideal) admitted).W)).index t = ![2, t.val, 0]
    ∧ (pcfg0.win admitted (3 : Fin (cfg0 (F := Ideal) admitted).W)).index t = ![1, t.val, 0]
    ∧ (pcfg0.win admitted (4 : Fin (cfg0 (F := Ideal) admitted).W)).index t = ![3, t.val, 0]
    ∧ (pcfg0.win admitted (5 : Fin (cfg0 (F := Ideal) admitted).W)).index t = ![t.val, 0]
    ∧ (pcfg0.win admitted (6 : Fin (cfg0 (F := Ideal) admitted).W)).index t = ![t.val, 0]
    ∧ (pcfg0.win admitted (7 : Fin (cfg0 (F := Ideal) admitted).W)).index t = ![t.val, 0]
    ∧ (pcfg0.win admitted (8 : Fin (cfg0 (F := Ideal) admitted).W)).index t = ![t.val, 0]
    ∧ (pcfg0.win admitted (9 : Fin (cfg0 (F := Ideal) admitted).W)).index t = ![t.val, 0]
    ∧ (pcfg0.win admitted (10 : Fin (cfg0 (F := Ideal) admitted).W)).index t = ![t.val, 0] :=
  (by decide +kernel : ∀ t : Fin grid0.N, _)

theorem idx (hO : Ok m) : ∀ t : Fin (cfgM m hO).N, (pcfg0.win (adm m hO) (0 : Fin (cfgM m hO).W)).index t = ![t.val, 0]
    ∧ (pcfg0.win (adm m hO) (1 : Fin (cfgM m hO).W)).index t = ![0, t.val, 0]
    ∧ (pcfg0.win (adm m hO) (2 : Fin (cfgM m hO).W)).index t = ![2, t.val, 0]
    ∧ (pcfg0.win (adm m hO) (3 : Fin (cfgM m hO).W)).index t = ![1, t.val, 0]
    ∧ (pcfg0.win (adm m hO) (4 : Fin (cfgM m hO).W)).index t = ![3, t.val, 0]
    ∧ (pcfg0.win (adm m hO) (5 : Fin (cfgM m hO).W)).index t = ![t.val, 0]
    ∧ (pcfg0.win (adm m hO) (6 : Fin (cfgM m hO).W)).index t = ![t.val, 0]
    ∧ (pcfg0.win (adm m hO) (7 : Fin (cfgM m hO).W)).index t = ![t.val, 0]
    ∧ (pcfg0.win (adm m hO) (8 : Fin (cfgM m hO).W)).index t = ![t.val, 0]
    ∧ (pcfg0.win (adm m hO) (9 : Fin (cfgM m hO).W)).index t = ![t.val, 0]
    ∧ (pcfg0.win (adm m hO) (10 : Fin (cfgM m hO).W)).index t = ![t.val, 0] := by
  have h : ∀ a : (pcfg0 (F := Ideal)).Adm, a = admitted → ∀ t : Fin (cfg0 a).N, (pcfg0.win a (0 : Fin (cfg0 a).W)).index t = ![t.val, 0]
    ∧ (pcfg0.win a (1 : Fin (cfg0 a).W)).index t = ![0, t.val, 0]
    ∧ (pcfg0.win a (2 : Fin (cfg0 a).W)).index t = ![2, t.val, 0]
    ∧ (pcfg0.win a (3 : Fin (cfg0 a).W)).index t = ![1, t.val, 0]
    ∧ (pcfg0.win a (4 : Fin (cfg0 a).W)).index t = ![3, t.val, 0]
    ∧ (pcfg0.win a (5 : Fin (cfg0 a).W)).index t = ![t.val, 0]
    ∧ (pcfg0.win a (6 : Fin (cfg0 a).W)).index t = ![t.val, 0]
    ∧ (pcfg0.win a (7 : Fin (cfg0 a).W)).index t = ![t.val, 0]
    ∧ (pcfg0.win a (8 : Fin (cfg0 a).W)).index t = ![t.val, 0]
    ∧ (pcfg0.win a (9 : Fin (cfg0 a).W)).index t = ![t.val, 0]
    ∧ (pcfg0.win a (10 : Fin (cfg0 a).W)).index t = ![t.val, 0] := by
    rintro _ rfl; exact idx_admitted
  exact h _ (adm_eq m hO)

theorem point7 (hO : Ok m) (c : Dev nD) (t : Fin (cfgM m hO).N) (y) : k0_pay2 (iblk m hO c 1 t) (iblk m hO c 2 t) (iblk m hO c 3 t) (iblk m hO c 4 t) y
    = Cert.Reference24Ideal.Hand.gradComing (m ((c : Thread nD τ).loc main_arg1)) (m ((c : Thread nD τ).loc main_arg2)) ((((cfgM m hO).win 7).blk t).view.emb y) := by
  obtain ⟨e0, e1, e2, e3, e4, e5, e6, e7, e8, e9, e10⟩ := idx m hO t
  pointwise [k0_pay1, k0_pay2, k0_pay3, k0_pay4, k0_pay5, k0_pay6, Cert.Reference24Ideal.Hand.gradComing, Cert.Reference24Ideal.Hand.grad]
  blk_point [iblk, V, e0, e1, e2, e3, e4, e5, e6, e7, e8, e9, e10]

theorem after_eq7 (hO : Ok m) (c : Dev nD) (t : Fin (cfgM m hO).N) : (dats m hO 0 c).after 7 t = k0_pay2 (iblk m hO c 1 t) (iblk m hO c 2 t) (iblk m hO c 3 t) (iblk m hO c 4 t) := by
  funext y
  rw [after0_7]; unfold outsAt0; frame_out
  exact congrFun (congr (congr (congr (congrArg k0_pay2 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) y

theorem covers7 (hO : Ok m) : ((cfgM m hO).win 7).Covers := by
  have h : ∀ a : (pcfg0 (F := Ideal)).Adm, a = admitted → ((cfg0 a).win 7).Covers := by
    rintro _ rfl; decide +kernel
  exact h _ (adm_eq m hO)

theorem final7 (hO : Ok m) (c : Dev nD) : (dats m hO 0 c).arrAt 7 (cfgM m hO).N
    = Cert.Reference24Ideal.Hand.grad (m ((c : Thread nD τ).loc main_arg1)) (m ((c : Thread nD τ).loc main_arg2)) := by
  rw [← Cert.Reference24Ideal.Hand.grad_eq]
  exact (dats m hO 0 c).arrAt_eq_of_covers 7 _ (covers7 m hO) fun t _ y => by
    blk_simp
    rw [after_eq7]
    exact point7 m hO c t y

theorem point8 (hO : Ok m) (c : Dev nD) (t : Fin (cfgM m hO).N) (y) : k0_pay1 (iblk m hO c 0 t) (k0_pay5 (iblk m hO c 1 t) (iblk m hO c 2 t) (iblk m hO c 3 t) (iblk m hO c 4 t) (iblk m hO c 5 t)) (k0_pay6 (iblk m hO c 1 t) (iblk m hO c 2 t) (iblk m hO c 3 t) (iblk m hO c 4 t) (iblk m hO c 6 t)) (Scalar.ofBits .f32 0x322BCC77#32) y
    = Cert.Reference24Ideal.Hand.delta (m ((c : Thread nD τ).loc main_arg0)) (Cert.Reference24Ideal.Hand.gradComing (m ((c : Thread nD τ).loc main_arg1)) (m ((c : Thread nD τ).loc main_arg2))) (m ((c : Thread nD τ).loc main_arg3)) (m ((c : Thread nD τ).loc main_arg4)) ((((cfgM m hO).win 8).blk t).view.emb y) := by
  obtain ⟨e0, e1, e2, e3, e4, e5, e6, e7, e8, e9, e10⟩ := idx m hO t
  pointwise [k0_pay1, k0_pay2, k0_pay3, k0_pay4, k0_pay5, k0_pay6, Cert.Reference24Ideal.Hand.gradComing, Cert.Reference24Ideal.Hand.delta]
  blk_point [iblk, V, e0, e1, e2, e3, e4, e5, e6, e7, e8, e9, e10]

theorem after_eq8 (hO : Ok m) (c : Dev nD) (t : Fin (cfgM m hO).N) : (dats m hO 0 c).after 8 t = k0_pay1 (iblk m hO c 0 t) (k0_pay5 (iblk m hO c 1 t) (iblk m hO c 2 t) (iblk m hO c 3 t) (iblk m hO c 4 t) (iblk m hO c 5 t)) (k0_pay6 (iblk m hO c 1 t) (iblk m hO c 2 t) (iblk m hO c 3 t) (iblk m hO c 4 t) (iblk m hO c 6 t)) (Scalar.ofBits .f32 0x322BCC77#32) := by
  funext y
  rw [after0_8]; unfold outsAt0; frame_out
  exact congrFun (congrFun (congr (congr (congrArg k0_pay1 ((hs0_0 m hO t).read_unread (iblk m hO c 0 t))) (congr (congr (congr (congr (congrArg k0_pay5 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_5 m hO t).read_unread (iblk m hO c 5 t)))) (congr (congr (congr (congr (congrArg k0_pay6 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_6 m hO t).read_unread (iblk m hO c 6 t)))) _) y

theorem covers8 (hO : Ok m) : ((cfgM m hO).win 8).Covers := by
  have h : ∀ a : (pcfg0 (F := Ideal)).Adm, a = admitted → ((cfg0 a).win 8).Covers := by
    rintro _ rfl; decide +kernel
  exact h _ (adm_eq m hO)

theorem final8 (hO : Ok m) (c : Dev nD) : (dats m hO 0 c).arrAt 8 (cfgM m hO).N
    = Cert.Reference24Ideal.Hand.delta (m ((c : Thread nD τ).loc main_arg0)) (Cert.Reference24Ideal.Hand.grad (m ((c : Thread nD τ).loc main_arg1)) (m ((c : Thread nD τ).loc main_arg2))) (m ((c : Thread nD τ).loc main_arg3)) (m ((c : Thread nD τ).loc main_arg4)) := by
  rw [← Cert.Reference24Ideal.Hand.grad_eq]
  exact (dats m hO 0 c).arrAt_eq_of_covers 8 _ (covers8 m hO) fun t _ y => by
    blk_simp
    rw [after_eq8]
    exact point8 m hO c t y

theorem point9 (hO : Ok m) (c : Dev nD) (t : Fin (cfgM m hO).N) (y) : k0_pay3 (iblk m hO c 1 t) (iblk m hO c 2 t) (iblk m hO c 3 t) (iblk m hO c 4 t) (iblk m hO c 5 t) y
    = Cert.Reference24Ideal.Hand.mean (Cert.Reference24Ideal.Hand.gradComing (m ((c : Thread nD τ).loc main_arg1)) (m ((c : Thread nD τ).loc main_arg2))) (m ((c : Thread nD τ).loc main_arg3)) ((((cfgM m hO).win 9).blk t).view.emb y) := by
  obtain ⟨e0, e1, e2, e3, e4, e5, e6, e7, e8, e9, e10⟩ := idx m hO t
  pointwise [k0_pay1, k0_pay2, k0_pay3, k0_pay4, k0_pay5, k0_pay6, Cert.Reference24Ideal.Hand.gradComing, Cert.Reference24Ideal.Hand.mean]
  blk_point [iblk, V, e0, e1, e2, e3, e4, e5, e6, e7, e8, e9, e10]

theorem after_eq9 (hO : Ok m) (c : Dev nD) (t : Fin (cfgM m hO).N) : (dats m hO 0 c).after 9 t = k0_pay3 (iblk m hO c 1 t) (iblk m hO c 2 t) (iblk m hO c 3 t) (iblk m hO c 4 t) (iblk m hO c 5 t) := by
  funext y
  rw [after0_9]; unfold outsAt0; frame_out
  exact congrFun (congr (congr (congr (congr (congrArg k0_pay3 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_5 m hO t).read_unread (iblk m hO c 5 t))) y

theorem covers9 (hO : Ok m) : ((cfgM m hO).win 9).Covers := by
  have h : ∀ a : (pcfg0 (F := Ideal)).Adm, a = admitted → ((cfg0 a).win 9).Covers := by
    rintro _ rfl; decide +kernel
  exact h _ (adm_eq m hO)

theorem final9 (hO : Ok m) (c : Dev nD) : (dats m hO 0 c).arrAt 9 (cfgM m hO).N
    = Cert.Reference24Ideal.Hand.mean (Cert.Reference24Ideal.Hand.grad (m ((c : Thread nD τ).loc main_arg1)) (m ((c : Thread nD τ).loc main_arg2))) (m ((c : Thread nD τ).loc main_arg3)) := by
  rw [← Cert.Reference24Ideal.Hand.grad_eq]
  exact (dats m hO 0 c).arrAt_eq_of_covers 9 _ (covers9 m hO) fun t _ y => by
    blk_simp
    rw [after_eq9]
    exact point9 m hO c t y

theorem point10 (hO : Ok m) (c : Dev nD) (t : Fin (cfgM m hO).N) (y) : k0_pay4 (iblk m hO c 1 t) (iblk m hO c 2 t) (iblk m hO c 3 t) (iblk m hO c 4 t) (iblk m hO c 6 t) y
    = Cert.Reference24Ideal.Hand.square (Cert.Reference24Ideal.Hand.gradComing (m ((c : Thread nD τ).loc main_arg1)) (m ((c : Thread nD τ).loc main_arg2))) (m ((c : Thread nD τ).loc main_arg4)) ((((cfgM m hO).win 10).blk t).view.emb y) := by
  obtain ⟨e0, e1, e2, e3, e4, e5, e6, e7, e8, e9, e10⟩ := idx m hO t
  pointwise [k0_pay1, k0_pay2, k0_pay3, k0_pay4, k0_pay5, k0_pay6, Cert.Reference24Ideal.Hand.gradComing, Cert.Reference24Ideal.Hand.square]
  blk_point [iblk, V, e0, e1, e2, e3, e4, e5, e6, e7, e8, e9, e10]

theorem after_eq10 (hO : Ok m) (c : Dev nD) (t : Fin (cfgM m hO).N) : (dats m hO 0 c).after 10 t = k0_pay4 (iblk m hO c 1 t) (iblk m hO c 2 t) (iblk m hO c 3 t) (iblk m hO c 4 t) (iblk m hO c 6 t) := by
  funext y
  rw [after0_10]; unfold outsAt0; frame_out
  exact congrFun (congr (congr (congr (congr (congrArg k0_pay4 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_6 m hO t).read_unread (iblk m hO c 6 t))) y

theorem covers10 (hO : Ok m) : ((cfgM m hO).win 10).Covers := by
  have h : ∀ a : (pcfg0 (F := Ideal)).Adm, a = admitted → ((cfg0 a).win 10).Covers := by
    rintro _ rfl; decide +kernel
  exact h _ (adm_eq m hO)

theorem final10 (hO : Ok m) (c : Dev nD) : (dats m hO 0 c).arrAt 10 (cfgM m hO).N
    = Cert.Reference24Ideal.Hand.square (Cert.Reference24Ideal.Hand.grad (m ((c : Thread nD τ).loc main_arg1)) (m ((c : Thread nD τ).loc main_arg2))) (m ((c : Thread nD τ).loc main_arg4)) := by
  rw [← Cert.Reference24Ideal.Hand.grad_eq]
  exact (dats m hO 0 c).arrAt_eq_of_covers 10 _ (covers10 m hO) fun t _ y => by
    blk_simp
    rw [after_eq10]
    exact point10 m hO c t y

end Cert.Kernel24Ideal.Hand

namespace Cert.Proof.K24

open Idealize.ShloMosaic Idealize.ShloMosaic.TcCoe Idealize.SL.Sem

theorem frame_ideal : Cert.quiescent_Kernel24Ideal := fun m ρ _ => Cert.Kernel24Ideal.Gen.frame (F := Ideal) m ρ (Cert.Kernel24Ideal.Hand.ok m)

/-- The kernel and its ideal form are one text: their body tables agree label by label. -/
theorem defs₀_same : Cert.Kernel24.defs₀ (F := Bits) = Cert.Kernel24Ideal.defs₀ (F := Bits) := by
  refine congrArg Defs.onTc (funext fun l => funext fun x => ?_)
  match l, x with
  | 0, (t, s) => rfl

theorem defs_same : Cert.Kernel24.defs (F := Bits) = Cert.Kernel24Ideal.defs (F := Bits) :=
  congrArg (Pipeline.defs (Cert.Kernel24Ideal.pcfgs (F := Bits))) defs₀_same

theorem main_same : Cert.Kernel24.main (F := Bits) = Cert.Kernel24Ideal.main (F := Bits) := rfl

theorem frame_kernel : Cert.quiescent_Kernel24 := fun m ρ _ => by
  have h := Cert.Kernel24Ideal.Gen.frame (F := Bits) m ρ (Cert.Kernel24Ideal.Hand.ok_bits m)
  rw [← defs_same, ← main_same] at h
  exact h

theorem frame_reference : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem algebraic : Cert.algebraic_Kernel24Ideal_Reference24Ideal := by
  intro m ρ m' ρ' _ hagree
  refine ⟨fun c => Cert.Reference24Ideal.Hand.grad (m (c.tc.loc Cert.Kernel24Ideal.main_arg1)) (m (c.tc.loc Cert.Kernel24Ideal.main_arg2)),
    fun c => Cert.Reference24Ideal.Hand.delta (m (c.tc.loc Cert.Kernel24Ideal.main_arg0)) (Cert.Reference24Ideal.Hand.grad (m (c.tc.loc Cert.Kernel24Ideal.main_arg1)) (m (c.tc.loc Cert.Kernel24Ideal.main_arg2))) (m (c.tc.loc Cert.Kernel24Ideal.main_arg3)) (m (c.tc.loc Cert.Kernel24Ideal.main_arg4)),
    fun c => Cert.Reference24Ideal.Hand.mean (Cert.Reference24Ideal.Hand.grad (m (c.tc.loc Cert.Kernel24Ideal.main_arg1)) (m (c.tc.loc Cert.Kernel24Ideal.main_arg2))) (m (c.tc.loc Cert.Kernel24Ideal.main_arg3)),
    fun c => Cert.Reference24Ideal.Hand.square (Cert.Reference24Ideal.Hand.grad (m (c.tc.loc Cert.Kernel24Ideal.main_arg1)) (m (c.tc.loc Cert.Kernel24Ideal.main_arg2))) (m (c.tc.loc Cert.Kernel24Ideal.main_arg4)), ?_, ?_⟩
  · have h1 := Cert.Kernel24Ideal.Gen.run_main (F := Ideal) m ρ (Cert.Kernel24Ideal.Hand.ok m)
    have h2 := Cert.Kernel24Ideal.Gen.unchanged (F := Ideal) m ρ (Cert.Kernel24Ideal.Hand.ok m)
    exact (θ_run Cert.Kernel24Ideal.defs _ _).mono (fun _ h c => ⟨((h.1 c).1 7).trans (Cert.Kernel24Ideal.Hand.final7 m _ c),
      ((h.1 c).1 8).trans (Cert.Kernel24Ideal.Hand.final8 m _ c), ((h.1 c).1 9).trans (Cert.Kernel24Ideal.Hand.final9 m _ c),
      ((h.1 c).1 10).trans (Cert.Kernel24Ideal.Hand.final10 m _ c), h.2 c⟩) (θ_run_and h1 h2)
  refine (θ_run Cert.Reference24Ideal.defs _ _).mono (fun _ h c => ⟨(h c).1.trans ?_, (h c).2.1.trans ?_, (h c).2.2.1.trans ?_, (h c).2.2.2.1.trans ?_, (h c).2.2.2.2⟩)
    (Cert.Reference24Ideal.Value.run (F := Ideal) m' ρ')
  · rw [(hagree c).2.1, (hagree c).2.2.1]
    rfl
  · rw [(hagree c).1, (hagree c).2.1, (hagree c).2.2.1, (hagree c).2.2.2.1, (hagree c).2.2.2.2]
    rfl
  · rw [(hagree c).2.1, (hagree c).2.2.1, (hagree c).2.2.2.1]
    rfl
  · rw [(hagree c).2.1, (hagree c).2.2.1, (hagree c).2.2.2.2]
    rfl

end Cert.Proof.K24

end
-- ==== Proof.Ew25.lean ====
/-
  The step of w_out: the gradient as the sum of four chips' shares, and the three other results, entry by entry; the two of the shares
  that change places are summed in another order. With the frames.
-/
module

public import proofs.«01_k».proof.Defs
public import proofs.«01_k».proof.Proof.Gen.Kernel25
public import proofs.«01_k».proof.Proof.Gen.Kernel25Ideal.Frame
public import proofs.«01_k».proof.Proof.Gen.Reference25Ideal.Run
public import Idealize.ShloMosaic.Lib.Pipeline.ValueKit
public import Idealize.ShloMosaic.Lib.Quiescent

@[expose] public section

set_option maxRecDepth 16384
set_option maxHeartbeats 2000000

noncomputable section

namespace Cert.Reference25Ideal.Hand

open Cert.Reference25Ideal Cert.Reference25Ideal.Gen
open Idealize.ShloMosaic

/-- The gradient: the sum of the four chips' shares in their order. -/
def grad (x1 : FVec Ideal S4x256x2048 .bf16) (x2 : FVec Ideal S4x256x2048 .bf16) : FVec Ideal S256x2048 .f32 :=
  addf (addf (addf (extf .f32 (shapeCast _ (extractStridedSlice S1x256x2048 ![0, 0, 0] x1 slices_S4x256x2048_S1x256x2048_0_0_0) shapeCasts_S1x256x2048_S256x2048) bitsLt_bf16_f32) (extf .f32 (shapeCast _ (extractStridedSlice S1x256x2048 ![1, 0, 0] x2 slices_S4x256x2048_S1x256x2048_1_0_0) shapeCasts_S1x256x2048_S256x2048) bitsLt_bf16_f32)) (extf .f32 (shapeCast _ (extractStridedSlice S1x256x2048 ![2, 0, 0] x2 slices_S4x256x2048_S1x256x2048_2_0_0) shapeCasts_S1x256x2048_S256x2048) bitsLt_bf16_f32)) (extf .f32 (shapeCast _ (extractStridedSlice S1x256x2048 ![3, 0, 0] x2 slices_S4x256x2048_S1x256x2048_3_0_0) shapeCasts_S1x256x2048_S256x2048) bitsLt_bf16_f32)

/-- The same sum in the order in which the copies come. -/
def gradComing (x1 : FVec Ideal S4x256x2048 .bf16) (x2 : FVec Ideal S4x256x2048 .bf16) : FVec Ideal S256x2048 .f32 :=
  addf (addf (addf (extf .f32 (shapeCast _ (extractStridedSlice S1x256x2048 ![0, 0, 0] x1 slices_S4x256x2048_S1x256x2048_0_0_0) shapeCasts_S1x256x2048_S256x2048) bitsLt_bf16_f32) (extf .f32 (shapeCast _ (extractStridedSlice S1x256x2048 ![2, 0, 0] x2 slices_S4x256x2048_S1x256x2048_2_0_0) shapeCasts_S1x256x2048_S256x2048) bitsLt_bf16_f32)) (extf .f32 (shapeCast _ (extractStridedSlice S1x256x2048 ![1, 0, 0] x2 slices_S4x256x2048_S1x256x2048_1_0_0) shapeCasts_S1x256x2048_S256x2048) bitsLt_bf16_f32)) (extf .f32 (shapeCast _ (extractStridedSlice S1x256x2048 ![3, 0, 0] x2 slices_S4x256x2048_S1x256x2048_3_0_0) shapeCasts_S1x256x2048_S256x2048) bitsLt_bf16_f32)

theorem grad_eq (x1 : FVec Ideal S4x256x2048 .bf16) (x2 : FVec Ideal S4x256x2048 .bf16) : gradComing x1 x2 = grad x1 x2 :=
  funext fun i => congrArg₂ (· + ·) (add_right_comm (G := EReal) _ _ _) rfl

/-! The step over the gradient. -/

def delta (x0 : FVec Ideal S256x2048 .f32) (g : FVec Ideal S256x2048 .f32) (x3 : FVec Ideal S256x2048 .f32) (x4 : FVec Ideal S256x2048 .f32) : FVec Ideal S256x2048 .f32 :=
  mulf (broadcastInDim S256x2048 ![] bcast_S_S256x2048 (constant S_ .f32 0xBA83126F#32)) (addf (Host.divf (Host.divf (addf (mulf (broadcastInDim S256x2048 ![] bcast_S_S256x2048 (constant S_ .f32 0x3F666666#32)) x3) (mulf (broadcastInDim S256x2048 ![] bcast_S_S256x2048 (constant S_ .f32 0x3DCCCCCD#32)) g)) (broadcastInDim S256x2048 ![] bcast_S_S256x2048 (constant S_ .f32 0x3F26BD02#32))) (addf (Host.sqrt (Host.divf (addf (mulf (broadcastInDim S256x2048 ![] bcast_S_S256x2048 (constant S_ .f32 0x3F7FBE77#32)) x4) (mulf (broadcastInDim S256x2048 ![] bcast_S_S256x2048 (constant S_ .f32 0x3A83126F#32)) (mulf g g))) (broadcastInDim S256x2048 ![] bcast_S_S256x2048 (constant S_ .f32 0x3C231ACC#32)))) (broadcastInDim S256x2048 ![] bcast_S_S256x2048 (constant S_ .f32 0x322BCC77#32)))) (mulf (broadcastInDim S256x2048 ![] bcast_S_S256x2048 (constant S_ .f32 0x3C23D70A#32)) x0))

def mean (g : FVec Ideal S256x2048 .f32) (x3 : FVec Ideal S256x2048 .f32) : FVec Ideal S256x2048 .f32 :=
  addf (mulf (broadcastInDim S256x2048 ![] bcast_S_S256x2048 (constant S_ .f32 0x3F666666#32)) x3) (mulf (broadcastInDim S256x2048 ![] bcast_S_S256x2048 (constant S_ .f32 0x3DCCCCCD#32)) g)

def square (g : FVec Ideal S256x2048 .f32) (x4 : FVec Ideal S256x2048 .f32) : FVec Ideal S256x2048 .f32 :=
  addf (mulf (broadcastInDim S256x2048 ![] bcast_S_S256x2048 (constant S_ .f32 0x3F7FBE77#32)) x4) (mulf (broadcastInDim S256x2048 ![] bcast_S_S256x2048 (constant S_ .f32 0x3A83126F#32)) (mulf g g))

end Cert.Reference25Ideal.Hand

namespace Cert.Kernel25Ideal.Hand

open Cert.Kernel25Ideal Cert.Kernel25Ideal.Gen
open Idealize.ShloMosaic Idealize.ShloMosaic.TcCoe Idealize.SL.Sem
open Idealize.ShloMosaic.Pipeline (Dat)

section Tables

variable {F : FTy → Type} [FloatOps F]

set_option backward.proofsInPublic true in
/-- The table's words, as the host wrote them. -/
def words : pre0.Contents (Elt F) := fun | ⟨0, _⟩ => fun i => lit0 (S4.rowMajor i) | ⟨_ + 1, h⟩ => absurd h (by simp)

variable (m : (ℓ : Loc nD τ sig) → Buf (Elt F) ℓ)

/-- The region finds the table as the host wrote it. -/
theorem tbl_words : tbl m = words := by
  funext j
  match j with
  | ⟨0, _⟩ =>
    show StableHlo.after hostOps0 (fun b => m (0, b)) main_c = _
    after_results <;> rfl

end Tables

/-- Each block the table places is inside its array. -/
theorem ok_words : ok0 (F := Ideal) words := by decide +kernel

theorem ok (m : (ℓ : Loc nD τ sig) → Buf (Elt Ideal) ℓ) : Ok m := by unfold Ok; rw [tbl_words]; exact ok_words

theorem ok_words_bits : ok0 (F := Bits) words := by decide +kernel

theorem ok_bits (m : (ℓ : Loc nD τ sig) → Buf (Elt Bits) ℓ) : Ok m := by unfold Ok; rw [tbl_words]; exact ok_words_bits

variable (m : (ℓ : Loc nD τ sig) → Buf (Elt Ideal) ℓ)

/-- The table's words, as contents the pipeline admits. -/
def admitted : (pcfg0 (F := Ideal)).Adm := ⟨words, ok_words⟩

theorem adm_eq (hO : Ok m) : adm m hO = admitted := Subtype.ext (tbl_words m)

theorem idx_admitted : ∀ t : Fin (cfg0 (F := Ideal) admitted).N, (pcfg0.win admitted (0 : Fin (cfg0 (F := Ideal) admitted).W)).index t = ![t.val, 0]
    ∧ (pcfg0.win admitted (1 : Fin (cfg0 (F := Ideal) admitted).W)).index t = ![0, t.val, 0]
    ∧ (pcfg0.win admitted (2 : Fin (cfg0 (F := Ideal) admitted).W)).index t = ![2, t.val, 0]
    ∧ (pcfg0.win admitted (3 : Fin (cfg0 (F := Ideal) admitted).W)).index t = ![1, t.val, 0]
    ∧ (pcfg0.win admitted (4 : Fin (cfg0 (F := Ideal) admitted).W)).index t = ![3, t.val, 0]
    ∧ (pcfg0.win admitted (5 : Fin (cfg0 (F := Ideal) admitted).W)).index t = ![t.val, 0]
    ∧ (pcfg0.win admitted (6 : Fin (cfg0 (F := Ideal) admitted).W)).index t = ![t.val, 0]
    ∧ (pcfg0.win admitted (7 : Fin (cfg0 (F := Ideal) admitted).W)).index t = ![t.val, 0]
    ∧ (pcfg0.win admitted (8 : Fin (cfg0 (F := Ideal) admitted).W)).index t = ![t.val, 0]
    ∧ (pcfg0.win admitted (9 : Fin (cfg0 (F := Ideal) admitted).W)).index t = ![t.val, 0]
    ∧ (pcfg0.win admitted (10 : Fin (cfg0 (F := Ideal) admitted).W)).index t = ![t.val, 0] :=
  (by decide +kernel : ∀ t : Fin grid0.N, _)

theorem idx (hO : Ok m) : ∀ t : Fin (cfgM m hO).N, (pcfg0.win (adm m hO) (0 : Fin (cfgM m hO).W)).index t = ![t.val, 0]
    ∧ (pcfg0.win (adm m hO) (1 : Fin (cfgM m hO).W)).index t = ![0, t.val, 0]
    ∧ (pcfg0.win (adm m hO) (2 : Fin (cfgM m hO).W)).index t = ![2, t.val, 0]
    ∧ (pcfg0.win (adm m hO) (3 : Fin (cfgM m hO).W)).index t = ![1, t.val, 0]
    ∧ (pcfg0.win (adm m hO) (4 : Fin (cfgM m hO).W)).index t = ![3, t.val, 0]
    ∧ (pcfg0.win (adm m hO) (5 : Fin (cfgM m hO).W)).index t = ![t.val, 0]
    ∧ (pcfg0.win (adm m hO) (6 : Fin (cfgM m hO).W)).index t = ![t.val, 0]
    ∧ (pcfg0.win (adm m hO) (7 : Fin (cfgM m hO).W)).index t = ![t.val, 0]
    ∧ (pcfg0.win (adm m hO) (8 : Fin (cfgM m hO).W)).index t = ![t.val, 0]
    ∧ (pcfg0.win (adm m hO) (9 : Fin (cfgM m hO).W)).index t = ![t.val, 0]
    ∧ (pcfg0.win (adm m hO) (10 : Fin (cfgM m hO).W)).index t = ![t.val, 0] := by
  have h : ∀ a : (pcfg0 (F := Ideal)).Adm, a = admitted → ∀ t : Fin (cfg0 a).N, (pcfg0.win a (0 : Fin (cfg0 a).W)).index t = ![t.val, 0]
    ∧ (pcfg0.win a (1 : Fin (cfg0 a).W)).index t = ![0, t.val, 0]
    ∧ (pcfg0.win a (2 : Fin (cfg0 a).W)).index t = ![2, t.val, 0]
    ∧ (pcfg0.win a (3 : Fin (cfg0 a).W)).index t = ![1, t.val, 0]
    ∧ (pcfg0.win a (4 : Fin (cfg0 a).W)).index t = ![3, t.val, 0]
    ∧ (pcfg0.win a (5 : Fin (cfg0 a).W)).index t = ![t.val, 0]
    ∧ (pcfg0.win a (6 : Fin (cfg0 a).W)).index t = ![t.val, 0]
    ∧ (pcfg0.win a (7 : Fin (cfg0 a).W)).index t = ![t.val, 0]
    ∧ (pcfg0.win a (8 : Fin (cfg0 a).W)).index t = ![t.val, 0]
    ∧ (pcfg0.win a (9 : Fin (cfg0 a).W)).index t = ![t.val, 0]
    ∧ (pcfg0.win a (10 : Fin (cfg0 a).W)).index t = ![t.val, 0] := by
    rintro _ rfl; exact idx_admitted
  exact h _ (adm_eq m hO)

theorem point7 (hO : Ok m) (c : Dev nD) (t : Fin (cfgM m hO).N) (y) : k0_pay2 (iblk m hO c 1 t) (iblk m hO c 2 t) (iblk m hO c 3 t) (iblk m hO c 4 t) y
    = Cert.Reference25Ideal.Hand.gradComing (m ((c : Thread nD τ).loc main_arg1)) (m ((c : Thread nD τ).loc main_arg2)) ((((cfgM m hO).win 7).blk t).view.emb y) := by
  obtain ⟨e0, e1, e2, e3, e4, e5, e6, e7, e8, e9, e10⟩ := idx m hO t
  pointwise [k0_pay1, k0_pay2, k0_pay3, k0_pay4, k0_pay5, k0_pay6, Cert.Reference25Ideal.Hand.gradComing, Cert.Reference25Ideal.Hand.grad]
  blk_point [iblk, V, e0, e1, e2, e3, e4, e5, e6, e7, e8, e9, e10]

theorem after_eq7 (hO : Ok m) (c : Dev nD) (t : Fin (cfgM m hO).N) : (dats m hO 0 c).after 7 t = k0_pay2 (iblk m hO c 1 t) (iblk m hO c 2 t) (iblk m hO c 3 t) (iblk m hO c 4 t) := by
  funext y
  rw [after0_7]; unfold outsAt0; frame_out
  exact congrFun (congr (congr (congr (congrArg k0_pay2 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) y

theorem covers7 (hO : Ok m) : ((cfgM m hO).win 7).Covers := by
  have h : ∀ a : (pcfg0 (F := Ideal)).Adm, a = admitted → ((cfg0 a).win 7).Covers := by
    rintro _ rfl; decide +kernel
  exact h _ (adm_eq m hO)

theorem final7 (hO : Ok m) (c : Dev nD) : (dats m hO 0 c).arrAt 7 (cfgM m hO).N
    = Cert.Reference25Ideal.Hand.grad (m ((c : Thread nD τ).loc main_arg1)) (m ((c : Thread nD τ).loc main_arg2)) := by
  rw [← Cert.Reference25Ideal.Hand.grad_eq]
  exact (dats m hO 0 c).arrAt_eq_of_covers 7 _ (covers7 m hO) fun t _ y => by
    blk_simp
    rw [after_eq7]
    exact point7 m hO c t y

theorem point8 (hO : Ok m) (c : Dev nD) (t : Fin (cfgM m hO).N) (y) : k0_pay1 (iblk m hO c 0 t) (k0_pay5 (iblk m hO c 1 t) (iblk m hO c 2 t) (iblk m hO c 3 t) (iblk m hO c 4 t) (iblk m hO c 5 t)) (k0_pay6 (iblk m hO c 1 t) (iblk m hO c 2 t) (iblk m hO c 3 t) (iblk m hO c 4 t) (iblk m hO c 6 t)) (Scalar.ofBits .f32 0x322BCC77#32) y
    = Cert.Reference25Ideal.Hand.delta (m ((c : Thread nD τ).loc main_arg0)) (Cert.Reference25Ideal.Hand.gradComing (m ((c : Thread nD τ).loc main_arg1)) (m ((c : Thread nD τ).loc main_arg2))) (m ((c : Thread nD τ).loc main_arg3)) (m ((c : Thread nD τ).loc main_arg4)) ((((cfgM m hO).win 8).blk t).view.emb y) := by
  obtain ⟨e0, e1, e2, e3, e4, e5, e6, e7, e8, e9, e10⟩ := idx m hO t
  pointwise [k0_pay1, k0_pay2, k0_pay3, k0_pay4, k0_pay5, k0_pay6, Cert.Reference25Ideal.Hand.gradComing, Cert.Reference25Ideal.Hand.delta]
  blk_point [iblk, V, e0, e1, e2, e3, e4, e5, e6, e7, e8, e9, e10]

theorem after_eq8 (hO : Ok m) (c : Dev nD) (t : Fin (cfgM m hO).N) : (dats m hO 0 c).after 8 t = k0_pay1 (iblk m hO c 0 t) (k0_pay5 (iblk m hO c 1 t) (iblk m hO c 2 t) (iblk m hO c 3 t) (iblk m hO c 4 t) (iblk m hO c 5 t)) (k0_pay6 (iblk m hO c 1 t) (iblk m hO c 2 t) (iblk m hO c 3 t) (iblk m hO c 4 t) (iblk m hO c 6 t)) (Scalar.ofBits .f32 0x322BCC77#32) := by
  funext y
  rw [after0_8]; unfold outsAt0; frame_out
  exact congrFun (congrFun (congr (congr (congrArg k0_pay1 ((hs0_0 m hO t).read_unread (iblk m hO c 0 t))) (congr (congr (congr (congr (congrArg k0_pay5 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_5 m hO t).read_unread (iblk m hO c 5 t)))) (congr (congr (congr (congr (congrArg k0_pay6 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_6 m hO t).read_unread (iblk m hO c 6 t)))) _) y

theorem covers8 (hO : Ok m) : ((cfgM m hO).win 8).Covers := by
  have h : ∀ a : (pcfg0 (F := Ideal)).Adm, a = admitted → ((cfg0 a).win 8).Covers := by
    rintro _ rfl; decide +kernel
  exact h _ (adm_eq m hO)

theorem final8 (hO : Ok m) (c : Dev nD) : (dats m hO 0 c).arrAt 8 (cfgM m hO).N
    = Cert.Reference25Ideal.Hand.delta (m ((c : Thread nD τ).loc main_arg0)) (Cert.Reference25Ideal.Hand.grad (m ((c : Thread nD τ).loc main_arg1)) (m ((c : Thread nD τ).loc main_arg2))) (m ((c : Thread nD τ).loc main_arg3)) (m ((c : Thread nD τ).loc main_arg4)) := by
  rw [← Cert.Reference25Ideal.Hand.grad_eq]
  exact (dats m hO 0 c).arrAt_eq_of_covers 8 _ (covers8 m hO) fun t _ y => by
    blk_simp
    rw [after_eq8]
    exact point8 m hO c t y

theorem point9 (hO : Ok m) (c : Dev nD) (t : Fin (cfgM m hO).N) (y) : k0_pay3 (iblk m hO c 1 t) (iblk m hO c 2 t) (iblk m hO c 3 t) (iblk m hO c 4 t) (iblk m hO c 5 t) y
    = Cert.Reference25Ideal.Hand.mean (Cert.Reference25Ideal.Hand.gradComing (m ((c : Thread nD τ).loc main_arg1)) (m ((c : Thread nD τ).loc main_arg2))) (m ((c : Thread nD τ).loc main_arg3)) ((((cfgM m hO).win 9).blk t).view.emb y) := by
  obtain ⟨e0, e1, e2, e3, e4, e5, e6, e7, e8, e9, e10⟩ := idx m hO t
  pointwise [k0_pay1, k0_pay2, k0_pay3, k0_pay4, k0_pay5, k0_pay6, Cert.Reference25Ideal.Hand.gradComing, Cert.Reference25Ideal.Hand.mean]
  blk_point [iblk, V, e0, e1, e2, e3, e4, e5, e6, e7, e8, e9, e10]

theorem after_eq9 (hO : Ok m) (c : Dev nD) (t : Fin (cfgM m hO).N) : (dats m hO 0 c).after 9 t = k0_pay3 (iblk m hO c 1 t) (iblk m hO c 2 t) (iblk m hO c 3 t) (iblk m hO c 4 t) (iblk m hO c 5 t) := by
  funext y
  rw [after0_9]; unfold outsAt0; frame_out
  exact congrFun (congr (congr (congr (congr (congrArg k0_pay3 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_5 m hO t).read_unread (iblk m hO c 5 t))) y

theorem covers9 (hO : Ok m) : ((cfgM m hO).win 9).Covers := by
  have h : ∀ a : (pcfg0 (F := Ideal)).Adm, a = admitted → ((cfg0 a).win 9).Covers := by
    rintro _ rfl; decide +kernel
  exact h _ (adm_eq m hO)

theorem final9 (hO : Ok m) (c : Dev nD) : (dats m hO 0 c).arrAt 9 (cfgM m hO).N
    = Cert.Reference25Ideal.Hand.mean (Cert.Reference25Ideal.Hand.grad (m ((c : Thread nD τ).loc main_arg1)) (m ((c : Thread nD τ).loc main_arg2))) (m ((c : Thread nD τ).loc main_arg3)) := by
  rw [← Cert.Reference25Ideal.Hand.grad_eq]
  exact (dats m hO 0 c).arrAt_eq_of_covers 9 _ (covers9 m hO) fun t _ y => by
    blk_simp
    rw [after_eq9]
    exact point9 m hO c t y

theorem point10 (hO : Ok m) (c : Dev nD) (t : Fin (cfgM m hO).N) (y) : k0_pay4 (iblk m hO c 1 t) (iblk m hO c 2 t) (iblk m hO c 3 t) (iblk m hO c 4 t) (iblk m hO c 6 t) y
    = Cert.Reference25Ideal.Hand.square (Cert.Reference25Ideal.Hand.gradComing (m ((c : Thread nD τ).loc main_arg1)) (m ((c : Thread nD τ).loc main_arg2))) (m ((c : Thread nD τ).loc main_arg4)) ((((cfgM m hO).win 10).blk t).view.emb y) := by
  obtain ⟨e0, e1, e2, e3, e4, e5, e6, e7, e8, e9, e10⟩ := idx m hO t
  pointwise [k0_pay1, k0_pay2, k0_pay3, k0_pay4, k0_pay5, k0_pay6, Cert.Reference25Ideal.Hand.gradComing, Cert.Reference25Ideal.Hand.square]
  blk_point [iblk, V, e0, e1, e2, e3, e4, e5, e6, e7, e8, e9, e10]

theorem after_eq10 (hO : Ok m) (c : Dev nD) (t : Fin (cfgM m hO).N) : (dats m hO 0 c).after 10 t = k0_pay4 (iblk m hO c 1 t) (iblk m hO c 2 t) (iblk m hO c 3 t) (iblk m hO c 4 t) (iblk m hO c 6 t) := by
  funext y
  rw [after0_10]; unfold outsAt0; frame_out
  exact congrFun (congr (congr (congr (congr (congrArg k0_pay4 ((hs0_1 m hO t).read_unread (iblk m hO c 1 t))) ((hs0_2 m hO t).read_unread (iblk m hO c 2 t))) ((hs0_3 m hO t).read_unread (iblk m hO c 3 t))) ((hs0_4 m hO t).read_unread (iblk m hO c 4 t))) ((hs0_6 m hO t).read_unread (iblk m hO c 6 t))) y

theorem covers10 (hO : Ok m) : ((cfgM m hO).win 10).Covers := by
  have h : ∀ a : (pcfg0 (F := Ideal)).Adm, a = admitted → ((cfg0 a).win 10).Covers := by
    rintro _ rfl; decide +kernel
  exact h _ (adm_eq m hO)

theorem final10 (hO : Ok m) (c : Dev nD) : (dats m hO 0 c).arrAt 10 (cfgM m hO).N
    = Cert.Reference25Ideal.Hand.square (Cert.Reference25Ideal.Hand.grad (m ((c : Thread nD τ).loc main_arg1)) (m ((c : Thread nD τ).loc main_arg2))) (m ((c : Thread nD τ).loc main_arg4)) := by
  rw [← Cert.Reference25Ideal.Hand.grad_eq]
  exact (dats m hO 0 c).arrAt_eq_of_covers 10 _ (covers10 m hO) fun t _ y => by
    blk_simp
    rw [after_eq10]
    exact point10 m hO c t y

end Cert.Kernel25Ideal.Hand

namespace Cert.Proof.K25

open Idealize.ShloMosaic Idealize.ShloMosaic.TcCoe Idealize.SL.Sem

theorem frame_ideal : Cert.quiescent_Kernel25Ideal := fun m ρ _ => Cert.Kernel25Ideal.Gen.frame (F := Ideal) m ρ (Cert.Kernel25Ideal.Hand.ok m)

/-- The kernel and its ideal form are one text: their body tables agree label by label. -/
theorem defs₀_same : Cert.Kernel25.defs₀ (F := Bits) = Cert.Kernel25Ideal.defs₀ (F := Bits) := by
  refine congrArg Defs.onTc (funext fun l => funext fun x => ?_)
  match l, x with
  | 0, (t, s) => rfl

theorem defs_same : Cert.Kernel25.defs (F := Bits) = Cert.Kernel25Ideal.defs (F := Bits) :=
  congrArg (Pipeline.defs (Cert.Kernel25Ideal.pcfgs (F := Bits))) defs₀_same

theorem main_same : Cert.Kernel25.main (F := Bits) = Cert.Kernel25Ideal.main (F := Bits) := rfl

theorem frame_kernel : Cert.quiescent_Kernel25 := fun m ρ _ => by
  have h := Cert.Kernel25Ideal.Gen.frame (F := Bits) m ρ (Cert.Kernel25Ideal.Hand.ok_bits m)
  rw [← defs_same, ← main_same] at h
  exact h

theorem frame_reference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem algebraic : Cert.algebraic_Kernel25Ideal_Reference25Ideal := by
  intro m ρ m' ρ' _ hagree
  refine ⟨fun c => Cert.Reference25Ideal.Hand.grad (m (c.tc.loc Cert.Kernel25Ideal.main_arg1)) (m (c.tc.loc Cert.Kernel25Ideal.main_arg2)),
    fun c => Cert.Reference25Ideal.Hand.delta (m (c.tc.loc Cert.Kernel25Ideal.main_arg0)) (Cert.Reference25Ideal.Hand.grad (m (c.tc.loc Cert.Kernel25Ideal.main_arg1)) (m (c.tc.loc Cert.Kernel25Ideal.main_arg2))) (m (c.tc.loc Cert.Kernel25Ideal.main_arg3)) (m (c.tc.loc Cert.Kernel25Ideal.main_arg4)),
    fun c => Cert.Reference25Ideal.Hand.mean (Cert.Reference25Ideal.Hand.grad (m (c.tc.loc Cert.Kernel25Ideal.main_arg1)) (m (c.tc.loc Cert.Kernel25Ideal.main_arg2))) (m (c.tc.loc Cert.Kernel25Ideal.main_arg3)),
    fun c => Cert.Reference25Ideal.Hand.square (Cert.Reference25Ideal.Hand.grad (m (c.tc.loc Cert.Kernel25Ideal.main_arg1)) (m (c.tc.loc Cert.Kernel25Ideal.main_arg2))) (m (c.tc.loc Cert.Kernel25Ideal.main_arg4)), ?_, ?_⟩
  · have h1 := Cert.Kernel25Ideal.Gen.run_main (F := Ideal) m ρ (Cert.Kernel25Ideal.Hand.ok m)
    have h2 := Cert.Kernel25Ideal.Gen.unchanged (F := Ideal) m ρ (Cert.Kernel25Ideal.Hand.ok m)
    exact (θ_run Cert.Kernel25Ideal.defs _ _).mono (fun _ h c => ⟨((h.1 c).1 7).trans (Cert.Kernel25Ideal.Hand.final7 m _ c),
      ((h.1 c).1 8).trans (Cert.Kernel25Ideal.Hand.final8 m _ c), ((h.1 c).1 9).trans (Cert.Kernel25Ideal.Hand.final9 m _ c),
      ((h.1 c).1 10).trans (Cert.Kernel25Ideal.Hand.final10 m _ c), h.2 c⟩) (θ_run_and h1 h2)
  refine (θ_run Cert.Reference25Ideal.defs _ _).mono (fun _ h c => ⟨(h c).1.trans ?_, (h c).2.1.trans ?_, (h c).2.2.1.trans ?_, (h c).2.2.2.1.trans ?_, (h c).2.2.2.2⟩)
    (Cert.Reference25Ideal.Value.run (F := Ideal) m' ρ')
  · rw [(hagree c).2.1, (hagree c).2.2.1]
    rfl
  · rw [(hagree c).1, (hagree c).2.1, (hagree c).2.2.1, (hagree c).2.2.2.1, (hagree c).2.2.2.2]
    rfl
  · rw [(hagree c).2.1, (hagree c).2.2.1, (hagree c).2.2.2.1]
    rfl
  · rw [(hagree c).2.1, (hagree c).2.2.1, (hagree c).2.2.2.2]
    rfl

end Cert.Proof.K25

end
-- ==== Proof.Ew26.lean ====
/-
  The step of w_up: the gradient as the sum of four chips' shares, and the three other results, entry by entry; the two of the shares
  that change places are summed in another order. With the frames.
-/
module

public import proofs.«01_k».proof.Defs
public import proofs.«01_k».proof.Proof.Gen.Kernel26
public import proofs.«01_k».proof.Proof.Gen.Kernel26Ideal.Frame
public import proofs.«01_k».proof.Proof.Gen.Reference26Ideal.Run
public import Idealize.ShloMosaic.Lib.Pipeline.ValueKit
public import Idealize.ShloMosaic.Lib.Quiescent

@[expose] public section

set_option maxRecDepth 16384
set_option maxHeartbeats 2000000

noncomputable section

namespace Cert.Reference26Ideal.Hand

open Cert.Reference26Ideal Cert.Reference26Ideal.Gen
open Idealize.ShloMosaic

/-- The gradient: the sum of the four chips' shares in their order. -/
def grad (x1 : FVec Ideal S4x1408x2048 .bf16) (x2 : FVec Ideal S4x1408x2048 .bf16) : FVec Ideal S1376x2048 .f32 :=
  addf (addf (addf (extf .f32 (shapeCast _ (extractStridedSlice S1x1376x2048 ![0, 0, 0] x1 slices_S4x1408x2048_S1x1376x2048_0_0_0) shapeCasts_S1x1376x2048_S1376x2048) bitsLt_bf16_f32) (extf .f32 (shapeCast _ (extractStridedSlice S1x1376x2048 ![1, 0, 0] x2 slices_S4x1408x2048_S1x1376x2048_1_0_0) shapeCasts_S1x1376x2048_S1376x2048) bitsLt_bf16_f32)) (extf .f32 (shapeCast _ (extractStridedSlice S1x1376x2048 ![2, 0, 0] x2 slices_S4x1408x2048_S1x1376x2048_2_0_0) shapeCasts_S1x1376x2048_S1376x2048) bitsLt_bf16_f32)) (extf .f32 (shapeCast _ (extractStridedSlice S1x1376x2048 ![3, 0, 0] x2 slices_S4x1408x2048_S1x1376x2048_3_0_0) shapeCasts_S1x1376x2048_S1376x2048) bitsLt_bf16_f32)

/-- The same sum in the order in which the copies come. -/
def gradComing (x1 : FVec Ideal S4x1408x2048 .bf16) (x2 : FVec Ideal S4x1408x2048 .bf16) : FVec Ideal S1376x2048 .f32 :=
  addf (addf (addf (extf .f32 (shapeCast _ (extractStridedSlice S1x1376x2048 ![0, 0, 0] x1 slices_S4x1408x2048_S1x1376x2048_0_0_0) shapeCasts_S1x1376x2048_S1376x2048) bitsLt_bf16_f32) (extf .f32 (shapeCast _ (extractStridedSlice S1x1376x2048 ![2, 0, 0] x2 slices_S4x1408x2048_S1x1376x2048_2_0_0) shapeCasts_S1x1376x2048_S1376x2048) bitsLt_bf16_f32)) (extf .f32 (shapeCast _ (extractStridedSlice S1x1376x2048 ![1, 0, 0] x2 slices_S4x1408x2048_S1x1376x2048_1_0_0) shapeCasts_S1x1376x2048_S1376x2048) bitsLt_bf16_f32)) (extf .f32 (shapeCast _ (extractStridedSlice S1x1376x2048 ![3, 0, 0] x2 slices_S4x1408x2048_S1x1376x2048_3_0_0) shapeCasts_S1x1376x2048_S1376x2048) bitsLt_bf16_f32)

theorem grad_eq (x1 : FVec Ideal S4x1408x2048 .bf16) (x2 : FVec Ideal S4x1408x2048 .bf16) : gradComing x1 x2 = grad x1 x2 :=
  funext fun i => congrArg₂ (· + ·) (add_right_comm (G := EReal) _ _ _) rfl

/-! The step over the gradient. -/

def delta (x0 : FVec Ideal S1376x2048 .f32) (g : FVec Ideal S1376x2048 .f32) (x3 : FVec Ideal S1376x2048 .f32) (x4 : FVec Ideal S1376x2048 .f32) : FVec Ideal S1376x2048 .f32 :=
  mulf (broadcastInDim S1376x2048 ![] bcast_S_S1376x2048 (constant S_ .f32 0xBA83126F#32)) (addf (Host.divf (Host.divf (addf (mulf (broadcastInDim S1376x2048 ![] bcast_S_S1376x2048 (constant S_ .f32 0x3F666666#32)) x3) (mulf (broadcastInDim S1376x2048 ![] bcast_S_S1376x2048 (constant S_ .f32 0x3DCCCCCD#32)) g)) (broadcastInDim S1376x2048 ![] bcast_S_S1376x2048 (constant S_ .f32 0x3F26BD02#32))) (addf (Host.sqrt (Host.divf (addf (mulf (broadcastInDim S1376x2048 ![] bcast_S_S1376x2048 (constant S_ .f32 0x3F7FBE77#32)) x4) (mulf (broadcastInDim S1376x2048 ![] bcast_S_S1376x2048 (constant S_ .f32 0x3A83126F#32)) (mulf g g))) (broadcastInDim S1376x2048 ![] bcast_S_S1376x2048 (constant S_ .f32 0x3C231ACC#32)))) (broadcastInDim S1376x2048 ![] bcast_S_S1376x2048 (constant S_ .f32 0x322BCC77#32)))) (mulf (broadcastInDim S1376x2048 ![] bcast_S_S1376x2048 (constant S_ .f32 0x3C23D70A#32)) x0))

def mean (g : FVec Ideal S1376x2048 .f32) (x3 : FVec Ideal S1376x2048 .f32) : FVec Ideal S1376x2048 .f32 :=
  addf (mulf (broadcastInDim S1376x2048 ![] bcast_S_S1376x2048 (constant S_ .f32 0x3F666666#32)) x3) (mulf (broadcastInDim S1376x2048 ![] bcast_S_S1376x2048 (constant S_ .f32 0x3DCCCCCD#32)) g)

def square (g : FVec Ideal S1376x2048 .f32) (x4 : FVec Ideal S1376x2048 .f32) : FVec Ideal S1376x2048 .f32 :=
  addf (mulf (broadcastInDim S1376x2048 ![] bcast_S_S1376x2048 (constant S_ .f32 0x3F7FBE77#32)) x4) (mulf (broadcastInDim S1376x2048 ![] bcast_S_S1376x2048 (constant S_ .f32 0x3A83126F#32)) (mulf g g))

end Cert.Reference26Ideal.Hand

namespace Cert.Kernel26Ideal.Hand

open Cert.Kernel26Ideal Cert.Kernel26Ideal.Gen
open Idealize.ShloMosaic Idealize.ShloMosaic.TcCoe Idealize.SL.Sem
open Idealize.ShloMosaic.Pipeline (Dat)

section Tables

variable {F : FTy → Type} [FloatOps F]

set_option backward.proofsInPublic true in
/-- The table's words, as the host wrote them. -/
def words : pre0.Contents (Elt F) := fun | ⟨0, _⟩ => fun i => lit0 (S4.rowMajor i) | ⟨_ + 1, h⟩ => absurd h (by simp)

variable (m : (ℓ : Loc nD τ sig) → Buf (Elt F) ℓ)

/-- The region finds the table as the host wrote it. -/
theorem tbl_words : tbl m = words := by
  funext j
  match j with
  | ⟨0, _⟩ =>
    show StableHlo.after hostOps0 (fun b => m (0, b)) main_c = _
    after_results <;> rfl

end Tables

/-- Each block the table places is inside its array. -/
theorem ok_words : ok0 (F := Ideal) words := by decide +kernel

theorem ok (m : (ℓ : Loc nD τ sig) → Buf (Elt Ideal) ℓ) : Ok m := by unfold Ok; rw [tbl_words]; exact ok_words

theorem ok_words_bits : ok0 (F := Bits) words := by decide +kernel

theorem ok_bits (m : (ℓ : Loc nD τ sig) → Buf (Elt Bits) ℓ) : Ok m := by unfold Ok; rw [tbl_words]; exact ok_words_bits

variable (m : (ℓ : Loc nD τ sig) → Buf (Elt Ideal) ℓ)

/-- The table's words, as contents the pipeline admits. -/
def admitted : (pcfg0 (F := Ideal)).Adm := ⟨words, ok_words⟩

theorem adm_eq (hO : Ok m) : adm m hO = admitted := Subtype.ext (tbl_words m)

theorem idx_admitted : ∀ t : Fin (cfg0 (F := Ideal) admitted).N, (pcfg0.win admitted (0 : Fin (cfg0 (F := Ideal) admitted).W)).index t = ![0, t.val]
    ∧ (pcfg0.win admitted (1 : Fin (cfg0 (F := Ideal) admitted).W)).index t = ![0, 0, t.val]
    ∧ (pcfg0.win admitted (2 : Fin (cfg0 (F := Ideal) admitted).W)).index t = ![2, 0, t.val]
    ∧ (pcfg0.win admitted (3 : Fin (cfg0 (F := Ideal) admitted).W)).index t = ![1, 0, t.val]
    ∧ (pcfg0.win admitted (4 : Fin (cfg0 (F := Ideal) admitted).W)).index t = ![3, 0, t.val]
    ∧ (pcfg0.win admitted (5 : Fin (cfg0 (F := Ideal) admitted).W)).index t = ![0, t.val]
    ∧ (pcfg0.win admitted (6 : Fin (cfg0 (F := Ideal) admitted).W)).index t = ![0, t.val]
    ∧ (pcfg0.win admitted (7 : Fin (cfg0 (F := Ideal) admitted).W)).index t = ![0, t.val]
    ∧ (pcfg0.win admitted (8 : Fin (cfg0 (F := Ideal) admitted).W)).index t = ![0, t.val]
    ∧ (pcfg0.win admitted (9 : Fin (cfg0 (F := Ideal) admitted).W)).index t = ![0, t.val]
    ∧ (pcfg0.win admitted (10 : Fin (cfg0 (F := Ideal) admitted).W)).index t = ![0, t.val] :=
  (by decide +kernel : ∀ t : Fin grid0.N, _)

theorem idx (hO : Ok m) : ∀ t : Fin (cfgM m hO).N, (pcfg0.win (adm m hO) (0 : Fin (cfgM m hO).W)).index t = ![0, t.val]
    ∧ (pcfg0.win (adm m hO) (1 : Fin (cfgM m hO).W)).index t = ![0, 0, t.val]
    ∧ (pcfg0.win (adm m hO) (2 : Fin (cfgM m hO).W)).index t = ![2, 0, t.val]
    ∧ (pcfg0.win (adm m hO) (3 : Fin (cfgM m hO).W)).index t = ![1, 0, t.val]
    ∧ (pcfg0.win (adm m hO) (4 : Fin (cfgM m hO).W)).index t = ![3, 0, t.val]
    ∧ (pcfg0.win (adm m hO) (5 : Fin (cfgM m hO).W)).index t = ![0, t.val]
    ∧ (pcfg0.win (adm m hO) (6 : Fin (cfgM m hO).W)).index t = ![0, t.val]
    ∧ (pcfg0.win (adm m hO) (7 : Fin (cfgM m hO).W)).index t = ![0, t.val]
    ∧ (pcfg0.win (adm m hO) (8 : Fin (cfgM m hO).W)).index t = ![0, t.val]
    ∧ (pcfg0.win (adm m hO) (9 : Fin (cfgM m hO).W)).index t = ![0, t.val]
    ∧ (pcfg0.win (adm m hO) (10 : Fin (cfgM m hO).W)).index t = ![0, t.val] := by
  have h : ∀ a : (pcfg0 (F := Ideal)).Adm, a = admitted → ∀ t : Fin (cfg0 a).N, (pcfg0.win a (0 : Fin (cfg0 a).W)).index t = ![0, t.val]
    ∧ (pcfg0.win a (1 : Fin (cfg0 a).W)).index t = ![0, 0, t.val]
    ∧ (pcfg0.win a (2 : Fin (cfg0 a).W)).index t = ![2, 0, t.val]
    ∧ (pcfg0.win a (3 : Fin (cfg0 a).W)).index t = ![1, 0, t.val]
    ∧ (pcfg0.win a (4 : Fin (cfg0 a).W)).index t = ![3, 0, t.val]
    ∧ (pcfg0.win a (5 : Fin (cfg0 a).W)).index t = ![0, t.val]
    ∧ (pcfg0.win a (6 : Fin (cfg0 a).W)).index t = ![0, t.val]
    ∧ (pcfg0.win a (7 : Fin (cfg0 a).W)).index t = ![0, t.val]
    ∧ (pcfg0.win a (8 : Fin (cfg0 a).W)).index t = ![0, t.val]
    ∧ (pcfg0.win a (9 : Fin (cfg0 a).W)).index t = ![0, t.val]
    ∧ (pcfg0.win a (10 : Fin (cfg0 a).W)).index t = ![0, t.val] := by
    rintro _ rfl; exact idx_admitted
  exact h _ (adm_eq m hO)

/-- The rows of a block that are the shard's own, without the padding below. -/
def top (b : Vec Ideal S1x1408x256 .bf16) : Vec Ideal S1x1376x256 .bf16 :=
  fun y => b ((Rect.unit (s := S1x1408x256) ![0, 0, 0] S1x1376x256.size inb_S1x1408x256_S1x1376x256_0_0_0).emb y)

theorem point7 (hO : Ok m) (c : Dev nD) (t : Fin (cfgM m hO).N) (y) : k0_pay2 (top (iblk m hO c 1 t)) (top (iblk m hO c 2 t)) (top (iblk m hO c 3 t)) (top (iblk m hO c 4 t)) y
    = Cert.Reference26Ideal.Hand.gradComing (m ((c : Thread nD τ).loc main_arg1)) (m ((c : Thread nD τ).loc main_arg2)) ((((cfgM m hO).win 7).blk t).view.emb y) := by
  obtain ⟨e0, e1, e2, e3, e4, e5, e6, e7, e8, e9, e10⟩ := idx m hO t
  pointwise [k0_pay1, k0_pay2, k0_pay3, k0_pay4, k0_pay5, k0_pay6, Cert.Reference26Ideal.Hand.gradComing, Cert.Reference26Ideal.Hand.grad]
  blk_point [top, iblk, V, e0, e1, e2, e3, e4, e5, e6, e7, e8, e9, e10]

theorem after_eq7 (hO : Ok m) (c : Dev nD) (t : Fin (cfgM m hO).N) : (dats m hO 0 c).after 7 t = k0_pay2 (top (iblk m hO c 1 t)) (top (iblk m hO c 2 t)) (top (iblk m hO c 3 t)) (top (iblk m hO c 4 t)) := by
  funext y
  rw [after0_7]; unfold outsAt0; frame_out
  exact congrFun (congr (congr (congr (congrArg k0_pay2 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) y

theorem covers7 (hO : Ok m) : ((cfgM m hO).win 7).Covers := by
  have h : ∀ a : (pcfg0 (F := Ideal)).Adm, a = admitted → ((cfg0 a).win 7).Covers := by
    rintro _ rfl; decide +kernel
  exact h _ (adm_eq m hO)

theorem final7 (hO : Ok m) (c : Dev nD) : (dats m hO 0 c).arrAt 7 (cfgM m hO).N
    = Cert.Reference26Ideal.Hand.grad (m ((c : Thread nD τ).loc main_arg1)) (m ((c : Thread nD τ).loc main_arg2)) := by
  rw [← Cert.Reference26Ideal.Hand.grad_eq]
  exact (dats m hO 0 c).arrAt_eq_of_covers 7 _ (covers7 m hO) fun t _ y => by
    blk_simp
    rw [after_eq7]
    exact point7 m hO c t y

theorem point8 (hO : Ok m) (c : Dev nD) (t : Fin (cfgM m hO).N) (y) : k0_pay1 (iblk m hO c 0 t) (k0_pay5 (top (iblk m hO c 1 t)) (top (iblk m hO c 2 t)) (top (iblk m hO c 3 t)) (top (iblk m hO c 4 t)) (iblk m hO c 5 t)) (k0_pay6 (top (iblk m hO c 1 t)) (top (iblk m hO c 2 t)) (top (iblk m hO c 3 t)) (top (iblk m hO c 4 t)) (iblk m hO c 6 t)) (Scalar.ofBits .f32 0x322BCC77#32) y
    = Cert.Reference26Ideal.Hand.delta (m ((c : Thread nD τ).loc main_arg0)) (Cert.Reference26Ideal.Hand.gradComing (m ((c : Thread nD τ).loc main_arg1)) (m ((c : Thread nD τ).loc main_arg2))) (m ((c : Thread nD τ).loc main_arg3)) (m ((c : Thread nD τ).loc main_arg4)) ((((cfgM m hO).win 8).blk t).view.emb y) := by
  obtain ⟨e0, e1, e2, e3, e4, e5, e6, e7, e8, e9, e10⟩ := idx m hO t
  pointwise [k0_pay1, k0_pay2, k0_pay3, k0_pay4, k0_pay5, k0_pay6, Cert.Reference26Ideal.Hand.gradComing, Cert.Reference26Ideal.Hand.delta]
  blk_point [top, iblk, V, e0, e1, e2, e3, e4, e5, e6, e7, e8, e9, e10]

theorem after_eq8 (hO : Ok m) (c : Dev nD) (t : Fin (cfgM m hO).N) : (dats m hO 0 c).after 8 t = k0_pay1 (iblk m hO c 0 t) (k0_pay5 (top (iblk m hO c 1 t)) (top (iblk m hO c 2 t)) (top (iblk m hO c 3 t)) (top (iblk m hO c 4 t)) (iblk m hO c 5 t)) (k0_pay6 (top (iblk m hO c 1 t)) (top (iblk m hO c 2 t)) (top (iblk m hO c 3 t)) (top (iblk m hO c 4 t)) (iblk m hO c 6 t)) (Scalar.ofBits .f32 0x322BCC77#32) := by
  funext y
  rw [after0_8]; unfold outsAt0; frame_out
  exact congrFun (congrFun (congr (congr (congrArg k0_pay1 ((hs0_0 m hO t).read_unread (iblk m hO c 0 t))) (congr (congr (congr (congr (congrArg k0_pay5 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_5 m hO t).read_unread (iblk m hO c 5 t)))) (congr (congr (congr (congr (congrArg k0_pay6 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_6 m hO t).read_unread (iblk m hO c 6 t)))) _) y

theorem covers8 (hO : Ok m) : ((cfgM m hO).win 8).Covers := by
  have h : ∀ a : (pcfg0 (F := Ideal)).Adm, a = admitted → ((cfg0 a).win 8).Covers := by
    rintro _ rfl; decide +kernel
  exact h _ (adm_eq m hO)

theorem final8 (hO : Ok m) (c : Dev nD) : (dats m hO 0 c).arrAt 8 (cfgM m hO).N
    = Cert.Reference26Ideal.Hand.delta (m ((c : Thread nD τ).loc main_arg0)) (Cert.Reference26Ideal.Hand.grad (m ((c : Thread nD τ).loc main_arg1)) (m ((c : Thread nD τ).loc main_arg2))) (m ((c : Thread nD τ).loc main_arg3)) (m ((c : Thread nD τ).loc main_arg4)) := by
  rw [← Cert.Reference26Ideal.Hand.grad_eq]
  exact (dats m hO 0 c).arrAt_eq_of_covers 8 _ (covers8 m hO) fun t _ y => by
    blk_simp
    rw [after_eq8]
    exact point8 m hO c t y

theorem point9 (hO : Ok m) (c : Dev nD) (t : Fin (cfgM m hO).N) (y) : k0_pay3 (top (iblk m hO c 1 t)) (top (iblk m hO c 2 t)) (top (iblk m hO c 3 t)) (top (iblk m hO c 4 t)) (iblk m hO c 5 t) y
    = Cert.Reference26Ideal.Hand.mean (Cert.Reference26Ideal.Hand.gradComing (m ((c : Thread nD τ).loc main_arg1)) (m ((c : Thread nD τ).loc main_arg2))) (m ((c : Thread nD τ).loc main_arg3)) ((((cfgM m hO).win 9).blk t).view.emb y) := by
  obtain ⟨e0, e1, e2, e3, e4, e5, e6, e7, e8, e9, e10⟩ := idx m hO t
  pointwise [k0_pay1, k0_pay2, k0_pay3, k0_pay4, k0_pay5, k0_pay6, Cert.Reference26Ideal.Hand.gradComing, Cert.Reference26Ideal.Hand.mean]
  blk_point [top, iblk, V, e0, e1, e2, e3, e4, e5, e6, e7, e8, e9, e10]

theorem after_eq9 (hO : Ok m) (c : Dev nD) (t : Fin (cfgM m hO).N) : (dats m hO 0 c).after 9 t = k0_pay3 (top (iblk m hO c 1 t)) (top (iblk m hO c 2 t)) (top (iblk m hO c 3 t)) (top (iblk m hO c 4 t)) (iblk m hO c 5 t) := by
  funext y
  rw [after0_9]; unfold outsAt0; frame_out
  exact congrFun (congr (congr (congr (congr (congrArg k0_pay3 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_5 m hO t).read_unread (iblk m hO c 5 t))) y

theorem covers9 (hO : Ok m) : ((cfgM m hO).win 9).Covers := by
  have h : ∀ a : (pcfg0 (F := Ideal)).Adm, a = admitted → ((cfg0 a).win 9).Covers := by
    rintro _ rfl; decide +kernel
  exact h _ (adm_eq m hO)

theorem final9 (hO : Ok m) (c : Dev nD) : (dats m hO 0 c).arrAt 9 (cfgM m hO).N
    = Cert.Reference26Ideal.Hand.mean (Cert.Reference26Ideal.Hand.grad (m ((c : Thread nD τ).loc main_arg1)) (m ((c : Thread nD τ).loc main_arg2))) (m ((c : Thread nD τ).loc main_arg3)) := by
  rw [← Cert.Reference26Ideal.Hand.grad_eq]
  exact (dats m hO 0 c).arrAt_eq_of_covers 9 _ (covers9 m hO) fun t _ y => by
    blk_simp
    rw [after_eq9]
    exact point9 m hO c t y

theorem point10 (hO : Ok m) (c : Dev nD) (t : Fin (cfgM m hO).N) (y) : k0_pay4 (top (iblk m hO c 1 t)) (top (iblk m hO c 2 t)) (top (iblk m hO c 3 t)) (top (iblk m hO c 4 t)) (iblk m hO c 6 t) y
    = Cert.Reference26Ideal.Hand.square (Cert.Reference26Ideal.Hand.gradComing (m ((c : Thread nD τ).loc main_arg1)) (m ((c : Thread nD τ).loc main_arg2))) (m ((c : Thread nD τ).loc main_arg4)) ((((cfgM m hO).win 10).blk t).view.emb y) := by
  obtain ⟨e0, e1, e2, e3, e4, e5, e6, e7, e8, e9, e10⟩ := idx m hO t
  pointwise [k0_pay1, k0_pay2, k0_pay3, k0_pay4, k0_pay5, k0_pay6, Cert.Reference26Ideal.Hand.gradComing, Cert.Reference26Ideal.Hand.square]
  blk_point [top, iblk, V, e0, e1, e2, e3, e4, e5, e6, e7, e8, e9, e10]

theorem after_eq10 (hO : Ok m) (c : Dev nD) (t : Fin (cfgM m hO).N) : (dats m hO 0 c).after 10 t = k0_pay4 (top (iblk m hO c 1 t)) (top (iblk m hO c 2 t)) (top (iblk m hO c 3 t)) (top (iblk m hO c 4 t)) (iblk m hO c 6 t) := by
  funext y
  rw [after0_10]; unfold outsAt0; frame_out
  exact congrFun (congr (congr (congr (congr (congrArg k0_pay4 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_6 m hO t).read_unread (iblk m hO c 6 t))) y

theorem covers10 (hO : Ok m) : ((cfgM m hO).win 10).Covers := by
  have h : ∀ a : (pcfg0 (F := Ideal)).Adm, a = admitted → ((cfg0 a).win 10).Covers := by
    rintro _ rfl; decide +kernel
  exact h _ (adm_eq m hO)

theorem final10 (hO : Ok m) (c : Dev nD) : (dats m hO 0 c).arrAt 10 (cfgM m hO).N
    = Cert.Reference26Ideal.Hand.square (Cert.Reference26Ideal.Hand.grad (m ((c : Thread nD τ).loc main_arg1)) (m ((c : Thread nD τ).loc main_arg2))) (m ((c : Thread nD τ).loc main_arg4)) := by
  rw [← Cert.Reference26Ideal.Hand.grad_eq]
  exact (dats m hO 0 c).arrAt_eq_of_covers 10 _ (covers10 m hO) fun t _ y => by
    blk_simp
    rw [after_eq10]
    exact point10 m hO c t y

end Cert.Kernel26Ideal.Hand

namespace Cert.Proof.K26

open Idealize.ShloMosaic Idealize.ShloMosaic.TcCoe Idealize.SL.Sem

theorem frame_ideal : Cert.quiescent_Kernel26Ideal := fun m ρ _ => Cert.Kernel26Ideal.Gen.frame (F := Ideal) m ρ (Cert.Kernel26Ideal.Hand.ok m)

/-- The kernel and its ideal form are one text: their body tables agree label by label. -/
theorem defs₀_same : Cert.Kernel26.defs₀ (F := Bits) = Cert.Kernel26Ideal.defs₀ (F := Bits) := by
  refine congrArg Defs.onTc (funext fun l => funext fun x => ?_)
  match l, x with
  | 0, (t, s) => rfl

theorem defs_same : Cert.Kernel26.defs (F := Bits) = Cert.Kernel26Ideal.defs (F := Bits) :=
  congrArg (Pipeline.defs (Cert.Kernel26Ideal.pcfgs (F := Bits))) defs₀_same

theorem main_same : Cert.Kernel26.main (F := Bits) = Cert.Kernel26Ideal.main (F := Bits) := rfl

theorem frame_kernel : Cert.quiescent_Kernel26 := fun m ρ _ => by
  have h := Cert.Kernel26Ideal.Gen.frame (F := Bits) m ρ (Cert.Kernel26Ideal.Hand.ok_bits m)
  rw [← defs_same, ← main_same] at h
  exact h

theorem frame_reference : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem algebraic : Cert.algebraic_Kernel26Ideal_Reference26Ideal := by
  intro m ρ m' ρ' _ hagree
  refine ⟨fun c => Cert.Reference26Ideal.Hand.grad (m (c.tc.loc Cert.Kernel26Ideal.main_arg1)) (m (c.tc.loc Cert.Kernel26Ideal.main_arg2)),
    fun c => Cert.Reference26Ideal.Hand.delta (m (c.tc.loc Cert.Kernel26Ideal.main_arg0)) (Cert.Reference26Ideal.Hand.grad (m (c.tc.loc Cert.Kernel26Ideal.main_arg1)) (m (c.tc.loc Cert.Kernel26Ideal.main_arg2))) (m (c.tc.loc Cert.Kernel26Ideal.main_arg3)) (m (c.tc.loc Cert.Kernel26Ideal.main_arg4)),
    fun c => Cert.Reference26Ideal.Hand.mean (Cert.Reference26Ideal.Hand.grad (m (c.tc.loc Cert.Kernel26Ideal.main_arg1)) (m (c.tc.loc Cert.Kernel26Ideal.main_arg2))) (m (c.tc.loc Cert.Kernel26Ideal.main_arg3)),
    fun c => Cert.Reference26Ideal.Hand.square (Cert.Reference26Ideal.Hand.grad (m (c.tc.loc Cert.Kernel26Ideal.main_arg1)) (m (c.tc.loc Cert.Kernel26Ideal.main_arg2))) (m (c.tc.loc Cert.Kernel26Ideal.main_arg4)), ?_, ?_⟩
  · have h1 := Cert.Kernel26Ideal.Gen.run_main (F := Ideal) m ρ (Cert.Kernel26Ideal.Hand.ok m)
    have h2 := Cert.Kernel26Ideal.Gen.unchanged (F := Ideal) m ρ (Cert.Kernel26Ideal.Hand.ok m)
    exact (θ_run Cert.Kernel26Ideal.defs _ _).mono (fun _ h c => ⟨((h.1 c).1 7).trans (Cert.Kernel26Ideal.Hand.final7 m _ c),
      ((h.1 c).1 8).trans (Cert.Kernel26Ideal.Hand.final8 m _ c), ((h.1 c).1 9).trans (Cert.Kernel26Ideal.Hand.final9 m _ c),
      ((h.1 c).1 10).trans (Cert.Kernel26Ideal.Hand.final10 m _ c), h.2 c⟩) (θ_run_and h1 h2)
  refine (θ_run Cert.Reference26Ideal.defs _ _).mono (fun _ h c => ⟨(h c).1.trans ?_, (h c).2.1.trans ?_, (h c).2.2.1.trans ?_, (h c).2.2.2.1.trans ?_, (h c).2.2.2.2⟩)
    (Cert.Reference26Ideal.Value.run (F := Ideal) m' ρ')
  · rw [(hagree c).2.1, (hagree c).2.2.1]
    rfl
  · rw [(hagree c).1, (hagree c).2.1, (hagree c).2.2.1, (hagree c).2.2.2.1, (hagree c).2.2.2.2]
    rfl
  · rw [(hagree c).2.1, (hagree c).2.2.1, (hagree c).2.2.2.1]
    rfl
  · rw [(hagree c).2.1, (hagree c).2.2.1, (hagree c).2.2.2.2]
    rfl

end Cert.Proof.K26

end
-- ==== Proof.Ew27.lean ====
/-
  The step of w_down: the gradient as the sum of four chips' shares, and the three other results, entry by entry; the two of the shares
  that change places are summed in another order. With the frames.
-/
module

public import proofs.«01_k».proof.Defs
public import proofs.«01_k».proof.Proof.Gen.Kernel27
public import proofs.«01_k».proof.Proof.Gen.Kernel27Ideal.Frame
public import proofs.«01_k».proof.Proof.Gen.Reference27Ideal.Run
public import Idealize.ShloMosaic.Lib.Pipeline.ValueKit
public import Idealize.ShloMosaic.Lib.Quiescent

@[expose] public section

set_option maxRecDepth 16384
set_option maxHeartbeats 2000000

noncomputable section

namespace Cert.Reference27Ideal.Hand

open Cert.Reference27Ideal Cert.Reference27Ideal.Gen
open Idealize.ShloMosaic

/-- The gradient: the sum of the four chips' shares in their order. -/
def grad (x1 : FVec Ideal S4x704x2048 .bf16) (x2 : FVec Ideal S4x704x2048 .bf16) : FVec Ideal S688x2048 .f32 :=
  addf (addf (addf (extf .f32 (shapeCast _ (extractStridedSlice S1x688x2048 ![0, 0, 0] x1 slices_S4x704x2048_S1x688x2048_0_0_0) shapeCasts_S1x688x2048_S688x2048) bitsLt_bf16_f32) (extf .f32 (shapeCast _ (extractStridedSlice S1x688x2048 ![1, 0, 0] x2 slices_S4x704x2048_S1x688x2048_1_0_0) shapeCasts_S1x688x2048_S688x2048) bitsLt_bf16_f32)) (extf .f32 (shapeCast _ (extractStridedSlice S1x688x2048 ![2, 0, 0] x2 slices_S4x704x2048_S1x688x2048_2_0_0) shapeCasts_S1x688x2048_S688x2048) bitsLt_bf16_f32)) (extf .f32 (shapeCast _ (extractStridedSlice S1x688x2048 ![3, 0, 0] x2 slices_S4x704x2048_S1x688x2048_3_0_0) shapeCasts_S1x688x2048_S688x2048) bitsLt_bf16_f32)

/-- The same sum in the order in which the copies come. -/
def gradComing (x1 : FVec Ideal S4x704x2048 .bf16) (x2 : FVec Ideal S4x704x2048 .bf16) : FVec Ideal S688x2048 .f32 :=
  addf (addf (addf (extf .f32 (shapeCast _ (extractStridedSlice S1x688x2048 ![0, 0, 0] x1 slices_S4x704x2048_S1x688x2048_0_0_0) shapeCasts_S1x688x2048_S688x2048) bitsLt_bf16_f32) (extf .f32 (shapeCast _ (extractStridedSlice S1x688x2048 ![2, 0, 0] x2 slices_S4x704x2048_S1x688x2048_2_0_0) shapeCasts_S1x688x2048_S688x2048) bitsLt_bf16_f32)) (extf .f32 (shapeCast _ (extractStridedSlice S1x688x2048 ![1, 0, 0] x2 slices_S4x704x2048_S1x688x2048_1_0_0) shapeCasts_S1x688x2048_S688x2048) bitsLt_bf16_f32)) (extf .f32 (shapeCast _ (extractStridedSlice S1x688x2048 ![3, 0, 0] x2 slices_S4x704x2048_S1x688x2048_3_0_0) shapeCasts_S1x688x2048_S688x2048) bitsLt_bf16_f32)

theorem grad_eq (x1 : FVec Ideal S4x704x2048 .bf16) (x2 : FVec Ideal S4x704x2048 .bf16) : gradComing x1 x2 = grad x1 x2 :=
  funext fun i => congrArg₂ (· + ·) (add_right_comm (G := EReal) _ _ _) rfl

/-! The step over the gradient. -/

def delta (x0 : FVec Ideal S688x2048 .f32) (g : FVec Ideal S688x2048 .f32) (x3 : FVec Ideal S688x2048 .f32) (x4 : FVec Ideal S688x2048 .f32) : FVec Ideal S688x2048 .f32 :=
  mulf (broadcastInDim S688x2048 ![] bcast_S_S688x2048 (constant S_ .f32 0xBA83126F#32)) (addf (Host.divf (Host.divf (addf (mulf (broadcastInDim S688x2048 ![] bcast_S_S688x2048 (constant S_ .f32 0x3F666666#32)) x3) (mulf (broadcastInDim S688x2048 ![] bcast_S_S688x2048 (constant S_ .f32 0x3DCCCCCD#32)) g)) (broadcastInDim S688x2048 ![] bcast_S_S688x2048 (constant S_ .f32 0x3F26BD02#32))) (addf (Host.sqrt (Host.divf (addf (mulf (broadcastInDim S688x2048 ![] bcast_S_S688x2048 (constant S_ .f32 0x3F7FBE77#32)) x4) (mulf (broadcastInDim S688x2048 ![] bcast_S_S688x2048 (constant S_ .f32 0x3A83126F#32)) (mulf g g))) (broadcastInDim S688x2048 ![] bcast_S_S688x2048 (constant S_ .f32 0x3C231ACC#32)))) (broadcastInDim S688x2048 ![] bcast_S_S688x2048 (constant S_ .f32 0x322BCC77#32)))) (mulf (broadcastInDim S688x2048 ![] bcast_S_S688x2048 (constant S_ .f32 0x3C23D70A#32)) x0))

def mean (g : FVec Ideal S688x2048 .f32) (x3 : FVec Ideal S688x2048 .f32) : FVec Ideal S688x2048 .f32 :=
  addf (mulf (broadcastInDim S688x2048 ![] bcast_S_S688x2048 (constant S_ .f32 0x3F666666#32)) x3) (mulf (broadcastInDim S688x2048 ![] bcast_S_S688x2048 (constant S_ .f32 0x3DCCCCCD#32)) g)

def square (g : FVec Ideal S688x2048 .f32) (x4 : FVec Ideal S688x2048 .f32) : FVec Ideal S688x2048 .f32 :=
  addf (mulf (broadcastInDim S688x2048 ![] bcast_S_S688x2048 (constant S_ .f32 0x3F7FBE77#32)) x4) (mulf (broadcastInDim S688x2048 ![] bcast_S_S688x2048 (constant S_ .f32 0x3A83126F#32)) (mulf g g))

end Cert.Reference27Ideal.Hand

namespace Cert.Kernel27Ideal.Hand

open Cert.Kernel27Ideal Cert.Kernel27Ideal.Gen
open Idealize.ShloMosaic Idealize.ShloMosaic.TcCoe Idealize.SL.Sem
open Idealize.ShloMosaic.Pipeline (Dat)

section Tables

variable {F : FTy → Type} [FloatOps F]

set_option backward.proofsInPublic true in
/-- The table's words, as the host wrote them. -/
def words : pre0.Contents (Elt F) := fun | ⟨0, _⟩ => fun i => lit0 (S4.rowMajor i) | ⟨_ + 1, h⟩ => absurd h (by simp)

variable (m : (ℓ : Loc nD τ sig) → Buf (Elt F) ℓ)

/-- The region finds the table as the host wrote it. -/
theorem tbl_words : tbl m = words := by
  funext j
  match j with
  | ⟨0, _⟩ =>
    show StableHlo.after hostOps0 (fun b => m (0, b)) main_c = _
    after_results <;> rfl

end Tables

/-- Each block the table places is inside its array. -/
theorem ok_words : ok0 (F := Ideal) words := by decide +kernel

theorem ok (m : (ℓ : Loc nD τ sig) → Buf (Elt Ideal) ℓ) : Ok m := by unfold Ok; rw [tbl_words]; exact ok_words

theorem ok_words_bits : ok0 (F := Bits) words := by decide +kernel

theorem ok_bits (m : (ℓ : Loc nD τ sig) → Buf (Elt Bits) ℓ) : Ok m := by unfold Ok; rw [tbl_words]; exact ok_words_bits

variable (m : (ℓ : Loc nD τ sig) → Buf (Elt Ideal) ℓ)

/-- The table's words, as contents the pipeline admits. -/
def admitted : (pcfg0 (F := Ideal)).Adm := ⟨words, ok_words⟩

theorem adm_eq (hO : Ok m) : adm m hO = admitted := Subtype.ext (tbl_words m)

theorem idx_admitted : ∀ t : Fin (cfg0 (F := Ideal) admitted).N, (pcfg0.win admitted (0 : Fin (cfg0 (F := Ideal) admitted).W)).index t = ![0, t.val]
    ∧ (pcfg0.win admitted (1 : Fin (cfg0 (F := Ideal) admitted).W)).index t = ![0, 0, t.val]
    ∧ (pcfg0.win admitted (2 : Fin (cfg0 (F := Ideal) admitted).W)).index t = ![2, 0, t.val]
    ∧ (pcfg0.win admitted (3 : Fin (cfg0 (F := Ideal) admitted).W)).index t = ![1, 0, t.val]
    ∧ (pcfg0.win admitted (4 : Fin (cfg0 (F := Ideal) admitted).W)).index t = ![3, 0, t.val]
    ∧ (pcfg0.win admitted (5 : Fin (cfg0 (F := Ideal) admitted).W)).index t = ![0, t.val]
    ∧ (pcfg0.win admitted (6 : Fin (cfg0 (F := Ideal) admitted).W)).index t = ![0, t.val]
    ∧ (pcfg0.win admitted (7 : Fin (cfg0 (F := Ideal) admitted).W)).index t = ![0, t.val]
    ∧ (pcfg0.win admitted (8 : Fin (cfg0 (F := Ideal) admitted).W)).index t = ![0, t.val]
    ∧ (pcfg0.win admitted (9 : Fin (cfg0 (F := Ideal) admitted).W)).index t = ![0, t.val]
    ∧ (pcfg0.win admitted (10 : Fin (cfg0 (F := Ideal) admitted).W)).index t = ![0, t.val] :=
  (by decide +kernel : ∀ t : Fin grid0.N, _)

theorem idx (hO : Ok m) : ∀ t : Fin (cfgM m hO).N, (pcfg0.win (adm m hO) (0 : Fin (cfgM m hO).W)).index t = ![0, t.val]
    ∧ (pcfg0.win (adm m hO) (1 : Fin (cfgM m hO).W)).index t = ![0, 0, t.val]
    ∧ (pcfg0.win (adm m hO) (2 : Fin (cfgM m hO).W)).index t = ![2, 0, t.val]
    ∧ (pcfg0.win (adm m hO) (3 : Fin (cfgM m hO).W)).index t = ![1, 0, t.val]
    ∧ (pcfg0.win (adm m hO) (4 : Fin (cfgM m hO).W)).index t = ![3, 0, t.val]
    ∧ (pcfg0.win (adm m hO) (5 : Fin (cfgM m hO).W)).index t = ![0, t.val]
    ∧ (pcfg0.win (adm m hO) (6 : Fin (cfgM m hO).W)).index t = ![0, t.val]
    ∧ (pcfg0.win (adm m hO) (7 : Fin (cfgM m hO).W)).index t = ![0, t.val]
    ∧ (pcfg0.win (adm m hO) (8 : Fin (cfgM m hO).W)).index t = ![0, t.val]
    ∧ (pcfg0.win (adm m hO) (9 : Fin (cfgM m hO).W)).index t = ![0, t.val]
    ∧ (pcfg0.win (adm m hO) (10 : Fin (cfgM m hO).W)).index t = ![0, t.val] := by
  have h : ∀ a : (pcfg0 (F := Ideal)).Adm, a = admitted → ∀ t : Fin (cfg0 a).N, (pcfg0.win a (0 : Fin (cfg0 a).W)).index t = ![0, t.val]
    ∧ (pcfg0.win a (1 : Fin (cfg0 a).W)).index t = ![0, 0, t.val]
    ∧ (pcfg0.win a (2 : Fin (cfg0 a).W)).index t = ![2, 0, t.val]
    ∧ (pcfg0.win a (3 : Fin (cfg0 a).W)).index t = ![1, 0, t.val]
    ∧ (pcfg0.win a (4 : Fin (cfg0 a).W)).index t = ![3, 0, t.val]
    ∧ (pcfg0.win a (5 : Fin (cfg0 a).W)).index t = ![0, t.val]
    ∧ (pcfg0.win a (6 : Fin (cfg0 a).W)).index t = ![0, t.val]
    ∧ (pcfg0.win a (7 : Fin (cfg0 a).W)).index t = ![0, t.val]
    ∧ (pcfg0.win a (8 : Fin (cfg0 a).W)).index t = ![0, t.val]
    ∧ (pcfg0.win a (9 : Fin (cfg0 a).W)).index t = ![0, t.val]
    ∧ (pcfg0.win a (10 : Fin (cfg0 a).W)).index t = ![0, t.val] := by
    rintro _ rfl; exact idx_admitted
  exact h _ (adm_eq m hO)

/-- The rows of a block that are the shard's own, without the padding below. -/
def top (b : Vec Ideal S1x704x256 .bf16) : Vec Ideal S1x688x256 .bf16 :=
  fun y => b ((Rect.unit (s := S1x704x256) ![0, 0, 0] S1x688x256.size inb_S1x704x256_S1x688x256_0_0_0).emb y)

theorem point7 (hO : Ok m) (c : Dev nD) (t : Fin (cfgM m hO).N) (y) : k0_pay2 (top (iblk m hO c 1 t)) (top (iblk m hO c 2 t)) (top (iblk m hO c 3 t)) (top (iblk m hO c 4 t)) y
    = Cert.Reference27Ideal.Hand.gradComing (m ((c : Thread nD τ).loc main_arg1)) (m ((c : Thread nD τ).loc main_arg2)) ((((cfgM m hO).win 7).blk t).view.emb y) := by
  obtain ⟨e0, e1, e2, e3, e4, e5, e6, e7, e8, e9, e10⟩ := idx m hO t
  pointwise [k0_pay1, k0_pay2, k0_pay3, k0_pay4, k0_pay5, k0_pay6, Cert.Reference27Ideal.Hand.gradComing, Cert.Reference27Ideal.Hand.grad]
  blk_point [top, iblk, V, e0, e1, e2, e3, e4, e5, e6, e7, e8, e9, e10]

theorem after_eq7 (hO : Ok m) (c : Dev nD) (t : Fin (cfgM m hO).N) : (dats m hO 0 c).after 7 t = k0_pay2 (top (iblk m hO c 1 t)) (top (iblk m hO c 2 t)) (top (iblk m hO c 3 t)) (top (iblk m hO c 4 t)) := by
  funext y
  rw [after0_7]; unfold outsAt0; frame_out
  exact congrFun (congr (congr (congr (congrArg k0_pay2 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) y

theorem covers7 (hO : Ok m) : ((cfgM m hO).win 7).Covers := by
  have h : ∀ a : (pcfg0 (F := Ideal)).Adm, a = admitted → ((cfg0 a).win 7).Covers := by
    rintro _ rfl; decide +kernel
  exact h _ (adm_eq m hO)

theorem final7 (hO : Ok m) (c : Dev nD) : (dats m hO 0 c).arrAt 7 (cfgM m hO).N
    = Cert.Reference27Ideal.Hand.grad (m ((c : Thread nD τ).loc main_arg1)) (m ((c : Thread nD τ).loc main_arg2)) := by
  rw [← Cert.Reference27Ideal.Hand.grad_eq]
  exact (dats m hO 0 c).arrAt_eq_of_covers 7 _ (covers7 m hO) fun t _ y => by
    blk_simp
    rw [after_eq7]
    exact point7 m hO c t y

theorem point8 (hO : Ok m) (c : Dev nD) (t : Fin (cfgM m hO).N) (y) : k0_pay1 (iblk m hO c 0 t) (k0_pay5 (top (iblk m hO c 1 t)) (top (iblk m hO c 2 t)) (top (iblk m hO c 3 t)) (top (iblk m hO c 4 t)) (iblk m hO c 5 t)) (k0_pay6 (top (iblk m hO c 1 t)) (top (iblk m hO c 2 t)) (top (iblk m hO c 3 t)) (top (iblk m hO c 4 t)) (iblk m hO c 6 t)) (Scalar.ofBits .f32 0x322BCC77#32) y
    = Cert.Reference27Ideal.Hand.delta (m ((c : Thread nD τ).loc main_arg0)) (Cert.Reference27Ideal.Hand.gradComing (m ((c : Thread nD τ).loc main_arg1)) (m ((c : Thread nD τ).loc main_arg2))) (m ((c : Thread nD τ).loc main_arg3)) (m ((c : Thread nD τ).loc main_arg4)) ((((cfgM m hO).win 8).blk t).view.emb y) := by
  obtain ⟨e0, e1, e2, e3, e4, e5, e6, e7, e8, e9, e10⟩ := idx m hO t
  pointwise [k0_pay1, k0_pay2, k0_pay3, k0_pay4, k0_pay5, k0_pay6, Cert.Reference27Ideal.Hand.gradComing, Cert.Reference27Ideal.Hand.delta]
  blk_point [top, iblk, V, e0, e1, e2, e3, e4, e5, e6, e7, e8, e9, e10]

theorem after_eq8 (hO : Ok m) (c : Dev nD) (t : Fin (cfgM m hO).N) : (dats m hO 0 c).after 8 t = k0_pay1 (iblk m hO c 0 t) (k0_pay5 (top (iblk m hO c 1 t)) (top (iblk m hO c 2 t)) (top (iblk m hO c 3 t)) (top (iblk m hO c 4 t)) (iblk m hO c 5 t)) (k0_pay6 (top (iblk m hO c 1 t)) (top (iblk m hO c 2 t)) (top (iblk m hO c 3 t)) (top (iblk m hO c 4 t)) (iblk m hO c 6 t)) (Scalar.ofBits .f32 0x322BCC77#32) := by
  funext y
  rw [after0_8]; unfold outsAt0; frame_out
  exact congrFun (congrFun (congr (congr (congrArg k0_pay1 ((hs0_0 m hO t).read_unread (iblk m hO c 0 t))) (congr (congr (congr (congr (congrArg k0_pay5 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_5 m hO t).read_unread (iblk m hO c 5 t)))) (congr (congr (congr (congr (congrArg k0_pay6 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_6 m hO t).read_unread (iblk m hO c 6 t)))) _) y

theorem covers8 (hO : Ok m) : ((cfgM m hO).win 8).Covers := by
  have h : ∀ a : (pcfg0 (F := Ideal)).Adm, a = admitted → ((cfg0 a).win 8).Covers := by
    rintro _ rfl; decide +kernel
  exact h _ (adm_eq m hO)

theorem final8 (hO : Ok m) (c : Dev nD) : (dats m hO 0 c).arrAt 8 (cfgM m hO).N
    = Cert.Reference27Ideal.Hand.delta (m ((c : Thread nD τ).loc main_arg0)) (Cert.Reference27Ideal.Hand.grad (m ((c : Thread nD τ).loc main_arg1)) (m ((c : Thread nD τ).loc main_arg2))) (m ((c : Thread nD τ).loc main_arg3)) (m ((c : Thread nD τ).loc main_arg4)) := by
  rw [← Cert.Reference27Ideal.Hand.grad_eq]
  exact (dats m hO 0 c).arrAt_eq_of_covers 8 _ (covers8 m hO) fun t _ y => by
    blk_simp
    rw [after_eq8]
    exact point8 m hO c t y

theorem point9 (hO : Ok m) (c : Dev nD) (t : Fin (cfgM m hO).N) (y) : k0_pay3 (top (iblk m hO c 1 t)) (top (iblk m hO c 2 t)) (top (iblk m hO c 3 t)) (top (iblk m hO c 4 t)) (iblk m hO c 5 t) y
    = Cert.Reference27Ideal.Hand.mean (Cert.Reference27Ideal.Hand.gradComing (m ((c : Thread nD τ).loc main_arg1)) (m ((c : Thread nD τ).loc main_arg2))) (m ((c : Thread nD τ).loc main_arg3)) ((((cfgM m hO).win 9).blk t).view.emb y) := by
  obtain ⟨e0, e1, e2, e3, e4, e5, e6, e7, e8, e9, e10⟩ := idx m hO t
  pointwise [k0_pay1, k0_pay2, k0_pay3, k0_pay4, k0_pay5, k0_pay6, Cert.Reference27Ideal.Hand.gradComing, Cert.Reference27Ideal.Hand.mean]
  blk_point [top, iblk, V, e0, e1, e2, e3, e4, e5, e6, e7, e8, e9, e10]

theorem after_eq9 (hO : Ok m) (c : Dev nD) (t : Fin (cfgM m hO).N) : (dats m hO 0 c).after 9 t = k0_pay3 (top (iblk m hO c 1 t)) (top (iblk m hO c 2 t)) (top (iblk m hO c 3 t)) (top (iblk m hO c 4 t)) (iblk m hO c 5 t) := by
  funext y
  rw [after0_9]; unfold outsAt0; frame_out
  exact congrFun (congr (congr (congr (congr (congrArg k0_pay3 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_5 m hO t).read_unread (iblk m hO c 5 t))) y

theorem covers9 (hO : Ok m) : ((cfgM m hO).win 9).Covers := by
  have h : ∀ a : (pcfg0 (F := Ideal)).Adm, a = admitted → ((cfg0 a).win 9).Covers := by
    rintro _ rfl; decide +kernel
  exact h _ (adm_eq m hO)

theorem final9 (hO : Ok m) (c : Dev nD) : (dats m hO 0 c).arrAt 9 (cfgM m hO).N
    = Cert.Reference27Ideal.Hand.mean (Cert.Reference27Ideal.Hand.grad (m ((c : Thread nD τ).loc main_arg1)) (m ((c : Thread nD τ).loc main_arg2))) (m ((c : Thread nD τ).loc main_arg3)) := by
  rw [← Cert.Reference27Ideal.Hand.grad_eq]
  exact (dats m hO 0 c).arrAt_eq_of_covers 9 _ (covers9 m hO) fun t _ y => by
    blk_simp
    rw [after_eq9]
    exact point9 m hO c t y

theorem point10 (hO : Ok m) (c : Dev nD) (t : Fin (cfgM m hO).N) (y) : k0_pay4 (top (iblk m hO c 1 t)) (top (iblk m hO c 2 t)) (top (iblk m hO c 3 t)) (top (iblk m hO c 4 t)) (iblk m hO c 6 t) y
    = Cert.Reference27Ideal.Hand.square (Cert.Reference27Ideal.Hand.gradComing (m ((c : Thread nD τ).loc main_arg1)) (m ((c : Thread nD τ).loc main_arg2))) (m ((c : Thread nD τ).loc main_arg4)) ((((cfgM m hO).win 10).blk t).view.emb y) := by
  obtain ⟨e0, e1, e2, e3, e4, e5, e6, e7, e8, e9, e10⟩ := idx m hO t
  pointwise [k0_pay1, k0_pay2, k0_pay3, k0_pay4, k0_pay5, k0_pay6, Cert.Reference27Ideal.Hand.gradComing, Cert.Reference27Ideal.Hand.square]
  blk_point [top, iblk, V, e0, e1, e2, e3, e4, e5, e6, e7, e8, e9, e10]

theorem after_eq10 (hO : Ok m) (c : Dev nD) (t : Fin (cfgM m hO).N) : (dats m hO 0 c).after 10 t = k0_pay4 (top (iblk m hO c 1 t)) (top (iblk m hO c 2 t)) (top (iblk m hO c 3 t)) (top (iblk m hO c 4 t)) (iblk m hO c 6 t) := by
  funext y
  rw [after0_10]; unfold outsAt0; frame_out
  exact congrFun (congr (congr (congr (congr (congrArg k0_pay4 (congrArg top ((hs0_1 m hO t).read_unread (iblk m hO c 1 t)))) (congrArg top ((hs0_2 m hO t).read_unread (iblk m hO c 2 t)))) (congrArg top ((hs0_3 m hO t).read_unread (iblk m hO c 3 t)))) (congrArg top ((hs0_4 m hO t).read_unread (iblk m hO c 4 t)))) ((hs0_6 m hO t).read_unread (iblk m hO c 6 t))) y

theorem covers10 (hO : Ok m) : ((cfgM m hO).win 10).Covers := by
  have h : ∀ a : (pcfg0 (F := Ideal)).Adm, a = admitted → ((cfg0 a).win 10).Covers := by
    rintro _ rfl; decide +kernel
  exact h _ (adm_eq m hO)

theorem final10 (hO : Ok m) (c : Dev nD) : (dats m hO 0 c).arrAt 10 (cfgM m hO).N
    = Cert.Reference27Ideal.Hand.square (Cert.Reference27Ideal.Hand.grad (m ((c : Thread nD τ).loc main_arg1)) (m ((c : Thread nD τ).loc main_arg2))) (m ((c : Thread nD τ).loc main_arg4)) := by
  rw [← Cert.Reference27Ideal.Hand.grad_eq]
  exact (dats m hO 0 c).arrAt_eq_of_covers 10 _ (covers10 m hO) fun t _ y => by
    blk_simp
    rw [after_eq10]
    exact point10 m hO c t y

end Cert.Kernel27Ideal.Hand

namespace Cert.Proof.K27

open Idealize.ShloMosaic Idealize.ShloMosaic.TcCoe Idealize.SL.Sem

theorem frame_ideal : Cert.quiescent_Kernel27Ideal := fun m ρ _ => Cert.Kernel27Ideal.Gen.frame (F := Ideal) m ρ (Cert.Kernel27Ideal.Hand.ok m)

/-- The kernel and its ideal form are one text: their body tables agree label by label. -/
theorem defs₀_same : Cert.Kernel27.defs₀ (F := Bits) = Cert.Kernel27Ideal.defs₀ (F := Bits) := by
  refine congrArg Defs.onTc (funext fun l => funext fun x => ?_)
  match l, x with
  | 0, (t, s) => rfl

theorem defs_same : Cert.Kernel27.defs (F := Bits) = Cert.Kernel27Ideal.defs (F := Bits) :=
  congrArg (Pipeline.defs (Cert.Kernel27Ideal.pcfgs (F := Bits))) defs₀_same

theorem main_same : Cert.Kernel27.main (F := Bits) = Cert.Kernel27Ideal.main (F := Bits) := rfl

theorem frame_kernel : Cert.quiescent_Kernel27 := fun m ρ _ => by
  have h := Cert.Kernel27Ideal.Gen.frame (F := Bits) m ρ (Cert.Kernel27Ideal.Hand.ok_bits m)
  rw [← defs_same, ← main_same] at h
  exact h

theorem frame_reference : Cert.quiescent_Reference27Ideal := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

theorem algebraic : Cert.algebraic_Kernel27Ideal_Reference27Ideal := by
  intro m ρ m' ρ' _ hagree
  refine ⟨fun c => Cert.Reference27Ideal.Hand.grad (m (c.tc.loc Cert.Kernel27Ideal.main_arg1)) (m (c.tc.loc Cert.Kernel27Ideal.main_arg2)),
    fun c => Cert.Reference27Ideal.Hand.delta (m (c.tc.loc Cert.Kernel27Ideal.main_arg0)) (Cert.Reference27Ideal.Hand.grad (m (c.tc.loc Cert.Kernel27Ideal.main_arg1)) (m (c.tc.loc Cert.Kernel27Ideal.main_arg2))) (m (c.tc.loc Cert.Kernel27Ideal.main_arg3)) (m (c.tc.loc Cert.Kernel27Ideal.main_arg4)),
    fun c => Cert.Reference27Ideal.Hand.mean (Cert.Reference27Ideal.Hand.grad (m (c.tc.loc Cert.Kernel27Ideal.main_arg1)) (m (c.tc.loc Cert.Kernel27Ideal.main_arg2))) (m (c.tc.loc Cert.Kernel27Ideal.main_arg3)),
    fun c => Cert.Reference27Ideal.Hand.square (Cert.Reference27Ideal.Hand.grad (m (c.tc.loc Cert.Kernel27Ideal.main_arg1)) (m (c.tc.loc Cert.Kernel27Ideal.main_arg2))) (m (c.tc.loc Cert.Kernel27Ideal.main_arg4)), ?_, ?_⟩
  · have h1 := Cert.Kernel27Ideal.Gen.run_main (F := Ideal) m ρ (Cert.Kernel27Ideal.Hand.ok m)
    have h2 := Cert.Kernel27Ideal.Gen.unchanged (F := Ideal) m ρ (Cert.Kernel27Ideal.Hand.ok m)
    exact (θ_run Cert.Kernel27Ideal.defs _ _).mono (fun _ h c => ⟨((h.1 c).1 7).trans (Cert.Kernel27Ideal.Hand.final7 m _ c),
      ((h.1 c).1 8).trans (Cert.Kernel27Ideal.Hand.final8 m _ c), ((h.1 c).1 9).trans (Cert.Kernel27Ideal.Hand.final9 m _ c),
      ((h.1 c).1 10).trans (Cert.Kernel27Ideal.Hand.final10 m _ c), h.2 c⟩) (θ_run_and h1 h2)
  refine (θ_run Cert.Reference27Ideal.defs _ _).mono (fun _ h c => ⟨(h c).1.trans ?_, (h c).2.1.trans ?_, (h c).2.2.1.trans ?_, (h c).2.2.2.1.trans ?_, (h c).2.2.2.2⟩)
    (Cert.Reference27Ideal.Value.run (F := Ideal) m' ρ')
  · rw [(hagree c).2.1, (hagree c).2.2.1]
    rfl
  · rw [(hagree c).1, (hagree c).2.1, (hagree c).2.2.1, (hagree c).2.2.2.1, (hagree c).2.2.2.2]
    rfl
  · rw [(hagree c).2.1, (hagree c).2.2.1, (hagree c).2.2.2.1]
    rfl
  · rw [(hagree c).2.1, (hagree c).2.2.1, (hagree c).2.2.2.2]
    rfl

end Cert.Proof.K27

end
-- ==== Proof.lean ====
/-
  The proof of `Cert.Claim`: the gradient of the gain in the stick-breaking attention's backward pass, and the further programs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24Ideal
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25Ideal
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26Ideal
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel27
public import proofs.«01_k».proof.Proof.Gen.Kernel27Ideal
public import proofs.«01_k».proof.Proof.Gen.Kernel27Ideal.Frame
public import proofs.«01_k».proof.Proof.Gen.Reference27Ideal
public import proofs.«01_k».proof.Proof.Gen.Reference27Ideal.Run
public import proofs.«01_k».proof.Proof.Gen.On_columns_there
public import proofs.«01_k».proof.Proof.SbClaim
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Ew13
public import proofs.«01_k».proof.Proof.Ew14
public import proofs.«01_k».proof.Proof.Ew15
public import proofs.«01_k».proof.Proof.Ew16
public import proofs.«01_k».proof.Proof.Ew17
public import proofs.«01_k».proof.Proof.Ew18
public import proofs.«01_k».proof.Proof.Claim19
public import proofs.«01_k».proof.Proof.Ew20
public import proofs.«01_k».proof.Proof.Ew21
public import proofs.«01_k».proof.Proof.Ew22
public import proofs.«01_k».proof.Proof.Ew23
public import proofs.«01_k».proof.Proof.Ew24
public import proofs.«01_k».proof.Proof.Ew25
public import proofs.«01_k».proof.Proof.Ew26
public import proofs.«01_k».proof.Proof.Ew27
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.On_columns_there.Gen.facts, by
  exact ⟨Sb.frame_kernel, Sb.frame_ideal, Sb.frame_reference,
    K2.frame_kernel, K2.frame_ideal, K2.frame_reference,
    K3.frame_kernel, K3.frame_ideal, K3.frame_reference,
    K4.frame_kernel, K4.frame_ideal, K4.frame_reference,
    K5.frame_kernel, K5.frame_ideal, K5.frame_reference,
    K6.frame_kernel, K6.frame_ideal, K6.frame_reference,
    K7.frame_kernel, K7.frame_ideal, K7.frame_reference,
    K8.frame_kernel, K8.frame_ideal, K8.frame_reference,
    K9.frame_kernel, K9.frame_ideal, K9.frame_reference,
    K10.frame_kernel, K10.frame_ideal, K10.frame_reference,
    K11.frame_kernel, K11.frame_ideal, K11.frame_reference,
    K12.frame_kernel, K12.frame_ideal, K12.frame_reference,
    K13.frame_kernel, K13.frame_ideal, K13.frame_reference,
    K14.frame_kernel, K14.frame_ideal, K14.frame_reference,
    K15.frame_kernel, K15.frame_ideal, K15.frame_reference,
    K16.frame_kernel, K16.frame_ideal, K16.frame_reference,
    K17.frame_kernel, K17.frame_ideal, K17.frame_reference,
    K18.frame_kernel, K18.frame_ideal, K18.frame_reference,
    K19.frame_kernel, K19.frame_ideal, K19.frame_reference,
    K20.frame_kernel, K20.frame_ideal, K20.frame_reference,
    K21.frame_kernel, K21.frame_ideal, K21.frame_reference,
    K22.frame_kernel, K22.frame_ideal, K22.frame_reference,
    K23.frame_kernel, K23.frame_ideal, K23.frame_reference,
    K24.frame_kernel, K24.frame_ideal, K24.frame_reference,
    K25.frame_kernel, K25.frame_ideal, K25.frame_reference,
    K26.frame_kernel, K26.frame_ideal, K26.frame_reference,
    K27.frame_kernel, K27.frame_ideal, K27.frame_reference,
    trivial, Sb.algebraic,
    trivial, K2.algebraic,
    trivial, K3.algebraic,
    trivial, K4.algebraic,
    trivial, K5.algebraic,
    trivial, K6.algebraic,
    trivial, K7.algebraic,
    trivial, K8.algebraic,
    trivial, K9.algebraic,
    trivial, K10.algebraic,
    trivial, K11.algebraic,
    trivial, K12.algebraic,
    trivial, K13.algebraic,
    trivial, K14.algebraic,
    trivial, K15.algebraic,
    trivial, K16.algebraic,
    trivial, K17.algebraic,
    trivial, K18.algebraic,
    trivial, K19.algebraic,
    trivial, K20.algebraic,
    trivial, K21.algebraic,
    trivial, K22.algebraic,
    trivial, K23.algebraic,
    trivial, K24.algebraic,
    trivial, K25.algebraic,
    trivial, K26.algebraic,
    trivial, K27.algebraic⟩⟩

end Cert.Proof

end
